-- ==== Defs.lean ====
def Pre_Kernel [hPre_valid : Cert.Pre_valid.Facts] (m : (ℓ : Loc Cert.Kernel.nD Cert.Kernel.τ Cert.Kernel.sig) → Buf (Elt Bits) ℓ) : Prop :=
  ∀ c : Dev Cert.Kernel.nD,
    (Cert.Pre_valid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_valid : Cert.Pre_valid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v60_0) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v60_1) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel) (hPre_valid := hPre_valid)
    ∧ quiescent_KernelIdeal (hKernelIdeal := hKernelIdeal) (hPre_valid := hPre_valid)
    ∧ quiescent_ReferenceIdeal (hReferenceIdeal := hReferenceIdeal) (hPre_valid := hPre_valid)
    ∧ preserves_Kernel_KernelIdeal
    ∧ algebraic_KernelIdeal_ReferenceIdeal (hKernelIdeal := hKernelIdeal) (hReferenceIdeal := hReferenceIdeal) (hPre_valid := hPre_valid)
-- ==== Pre_valid.lean ====
abbrev S6x256x4096 : Shape := ⟨3, ![6, 256, 4096]⟩
abbrev S6x256x7168 : Shape := ⟨3, ![6, 256, 7168]⟩
abbrev S5 : Shape := ⟨1, ![5]⟩
abbrev S_ : Shape := ⟨0, ![]⟩

class Facts : Prop where
  bitsLt_bf16_f32 : FTy.bits .bf16 < FTy.bits .f32
  bcast_S_S6x256x4096 : S_.BroadcastsInDim S6x256x4096 (![] : Fin 0 → Fin S6x256x4096.rank)
  reducesTo_S6x256x4096_S_d0_1_2 : S6x256x4096.ReducesTo [0, 1, 2] S_
  h_S_ : 0 < S_.numel
  bcast_S_S6x256x7168 : S_.BroadcastsInDim S6x256x7168 (![] : Fin 0 → Fin S6x256x7168.rank)
  reducesTo_S6x256x7168_S_d0_1_2 : S6x256x7168.ReducesTo [0, 1, 2] S_
  bcast_S_S5 : S_.BroadcastsInDim S5 (![] : Fin 0 → Fin S5.rank)
  reducesTo_S5_S_d0 : S5.ReducesTo [0] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S6x256x4096 .bf16) (main_arg1 : FVec F S6x256x7168 .bf16) (main_arg2 : IVec S5 32) : IVec S_ 1 :=
  let main_v0 : FVec F S6x256x4096 .f32 := (extf .f32 · bitsLt_bf16_f32) main_arg0
  let main_v1 : FVec F S6x256x4096 .f32 := Host.absf main_v0
  let main_cst : FVec F S_ .f32 := constant S_ .f32 0x7F7F0000#32
  let main_v2 : FVec F S6x256x4096 .f32 := broadcastInDim S6x256x4096 ![] bcast_S_S6x256x4096 main_cst
  let main_v3 : IVec S6x256x4096 1 := cmpf .ole main_v1 main_v2
  let main_c : IVec S_ 1 := constantI S_ 1 1#1
  let main_v4 : IVec S_ 1 := (fun x v => Host.reduce IntOp.andi x v reducesTo_S6x256x4096_S_d0_1_2 h_S_) main_v3 main_c
  let main_v5 : FVec F S6x256x7168 .f32 := (extf .f32 · bitsLt_bf16_f32) main_arg1
  let main_v6 : FVec F S6x256x7168 .f32 := Host.absf main_v5
  let main_cst_0 : FVec F S_ .f32 := constant S_ .f32 0x7F7F0000#32
  let main_v7 : FVec F S6x256x7168 .f32 := broadcastInDim S6x256x7168 ![] bcast_S_S6x256x7168 main_cst_0
  let main_v8 : IVec S6x256x7168 1 := cmpf .ole main_v6 main_v7
  let main_c_1 : IVec S_ 1 := constantI S_ 1 1#1
  let main_v9 : IVec S_ 1 := (fun x v => Host.reduce IntOp.andi x v reducesTo_S6x256x7168_S_d0_1_2 h_S_) main_v8 main_c_1
  let main_v10 : IVec S_ 1 := andi main_v4 main_v9
  let main_c_2 : IVec S_ 32 := constantI S_ 32 0#32
  let main_v11 : IVec S5 32 := broadcastInDim S5 ![] bcast_S_S5 main_c_2
  let main_v12 : IVec S5 1 := cmpi .sge main_arg2 main_v11
  let main_c_3 : IVec S_ 32 := constantI S_ 32 1536#32
  let main_v13 : IVec S5 32 := broadcastInDim S5 ![] bcast_S_S5 main_c_3
  let main_v14 : IVec S5 1 := cmpi .sle main_arg2 main_v13
  let main_v15 : IVec S5 1 := andi main_v12 main_v14
  let main_c_4 : IVec S_ 1 := constantI S_ 1 1#1
  let main_v16 : IVec S_ 1 := (fun x v => Host.reduce IntOp.andi x v reducesTo_S5_S_d0 h_S_) main_v15 main_c_4
  fn_part1 (F := F) main_v10 main_v16
-- ==== Kernel.lean ====
abbrev S6x256x4096 : Shape := ⟨3, ![6, 256, 4096]⟩
abbrev S6x256x7168 : Shape := ⟨3, ![6, 256, 7168]⟩
abbrev S5 : Shape := ⟨1, ![5]⟩
abbrev S1536x4096 : Shape := ⟨2, ![1536, 4096]⟩
abbrev S1536x7168 : Shape := ⟨2, ![1536, 7168]⟩
abbrev S5x4096x7168 : Shape := ⟨3, ![5, 4096, 7168]⟩
abbrev S48x4096 : Shape := ⟨2, ![48, 4096]⟩
abbrev S48x7168 : Shape := ⟨2, ![48, 7168]⟩
abbrev S1536x1024 : Shape := ⟨2, ![1536, 1024]⟩
abbrev S1x1024x1024 : Shape := ⟨3, ![1, 1024, 1024]⟩
abbrev S48x1024 : Shape := ⟨2, ![48, 1024]⟩
abbrev S4096x1536 : Shape := ⟨2, ![4096, 1536]⟩
abbrev S256x1024 : Shape := ⟨2, ![256, 1024]⟩
abbrev S32x1024 : Shape := ⟨2, ![32, 1024]⟩
abbrev S16x1024 : Shape := ⟨2, ![16, 1024]⟩
abbrev S1024 : Shape := ⟨1, ![1024]⟩
abbrev S1x1024 : Shape := ⟨2, ![1, 1024]⟩
abbrev S1024x256 : Shape := ⟨2, ![1024, 256]⟩
abbrev S1 : Shape := ⟨1, ![1]⟩
abbrev S1024x1024 : Shape := ⟨2, ![1024, 1024]⟩
abbrev S512x1024 : Shape := ⟨2, ![512, 1024]⟩
abbrev S1024x512 : Shape := ⟨2, ![1024, 512]⟩
abbrev S768x1024 : Shape := ⟨2, ![768, 1024]⟩
abbrev S1024x768 : Shape := ⟨2, ![1024, 768]⟩
abbrev S1280x1024 : Shape := ⟨2, ![1280, 1024]⟩
abbrev S1024x1280 : Shape := ⟨2, ![1024, 1280]⟩
abbrev S1024x1536 : Shape := ⟨2, ![1024, 1536]⟩

abbrev nBuf : Space → Nat
  | .hbm => 9
  | .vmem => 17
  | .smem => 1
  | _ => 0

abbrev bufTy : (tb : Table) → Fin (tcTables nBuf tb) → BufTy
  | .hbm, ⟨0, _⟩ => ⟨S6x256x4096, .bf16⟩
  | .hbm, ⟨1, _⟩ => ⟨S6x256x7168, .bf16⟩
  | .hbm, ⟨2, _⟩ => ⟨S1536x4096, .bf16⟩
  | .hbm, ⟨3, _⟩ => ⟨S1536x7168, .bf16⟩
  | .hbm, ⟨4, _⟩ => ⟨S5x4096x7168, .f32⟩
  | .hbm, ⟨5, _⟩ => ⟨S1536x4096, .fp8e4m3⟩
  | .hbm, ⟨6, _⟩ => ⟨S48x4096, .f32⟩
  | .hbm, ⟨7, _⟩ => ⟨S1536x7168, .fp8e5m2⟩
  | .hbm, ⟨8, _⟩ => ⟨S48x7168, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1536x1024, .fp8e4m3⟩
  | .local _ .vmem, ⟨7, _⟩ => ⟨S1536x1024, .fp8e4m3⟩
  | .local _ .vmem, ⟨8, _⟩ => ⟨S48x1024, .f32⟩
  | .local _ .vmem, ⟨9, _⟩ => ⟨S48x1024, .f32⟩
  | .local _ .vmem, ⟨10, _⟩ => ⟨S1536x1024, .fp8e5m2⟩
  | .local _ .vmem, ⟨11, _⟩ => ⟨S1536x1024, .fp8e5m2⟩
  | .local _ .vmem, ⟨12, _⟩ => ⟨S48x1024, .f32⟩
  | .local _ .vmem, ⟨13, _⟩ => ⟨S48x1024, .f32⟩
  | .local _ .vmem, ⟨14, _⟩ => ⟨S4096x1536, .bf16⟩
  | .local _ .vmem, ⟨15, _⟩ => ⟨S1536x1024, .bf16⟩
  | .local _ .vmem, ⟨16, _⟩ => ⟨S256x1024, .bf16⟩
  | .local _ .smem, ⟨0, _⟩ => ⟨S5, .i32⟩
  | _, _ => ⟨S6x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![7, 4, 5], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_36 : BitVec 32 := 0#32
  let c6_i32_37 : BitVec 32 := 6#32
  let v86 : BitVec 32 := Scalar.addi c0_i32_36 c6_i32_37
  let c1_i32_38 : BitVec 32 := 1#32
  ⟨c0_i32_36, v86, c1_i32_38⟩
@[reducible] def k0_t2_loop : Scf.Loop 32 :=
  let c0_i32_40 : BitVec 32 := 0#32
  let c8_i32 : BitVec 32 := 8#32
  let v87 : BitVec 32 := Scalar.addi c0_i32_40 c8_i32
  let c1_i32_41 : BitVec 32 := 1#32
  ⟨c0_i32_40, v87, c1_i32_41⟩
def k0_mult1 (k0_t1 : Fin k0_t1_loop.trips) (k0_t2 : Fin k0_t2_loop.trips) : BitVec 32 :=
  let c0_i32_36 : BitVec 32 := 0#32
  let c1_i32_38 : BitVec 32 := 1#32
  let arg14 : BitVec 32 := Scf.iv c0_i32_36 c1_i32_38 k0_t1
  let c8_i32_46 : BitVec 32 := 8#32
  let v99 : BitVec 32 := Scalar.muli arg14 c8_i32_46
  let c0_i32_40 : BitVec 32 := 0#32
  let c1_i32_41 : BitVec 32 := 1#32
  let arg15 : BitVec 32 := Scf.iv c0_i32_40 c1_i32_41 k0_t2
  let v100 : BitVec 32 := Scalar.addi v99 arg15
  let c32_i32 : BitVec 32 := 32#32
  let v101 : BitVec 32 := Scalar.muli v100 c32_i32
  v101
def k0_off1 (k0_t1 : Fin k0_t1_loop.trips) (k0_t2 : Fin k0_t2_loop.trips) : Fin 2 → Nat :=
  let c0_i32_36 : BitVec 32 := 0#32
  let c1_i32_38 : BitVec 32 := 1#32
  let arg14 : BitVec 32 := Scf.iv c0_i32_36 c1_i32_38 k0_t1
  let c8_i32_46 : BitVec 32 := 8#32
  let v99 : BitVec 32 := Scalar.muli arg14 c8_i32_46
  let c0_i32_40 : BitVec 32 := 0#32
  let c1_i32_41 : BitVec 32 := 1#32
  let arg15 : BitVec 32 := Scf.iv c0_i32_40 c1_i32_41 k0_t2
  let v100 : BitVec 32 := Scalar.addi v99 arg15
  let c32_i32 : BitVec 32 := 32#32
  let v101 : BitVec 32 := Scalar.muli v100 c32_i32
  let v102 : BitVec 32 := v101
  let v103 : Index := Scalar.indexCast v102
  let c0_47 : Index := 0#32
  ![v103.toNat, 0]
def k0_off2 (k0_t1 : Fin k0_t1_loop.trips) (k0_t2 : Fin k0_t2_loop.trips) : Fin 2 → Nat :=
  let c0_i32_36 : BitVec 32 := 0#32
  let c1_i32_38 : BitVec 32 := 1#32
  let arg14 : BitVec 32 := Scf.iv c0_i32_36 c1_i32_38 k0_t1
  let c8_i32_69 : BitVec 32 := 8#32
  let v202 : BitVec 32 := Scalar.muli arg14 c8_i32_69
  let c0_i32_40 : BitVec 32 := 0#32
  let c1_i32_41 : BitVec 32 := 1#32
  let arg15 : BitVec 32 := Scf.iv c0_i32_40 c1_i32_41 k0_t2
  let v203 : BitVec 32 := Scalar.addi v202 arg15
  let v204 : Index := Scalar.indexCast v203
  let c0_70 : Index := 0#32
  ![v204.toNat, 0]
def k0_mult2 (k0_t2 : Fin k0_t2_loop.trips) : BitVec 32 :=
  let c0_i32_40 : BitVec 32 := 0#32
  let c1_i32_41 : BitVec 32 := 1#32
  let arg15 : BitVec 32 := Scf.iv c0_i32_40 c1_i32_41 k0_t2
  let c32_i32_71 : BitVec 32 := 32#32
  let v206 : BitVec 32 := Scalar.muli arg15 c32_i32_71
  v206
def k0_off3 (k0_t2 : Fin k0_t2_loop.trips) : Fin 2 → Nat :=
  let c0_i32_40 : BitVec 32 := 0#32
  let c1_i32_41 : BitVec 32 := 1#32
  let arg15 : BitVec 32 := Scf.iv c0_i32_40 c1_i32_41 k0_t2
  let c32_i32_71 : BitVec 32 := 32#32
  let v206 : BitVec 32 := Scalar.muli arg15 c32_i32_71
  let v207 : BitVec 32 := v206
  let v208 : Index := Scalar.indexCast v207
  let c0_72 : Index := 0#32
  ![v208.toNat, 0]
def k0_mult3 (i : grid0.Coords) : BitVec 32 :=
  let arg1 : BitVec 32 := BitVec.ofNat 32 (i 1).val
  let c1024_i32_44 : BitVec 32 := 1024#32
  let v90 : BitVec 32 := Scalar.muli arg1 c1024_i32_44
  v90
def k0_mult4 (k0_t1 : Fin k0_t1_loop.trips) : BitVec 32 :=
  let c0_i32_36 : BitVec 32 := 0#32
  let c1_i32_38 : BitVec 32 := 1#32
  let arg14 : BitVec 32 := Scf.iv c0_i32_36 c1_i32_38 k0_t1
  let c256_i32_45 : BitVec 32 := 256#32
  let v92 : BitVec 32 := Scalar.muli arg14 c256_i32_45
  v92
def k0_off4 (i : grid0.Coords) (k0_t1 : Fin k0_t1_loop.trips) : Fin 2 → Nat :=
  let arg1 : BitVec 32 := BitVec.ofNat 32 (i 1).val
  let c1024_i32_44 : BitVec 32 := 1024#32
  let v90 : BitVec 32 := Scalar.muli arg1 c1024_i32_44
  let v91 : BitVec 32 := v90
  let v94 : Index := Scalar.indexCast v91
  let c0_i32_36 : BitVec 32 := 0#32
  let c1_i32_38 : BitVec 32 := 1#32
  let arg14 : BitVec 32 := Scf.iv c0_i32_36 c1_i32_38 k0_t1
  let c256_i32_45 : BitVec 32 := 256#32
  let v92 : BitVec 32 := Scalar.muli arg14 c256_i32_45
  let v93 : BitVec 32 := v92
  let v95 : Index := Scalar.indexCast v93
  ![v94.toNat, v95.toNat]
def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let arg2 : BitVec 32 := BitVec.ofNat 32 (i 2).val
  let c0_i32_3 : BitVec 32 := 0#32
  let v6 : BitVec 1 := Scalar.cmpi .eq arg2 c0_i32_3
  let v7 : BitVec 1 := Scalar.andi v5 v6
  let v8 : BitVec 32 := Scalar.extui v7
  let c0_i32_4 : BitVec 32 := 0#32
  let v9 : BitVec 1 := Scalar.cmpi .ne v8 c0_i32_4
  v9

@[reducible] def k0_t3_loop : Scf.Loop 32 :=
  let c0_i32_36 : BitVec 32 := 0#32
  let c48_i32 : BitVec 32 := 48#32
  let v86 : BitVec 32 := Scalar.addi c0_i32_36 c48_i32
  let c1_i32_37 : BitVec 32 := 1#32
  ⟨c0_i32_36, v86, c1_i32_37⟩
def k0_mult5 (k0_t3 : Fin k0_t3_loop.trips) : BitVec 32 :=
  let c0_i32_36 : BitVec 32 := 0#32
  let c1_i32_37 : BitVec 32 := 1#32
  let arg14 : BitVec 32 := Scf.iv c0_i32_36 c1_i32_37 k0_t3
  let c32_i32 : BitVec 32 := 32#32
  let v87 : BitVec 32 := Scalar.muli arg14 c32_i32
  v87
def k0_off5 (k0_t3 : Fin k0_t3_loop.trips) : Fin 2 → Nat :=
  let c0_i32_36 : BitVec 32 := 0#32
  let c1_i32_37 : BitVec 32 := 1#32
  let arg14 : BitVec 32 := Scf.iv c0_i32_36 c1_i32_37 k0_t3
  let c32_i32 : BitVec 32 := 32#32
  let v87 : BitVec 32 := Scalar.muli arg14 c32_i32
  let v88 : BitVec 32 := v87
  let v89 : Index := Scalar.indexCast v88
  let c0 : Index := 0#32
  ![v89.toNat, 0]
def k0_off6 (k0_t3 : Fin k0_t3_loop.trips) : Fin 2 → Nat :=
  let c0_i32_36 : BitVec 32 := 0#32
  let c1_i32_37 : BitVec 32 := 1#32
  let arg14 : BitVec 32 := Scf.iv c0_i32_36 c1_i32_37 k0_t3
  let v188 : Index := Scalar.indexCast arg14
  let c0_59 : Index := 0#32
  ![v188.toNat, 0]
@[reducible] def k0_t4_loop (i : grid0.Coords) : Scf.Loop 32 :=
  let c0_i32_5 : BitVec 32 := 0#32
  let arg2 : BitVec 32 := BitVec.ofNat 32 (i 2).val
  let v10 : BitVec 32 := Scalar.subi arg2 c0_i32_5
  let c1_i32 : BitVec 32 := 1#32
  let v12 : BitVec 32 := Scalar.divsi v10 c1_i32
  let v13 : BitVec 32 := Scalar.muli v12 c1_i32
  let v14 : BitVec 32 := Scalar.addi c0_i32_5 v13
  let c1_i32_7 : BitVec 32 := 1#32
  ⟨c0_i32_5, v14, c1_i32_7⟩
def k0_off7 (i : grid0.Coords) (k0_t4 : Fin (k0_t4_loop i).trips) : Fin 1 → Nat :=
  let c0_i32_5 : BitVec 32 := 0#32
  let c1_i32_7 : BitVec 32 := 1#32
  let arg14 : BitVec 32 := Scf.iv c0_i32_5 c1_i32_7 k0_t4
  let v86 : Index := Scalar.indexCast arg14
  ![v86.toNat]
@[reducible] def k0_t5_loop (i : grid0.Coords) : Scf.Loop 32 :=
  let c0_i32_5 : BitVec 32 := 0#32
  let arg2 : BitVec 32 := BitVec.ofNat 32 (i 2).val
  let v10 : BitVec 32 := Scalar.subi arg2 c0_i32_5
  let c1_i32 : BitVec 32 := 1#32
  let v12 : BitVec 32 := Scalar.divsi v10 c1_i32
  let v13 : BitVec 32 := Scalar.muli v12 c1_i32
  let v14 : BitVec 32 := Scalar.addi c0_i32_5 v13
  let v11 : BitVec 32 := Scalar.addi c0_i32_5 v10
  let c1_i32_8 : BitVec 32 := 1#32
  ⟨v14, v11, c1_i32_8⟩
def k0_off8 (i : grid0.Coords) (k0_t5 : Fin (k0_t5_loop i).trips) : Fin 1 → Nat :=
  let c0_i32_5 : BitVec 32 := 0#32
  let arg2 : BitVec 32 := BitVec.ofNat 32 (i 2).val
  let v10 : BitVec 32 := Scalar.subi arg2 c0_i32_5
  let c1_i32 : BitVec 32 := 1#32
  let v12 : BitVec 32 := Scalar.divsi v10 c1_i32
  let v13 : BitVec 32 := Scalar.muli v12 c1_i32
  let v14 : BitVec 32 := Scalar.addi c0_i32_5 v13
  let c1_i32_8 : BitVec 32 := 1#32
  let arg14 : BitVec 32 := Scf.iv v14 c1_i32_8 k0_t5
  let v86 : Index := Scalar.indexCast arg14
  ![v86.toNat]
def k0_off9 (i : grid0.Coords) : Fin 1 → Nat :=
  let arg2 : BitVec 32 := BitVec.ofNat 32 (i 2).val
  let v17 : Index := Scalar.indexCast arg2
  ![v17.toNat]
def k0_mult6 (v16 : BitVec 32) : BitVec 32 :=
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let c5_i32 : BitVec 32 := 5#32
  let v60 : BitVec 32 := Scalar.minsi v37 c5_i32
  let c256_i32_25 : BitVec 32 := 256#32
  let v61 : BitVec 32 := Scalar.muli v60 c256_i32_25
  v61

def k0_chk1 (v16 : BitVec 32) : Prop :=
  (256 ∣ (k0_mult6 v16).toNat)
theorem k0_mult6_dvd : ∀ (v16 : BitVec 32) (k0_hw1 : k0_chk1 v16), 256 ∣ (k0_mult6 v16).toNat := fun v16 k0_hw1 => k0_hw1

def k0_mult7 (i : grid0.Coords) : BitVec 32 :=
  let arg1 : BitVec 32 := BitVec.ofNat 32 (i 1).val
  let c1024_i32 : BitVec 32 := 1024#32
  let v63 : BitVec 32 := Scalar.muli arg1 c1024_i32
  v63
def k0_off10 (v16 : BitVec 32) : Fin 2 → Nat :=
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let c5_i32 : BitVec 32 := 5#32
  let v60 : BitVec 32 := Scalar.minsi v37 c5_i32
  let c256_i32_25 : BitVec 32 := 256#32
  let v61 : BitVec 32 := Scalar.muli v60 c256_i32_25
  let v62 : BitVec 32 := v61
  let v94 : Index := Scalar.indexCast v62
  let c0 : Index := 0#32
  ![v94.toNat, 0]
def k0_cond4 (v16 : BitVec 32) (v18 : BitVec 32) : BitVec 1 :=
  let v19 : BitVec 32 := Scalar.addi v16 v18
  let c1536_i32 : BitVec 32 := 1536#32
  let v20 : BitVec 32 := Scalar.minsi v19 c1536_i32
  let v38 : BitVec 1 := Scalar.cmpi .sgt v20 v16
  let c256_i32_15 : BitVec 32 := 256#32
  let v39 : BitVec 32 := Scalar.addi v20 c256_i32_15
  let c1_i32_16 : BitVec 32 := 1#32
  let v40 : BitVec 32 := Scalar.subi v39 c1_i32_16
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c256_i32_17 : BitVec 32 := 256#32
  let c0_i32_20 : BitVec 32 := 0#32
  let v47 : BitVec 1 := Scalar.cmpi .sgt c256_i32_17 c0_i32_20
  let v48 : BitVec 32 := Scalar.extui v47
  let c0_i32_21 : BitVec 32 := 0#32
  let v49 : BitVec 1 := Scalar.cmpi .slt c256_i32_17 c0_i32_21
  let v50 : BitVec 32 := Scalar.extui v49
  let v51 : BitVec 32 := Scalar.subi v48 v50
  let v52 : BitVec 1 := Scalar.cmpi .ne v46 v51
  let v53 : BitVec 32 := Scalar.remsi v40 c256_i32_17
  let c0_i32_22 : BitVec 32 := 0#32
  let v54 : BitVec 1 := Scalar.cmpi .ne v53 c0_i32_22
  let v55 : BitVec 1 := Scalar.andi v52 v54
  let v41 : BitVec 32 := Scalar.divsi v40 c256_i32_17
  let c1_i32_23 : BitVec 32 := 1#32
  let v56 : BitVec 32 := Scalar.subi v41 c1_i32_23
  let v57 : BitVec 32 := Scalar.select v55 v56 v41
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let v58 : BitVec 32 := Scalar.subi v57 v37
  let c0_i32_24 : BitVec 32 := 0#32
  let v59 : BitVec 32 := Scalar.select v38 v58 c0_i32_24
  let c1_i32_28 : BitVec 32 := 1#32
  let v68 : BitVec 1 := Scalar.cmpi .eq v59 c1_i32_28
  let v69 : BitVec 32 := Scalar.extui v68
  let c0_i32_29 : BitVec 32 := 0#32
  let v70 : BitVec 1 := Scalar.cmpi .ne v69 c0_i32_29
  v70

def k0_off11 (i : grid0.Coords) (v16 : BitVec 32) : Fin 2 → Nat :=
  let arg1 : BitVec 32 := BitVec.ofNat 32 (i 1).val
  let c1024_i32 : BitVec 32 := 1024#32
  let v63 : BitVec 32 := Scalar.muli arg1 c1024_i32
  let v64 : BitVec 32 := v63
  let v99 : Index := Scalar.indexCast v64
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let c5_i32 : BitVec 32 := 5#32
  let v60 : BitVec 32 := Scalar.minsi v37 c5_i32
  let c256_i32_25 : BitVec 32 := 256#32
  let v61 : BitVec 32 := Scalar.muli v60 c256_i32_25
  let v62 : BitVec 32 := v61
  let v100 : Index := Scalar.indexCast v62
  ![v99.toNat, v100.toNat]
def k0_off12 (v16 : BitVec 32) : Fin 2 → Nat :=
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let c5_i32 : BitVec 32 := 5#32
  let v60 : BitVec 32 := Scalar.minsi v37 c5_i32
  let c256_i32_25 : BitVec 32 := 256#32
  let v61 : BitVec 32 := Scalar.muli v60 c256_i32_25
  let v62 : BitVec 32 := v61
  let v94 : Index := Scalar.indexCast v62
  let c0 : Index := 0#32
  ![v94.toNat, 0]
def k0_cond5 (v16 : BitVec 32) (v18 : BitVec 32) : BitVec 1 :=
  let v19 : BitVec 32 := Scalar.addi v16 v18
  let c1536_i32 : BitVec 32 := 1536#32
  let v20 : BitVec 32 := Scalar.minsi v19 c1536_i32
  let v38 : BitVec 1 := Scalar.cmpi .sgt v20 v16
  let c256_i32_15 : BitVec 32 := 256#32
  let v39 : BitVec 32 := Scalar.addi v20 c256_i32_15
  let c1_i32_16 : BitVec 32 := 1#32
  let v40 : BitVec 32 := Scalar.subi v39 c1_i32_16
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c256_i32_17 : BitVec 32 := 256#32
  let c0_i32_20 : BitVec 32 := 0#32
  let v47 : BitVec 1 := Scalar.cmpi .sgt c256_i32_17 c0_i32_20
  let v48 : BitVec 32 := Scalar.extui v47
  let c0_i32_21 : BitVec 32 := 0#32
  let v49 : BitVec 1 := Scalar.cmpi .slt c256_i32_17 c0_i32_21
  let v50 : BitVec 32 := Scalar.extui v49
  let v51 : BitVec 32 := Scalar.subi v48 v50
  let v52 : BitVec 1 := Scalar.cmpi .ne v46 v51
  let v53 : BitVec 32 := Scalar.remsi v40 c256_i32_17
  let c0_i32_22 : BitVec 32 := 0#32
  let v54 : BitVec 1 := Scalar.cmpi .ne v53 c0_i32_22
  let v55 : BitVec 1 := Scalar.andi v52 v54
  let v41 : BitVec 32 := Scalar.divsi v40 c256_i32_17
  let c1_i32_23 : BitVec 32 := 1#32
  let v56 : BitVec 32 := Scalar.subi v41 c1_i32_23
  let v57 : BitVec 32 := Scalar.select v55 v56 v41
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let v58 : BitVec 32 := Scalar.subi v57 v37
  let c0_i32_24 : BitVec 32 := 0#32
  let v59 : BitVec 32 := Scalar.select v38 v58 c0_i32_24
  let c2_i32 : BitVec 32 := 2#32
  let v71 : BitVec 1 := Scalar.cmpi .eq v59 c2_i32
  let v72 : BitVec 32 := Scalar.extui v71
  let c0_i32_30 : BitVec 32 := 0#32
  let v73 : BitVec 1 := Scalar.cmpi .ne v72 c0_i32_30
  v73

def k0_off13 (i : grid0.Coords) (v16 : BitVec 32) : Fin 2 → Nat :=
  let arg1 : BitVec 32 := BitVec.ofNat 32 (i 1).val
  let c1024_i32 : BitVec 32 := 1024#32
  let v63 : BitVec 32 := Scalar.muli arg1 c1024_i32
  let v64 : BitVec 32 := v63
  let v99 : Index := Scalar.indexCast v64
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let c5_i32 : BitVec 32 := 5#32
  let v60 : BitVec 32 := Scalar.minsi v37 c5_i32
  let c256_i32_25 : BitVec 32 := 256#32
  let v61 : BitVec 32 := Scalar.muli v60 c256_i32_25
  let v62 : BitVec 32 := v61
  let v100 : Index := Scalar.indexCast v62
  ![v99.toNat, v100.toNat]
def k0_off14 (v16 : BitVec 32) : Fin 2 → Nat :=
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let c5_i32 : BitVec 32 := 5#32
  let v60 : BitVec 32 := Scalar.minsi v37 c5_i32
  let c256_i32_25 : BitVec 32 := 256#32
  let v61 : BitVec 32 := Scalar.muli v60 c256_i32_25
  let v62 : BitVec 32 := v61
  let v94 : Index := Scalar.indexCast v62
  let c0 : Index := 0#32
  ![v94.toNat, 0]
def k0_cond6 (v16 : BitVec 32) (v18 : BitVec 32) : BitVec 1 :=
  let v19 : BitVec 32 := Scalar.addi v16 v18
  let c1536_i32 : BitVec 32 := 1536#32
  let v20 : BitVec 32 := Scalar.minsi v19 c1536_i32
  let v38 : BitVec 1 := Scalar.cmpi .sgt v20 v16
  let c256_i32_15 : BitVec 32 := 256#32
  let v39 : BitVec 32 := Scalar.addi v20 c256_i32_15
  let c1_i32_16 : BitVec 32 := 1#32
  let v40 : BitVec 32 := Scalar.subi v39 c1_i32_16
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c256_i32_17 : BitVec 32 := 256#32
  let c0_i32_20 : BitVec 32 := 0#32
  let v47 : BitVec 1 := Scalar.cmpi .sgt c256_i32_17 c0_i32_20
  let v48 : BitVec 32 := Scalar.extui v47
  let c0_i32_21 : BitVec 32 := 0#32
  let v49 : BitVec 1 := Scalar.cmpi .slt c256_i32_17 c0_i32_21
  let v50 : BitVec 32 := Scalar.extui v49
  let v51 : BitVec 32 := Scalar.subi v48 v50
  let v52 : BitVec 1 := Scalar.cmpi .ne v46 v51
  let v53 : BitVec 32 := Scalar.remsi v40 c256_i32_17
  let c0_i32_22 : BitVec 32 := 0#32
  let v54 : BitVec 1 := Scalar.cmpi .ne v53 c0_i32_22
  let v55 : BitVec 1 := Scalar.andi v52 v54
  let v41 : BitVec 32 := Scalar.divsi v40 c256_i32_17
  let c1_i32_23 : BitVec 32 := 1#32
  let v56 : BitVec 32 := Scalar.subi v41 c1_i32_23
  let v57 : BitVec 32 := Scalar.select v55 v56 v41
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let v58 : BitVec 32 := Scalar.subi v57 v37
  let c0_i32_24 : BitVec 32 := 0#32
  let v59 : BitVec 32 := Scalar.select v38 v58 c0_i32_24
  let c3_i32 : BitVec 32 := 3#32
  let v74 : BitVec 1 := Scalar.cmpi .eq v59 c3_i32
  let v75 : BitVec 32 := Scalar.extui v74
  let c0_i32_31 : BitVec 32 := 0#32
  let v76 : BitVec 1 := Scalar.cmpi .ne v75 c0_i32_31
  v76

def k0_off15 (i : grid0.Coords) (v16 : BitVec 32) : Fin 2 → Nat :=
  let arg1 : BitVec 32 := BitVec.ofNat 32 (i 1).val
  let c1024_i32 : BitVec 32 := 1024#32
  let v63 : BitVec 32 := Scalar.muli arg1 c1024_i32
  let v64 : BitVec 32 := v63
  let v99 : Index := Scalar.indexCast v64
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let c5_i32 : BitVec 32 := 5#32
  let v60 : BitVec 32 := Scalar.minsi v37 c5_i32
  let c256_i32_25 : BitVec 32 := 256#32
  let v61 : BitVec 32 := Scalar.muli v60 c256_i32_25
  let v62 : BitVec 32 := v61
  let v100 : Index := Scalar.indexCast v62
  ![v99.toNat, v100.toNat]
def k0_off16 (v16 : BitVec 32) : Fin 2 → Nat :=
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let c5_i32 : BitVec 32 := 5#32
  let v60 : BitVec 32 := Scalar.minsi v37 c5_i32
  let c256_i32_25 : BitVec 32 := 256#32
  let v61 : BitVec 32 := Scalar.muli v60 c256_i32_25
  let v62 : BitVec 32 := v61
  let v94 : Index := Scalar.indexCast v62
  let c0 : Index := 0#32
  ![v94.toNat, 0]
def k0_cond7 (v16 : BitVec 32) (v18 : BitVec 32) : BitVec 1 :=
  let v19 : BitVec 32 := Scalar.addi v16 v18
  let c1536_i32 : BitVec 32 := 1536#32
  let v20 : BitVec 32 := Scalar.minsi v19 c1536_i32
  let v38 : BitVec 1 := Scalar.cmpi .sgt v20 v16
  let c256_i32_15 : BitVec 32 := 256#32
  let v39 : BitVec 32 := Scalar.addi v20 c256_i32_15
  let c1_i32_16 : BitVec 32 := 1#32
  let v40 : BitVec 32 := Scalar.subi v39 c1_i32_16
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c256_i32_17 : BitVec 32 := 256#32
  let c0_i32_20 : BitVec 32 := 0#32
  let v47 : BitVec 1 := Scalar.cmpi .sgt c256_i32_17 c0_i32_20
  let v48 : BitVec 32 := Scalar.extui v47
  let c0_i32_21 : BitVec 32 := 0#32
  let v49 : BitVec 1 := Scalar.cmpi .slt c256_i32_17 c0_i32_21
  let v50 : BitVec 32 := Scalar.extui v49
  let v51 : BitVec 32 := Scalar.subi v48 v50
  let v52 : BitVec 1 := Scalar.cmpi .ne v46 v51
  let v53 : BitVec 32 := Scalar.remsi v40 c256_i32_17
  let c0_i32_22 : BitVec 32 := 0#32
  let v54 : BitVec 1 := Scalar.cmpi .ne v53 c0_i32_22
  let v55 : BitVec 1 := Scalar.andi v52 v54
  let v41 : BitVec 32 := Scalar.divsi v40 c256_i32_17
  let c1_i32_23 : BitVec 32 := 1#32
  let v56 : BitVec 32 := Scalar.subi v41 c1_i32_23
  let v57 : BitVec 32 := Scalar.select v55 v56 v41
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let v58 : BitVec 32 := Scalar.subi v57 v37
  let c0_i32_24 : BitVec 32 := 0#32
  let v59 : BitVec 32 := Scalar.select v38 v58 c0_i32_24
  let c4_i32 : BitVec 32 := 4#32
  let v77 : BitVec 1 := Scalar.cmpi .eq v59 c4_i32
  let v78 : BitVec 32 := Scalar.extui v77
  let c0_i32_32 : BitVec 32 := 0#32
  let v79 : BitVec 1 := Scalar.cmpi .ne v78 c0_i32_32
  v79

def k0_off17 (i : grid0.Coords) (v16 : BitVec 32) : Fin 2 → Nat :=
  let arg1 : BitVec 32 := BitVec.ofNat 32 (i 1).val
  let c1024_i32 : BitVec 32 := 1024#32
  let v63 : BitVec 32 := Scalar.muli arg1 c1024_i32
  let v64 : BitVec 32 := v63
  let v99 : Index := Scalar.indexCast v64
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let c5_i32 : BitVec 32 := 5#32
  let v60 : BitVec 32 := Scalar.minsi v37 c5_i32
  let c256_i32_25 : BitVec 32 := 256#32
  let v61 : BitVec 32 := Scalar.muli v60 c256_i32_25
  let v62 : BitVec 32 := v61
  let v100 : Index := Scalar.indexCast v62
  ![v99.toNat, v100.toNat]
def k0_off18 (v16 : BitVec 32) : Fin 2 → Nat :=
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let c5_i32 : BitVec 32 := 5#32
  let v60 : BitVec 32 := Scalar.minsi v37 c5_i32
  let c256_i32_25 : BitVec 32 := 256#32
  let v61 : BitVec 32 := Scalar.muli v60 c256_i32_25
  let v62 : BitVec 32 := v61
  let v94 : Index := Scalar.indexCast v62
  let c0 : Index := 0#32
  ![v94.toNat, 0]
def k0_cond8 (v16 : BitVec 32) (v18 : BitVec 32) : BitVec 1 :=
  let v19 : BitVec 32 := Scalar.addi v16 v18
  let c1536_i32 : BitVec 32 := 1536#32
  let v20 : BitVec 32 := Scalar.minsi v19 c1536_i32
  let v38 : BitVec 1 := Scalar.cmpi .sgt v20 v16
  let c256_i32_15 : BitVec 32 := 256#32
  let v39 : BitVec 32 := Scalar.addi v20 c256_i32_15
  let c1_i32_16 : BitVec 32 := 1#32
  let v40 : BitVec 32 := Scalar.subi v39 c1_i32_16
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c256_i32_17 : BitVec 32 := 256#32
  let c0_i32_20 : BitVec 32 := 0#32
  let v47 : BitVec 1 := Scalar.cmpi .sgt c256_i32_17 c0_i32_20
  let v48 : BitVec 32 := Scalar.extui v47
  let c0_i32_21 : BitVec 32 := 0#32
  let v49 : BitVec 1 := Scalar.cmpi .slt c256_i32_17 c0_i32_21
  let v50 : BitVec 32 := Scalar.extui v49
  let v51 : BitVec 32 := Scalar.subi v48 v50
  let v52 : BitVec 1 := Scalar.cmpi .ne v46 v51
  let v53 : BitVec 32 := Scalar.remsi v40 c256_i32_17
  let c0_i32_22 : BitVec 32 := 0#32
  let v54 : BitVec 1 := Scalar.cmpi .ne v53 c0_i32_22
  let v55 : BitVec 1 := Scalar.andi v52 v54
  let v41 : BitVec 32 := Scalar.divsi v40 c256_i32_17
  let c1_i32_23 : BitVec 32 := 1#32
  let v56 : BitVec 32 := Scalar.subi v41 c1_i32_23
  let v57 : BitVec 32 := Scalar.select v55 v56 v41
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let v58 : BitVec 32 := Scalar.subi v57 v37
  let c0_i32_24 : BitVec 32 := 0#32
  let v59 : BitVec 32 := Scalar.select v38 v58 c0_i32_24
  let c5_i32_33 : BitVec 32 := 5#32
  let v80 : BitVec 1 := Scalar.cmpi .eq v59 c5_i32_33
  let v81 : BitVec 32 := Scalar.extui v80
  let c0_i32_34 : BitVec 32 := 0#32
  let v82 : BitVec 1 := Scalar.cmpi .ne v81 c0_i32_34
  v82

def k0_off19 (i : grid0.Coords) (v16 : BitVec 32) : Fin 2 → Nat :=
  let arg1 : BitVec 32 := BitVec.ofNat 32 (i 1).val
  let c1024_i32 : BitVec 32 := 1024#32
  let v63 : BitVec 32 := Scalar.muli arg1 c1024_i32
  let v64 : BitVec 32 := v63
  let v99 : Index := Scalar.indexCast v64
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let c5_i32 : BitVec 32 := 5#32
  let v60 : BitVec 32 := Scalar.minsi v37 c5_i32
  let c256_i32_25 : BitVec 32 := 256#32
  let v61 : BitVec 32 := Scalar.muli v60 c256_i32_25
  let v62 : BitVec 32 := v61
  let v100 : Index := Scalar.indexCast v62
  ![v99.toNat, v100.toNat]
def k0_off20 (v16 : BitVec 32) : Fin 2 → Nat :=
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let c5_i32 : BitVec 32 := 5#32
  let v60 : BitVec 32 := Scalar.minsi v37 c5_i32
  let c256_i32_25 : BitVec 32 := 256#32
  let v61 : BitVec 32 := Scalar.muli v60 c256_i32_25
  let v62 : BitVec 32 := v61
  let v94 : Index := Scalar.indexCast v62
  let c0 : Index := 0#32
  ![v94.toNat, 0]
def k0_cond9 (v16 : BitVec 32) (v18 : BitVec 32) : BitVec 1 :=
  let v19 : BitVec 32 := Scalar.addi v16 v18
  let c1536_i32 : BitVec 32 := 1536#32
  let v20 : BitVec 32 := Scalar.minsi v19 c1536_i32
  let v38 : BitVec 1 := Scalar.cmpi .sgt v20 v16
  let c256_i32_15 : BitVec 32 := 256#32
  let v39 : BitVec 32 := Scalar.addi v20 c256_i32_15
  let c1_i32_16 : BitVec 32 := 1#32
  let v40 : BitVec 32 := Scalar.subi v39 c1_i32_16
  let c0_i32_18 : BitVec 32 := 0#32
  let v42 : BitVec 1 := Scalar.cmpi .sgt v40 c0_i32_18
  let v43 : BitVec 32 := Scalar.extui v42
  let c0_i32_19 : BitVec 32 := 0#32
  let v44 : BitVec 1 := Scalar.cmpi .slt v40 c0_i32_19
  let v45 : BitVec 32 := Scalar.extui v44
  let v46 : BitVec 32 := Scalar.subi v43 v45
  let c256_i32_17 : BitVec 32 := 256#32
  let c0_i32_20 : BitVec 32 := 0#32
  let v47 : BitVec 1 := Scalar.cmpi .sgt c256_i32_17 c0_i32_20
  let v48 : BitVec 32 := Scalar.extui v47
  let c0_i32_21 : BitVec 32 := 0#32
  let v49 : BitVec 1 := Scalar.cmpi .slt c256_i32_17 c0_i32_21
  let v50 : BitVec 32 := Scalar.extui v49
  let v51 : BitVec 32 := Scalar.subi v48 v50
  let v52 : BitVec 1 := Scalar.cmpi .ne v46 v51
  let v53 : BitVec 32 := Scalar.remsi v40 c256_i32_17
  let c0_i32_22 : BitVec 32 := 0#32
  let v54 : BitVec 1 := Scalar.cmpi .ne v53 c0_i32_22
  let v55 : BitVec 1 := Scalar.andi v52 v54
  let v41 : BitVec 32 := Scalar.divsi v40 c256_i32_17
  let c1_i32_23 : BitVec 32 := 1#32
  let v56 : BitVec 32 := Scalar.subi v41 c1_i32_23
  let v57 : BitVec 32 := Scalar.select v55 v56 v41
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let v58 : BitVec 32 := Scalar.subi v57 v37
  let c0_i32_24 : BitVec 32 := 0#32
  let v59 : BitVec 32 := Scalar.select v38 v58 c0_i32_24
  let c6_i32 : BitVec 32 := 6#32
  let v83 : BitVec 1 := Scalar.cmpi .eq v59 c6_i32
  let v84 : BitVec 32 := Scalar.extui v83
  let c0_i32_35 : BitVec 32 := 0#32
  let v85 : BitVec 1 := Scalar.cmpi .ne v84 c0_i32_35
  v85

def k0_off21 (i : grid0.Coords) (v16 : BitVec 32) : Fin 2 → Nat :=
  let arg1 : BitVec 32 := BitVec.ofNat 32 (i 1).val
  let c1024_i32 : BitVec 32 := 1024#32
  let v63 : BitVec 32 := Scalar.muli arg1 c1024_i32
  let v64 : BitVec 32 := v63
  let v99 : Index := Scalar.indexCast v64
  let c0_i32_9 : BitVec 32 := 0#32
  let v22 : BitVec 1 := Scalar.cmpi .sgt v16 c0_i32_9
  let v23 : BitVec 32 := Scalar.extui v22
  let c0_i32_10 : BitVec 32 := 0#32
  let v24 : BitVec 1 := Scalar.cmpi .slt v16 c0_i32_10
  let v25 : BitVec 32 := Scalar.extui v24
  let v26 : BitVec 32 := Scalar.subi v23 v25
  let c256_i32 : BitVec 32 := 256#32
  let c0_i32_11 : BitVec 32 := 0#32
  let v27 : BitVec 1 := Scalar.cmpi .sgt c256_i32 c0_i32_11
  let v28 : BitVec 32 := Scalar.extui v27
  let c0_i32_12 : BitVec 32 := 0#32
  let v29 : BitVec 1 := Scalar.cmpi .slt c256_i32 c0_i32_12
  let v30 : BitVec 32 := Scalar.extui v29
  let v31 : BitVec 32 := Scalar.subi v28 v30
  let v32 : BitVec 1 := Scalar.cmpi .ne v26 v31
  let v33 : BitVec 32 := Scalar.remsi v16 c256_i32
  let c0_i32_13 : BitVec 32 := 0#32
  let v34 : BitVec 1 := Scalar.cmpi .ne v33 c0_i32_13
  let v35 : BitVec 1 := Scalar.andi v32 v34
  let v21 : BitVec 32 := Scalar.divsi v16 c256_i32
  let c1_i32_14 : BitVec 32 := 1#32
  let v36 : BitVec 32 := Scalar.subi v21 c1_i32_14
  let v37 : BitVec 32 := Scalar.select v35 v36 v21
  let c5_i32 : BitVec 32 := 5#32
  let v60 : BitVec 32 := Scalar.minsi v37 c5_i32
  let c256_i32_25 : BitVec 32 := 256#32
  let v61 : BitVec 32 := Scalar.muli v60 c256_i32_25
  let v62 : BitVec 32 := v61
  let v100 : Index := Scalar.indexCast v62
  ![v99.toNat, v100.toNat]

def k0_chk2 (i : grid0.Coords) (v16 : BitVec 32) (v18 : BitVec 32) : Prop :=
  (∀ (k0_h4 : k0_cond4 v16 v18 = 1#1), ∀ a, (k0_off10 v16) a + S256x1024.size a ≤ S1536x1024.size a) ∧
  (∀ (k0_h4 : k0_cond4 v16 v18 = 1#1), ∀ a, (k0_off11 i v16) a + S1024x256.size a ≤ S4096x1536.size a) ∧
  (∀ (k0_h5 : k0_cond5 v16 v18 = 1#1), ∀ a, (k0_off12 v16) a + S512x1024.size a ≤ S1536x1024.size a) ∧
  (∀ (k0_h5 : k0_cond5 v16 v18 = 1#1), ∀ a, (k0_off13 i v16) a + S1024x512.size a ≤ S4096x1536.size a) ∧
  (∀ (k0_h6 : k0_cond6 v16 v18 = 1#1), ∀ a, (k0_off14 v16) a + S768x1024.size a ≤ S1536x1024.size a) ∧
  (∀ (k0_h6 : k0_cond6 v16 v18 = 1#1), ∀ a, (k0_off15 i v16) a + S1024x768.size a ≤ S4096x1536.size a) ∧
  (∀ (k0_h7 : k0_cond7 v16 v18 = 1#1), ∀ a, (k0_off16 v16) a + S1024x1024.size a ≤ S1536x1024.size a) ∧
  (∀ (k0_h7 : k0_cond7 v16 v18 = 1#1), ∀ a, (k0_off17 i v16) a + S1024x1024.size a ≤ S4096x1536.size a) ∧
  (∀ (k0_h8 : k0_cond8 v16 v18 = 1#1), ∀ a, (k0_off18 v16) a + S1280x1024.size a ≤ S1536x1024.size a) ∧
  (∀ (k0_h8 : k0_cond8 v16 v18 = 1#1), ∀ a, (k0_off19 i v16) a + S1024x1280.size a ≤ S4096x1536.size a) ∧
  (∀ (k0_h9 : k0_cond9 v16 v18 = 1#1), ∀ a, (k0_off20 v16) a + S1536x1024.size a ≤ S1536x1024.size a) ∧
  (∀ (k0_h9 : k0_cond9 v16 v18 = 1#1), ∀ a, (k0_off21 i v16) a + S1024x1536.size a ≤ S4096x1536.size a)
theorem k0_off10_inb : ∀ (i : grid0.Coords) (v16 : BitVec 32) (v18 : BitVec 32) (k0_hw2 : k0_chk2 i v16 v18), ∀ (k0_h4 : k0_cond4 v16 v18 = 1#1), ∀ a, (k0_off10 v16) a + S256x1024.size a ≤ S1536x1024.size a := fun i v16 v18 k0_hw2 k0_h4 => k0_hw2.1 k0_h4
theorem k0_off11_inb : ∀ (i : grid0.Coords) (v16 : BitVec 32) (v18 : BitVec 32) (k0_hw2 : k0_chk2 i v16 v18), ∀ (k0_h4 : k0_cond4 v16 v18 = 1#1), ∀ a, (k0_off11 i v16) a + S1024x256.size a ≤ S4096x1536.size a := fun i v16 v18 k0_hw2 k0_h4 => k0_hw2.2.1 k0_h4
theorem k0_off12_inb : ∀ (i : grid0.Coords) (v16 : BitVec 32) (v18 : BitVec 32) (k0_hw2 : k0_chk2 i v16 v18), ∀ (k0_h5 : k0_cond5 v16 v18 = 1#1), ∀ a, (k0_off12 v16) a + S512x1024.size a ≤ S1536x1024.size a := fun i v16 v18 k0_hw2 k0_h5 => k0_hw2.2.2.1 k0_h5
theorem k0_off13_inb : ∀ (i : grid0.Coords) (v16 : BitVec 32) (v18 : BitVec 32) (k0_hw2 : k0_chk2 i v16 v18), ∀ (k0_h5 : k0_cond5 v16 v18 = 1#1), ∀ a, (k0_off13 i v16) a + S1024x512.size a ≤ S4096x1536.size a := fun i v16 v18 k0_hw2 k0_h5 => k0_hw2.2.2.2.1 k0_h5
theorem k0_off14_inb : ∀ (i : grid0.Coords) (v16 : BitVec 32) (v18 : BitVec 32) (k0_hw2 : k0_chk2 i v16 v18), ∀ (k0_h6 : k0_cond6 v16 v18 = 1#1), ∀ a, (k0_off14 v16) a + S768x1024.size a ≤ S1536x1024.size a := fun i v16 v18 k0_hw2 k0_h6 => k0_hw2.2.2.2.2.1 k0_h6
theorem k0_off15_inb : ∀ (i : grid0.Coords) (v16 : BitVec 32) (v18 : BitVec 32) (k0_hw2 : k0_chk2 i v16 v18), ∀ (k0_h6 : k0_cond6 v16 v18 = 1#1), ∀ a, (k0_off15 i v16) a + S1024x768.size a ≤ S4096x1536.size a := fun i v16 v18 k0_hw2 k0_h6 => k0_hw2.2.2.2.2.2.1 k0_h6
theorem k0_off16_inb : ∀ (i : grid0.Coords) (v16 : BitVec 32) (v18 : BitVec 32) (k0_hw2 : k0_chk2 i v16 v18), ∀ (k0_h7 : k0_cond7 v16 v18 = 1#1), ∀ a, (k0_off16 v16) a + S1024x1024.size a ≤ S1536x1024.size a := fun i v16 v18 k0_hw2 k0_h7 => k0_hw2.2.2.2.2.2.2.1 k0_h7
theorem k0_off17_inb : ∀ (i : grid0.Coords) (v16 : BitVec 32) (v18 : BitVec 32) (k0_hw2 : k0_chk2 i v16 v18), ∀ (k0_h7 : k0_cond7 v16 v18 = 1#1), ∀ a, (k0_off17 i v16) a + S1024x1024.size a ≤ S4096x1536.size a := fun i v16 v18 k0_hw2 k0_h7 => k0_hw2.2.2.2.2.2.2.2.1 k0_h7
theorem k0_off18_inb : ∀ (i : grid0.Coords) (v16 : BitVec 32) (v18 : BitVec 32) (k0_hw2 : k0_chk2 i v16 v18), ∀ (k0_h8 : k0_cond8 v16 v18 = 1#1), ∀ a, (k0_off18 v16) a + S1280x1024.size a ≤ S1536x1024.size a := fun i v16 v18 k0_hw2 k0_h8 => k0_hw2.2.2.2.2.2.2.2.2.1 k0_h8
theorem k0_off19_inb : ∀ (i : grid0.Coords) (v16 : BitVec 32) (v18 : BitVec 32) (k0_hw2 : k0_chk2 i v16 v18), ∀ (k0_h8 : k0_cond8 v16 v18 = 1#1), ∀ a, (k0_off19 i v16) a + S1024x1280.size a ≤ S4096x1536.size a := fun i v16 v18 k0_hw2 k0_h8 => k0_hw2.2.2.2.2.2.2.2.2.2.1 k0_h8
theorem k0_off20_inb : ∀ (i : grid0.Coords) (v16 : BitVec 32) (v18 : BitVec 32) (k0_hw2 : k0_chk2 i v16 v18), ∀ (k0_h9 : k0_cond9 v16 v18 = 1#1), ∀ a, (k0_off20 v16) a + S1536x1024.size a ≤ S1536x1024.size a := fun i v16 v18 k0_hw2 k0_h9 => k0_hw2.2.2.2.2.2.2.2.2.2.2.1 k0_h9
theorem k0_off21_inb : ∀ (i : grid0.Coords) (v16 : BitVec 32) (v18 : BitVec 32) (k0_hw2 : k0_chk2 i v16 v18), ∀ (k0_h9 : k0_cond9 v16 v18 = 1#1), ∀ a, (k0_off21 i v16) a + S1024x1536.size a ≤ S4096x1536.size a := fun i v16 v18 k0_hw2 k0_h9 => k0_hw2.2.2.2.2.2.2.2.2.2.2.2 k0_h9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1536x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S48x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1536x1024 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S48x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== ReferenceIdeal.lean ====
abbrev S6x256x4096 : Shape := ⟨3, ![6, 256, 4096]⟩
abbrev S6x256x7168 : Shape := ⟨3, ![6, 256, 7168]⟩
abbrev S5 : Shape := ⟨1, ![5]⟩
abbrev S6x8x32x4096 : Shape := ⟨4, ![6, 8, 32, 4096]⟩
abbrev S_ : Shape := ⟨0, ![]⟩
abbrev S6x8x4096 : Shape := ⟨3, ![6, 8, 4096]⟩
abbrev S253 : Shape := ⟨1, ![253]⟩
abbrev S253x1x1x1 : Shape := ⟨4, ![253, 1, 1, 1]⟩
abbrev S1x6x8x4096 : Shape := ⟨4, ![1, 6, 8, 4096]⟩
abbrev S253x6x8x4096 : Shape := ⟨4, ![253, 6, 8, 4096]⟩
abbrev S6x8x1x4096 : Shape := ⟨4, ![6, 8, 1, 4096]⟩
abbrev S1536x4096 : Shape := ⟨2, ![1536, 4096]⟩
abbrev S48x4096 : Shape := ⟨2, ![48, 4096]⟩
abbrev S6x8x32x7168 : Shape := ⟨4, ![6, 8, 32, 7168]⟩
abbrev S6x8x7168 : Shape := ⟨3, ![6, 8, 7168]⟩
abbrev S1x6x8x7168 : Shape := ⟨4, ![1, 6, 8, 7168]⟩
abbrev S253x6x8x7168 : Shape := ⟨4, ![253, 6, 8, 7168]⟩
abbrev S6x8x1x7168 : Shape := ⟨4, ![6, 8, 1, 7168]⟩
abbrev S1536x7168 : Shape := ⟨2, ![1536, 7168]⟩
abbrev S48x7168 : Shape := ⟨2, ![48, 7168]⟩
abbrev S48x32x4096 : Shape := ⟨3, ![48, 32, 4096]⟩
abbrev S48x1x4096 : Shape := ⟨3, ![48, 1, 4096]⟩
abbrev S48x32x7168 : Shape := ⟨3, ![48, 32, 7168]⟩
abbrev S48x1x7168 : Shape := ⟨3, ![48, 1, 7168]⟩
abbrev S1536 : Shape := ⟨1, ![1536]⟩
abbrev S1x1536 : Shape := ⟨2, ![1, 1536]⟩
abbrev S5x1 : Shape := ⟨2, ![5, 1]⟩
abbrev S5x1536 : Shape := ⟨2, ![5, 1536]⟩
abbrev S5x1536x1 : Shape := ⟨3, ![5, 1536, 1]⟩
abbrev S1x1536x4096 : Shape := ⟨3, ![1, 1536, 4096]⟩
abbrev S5x1536x4096 : Shape := ⟨3, ![5, 1536, 4096]⟩
abbrev S5x4096x7168 : Shape := ⟨3, ![5, 4096, 7168]⟩

abbrev nBuf : Space → Nat
  | .hbm => 146
  | .vmem => 6
  | .smem => 0
  | _ => 0

abbrev hbmTy0_0 (i : Nat) : BufTy := match i % 128 with
  | 0 => ⟨S6x256x4096, .bf16⟩
  | 1 => ⟨S6x256x7168, .bf16⟩
  | 2 => ⟨S5, .i32⟩
  | 3 => ⟨S6x256x4096, .f32⟩
  | 4 => ⟨S6x8x32x4096, .f32⟩
  | 5 => ⟨S6x8x32x4096, .f32⟩
  | 6 => ⟨S_, .f32⟩
  | 7 => ⟨S6x8x4096, .f32⟩
  | 8 => ⟨S_, .f32⟩
  | 9 => ⟨S6x8x4096, .f32⟩
  | 10 => ⟨S6x8x4096, .f32⟩
  | 11 => ⟨S253, .i32⟩
  | 12 => ⟨S_, .i32⟩
  | 13 => ⟨S253, .i32⟩
  | 14 => ⟨S253, .i32⟩
  | 15 => ⟨S253, .f32⟩
  | 16 => ⟨S_, .f32⟩
  | 17 => ⟨S253, .f32⟩
  | 18 => ⟨S253, .f32⟩
  | 19 => ⟨S253x1x1x1, .f32⟩
  | 20 => ⟨S1x6x8x4096, .f32⟩
  | 21 => ⟨S253x6x8x4096, .f32⟩
  | 22 => ⟨S253x6x8x4096, .f32⟩
  | 23 => ⟨S253x6x8x4096, .i1⟩
  | 24 => ⟨S_, .f32⟩
  | 25 => ⟨S_, .f32⟩
  | 26 => ⟨S253x6x8x4096, .f32⟩
  | 27 => ⟨S253x6x8x4096, .f32⟩
  | 28 => ⟨S253x6x8x4096, .f32⟩
  | 29 => ⟨S_, .f32⟩
  | 30 => ⟨S6x8x4096, .f32⟩
  | 31 => ⟨S_, .f32⟩
  | 32 => ⟨S6x8x4096, .f32⟩
  | 33 => ⟨S6x8x4096, .i1⟩
  | 34 => ⟨S_, .f32⟩
  | 35 => ⟨S_, .f32⟩
  | 36 => ⟨S6x8x4096, .f32⟩
  | 37 => ⟨S6x8x4096, .f32⟩
  | 38 => ⟨S_, .f32⟩
  | 39 => ⟨S6x8x4096, .f32⟩
  | 40 => ⟨S6x8x4096, .f32⟩
  | 41 => ⟨S6x8x1x4096, .f32⟩
  | 42 => ⟨S6x8x32x4096, .f32⟩
  | 43 => ⟨S6x8x32x4096, .f32⟩
  | 44 => ⟨S_, .f32⟩
  | 45 => ⟨S_, .f32⟩
  | 46 => ⟨S_, .f32⟩
  | 47 => ⟨S6x8x32x4096, .f32⟩
  | 48 => ⟨S6x8x32x4096, .f32⟩
  | 49 => ⟨S_, .f32⟩
  | 50 => ⟨S6x8x32x4096, .f32⟩
  | 51 => ⟨S6x8x32x4096, .f32⟩
  | 52 => ⟨S1536x4096, .f32⟩
  | 53 => ⟨S48x4096, .f32⟩
  | 54 => ⟨S6x256x7168, .f32⟩
  | 55 => ⟨S6x8x32x7168, .f32⟩
  | 56 => ⟨S6x8x32x7168, .f32⟩
  | 57 => ⟨S_, .f32⟩
  | 58 => ⟨S6x8x7168, .f32⟩
  | 59 => ⟨S_, .f32⟩
  | 60 => ⟨S6x8x7168, .f32⟩
  | 61 => ⟨S6x8x7168, .f32⟩
  | 62 => ⟨S253, .i32⟩
  | 63 => ⟨S_, .i32⟩
  | 64 => ⟨S253, .i32⟩
  | 65 => ⟨S253, .i32⟩
  | 66 => ⟨S253, .f32⟩
  | 67 => ⟨S_, .f32⟩
  | 68 => ⟨S253, .f32⟩
  | 69 => ⟨S253, .f32⟩
  | 70 => ⟨S253x1x1x1, .f32⟩
  | 71 => ⟨S1x6x8x7168, .f32⟩
  | 72 => ⟨S253x6x8x7168, .f32⟩
  | 73 => ⟨S253x6x8x7168, .f32⟩
  | 74 => ⟨S253x6x8x7168, .i1⟩
  | 75 => ⟨S_, .f32⟩
  | 76 => ⟨S_, .f32⟩
  | 77 => ⟨S253x6x8x7168, .f32⟩
  | 78 => ⟨S253x6x8x7168, .f32⟩
  | 79 => ⟨S253x6x8x7168, .f32⟩
  | 80 => ⟨S_, .f32⟩
  | 81 => ⟨S6x8x7168, .f32⟩
  | 82 => ⟨S_, .f32⟩
  | 83 => ⟨S6x8x7168, .f32⟩
  | 84 => ⟨S6x8x7168, .i1⟩
  | 85 => ⟨S_, .f32⟩
  | 86 => ⟨S_, .f32⟩
  | 87 => ⟨S6x8x7168, .f32⟩
  | 88 => ⟨S6x8x7168, .f32⟩
  | 89 => ⟨S_, .f32⟩
  | 90 => ⟨S6x8x7168, .f32⟩
  | 91 => ⟨S6x8x7168, .f32⟩
  | 92 => ⟨S6x8x1x7168, .f32⟩
  | 93 => ⟨S6x8x32x7168, .f32⟩
  | 94 => ⟨S6x8x32x7168, .f32⟩
  | 95 => ⟨S_, .f32⟩
  | 96 => ⟨S_, .f32⟩
  | 97 => ⟨S_, .f32⟩
  | 98 => ⟨S6x8x32x7168, .f32⟩
  | 99 => ⟨S6x8x32x7168, .f32⟩
  | 100 => ⟨S_, .f32⟩
  | 101 => ⟨S6x8x32x7168, .f32⟩
  | 102 => ⟨S6x8x32x7168, .f32⟩
  | 103 => ⟨S1536x7168, .f32⟩
  | 104 => ⟨S48x7168, .f32⟩
  | 105 => ⟨S1536x4096, .fp8e4m3⟩
  | 106 => ⟨S1536x7168, .fp8e5m2⟩
  | 107 => ⟨S1536x4096, .bf16⟩
  | 108 => ⟨S1536x7168, .bf16⟩
  | 109 => ⟨S48x32x4096, .bf16⟩
  | 110 => ⟨S48x4096, .bf16⟩
  | 111 => ⟨S48x1x4096, .bf16⟩
  | 112 => ⟨S48x32x4096, .bf16⟩
  | 113 => ⟨S48x32x4096, .bf16⟩
  | 114 => ⟨S1536x4096, .bf16⟩
  | 115 => ⟨S48x32x7168, .bf16⟩
  | 116 => ⟨S48x7168, .bf16⟩
  | 117 => ⟨S48x1x7168, .bf16⟩
  | 118 => ⟨S48x32x7168, .bf16⟩
  | 119 => ⟨S48x32x7168, .bf16⟩
  | 120 => ⟨S1536x7168, .bf16⟩
  | 121 => ⟨S_, .i32⟩
  | 122 => ⟨S_, .i32⟩
  | 123 => ⟨S5, .i32⟩
  | 124 => ⟨S5, .i32⟩
  | 125 => ⟨S1536, .i32⟩
  | 126 => ⟨S1x1536, .i32⟩
  | 127 => ⟨S5x1, .i32⟩
  | _ => ⟨S6x256x4096, .bf16⟩

abbrev hbmTy0_1 (i : Nat) : BufTy := match i % 128 with
  | 0 => ⟨S5x1536, .i32⟩
  | 1 => ⟨S5x1536, .i32⟩
  | 2 => ⟨S5x1536, .i1⟩
  | 3 => ⟨S1x1536, .i32⟩
  | 4 => ⟨S5x1, .i32⟩
  | 5 => ⟨S5x1536, .i32⟩
  | 6 => ⟨S5x1536, .i32⟩
  | 7 => ⟨S5x1536, .i1⟩
  | 8 => ⟨S5x1536, .i1⟩
  | 9 => ⟨S5x1536x1, .i1⟩
  | 10 => ⟨S1x1536x4096, .bf16⟩
  | 11 => ⟨S_, .i32⟩
  | 12 => ⟨S_, .bf16⟩
  | 13 => ⟨S5x1536x4096, .i1⟩
  | 14 => ⟨S5x1536x4096, .bf16⟩
  | 15 => ⟨S5x1536x4096, .bf16⟩
  | 16 => ⟨S5x1536x4096, .bf16⟩
  | 17 => ⟨S5x4096x7168, .f32⟩
  | _ => ⟨S6x256x4096, .bf16⟩

abbrev hbmTy (i : Nat) : BufTy := match i / 128 with
  | 0 => hbmTy0_0 i
  | 1 => hbmTy0_1 i
  | _ => ⟨S6x256x4096, .bf16⟩

abbrev bufTy : (tb : Table) → Fin (tcTables nBuf tb) → BufTy
  | .hbm, ⟨i, _⟩ => hbmTy i
  | .local _ .vmem, ⟨0, _⟩ => ⟨S1536x4096, .f32⟩
  | .local _ .vmem, ⟨1, _⟩ => ⟨S1536x7168, .f32⟩
  | .local _ .vmem, ⟨2, _⟩ => ⟨S1536x4096, .fp8e4m3⟩
  | .local _ .vmem, ⟨3, _⟩ => ⟨S1536x7168, .fp8e5m2⟩
  | .local _ .vmem, ⟨4, _⟩ => ⟨S1536x4096, .bf16⟩
  | .local _ .vmem, ⟨5, _⟩ => ⟨S1536x7168, .bf16⟩
  | _, _ => ⟨S6x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_cst_8 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_cst_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_11 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_12 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v47 : Ref sig .tc := ⟨.hbm, 79, rfl⟩
abbrev main_cst_14 : Ref sig .tc := ⟨.hbm, 80, rfl⟩
abbrev main_v48 : Ref sig .tc := ⟨.hbm, 81, rfl⟩
abbrev main_cst_15 : Ref sig .tc := ⟨.hbm, 82, rfl⟩
abbrev main_v49 : Ref sig .tc := ⟨.hbm, 83, rfl⟩
abbrev main_v50 : Ref sig .tc := ⟨.hbm, 84, rfl⟩
abbrev main_cst_16 : Ref sig .tc := ⟨.hbm, 85, rfl⟩
abbrev main_call4_v0 : Ref sig .tc := ⟨.hbm, 86, rfl⟩
abbrev main_call4_v1 : Ref sig .tc := ⟨.hbm, 87, rfl⟩
abbrev main_v51 : Ref sig .tc := ⟨.hbm, 88, rfl⟩
abbrev main_cst_17 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_18 : Ref sig .tc := ⟨.hbm, 95, rfl⟩
abbrev main_cst_19 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60_0 : Ref sig .tc := ⟨.hbm, 105, rfl⟩
abbrev main_v60_1 : Ref sig .tc := ⟨.hbm, 106, rfl⟩
abbrev main_v60_2 : Ref sig .tc := ⟨.hbm, 107, rfl⟩
abbrev main_v60_3 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_call6_call0_c : Ref sig .tc := ⟨.hbm, 121, rfl⟩
abbrev main_call6_call0_v0 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_c_20 : Ref sig .tc := ⟨.hbm, 139, rfl⟩
abbrev main_call7_v0 : Ref sig .tc := ⟨.hbm, 140, rfl⟩
abbrev main_call7_v1 : Ref sig .tc := ⟨.hbm, 141, rfl⟩
abbrev main_call7_v2 : Ref sig .tc := ⟨.hbm, 142, rfl⟩
abbrev main_call7_v3 : Ref sig .tc := ⟨.hbm, 143, rfl⟩
abbrev main_v89 : Ref sig .tc := ⟨.hbm, 144, rfl⟩
abbrev main_v90 : Ref sig .tc := ⟨.hbm, 145, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x7168 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Pre.lean ====
/-
  What the precondition says: the group sizes lie between 0 and 1536, and the two float operands are finite.
-/
module

public import proofs.«01_k».proof.Proof.Gen.Pre_valid
public import Idealize.ShloMosaic.Lib.ReduceAll
public import Idealize.ShloMosaic.Lib.StableHlo.Predicate

@[expose] public section

noncomputable section

namespace Cert.Own

open Idealize.ShloMosaic Cert.Pre_valid

variable {F : FTy → Type} [FloatOps F]

theorem and_one {a b : BitVec 1} (h : IntOp.andi a b = 1#1) : a = 1#1 ∧ b = 1#1 := by
  revert a b; simp only [IntOp.andi]; decide

/-- The precondition, element by element. -/
theorem pre_elements {x : FVec F S6x256x4096 .bf16} {y : FVec F S6x256x7168 .bf16} {g : IVec S5 32}
    (h : Cert.Pre_valid.fn (F := F) x y g = fun _ => 1#1) :
    (∀ i, cmpf .ole (Host.absf (extf .f32 x Facts.bitsLt_bf16_f32)) (fun _ => FloatOps.ofBits FTy.f32 0x7F7F0000#32) i = 1#1)
    ∧ (∀ i, cmpf .ole (Host.absf (extf .f32 y Facts.bitsLt_bf16_f32)) (fun _ => FloatOps.ofBits FTy.f32 0x7F7F0000#32) i = 1#1)
    ∧ ∀ i, IntOp.andi (IntOp.cmpi .sge (g i) 0#32) (IntOp.cmpi .sle (g i) 1536#32) = 1#1 := by
  have e := congrFun h (fun a => a.elim0)
  obtain ⟨h1, h2⟩ := and_one e
  obtain ⟨h3, h4⟩ := and_one h1
  haveI : Subsingleton S_.Idx := ⟨fun a b => funext fun k => k.elim0⟩
  exact ⟨fun i => Host.reduce_andi_all _ _ _ _ _ h3 i, fun i => Host.reduce_andi_all _ _ _ _ _ h4 i, fun i => Host.reduce_andi_all _ _ _ _ _ h2 i⟩

/-- A group size is between 0 and 1536. -/
theorem size_le {a : BitVec 32} (h : IntOp.andi (IntOp.cmpi .sge a 0#32) (IntOp.cmpi .sle a 1536#32) = 1#1) : a.toNat ≤ 1536 := by
  obtain ⟨h1, h2⟩ := and_one h
  simp only [IntOp.cmpi, StableHlo.Predicate.ofBool_eq_one_iff, BitVec.sle_eq_decide, decide_eq_true_eq, BitVec.toInt_eq_toNat_cond, BitVec.toNat_ofNat,
    Nat.reducePow, Nat.reduceMod] at h1 h2
  omega

end Cert.Own

end
-- ==== Proof.Plain.Points.lean ====
/-
  The schedule of the kernel's one pallas_call on its 7 x 4 x 5 grid: at which points each block is brought in or written
  back, the block memrefs in use at a point, and the kernel body as it is called there.
-/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0 is fetched at points [0, 5, 10, 15]: no closed form stated
/-- Window 1 (operand 2 (%1)) is fetched at the points ≡ 0 (mod 20), at any contents of the tables (its index map reads none). -/
theorem fetch0_1 (a : (pcfg0 (F := F)).Adm) : ∀ t : Fin (cfg0 a).N, ((cfg0 a).win 1).fetch t = true ↔ t.val % 20 = 0 :=
  (fun t => Pipeline.Window.fetchOf_reads cc0_transform_1 reads0_1 hreads0_1 0 (by decide) (by decide) (Pipeline.Window.sep_of_coord cc0_transform_1 0 1 (fun _ => rfl) (by decide)) (P := 20) (by decide) t : ∀ t : Fin grid0.N, Pipeline.Window.fetchOf grid0 false cc0_transform_1 t = true ↔ t.val % 20 = 0)
/-- Window 2 (result 0 (%2#0)) is written back at every point, at any contents of the tables (its index map reads none). -/
theorem flush0_2 (a : (pcfg0 (F := F)).Adm) : ∀ t : Fin (cfg0 a).N, ((cfg0 a).win 2).flush t = true :=
  (fun t => (Pipeline.Window.flushOf_reads cc0_transform_2 reads0_2 hreads0_2 2 (by decide) (by decide) (Pipeline.Window.sep_of_coord cc0_transform_2 2 0 (fun _ => rfl) (by decide)) (P := 1) (m := 0) (by decide) rfl t).mpr (Nat.mod_one _) : ∀ t : Fin grid0.N, Pipeline.Window.flushOf grid0 true cc0_transform_2 t = true)
-- window 3 is written back at points [4, 9, 14, 139]: no closed form stated
-- window 4 is written back at points [4, 9, 14, 139]: no closed form stated
/-- Window 5 (result 3 (%2#3)) is written back at the points ≡ 19 (mod 20), at any contents of the tables (its index map reads none). -/
theorem flush0_5 (a : (pcfg0 (F := F)).Adm) : ∀ t : Fin (cfg0 a).N, ((cfg0 a).win 5).flush t = true ↔ t.val % 20 = 19 :=
  (fun t => Pipeline.Window.flushOf_reads cc0_transform_5 reads0_5 hreads0_5 0 (by decide) (by decide) (Pipeline.Window.sep_of_coord cc0_transform_5 0 1 (fun _ => rfl) (by decide)) (P := 20) (m := 19) (by decide) rfl t : ∀ t : Fin grid0.N, Pipeline.Window.flushOf grid0 true cc0_transform_5 t = true ↔ t.val % 20 = 19)
/-- Window 6 (result 4 (%2#4)) is written back at the points ≡ 19 (mod 20), at any contents of the tables (its index map reads none). -/
theorem flush0_6 (a : (pcfg0 (F := F)).Adm) : ∀ t : Fin (cfg0 a).N, ((cfg0 a).win 6).flush t = true ↔ t.val % 20 = 19 :=
  (fun t => Pipeline.Window.flushOf_reads cc0_transform_6 reads0_6 hreads0_6 0 (by decide) (by decide) (Pipeline.Window.sep_of_coord cc0_transform_6 0 1 (fun _ => rfl) (by decide)) (P := 20) (m := 19) (by decide) rfl t : ∀ t : Fin grid0.N, Pipeline.Window.flushOf grid0 true cc0_transform_6 t = true ↔ t.val % 20 = 19)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mx_grouped_weight_grad (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _)

end Cert.Kernel.Gen

end
-- ==== Proof.Plain.Frame.lean ====
/-
  @main up to the pallas_call, the argument arrays there, the group-size table, and each block at a point read off its array.
-/
module

public import proofs.«01_k».proof.Proof.Gen.Kernel.Launch
public import proofs.«01_k».proof.Proof.Plain.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

end Cert.Kernel.Gen

end
-- ==== Proof.Plain.Rows.lean ====
/-
  What the quantising loops of the kernel compute, block of 32 rows by block of 32 rows, as functions of the whole 1536 x 1024
  block they read, and the closed forms of the offsets at which they read and write.
-/
module

public import proofs.«01_k».proof.Proof.Plain.Frame
public import proofs.«01_k».proof.Proof.Gen.Kernel.Skeleton
public import Idealize.ShloMosaic.Lib.Pipeline.Value
public import Idealize.ShloMosaic.Lib.ValueIdxCore
public import Idealize.ShloMosaic.Lib.WritesUnit

@[expose] public section

set_option maxRecDepth 16384

noncomputable section

namespace Cert.Kernel.Own

open Cert.Kernel Cert.Kernel.Gen
open Idealize.ShloMosaic Idealize.ShloMosaic.TcCoe Idealize.ShloMosaic.ValueIdx

variable {F : FTy → Type} [FloatOps F]

/-- Rows `32 k` to `32 k + 31` of a 1536 x 1024 block (row numbers modulo 1536, so that `k` may be any number). -/
def rows32 (X : Vec F S1536x1024 .bf16) (k : ℕ) : Vec F S32x1024 .bf16 :=
  fun j => X (ix2 ⟨(32 * k + (j 0).val) % 1536, Nat.mod_lt _ (by decide)⟩ (j 1))

/-- The scaled values of one block of 32 rows of `x`, before clipping. -/
abbrev quotX (b : Vec F S32x1024 .bf16) : FVec F S32x1024 .bf16 := k0_pay11 (k0_pay6 b) (k0_pay7 b) (k0_pay8 b)
/-- The scale of each column of one block of 32 rows of `x`. -/
abbrev scaleRowX (b : Vec F S32x1024 .bf16) : FVec F S1x1024 .f32 := k0_pay10 (k0_pay7 b) (k0_pay8 b)
/-- The same two for a block of 32 rows of `dy`. -/
abbrev quotY (b : Vec F S32x1024 .bf16) : FVec F S32x1024 .bf16 := k0_pay18 (k0_pay12 b) (k0_pay13 b) (k0_pay14 b) (k0_pay15 b)
abbrev scaleRowY (b : Vec F S32x1024 .bf16) : FVec F S1x1024 .f32 := k0_pay17 (k0_pay13 b) (k0_pay14 b) (k0_pay15 b)

/-- Codes, scales and dequantised values of a block of `x`, at row `r` (for the scales: block `r` of 32 rows) and column `l`. -/
def codeX (X : Vec F S1536x1024 .bf16) (r : ℕ) (l : Fin 1024) : Elt F .fp8e4m3 :=
  k0_pay20 (quotX (rows32 X (r / 32))) (Scalar.ofBits .f32 0xC3E00000#32) (ix2 ⟨r % 32, Nat.mod_lt _ (by decide)⟩ l)
def scaleX (X : Vec F S1536x1024 .bf16) (r : ℕ) (l : Fin 1024) : Elt F .f32 := scaleRowX (rows32 X r) (ix2 0 l)
def hatX (X : Vec F S1536x1024 .bf16) (r : ℕ) (l : Fin 1024) : Elt F .bf16 :=
  k0_pay21 (scaleRowX (rows32 X (r / 32))) (quotX (rows32 X (r / 32))) (Scalar.ofBits .f32 0xC3E00000#32)
    (ix2 ⟨r % 32, Nat.mod_lt _ (by decide)⟩ l)
/-- Codes, scales and dequantised values of a block of `dy`. -/
def codeY (X : Vec F S1536x1024 .bf16) (r : ℕ) (l : Fin 1024) : Elt F .fp8e5m2 :=
  k0_pay23 (quotY (rows32 X (r / 32))) (Scalar.ofBits .f32 0x47600000#32) (k0_pay19 (F := F)) (ix2 ⟨r % 32, Nat.mod_lt _ (by decide)⟩ l)
def scaleY (X : Vec F S1536x1024 .bf16) (r : ℕ) (l : Fin 1024) : Elt F .f32 := scaleRowY (rows32 X r) (ix2 0 l)
def hatY (X : Vec F S1536x1024 .bf16) (r : ℕ) (l : Fin 1024) : Elt F .bf16 :=
  k0_pay24 (scaleRowY (rows32 X (r / 32))) (quotY (rows32 X (r / 32))) (Scalar.ofBits .f32 0x47600000#32) (k0_pay19 (F := F))
    (ix2 ⟨r % 32, Nat.mod_lt _ (by decide)⟩ l)

/-- The whole blocks of codes and scales. -/
def codesX (X : Vec F S1536x1024 .bf16) : Vec F S1536x1024 .fp8e4m3 := fun j => codeX X (j 0).val (j 1)
def scalesX (X : Vec F S1536x1024 .bf16) : Vec F S48x1024 .f32 := fun j => scaleX X (j 0).val (j 1)
def codesY (X : Vec F S1536x1024 .bf16) : Vec F S1536x1024 .fp8e5m2 := fun j => codeY X (j 0).val (j 1)
def scalesY (X : Vec F S1536x1024 .bf16) : Vec F S48x1024 .f32 := fun j => scaleY X (j 0).val (j 1)

/-! ## Trips and offsets -/

theorem trips1 : k0_t1_loop.trips = 6 := by decide +kernel
theorem trips2 : k0_t2_loop.trips = 8 := by decide +kernel
theorem trips3 : k0_t3_loop.trips = 48 := by decide +kernel
theorem trips4 : ∀ i : grid0.Coords, (k0_t4_loop i).trips = (i 2).val := by decide +kernel
theorem trips5 : ∀ i : grid0.Coords, (k0_t5_loop i).trips = 0 := by decide +kernel

theorem off1 : ∀ (a : Fin k0_t1_loop.trips) (b : Fin k0_t2_loop.trips), k0_off1 a b = ![256 * a.val + 32 * b.val, 0] := by decide +kernel
theorem off2 : ∀ (a : Fin k0_t1_loop.trips) (b : Fin k0_t2_loop.trips), k0_off2 a b = ![8 * a.val + b.val, 0] := by decide +kernel
theorem off3 : ∀ b : Fin k0_t2_loop.trips, k0_off3 b = ![32 * b.val, 0] := by decide +kernel
theorem off4 : ∀ (i : grid0.Coords) (a : Fin k0_t1_loop.trips), k0_off4 i a = ![1024 * (i 1).val, 256 * a.val] := by decide +kernel
theorem off5 : ∀ b : Fin k0_t3_loop.trips, k0_off5 b = ![32 * b.val, 0] := by decide +kernel
theorem off6 : ∀ b : Fin k0_t3_loop.trips, k0_off6 b = ![b.val, 0] := by decide +kernel
theorem off7 : ∀ (i : grid0.Coords) (b : Fin (k0_t4_loop i).trips), k0_off7 i b = ![b.val] := by decide +kernel
theorem off9 : ∀ i : grid0.Coords, k0_off9 i = ![(i 2).val] := by decide +kernel

/-! ## Reading whole rows -/

/-- A store of rows `[o, o + W)` extends agreement with `G` from the rows below `o` to the rows below `o + W`. -/
theorem rows_step {sig : RefSig} {κ : Kind} {sp : Space} {e : EltTy} {n0 n1 : ℕ} {Val : EltTy → Type}
    (v : View sig κ sp (⟨2, ![n0, n1]⟩ : Shape) e) (f : v.ty.Contents Val)
    {off size : Fin 2 → ℕ} {o W : ℕ} (inb : ∀ a : Fin 2, off a + size a ≤ (![n0, n1] : Fin 2 → ℕ) a)
    (w : (Rect.unit (s := ⟨2, ![n0, n1]⟩) off size inb).shape.Idx → Val e) (hoff : off = ![o, 0]) (hs0 : size 0 = W) (hs1 : size 1 = n1)
    (G : ℕ → Fin n1 → Val e)
    (hprev : ∀ y : (⟨2, ![n0, n1]⟩ : Shape).Idx, (y 0).val < o → v.read Val f y = G (y 0).val (y 1))
    (hw : ∀ (x : (Rect.unit (s := ⟨2, ![n0, n1]⟩) off size inb).shape.Idx), w x = G (o + (x 0).val) ⟨(x 1).val, lt_of_lt_of_eq (x 1).isLt hs1⟩) :
    ∀ y : (⟨2, ![n0, n1]⟩ : Shape).Idx, (y 0).val < o + W →
      v.read Val (v.writes Val f [⟨Rect.unit (s := ⟨2, ![n0, n1]⟩) off size inb, w⟩]) y = G (y 0).val (y 1) := by
  intro y hy
  by_cases h : o ≤ (y 0).val
  · have hb0 : (y 0).val - o < size 0 := by omega
    have hb1 : (y 1).val < size 1 := lt_of_lt_of_eq (y 1).isLt hs1.symm
    let x : (Rect.unit (s := ⟨2, ![n0, n1]⟩) off size inb).shape.Idx :=
      fun a => match a with | ⟨0, _⟩ => ⟨(y 0).val - o, hb0⟩ | ⟨1, _⟩ => ⟨(y 1).val, hb1⟩
    have hx0 : o + (x 0).val = (y 0).val := by show o + ((y 0).val - o) = _; omega
    rw [View.read_writes_cons_rows_of_mem v f inb w [] y x hoff hx0.symm rfl, hw x, hx0]
    rfl
  · rw [View.read_writes_cons_rows_of_not_mem v f inb w [] y hoff hs0 (Or.inl (by omega))]
    exact hprev y (by omega)

/-- A load of rows `[o, o + 32)` of a 1536 x 1024 block, `o = 32 k`, reads `rows32`. -/
theorem ld_rows32 (X : Vec F S1536x1024 .bf16) {off : Fin 2 → ℕ} (k : ℕ) (hoff : off = ![32 * k, 0]) (hk : k < 48)
    (inb : ∀ a, off a + S32x1024.size a ≤ S1536x1024.size a) :
    View.ld X (Rect.unit (s := S1536x1024) off S32x1024.size inb) = rows32 X k := by
  subst hoff
  funext j
  unfold rows32
  show X _ = X _
  refine congrArg X (funext fun a => Fin.ext ?_)
  have h0 : (j 0).val < 32 := (j 0).isLt
  match a with
  | ⟨0, _⟩ => show 32 * k + 1 * (j 0).val = (32 * k + (j 0).val) % 1536; omega
  | ⟨1, _⟩ => show 0 + 1 * (j 1).val = (j 1).val; omega

/-- A value of a 32-row block at row `r % 32`, for any `r` with the row as its remainder. -/
theorem code_of_blocks {e : EltTy} (G : ℕ → Vec F S32x1024 e) (k : ℕ) (x : S32x1024.Idx) (r : ℕ) (l : Fin 1024) (hr : r = 32 * k + (x 0).val)
    (hl : l.val = (x 1).val) : G k x = G (r / 32) (ix2 ⟨r % 32, Nat.mod_lt _ (by decide)⟩ l) := by
  have h0 : (x 0).val < 32 := (x 0).isLt
  have hk : r / 32 = k := by omega
  rw [hk]
  refine congrArg (G k) (funext fun a => Fin.ext ?_)
  match a with
  | ⟨0, _⟩ => show (x 0).val = r % 32; omega
  | ⟨1, _⟩ => exact hl.symm

end Cert.Kernel.Own

end
-- ==== Proof.RowWords.lean ====
/-
  The integer side of the kernel: the row range of a group and the 256-row chunks it meets, for group sizes between 0 and
  1536, on 32-bit words and as numbers.
-/
module

public import Idealize.ShloMosaic.PureOps.Float
public import Idealize.ShloMosaic.Lib.Decide

@[expose] public section

set_option maxRecDepth 16384

noncomputable section

namespace Cert.Own

open Idealize.ShloMosaic

/-- Floor division by 256 as the kernel computes it. -/
def fdivW (w : BitVec 32) : BitVec 32 :=
  Scalar.select (Scalar.andi (Scalar.cmpi .ne (Scalar.subi (Scalar.extui (Scalar.cmpi .sgt w 0#32)) (Scalar.extui (Scalar.cmpi .slt w 0#32)))
      (Scalar.subi (Scalar.extui (Scalar.cmpi .sgt 256#32 0#32)) (Scalar.extui (Scalar.cmpi .slt 256#32 0#32))))
    (Scalar.cmpi .ne (Scalar.remsi w 256#32) 0#32)) (Scalar.subi (Scalar.divsi w 256#32) 1#32) (Scalar.divsi w 256#32)

/-- The end of the row range, the number of 256-row chunks it meets and the first row of those chunks. -/
def stopW (s g : BitVec 32) : BitVec 32 := Scalar.minsi (Scalar.addi s g) 1536#32
def cntW (s g : BitVec 32) : BitVec 32 :=
  Scalar.select (Scalar.cmpi .sgt (stopW s g) s) (Scalar.subi (fdivW (Scalar.subi (Scalar.addi (stopW s g) 256#32) 1#32)) (fdivW s)) 0#32
def rowW (s : BitVec 32) : BitVec 32 := Scalar.muli (Scalar.minsi (fdivW s) 5#32) 256#32
def isW (n : BitVec 32) (j : BitVec 32) : BitVec 1 := Scalar.cmpi .ne (Scalar.extui (Scalar.cmpi .eq n j)) 0#32

theorem fdivW_ofNat : ∀ n : Fin 7937, fdivW (BitVec.ofNat 32 n.val) = BitVec.ofNat 32 (n.val / 256) := by decide +kernel
theorem rowW_ofNat : ∀ n : Fin 7681, (rowW (BitVec.ofNat 32 n.val)).toNat = 256 * min (n.val / 256) 5 := by decide +kernel
theorem min_ofNat : ∀ n : Fin 9217, Scalar.minsi (BitVec.ofNat 32 n.val) 1536#32 = BitVec.ofNat 32 (min n.val 1536) := by decide +kernel
theorem isW_ofNat : ∀ n j : Fin 8, isW (BitVec.ofNat 32 n.val) (BitVec.ofNat 32 j.val) = 1#1 ↔ n = j := by decide +kernel

/-- The end of the row range and the number of chunks, as numbers. -/
def stopN (s g : ℕ) : ℕ := min (s + g) 1536
def cntN (s g : ℕ) : ℕ := if s < stopN s g then (stopN s g + 255) / 256 - s / 256 else 0
def rowN (s : ℕ) : ℕ := 256 * min (s / 256) 5

theorem ofNat_of {w : BitVec 32} {n : ℕ} (h : w.toNat = n) : w = BitVec.ofNat 32 n := by
  subst h; simp

theorem stopW_eq {s g : BitVec 32} (hs : s.toNat ≤ 7680) (hg : g.toNat ≤ 1536) : stopW s g = BitVec.ofNat 32 (stopN s.toNat g.toNat) := by
  have e : Scalar.addi s g = BitVec.ofNat 32 (s.toNat + g.toNat) := by
    apply BitVec.eq_of_toNat_eq
    show (s + g).toNat = _
    rw [BitVec.toNat_add, BitVec.toNat_ofNat]
  unfold stopW
  rw [e]
  exact min_ofNat ⟨s.toNat + g.toNat, by omega⟩

theorem cntN_le (s g : ℕ) : cntN s g ≤ 6 := by unfold cntN stopN; split <;> omega

theorem sgt_iff {a b : BitVec 32} (ha : a.toNat < 2147483648) (hb : b.toNat < 2147483648) : Scalar.cmpi .sgt a b = 1#1 ↔ b.toNat < a.toNat := by
  show (BitVec.ofBool (BitVec.slt b a)) = 1#1 ↔ _
  have ea : a.toInt = a.toNat := BitVec.toInt_eq_toNat_of_lt (by omega)
  have eb : b.toInt = b.toNat := BitVec.toInt_eq_toNat_of_lt (by omega)
  unfold BitVec.slt
  rw [ea, eb]
  by_cases h : b.toNat < a.toNat <;> simp [h]

theorem cntW_eq {s g : BitVec 32} (hs : s.toNat ≤ 7680) (hg : g.toNat ≤ 1536) : cntW s g = BitVec.ofNat 32 (cntN s.toNat g.toNat) := by
  have hst := stopW_eq hs hg
  have hb : stopN s.toNat g.toNat ≤ 1536 := by unfold stopN; omega
  have hn : (stopW s g).toNat = stopN s.toNat g.toNat := by rw [hst, BitVec.toNat_ofNat]; omega
  have e : Scalar.subi (Scalar.addi (stopW s g) 256#32) 1#32 = BitVec.ofNat 32 (stopN s.toNat g.toNat + 255) := by
    apply BitVec.eq_of_toNat_eq
    show (stopW s g + 256#32 - 1#32).toNat = _
    rw [BitVec.toNat_sub, BitVec.toNat_add, hn, BitVec.toNat_ofNat]
    simp only [BitVec.toNat_ofNat]
    omega
  have e1 := fdivW_ofNat ⟨stopN s.toNat g.toNat + 255, by omega⟩
  have e2 := fdivW_ofNat ⟨s.toNat, by omega⟩
  rw [← ofNat_of rfl] at e2
  unfold cntW
  rw [e, e1, e2]
  unfold cntN
  by_cases h : s.toNat < stopN s.toNat g.toNat
  · have hc : Scalar.cmpi .sgt (stopW s g) s = 1#1 := (sgt_iff (by omega) (by omega)).2 (by omega)
    rw [if_pos h, hc]
    show (BitVec.ofNat 32 _ - BitVec.ofNat 32 _) = _
    apply BitVec.eq_of_toNat_eq
    rw [BitVec.toNat_sub]
    simp only [BitVec.toNat_ofNat]
    omega
  · have hc : Scalar.cmpi .sgt (stopW s g) s ≠ 1#1 := fun hc => h (by rw [← hn]; exact (sgt_iff (by omega) (by omega)).1 hc)
    rw [if_neg h]
    exact if_neg hc

section
variable {s g : BitVec 32} (hs : s.toNat ≤ 7680) (hg : g.toNat ≤ 1536)
include hs

theorem rowW_toNat : (rowW s).toNat = rowN s.toNat := by
  have h := rowW_ofNat ⟨s.toNat, by omega⟩
  rwa [← ofNat_of rfl] at h

include hg

theorem isW_iff {j : ℕ} (hj : j < 8) : isW (cntW s g) (BitVec.ofNat 32 j) = 1#1 ↔ cntN s.toNat g.toNat = j := by
  have hle := cntN_le s.toNat g.toNat
  rw [cntW_eq hs hg, isW_ofNat ⟨_, by omega⟩ ⟨j, hj⟩, Fin.ext_iff]

/-- The rows of the chunks lie inside the 1536 rows. -/
theorem row_le {j : ℕ} (h1 : 1 ≤ j) (h : cntN s.toNat g.toNat = j) : rowN s.toNat + 256 * j ≤ 1536 := by
  unfold cntN stopN at h; unfold rowN
  split at h <;> omega

end

end Cert.Own

end
-- ==== Proof.Plain.Words.lean ====
/-
  The kernel's conditions and offsets in terms of the row range of a group, and that its loads are in range.
-/
module

public import proofs.«01_k».proof.Proof.RowWords
public import proofs.«01_k».proof.Proof.Plain.Frame
public import proofs.«01_k».proof.Proof.Gen.Kernel.Skeleton

@[expose] public section

set_option maxRecDepth 16384

noncomputable section

namespace Cert.Kernel.Own

open Cert.Own Cert.Kernel Cert.Kernel.Gen
open Idealize.ShloMosaic Idealize.ShloMosaic.TcCoe

theorem mul_ofNat : ∀ i : grid0.Coords, (Scalar.muli (BitVec.ofNat 32 (i 1).val) 1024#32).toNat = 1024 * (i 1).val := by decide +kernel

/-! ## The kernel's own words are these -/

theorem cond4_eq (s g : BitVec 32) : k0_cond4 s g = isW (cntW s g) 1#32 := rfl
theorem cond5_eq (s g : BitVec 32) : k0_cond5 s g = isW (cntW s g) 2#32 := rfl
theorem cond6_eq (s g : BitVec 32) : k0_cond6 s g = isW (cntW s g) 3#32 := rfl
theorem cond7_eq (s g : BitVec 32) : k0_cond7 s g = isW (cntW s g) 4#32 := rfl
theorem cond8_eq (s g : BitVec 32) : k0_cond8 s g = isW (cntW s g) 5#32 := rfl
theorem cond9_eq (s g : BitVec 32) : k0_cond9 s g = isW (cntW s g) 6#32 := rfl

theorem off10 (s : BitVec 32) : k0_off10 s = ![(rowW s).toNat, 0] := rfl
theorem off11 (i : grid0.Coords) (s : BitVec 32) : k0_off11 i s = ![(Scalar.muli (BitVec.ofNat 32 (i 1).val) 1024#32).toNat, (rowW s).toNat] := rfl
theorem off12 (s : BitVec 32) : k0_off12 s = ![(rowW s).toNat, 0] := rfl
theorem off13 (i : grid0.Coords) (s : BitVec 32) : k0_off13 i s = ![(Scalar.muli (BitVec.ofNat 32 (i 1).val) 1024#32).toNat, (rowW s).toNat] := rfl
theorem off14 (s : BitVec 32) : k0_off14 s = ![(rowW s).toNat, 0] := rfl
theorem off15 (i : grid0.Coords) (s : BitVec 32) : k0_off15 i s = ![(Scalar.muli (BitVec.ofNat 32 (i 1).val) 1024#32).toNat, (rowW s).toNat] := rfl
theorem off16 (s : BitVec 32) : k0_off16 s = ![(rowW s).toNat, 0] := rfl
theorem off17 (i : grid0.Coords) (s : BitVec 32) : k0_off17 i s = ![(Scalar.muli (BitVec.ofNat 32 (i 1).val) 1024#32).toNat, (rowW s).toNat] := rfl
theorem off18 (s : BitVec 32) : k0_off18 s = ![(rowW s).toNat, 0] := rfl
theorem off19 (i : grid0.Coords) (s : BitVec 32) : k0_off19 i s = ![(Scalar.muli (BitVec.ofNat 32 (i 1).val) 1024#32).toNat, (rowW s).toNat] := rfl
theorem off20 (s : BitVec 32) : k0_off20 s = ![(rowW s).toNat, 0] := rfl
theorem off21 (i : grid0.Coords) (s : BitVec 32) : k0_off21 i s = ![(Scalar.muli (BitVec.ofNat 32 (i 1).val) 1024#32).toNat, (rowW s).toNat] := rfl

section
variable {s g : BitVec 32} (hs : s.toNat ≤ 7680) (hg : g.toNat ≤ 1536)
include hs hg

theorem chk1 : k0_chk1 s := by
  show 256 ∣ (rowW s).toNat
  rw [rowW_toNat hs]
  exact ⟨_, rfl⟩

theorem in_rows {j : ℕ} (h1 : 1 ≤ j) (h7 : j < 8) (h : isW (cntW s g) (BitVec.ofNat 32 j) = 1#1) {w : ℕ} (hw : w = 256 * j) (a : Fin 2) :
    (![(rowW s).toNat, 0] : Fin 2 → ℕ) a + (![w, 1024] : Fin 2 → ℕ) a ≤ (![1536, 1024] : Fin 2 → ℕ) a := by
  have h' := row_le hs hg h1 ((isW_iff hs hg h7).1 h)
  rw [rowW_toNat hs]
  match a with
  | ⟨0, _⟩ => show rowN s.toNat + w ≤ 1536; omega
  | ⟨1, _⟩ => show 0 + 1024 ≤ 1024; omega

theorem in_cols (i : grid0.Coords) {j : ℕ} (h1 : 1 ≤ j) (h7 : j < 8) (h : isW (cntW s g) (BitVec.ofNat 32 j) = 1#1) {w : ℕ} (hw : w = 256 * j) (a : Fin 2) :
    (![(Scalar.muli (BitVec.ofNat 32 (i 1).val) 1024#32).toNat, (rowW s).toNat] : Fin 2 → ℕ) a + (![1024, w] : Fin 2 → ℕ) a ≤ (![4096, 1536] : Fin 2 → ℕ) a := by
  have h' := row_le hs hg h1 ((isW_iff hs hg h7).1 h)
  have h4 : (i 1).val < 4 := (i 1).isLt
  rw [rowW_toNat hs, mul_ofNat]
  match a with
  | ⟨0, _⟩ => show 1024 * (i 1).val + 1024 ≤ 4096; omega
  | ⟨1, _⟩ => show rowN s.toNat + w ≤ 1536; omega

/-- Every load the kernel makes after reading the group sizes is in range. -/
theorem chk2 (i : grid0.Coords) : k0_chk2 i s g := by
  refine ⟨fun h a => ?_, fun h a => ?_, fun h a => ?_, fun h a => ?_, fun h a => ?_, fun h a => ?_, fun h a => ?_, fun h a => ?_,
    fun h a => ?_, fun h a => ?_, fun h a => ?_, fun h a => ?_⟩
  · exact in_rows hs hg (j := 1) (by decide) (by decide) h (w := 256) rfl a
  · exact in_cols hs hg i (j := 1) (by decide) (by decide) h (w := 256) rfl a
  · exact in_rows hs hg (j := 2) (by decide) (by decide) h (w := 512) rfl a
  · exact in_cols hs hg i (j := 2) (by decide) (by decide) h (w := 512) rfl a
  · exact in_rows hs hg (j := 3) (by decide) (by decide) h (w := 768) rfl a
  · exact in_cols hs hg i (j := 3) (by decide) (by decide) h (w := 768) rfl a
  · exact in_rows hs hg (j := 4) (by decide) (by decide) h (w := 1024) rfl a
  · exact in_cols hs hg i (j := 4) (by decide) (by decide) h (w := 1024) rfl a
  · exact in_rows hs hg (j := 5) (by decide) (by decide) h (w := 1280) rfl a
  · exact in_cols hs hg i (j := 5) (by decide) (by decide) h (w := 1280) rfl a
  · exact in_rows hs hg (j := 6) (by decide) (by decide) h (w := 1536) rfl a
  · exact in_cols hs hg i (j := 6) (by decide) (by decide) h (w := 1536) rfl a
end

end Cert.Kernel.Own

end
-- ==== Proof.Plain.LoopX.lean ====
/-
  The loop that quantises one block of `x`: 6 trips of 8 trips, 32 rows each, then 256 columns of the transposed scratch.
-/
module

public import proofs.«01_k».proof.Proof.Plain.Rows
public import Idealize.ShloMosaic.Lib.MemrefSat
public import Idealize.ShloMosaic.Lib.Exec
public import Idealize.ShloMosaic.Lib.Tactic

@[expose] public section

set_option maxRecDepth 16384

noncomputable section

namespace Cert.Kernel.Own

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg3 : Memref sig .tc .smem S5 .i32) (harg3 : arg3.IsWhole) (arg4 : Memref sig .tc .vmem S1536x1024 .bf16) (harg4 : arg4.IsWhole)
  (arg5 : Memref sig .tc .vmem S1536x1024 .bf16) (harg5 : arg5.IsWhole) (arg6 : Memref sig .tc .vmem S1x1024x1024 .f32) (harg6 : arg6.IsWhole)
  (arg7 : Memref sig .tc .vmem S1536x1024 .fp8e4m3) (harg7 : arg7.IsWhole) (arg8 : Memref sig .tc .vmem S48x1024 .f32) (harg8 : arg8.IsWhole)
  (arg9 : Memref sig .tc .vmem S1536x1024 .fp8e5m2) (harg9 : arg9.IsWhole) (arg10 : Memref sig .tc .vmem S48x1024 .f32) (harg10 : arg10.IsWhole)
  (arg11 : Memref sig .tc .vmem S4096x1536 .bf16) (harg11 : arg11.IsWhole) (arg12 : Memref sig .tc .vmem S1536x1024 .bf16) (harg12 : arg12.IsWhole)
  (arg13 : Memref sig .tc .vmem S256x1024 .bf16) (harg13 : arg13.IsWhole)

/-- Before trip `k` of the inner loop, in trip `a` of the outer: the codes, the scales and the 256-row scratch are done on the
    rows of the trips before. -/
def inv2 (X : Vec F S1536x1024 .bf16) (a k : ℕ) : sProp 𝕄 :=
  iprop(owns (c : Thread nD τ) arg4 fullShare X
    ∗ ownsSat (c : Thread nD τ) arg7 fullShare (fun Y => ∀ y : S1536x1024.Idx, (y 0).val < 256 * a + 32 * k → Y y = codeX X (y 0).val (y 1))
    ∗ ownsSat (c : Thread nD τ) arg8 fullShare (fun Y => ∀ y : S48x1024.Idx, (y 0).val < 8 * a + k → Y y = scaleX X (y 0).val (y 1))
    ∗ ownsSat (c : Thread nD τ) arg13 fullShare (fun Y => ∀ y : S256x1024.Idx, (y 0).val < 32 * k → Y y = hatX X (256 * a + (y 0).val) (y 1)))

set_option maxHeartbeats 1000000 in
/-- One trip of the inner loop. -/
theorem trip2 (E : Set ℕ) (h1 : k0_cond1 i = 1#1) (a : Fin k0_t1_loop.trips) (w14 : BitVec 32) (X : Vec F S1536x1024 .bf16) (k : Fin k0_t2_loop.trips) (u : Unit) :
    inv2 c arg4 arg7 arg8 arg13 X a.val k.val
      ⊢ wp frame (wpE (defs₀ (F := F)) Variants.none (c : Thread nD τ) none) E (k0_t2_body (F := F) i arg3 harg3 arg4 harg4 arg5 harg5 arg6 harg6 arg7 harg7 arg8 harg8 arg9 harg9 arg10 harg10 arg11 harg11 arg12 harg12 arg13 harg13 h1 a w14 k u)
          (fun _ => inv2 c arg4 arg7 arg8 arg13 X a.val (k.val + 1)) := by
  have ha : a.val < 6 := lt_of_lt_of_eq a.isLt trips1
  have hk : k.val < 8 := lt_of_lt_of_eq k.isLt trips2
  unfold inv2 k0_t2_body owns ownsSat
  iintro ⟨⟨%f4, %hf4, H4⟩, ⟨%f7, %hf7, H7⟩, ⟨%f8, %hf8, H8⟩, ⟨%f13, %hf13, H13⟩⟩
  sl_exec
  sl_step
  have hld : arg4.view.readAt (Elt F) (Rect.unit (s := S1536x1024) (k0_off1 a k) S32x1024.size (k0_off1_inb i a k h1)).toLoadRect f4 = rows32 X (8 * a.val + k.val) := by
    rw [View.readAt_eq_ld, hf4]
    exact ld_rows32 X _ (by rw [off1]; congr 1; omega) (by omega) _
  isplitl [H4]
  · iexists f4; isplitr; · ipureintro; exact hf4
    iexact H4
  isplitl [H7]
  · iexists _; isplitr
    swap; · iexact H7
    ipureintro
    intro y hy
    refine rows_step arg7.view f7 (W := 32) _ _ (off1 a k) rfl rfl (codeX X) hf7 (fun x => ?_) y (by omega)
    show k0_pay20 (quotX (arg4.view.readAt (Elt F) (Rect.unit (s := S1536x1024) (k0_off1 a k) S32x1024.size (k0_off1_inb i a k h1)).toLoadRect f4)) (Scalar.ofBits .f32 0xC3E00000#32) x = _
    rw [hld]
    exact code_of_blocks (F := F) (e := .fp8e4m3) (fun k => k0_pay20 (quotX (rows32 X k)) (Scalar.ofBits .f32 0xC3E00000#32)) (8 * a.val + k.val) x
      (256 * a.val + 32 * k.val + (x 0).val) _ (by omega) rfl
  isplitl [H8]
  · iexists _; isplitr
    swap; · iexact H8
    ipureintro
    intro y hy
    refine rows_step arg8.view f8 (W := 1) _ _ (off2 a k) rfl rfl (scaleX X) hf8 (fun x => ?_) y (by omega)
    show scaleRowX (arg4.view.readAt (Elt F) (Rect.unit (s := S1536x1024) (k0_off1 a k) S32x1024.size (k0_off1_inb i a k h1)).toLoadRect f4) x = _
    rw [hld]
    have hx : (x 0).val = 0 := by have : (x 0).val < 1 := (x 0).isLt; omega
    show _ = scaleRowX (rows32 X (8 * a.val + k.val + (x 0).val)) _
    rw [hx]
    exact congrArg (scaleRowX (rows32 X (8 * a.val + k.val))) (funext fun a => by match a with | ⟨0, _⟩ => exact Fin.ext hx | ⟨1, _⟩ => rfl)
  iexists _; isplitr
  swap; · iexact H13
  ipureintro
  intro y hy
  refine rows_step arg13.view f13 (W := 32) _ _ (off3 k) rfl rfl (fun r l => hatX X (256 * a.val + r) l) hf13 (fun x => ?_) y (by omega)
  show k0_pay21 (scaleRowX (arg4.view.readAt (Elt F) (Rect.unit (s := S1536x1024) (k0_off1 a k) S32x1024.size (k0_off1_inb i a k h1)).toLoadRect f4)) (quotX (arg4.view.readAt (Elt F) (Rect.unit (s := S1536x1024) (k0_off1 a k) S32x1024.size (k0_off1_inb i a k h1)).toLoadRect f4)) (Scalar.ofBits .f32 0xC3E00000#32) x = _
  rw [hld]
  exact code_of_blocks (F := F) (e := .bf16) (fun k => k0_pay21 (scaleRowX (rows32 X k)) (quotX (rows32 X k)) (Scalar.ofBits .f32 0xC3E00000#32)) (8 * a.val + k.val) x
    (256 * a.val + (32 * k.val + (x 0).val)) _ (by omega) rfl

/-- The transposed scratch after the first `k` trips of the outer loop at grid row `m`: on the 1024 rows of `m`, the columns
    below `256 k` hold the transposed dequantised values; the other rows are as they were. -/
def XtOk (X : Vec F S1536x1024 .bf16) (Y0 : Vec F S4096x1536 .bf16) (m k : ℕ) (Y : Vec F S4096x1536 .bf16) : Prop :=
  (∀ (y : S4096x1536.Idx) (l : Fin 1024), (y 0).val = 1024 * m + l.val → (y 1).val < 256 * k → Y y = hatX X (y 1).val l)
    ∧ ∀ y : S4096x1536.Idx, (y 0).val < 1024 * m ∨ 1024 * m + 1024 ≤ (y 0).val → Y y = Y0 y

/-- Before trip `k` of the outer loop. -/
def inv1 (X : Vec F S1536x1024 .bf16) (Y0 : Vec F S4096x1536 .bf16) (k : ℕ) : sProp 𝕄 :=
  iprop(owns (c : Thread nD τ) arg4 fullShare X
    ∗ ownsSat (c : Thread nD τ) arg7 fullShare (fun Y => ∀ y : S1536x1024.Idx, (y 0).val < 256 * k → Y y = codeX X (y 0).val (y 1))
    ∗ ownsSat (c : Thread nD τ) arg8 fullShare (fun Y => ∀ y : S48x1024.Idx, (y 0).val < 8 * k → Y y = scaleX X (y 0).val (y 1))
    ∗ ownsSat (c : Thread nD τ) arg13 fullShare (fun _ => True)
    ∗ ownsSat (c : Thread nD τ) arg11 fullShare (XtOk X Y0 (i 1).val k))

/-- Storing the transpose of 256 dequantised rows extends the transposed scratch by 256 columns. -/
theorem xt_step (v : View sig .tc .vmem S4096x1536 .bf16) (f : v.ty.Contents (Elt F)) (X : Vec F S1536x1024 .bf16) (Y0 : Vec F S4096x1536 .bf16)
    (m k : ℕ) {off : Fin 2 → ℕ} (inb : ∀ a, off a + S1024x256.size a ≤ S4096x1536.size a) (hoff : off = ![1024 * m, 256 * k])
    (H : Vec F S256x1024 .bf16) (hH : ∀ y : S256x1024.Idx, H y = hatX X (256 * k + (y 0).val) (y 1))
    (hf : XtOk X Y0 m k (v.read (Elt F) f)) :
    XtOk X Y0 m (k + 1) (v.read (Elt F) (v.writes (Elt F) f [⟨Rect.unit (s := S4096x1536) off S1024x256.size inb, k0_pay22 H⟩])) := by
  constructor
  · intro y l hl hy
    by_cases h : 256 * k ≤ (y 1).val
    · have hb : (y 1).val - 256 * k < 256 := by omega
      rw [View.read_writes_cons_unit_of_mem v f inb (k0_pay22 H) [] y (ix2 l ⟨(y 1).val - 256 * k, hb⟩) hoff
        (fun a => by
          match a with
          | ⟨0, _⟩ => exact hl
          | ⟨1, _⟩ => show (y 1).val = 256 * k + ((y 1).val - 256 * k); omega)]
      have e : k0_pay22 H (ix2 l ⟨(y 1).val - 256 * k, hb⟩) = H (ix2 ⟨(y 1).val - 256 * k, hb⟩ l) := by
        unfold k0_pay22
        rw [shapeCast_self]
        exact transpose_apply _ _ _ _ _ (fun a => by match a with | ⟨0, _⟩ => rfl | ⟨1, _⟩ => rfl)
      rw [e, hH]
      show hatX X (256 * k + ((y 1).val - 256 * k)) l = _
      congr 1; omega
    · rw [View.read_writes_cons_unit_of_not_mem v f inb (k0_pay22 H) [] y hoff (1 : Fin 2) (Or.inl (by show _ < 256 * k; omega))]
      exact hf.1 y l hl (by omega)
  · intro y hy
    rw [View.read_writes_cons_unit_of_not_mem v f inb (k0_pay22 H) [] y hoff (0 : Fin 2) (by
      rcases hy with hy | hy
      · exact Or.inl hy
      · exact Or.inr hy)]
    exact hf.2 y hy

set_option maxHeartbeats 1000000 in
/-- One trip of the outer loop. -/
theorem trip1 (E : Set ℕ) (h1 : k0_cond1 i = 1#1) (X : Vec F S1536x1024 .bf16) (Y0 : Vec F S4096x1536 .bf16) (k : Fin k0_t1_loop.trips) (u : Unit) :
    inv1 c i arg4 arg7 arg8 arg11 arg13 X Y0 k.val
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 h1 k u)
          (fun _ => inv1 c i arg4 arg7 arg8 arg11 arg13 X Y0 (k.val + 1)) := by
  unfold k0_t1_body
  rw [wp_bind]
  refine BIBase.Entails.trans ?_ (Scf.wp_for frame _ E k0_t2_loop.lb k0_t2_loop.ub k0_t2_loop.st _ _ _
    (fun j _ => iprop(inv2 c arg4 arg7 arg8 arg13 X k.val j ∗ ownsSat (c : Thread nD τ) arg11 fullShare (XtOk X Y0 (i 1).val k.val))) ?_)
  · unfold inv1 inv2 ownsSat
    iintro ⟨H4, ⟨%f7, %hf7, H7⟩, ⟨%f8, %hf8, H8⟩, ⟨%f13, -, H13⟩, ⟨%f11, %hf11, H11⟩⟩
    isplitl [H4 H7 H8 H13 H11]
    · isplitl [H4 H7 H8 H13]
      · isplitl [H4]; · iexact H4
        isplitl [H7]
        · iexists f7; isplitr
          swap; · iexact H7
          ipureintro; exact fun y hy => hf7 y (by omega)
        isplitl [H8]
        · iexists f8; isplitr
          swap; · iexact H8
          ipureintro; exact fun y hy => hf8 y (by omega)
        iexists f13; isplitr
        swap; · iexact H13
        ipureintro; exact fun y hy => absurd hy (by omega)
      iexists f11; isplitr
      swap; · iexact H11
      ipureintro; exact hf11
    rw [show Scf.trips k0_t2_loop.lb k0_t2_loop.ub k0_t2_loop.st = 8 from trips2]
    iintro %_ ⟨⟨H4, ⟨%g7, %hg7, H7⟩, ⟨%g8, %hg8, H8⟩, ⟨%g13, %hg13, H13⟩⟩, ⟨%g11, %hg11, H11⟩⟩
    sl_exec
    sl_step
    isplitl [H4]; · iexact H4
    isplitl [H7]
    · iexists g7; isplitr
      swap; · iexact H7
      ipureintro; exact fun y hy => hg7 y (by omega)
    isplitl [H8]
    · iexists g8; isplitr
      swap; · iexact H8
      ipureintro; exact fun y hy => hg8 y (by omega)
    isplitl [H13]
    · iexists g13; isplitr
      swap; · iexact H13
      ipureintro; trivial
    iexists _; isplitr
    swap; · iexact H11
    ipureintro
    refine xt_step arg11.view g11 X Y0 (i 1).val k.val _ (off4 i k) _ (fun y => ?_) hg11
    rw [View.readAt_eq_ld, View.ld_unit_zero (S := S256x1024) (funext fun a => by fin_cases a <;> rfl)]
    exact hg13 y (y 0).isLt
  · intro j u'
    refine (BIClass.sep_mono (trip2 c i arg3 harg3 arg4 harg4 arg5 harg5 arg6 harg6 arg7 harg7 arg8 harg8 arg9 harg9 arg10 harg10 arg11 harg11 arg12 harg12 arg13 harg13 E h1 k (Scf.iv 0#32 1#32 k) X j u') BIBase.Entails.rfl).trans ?_
    exact wp_frame_r frame _ E

/-- The whole loop. -/
theorem loop1 (E : Set ℕ) (h1 : k0_cond1 i = 1#1) (X : Vec F S1536x1024 .bf16) (Y0 : Vec F S4096x1536 .bf16) :
    inv1 c i arg4 arg7 arg8 arg11 arg13 X Y0 0
      ⊢ wp frame (wpE (defs₀ (F := F)) Variants.none (c : Thread nD τ) none) E
          (Scf.Loop.for k0_t1_loop (k0_t1_ok i h1) ⟨⟩ (k0_t1_body (F := F) i arg3 harg3 arg4 harg4 arg5 harg5 arg6 harg6 arg7 harg7 arg8 harg8 arg9 harg9 arg10 harg10 arg11 harg11 arg12 harg12 arg13 harg13 h1))
          (fun _ => inv1 c i arg4 arg7 arg8 arg11 arg13 X Y0 6) := by
  refine BIBase.Entails.trans ?_ (Scf.wp_for frame _ E k0_t1_loop.lb k0_t1_loop.ub k0_t1_loop.st _ _ _
    (fun k _ => inv1 c i arg4 arg7 arg8 arg11 arg13 X Y0 k) ?_)
  · iintro H
    isplitl [H]; · iexact H
    rw [show Scf.trips k0_t1_loop.lb k0_t1_loop.ub k0_t1_loop.st = 6 from trips1]
    iintro %_ H
    iexact H
  · intro k u
    exact trip1 c i arg3 harg3 arg4 harg4 arg5 harg5 arg6 harg6 arg7 harg7 arg8 harg8 arg9 harg9 arg10 harg10 arg11 harg11 arg12 harg12 arg13 harg13 E h1 X Y0 k u

/-- After the loop the codes and the scales are those of the whole block. -/
theorem inv1_done (X : Vec F S1536x1024 .bf16) (Y0 : Vec F S4096x1536 .bf16) :
    inv1 c i arg4 arg7 arg8 arg11 arg13 X Y0 6
      ⊢ iprop(owns (c : Thread nD τ) arg4 fullShare X ∗ owns (c : Thread nD τ) arg7 fullShare (codesX X)
          ∗ owns (c : Thread nD τ) arg8 fullShare (scalesX X) ∗ ownsSat (c : Thread nD τ) arg13 fullShare (fun _ => True)
          ∗ ownsSat (c : Thread nD τ) arg11 fullShare (XtOk X Y0 (i 1).val 6)) := by
  unfold inv1 ownsSat owns
  iintro ⟨H4, ⟨%f7, %hf7, H7⟩, ⟨%f8, %hf8, H8⟩, H13, H11⟩
  isplitl [H4]; · iexact H4
  isplitl [H7]
  · iexists f7; isplitr
    swap; · iexact H7
    ipureintro
    exact funext fun y => hf7 y (by have : (y 0).val < 1536 := (y 0).isLt; omega)
  isplitl [H8]
  · iexists f8; isplitr
    swap; · iexact H8
    ipureintro
    exact funext fun y => hf8 y (by have : (y 0).val < 48 := (y 0).isLt; omega)
  isplitl [H13]; · iexact H13
  iexact H11
end

end Cert.Kernel.Own

end
-- ==== Proof.Plain.LoopY.lean ====
/-
  The loop that quantises one block of `dy`: 48 trips of 32 rows each.
-/
module

public import proofs.«01_k».proof.Proof.Plain.Rows
public import Idealize.ShloMosaic.Lib.MemrefSat
public import Idealize.ShloMosaic.Lib.Exec
public import Idealize.ShloMosaic.Lib.Tactic

@[expose] public section

set_option maxRecDepth 16384

noncomputable section

namespace Cert.Kernel.Own

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg3 : Memref sig .tc .smem S5 .i32) (harg3 : arg3.IsWhole) (arg4 : Memref sig .tc .vmem S1536x1024 .bf16) (harg4 : arg4.IsWhole)
  (arg5 : Memref sig .tc .vmem S1536x1024 .bf16) (harg5 : arg5.IsWhole) (arg6 : Memref sig .tc .vmem S1x1024x1024 .f32) (harg6 : arg6.IsWhole)
  (arg7 : Memref sig .tc .vmem S1536x1024 .fp8e4m3) (harg7 : arg7.IsWhole) (arg8 : Memref sig .tc .vmem S48x1024 .f32) (harg8 : arg8.IsWhole)
  (arg9 : Memref sig .tc .vmem S1536x1024 .fp8e5m2) (harg9 : arg9.IsWhole) (arg10 : Memref sig .tc .vmem S48x1024 .f32) (harg10 : arg10.IsWhole)
  (arg11 : Memref sig .tc .vmem S4096x1536 .bf16) (harg11 : arg11.IsWhole) (arg12 : Memref sig .tc .vmem S1536x1024 .bf16) (harg12 : arg12.IsWhole)
  (arg13 : Memref sig .tc .vmem S256x1024 .bf16) (harg13 : arg13.IsWhole)

/-- Before trip `k`: the codes, the scales and the dequantised values are done on the rows of the trips before. -/
def inv3 (X : Vec F S1536x1024 .bf16) (k : ℕ) : sProp 𝕄 :=
  iprop(owns (c : Thread nD τ) arg5 fullShare X
    ∗ ownsSat (c : Thread nD τ) arg9 fullShare (fun Y => ∀ y : S1536x1024.Idx, (y 0).val < 32 * k → Y y = codeY X (y 0).val (y 1))
    ∗ ownsSat (c : Thread nD τ) arg10 fullShare (fun Y => ∀ y : S48x1024.Idx, (y 0).val < k → Y y = scaleY X (y 0).val (y 1))
    ∗ ownsSat (c : Thread nD τ) arg12 fullShare (fun Y => ∀ y : S1536x1024.Idx, (y 0).val < 32 * k → Y y = hatY X (y 0).val (y 1)))

set_option maxHeartbeats 1000000 in
/-- One trip. -/
theorem trip3 (E : Set ℕ) (h2 : k0_cond2 i = 1#1) (X : Vec F S1536x1024 .bf16) (k : Fin k0_t3_loop.trips) (u : Unit) :
    inv3 c arg5 arg9 arg10 arg12 X k.val
      ⊢ wp frame (wpE (defs₀ (F := F)) Variants.none (c : Thread nD τ) none) E (k0_t3_body (F := F) i arg3 harg3 arg4 harg4 arg5 harg5 arg6 harg6 arg7 harg7 arg8 harg8 arg9 harg9 arg10 harg10 arg11 harg11 arg12 harg12 arg13 harg13 h2 k u)
          (fun _ => inv3 c arg5 arg9 arg10 arg12 X (k.val + 1)) := by
  have hk : k.val < 48 := lt_of_lt_of_eq k.isLt trips3
  unfold inv3 k0_t3_body owns ownsSat
  iintro ⟨⟨%f4, %hf4, H4⟩, ⟨%f7, %hf7, H7⟩, ⟨%f8, %hf8, H8⟩, ⟨%f13, %hf13, H13⟩⟩
  sl_exec
  sl_step
  have hld : arg5.view.readAt (Elt F) (Rect.unit (s := S1536x1024) (k0_off5 k) S32x1024.size (k0_off5_inb i k h2)).toLoadRect f4 = rows32 X k.val := by
    rw [View.readAt_eq_ld, hf4]
    exact ld_rows32 X _ (off5 k) (by omega) _
  isplitl [H4]
  · iexists f4; isplitr; · ipureintro; exact hf4
    iexact H4
  isplitl [H7]
  · iexists _; isplitr
    swap; · iexact H7
    ipureintro
    intro y hy
    refine rows_step arg9.view f7 (W := 32) _ _ (off5 k) rfl rfl (codeY X) hf7 (fun x => ?_) y (by omega)
    show k0_pay23 (quotY (arg5.view.readAt (Elt F) (Rect.unit (s := S1536x1024) (k0_off5 k) S32x1024.size (k0_off5_inb i k h2)).toLoadRect f4)) (Scalar.ofBits .f32 0x47600000#32) (k0_pay19 (F := F)) x = _
    rw [hld]
    exact code_of_blocks (F := F) (e := .fp8e5m2) (fun k => k0_pay23 (quotY (rows32 X k)) (Scalar.ofBits .f32 0x47600000#32) (k0_pay19 (F := F))) k.val x
      (32 * k.val + (x 0).val) _ (by omega) rfl
  isplitl [H8]
  · iexists _; isplitr
    swap; · iexact H8
    ipureintro
    intro y hy
    refine rows_step arg10.view f8 (W := 1) _ _ (off6 k) rfl rfl (scaleY X) hf8 (fun x => ?_) y (by omega)
    show scaleRowY (arg5.view.readAt (Elt F) (Rect.unit (s := S1536x1024) (k0_off5 k) S32x1024.size (k0_off5_inb i k h2)).toLoadRect f4) x = _
    rw [hld]
    have hx : (x 0).val = 0 := by have : (x 0).val < 1 := (x 0).isLt; omega
    show _ = scaleRowY (rows32 X (k.val + (x 0).val)) _
    rw [hx]
    exact congrArg (scaleRowY (rows32 X k.val)) (funext fun a => by match a with | ⟨0, _⟩ => exact Fin.ext hx | ⟨1, _⟩ => rfl)
  iexists _; isplitr
  swap; · iexact H13
  ipureintro
  intro y hy
  refine rows_step arg12.view f13 (W := 32) _ _ (off5 k) rfl rfl (hatY X) hf13 (fun x => ?_) y (by omega)
  show k0_pay24 (scaleRowY (arg5.view.readAt (Elt F) (Rect.unit (s := S1536x1024) (k0_off5 k) S32x1024.size (k0_off5_inb i k h2)).toLoadRect f4)) (quotY (arg5.view.readAt (Elt F) (Rect.unit (s := S1536x1024) (k0_off5 k) S32x1024.size (k0_off5_inb i k h2)).toLoadRect f4)) (Scalar.ofBits .f32 0x47600000#32) (k0_pay19 (F := F)) x = _
  rw [hld]
  exact code_of_blocks (F := F) (e := .bf16) (fun k => k0_pay24 (scaleRowY (rows32 X k)) (quotY (rows32 X k)) (Scalar.ofBits .f32 0x47600000#32) (k0_pay19 (F := F))) k.val x
    (32 * k.val + (x 0).val) _ (by omega) rfl

/-- The dequantised values of a whole block of `dy`. -/
def hatsY (X : Vec F S1536x1024 .bf16) : Vec F S1536x1024 .bf16 := fun j => hatY X (j 0).val (j 1)

/-- The whole loop. -/
theorem loop3 (E : Set ℕ) (h2 : k0_cond2 i = 1#1) (X : Vec F S1536x1024 .bf16) :
    inv3 c arg5 arg9 arg10 arg12 X 0
      ⊢ wp frame (wpE (defs₀ (F := F)) Variants.none (c : Thread nD τ) none) E
          (Scf.Loop.for k0_t3_loop (k0_t3_ok i h2) ⟨⟩ (k0_t3_body (F := F) i arg3 harg3 arg4 harg4 arg5 harg5 arg6 harg6 arg7 harg7 arg8 harg8 arg9 harg9 arg10 harg10 arg11 harg11 arg12 harg12 arg13 harg13 h2))
          (fun _ => inv3 c arg5 arg9 arg10 arg12 X 48) := by
  refine BIBase.Entails.trans ?_ (Scf.wp_for frame _ E k0_t3_loop.lb k0_t3_loop.ub k0_t3_loop.st _ _ _
    (fun k _ => inv3 c arg5 arg9 arg10 arg12 X k) ?_)
  · iintro H
    isplitl [H]; · iexact H
    rw [show Scf.trips k0_t3_loop.lb k0_t3_loop.ub k0_t3_loop.st = 48 from trips3]
    iintro %_ H
    iexact H
  · intro k u
    exact trip3 c i arg3 harg3 arg4 harg4 arg5 harg5 arg6 harg6 arg7 harg7 arg8 harg8 arg9 harg9 arg10 harg10 arg11 harg11 arg12 harg12 arg13 harg13 E h2 X k u

/-- After the loop codes, scales and dequantised values are those of the whole block. -/
theorem inv3_done (X : Vec F S1536x1024 .bf16) :
    inv3 c arg5 arg9 arg10 arg12 X 48
      ⊢ iprop(owns (c : Thread nD τ) arg5 fullShare X ∗ owns (c : Thread nD τ) arg9 fullShare (codesY X)
          ∗ owns (c : Thread nD τ) arg10 fullShare (scalesY X) ∗ owns (c : Thread nD τ) arg12 fullShare (hatsY X)) := by
  unfold inv3 ownsSat owns
  iintro ⟨H4, ⟨%f7, %hf7, H7⟩, ⟨%f8, %hf8, H8⟩, ⟨%f12, %hf12, H12⟩⟩
  isplitl [H4]; · iexact H4
  isplitl [H7]
  · iexists f7; isplitr
    swap; · iexact H7
    ipureintro
    exact funext fun y => hf7 y (by have : (y 0).val < 1536 := (y 0).isLt; omega)
  isplitl [H8]
  · iexists f8; isplitr
    swap; · iexact H8
    ipureintro
    exact funext fun y => hf8 y (by have : (y 0).val < 48 := (y 0).isLt; omega)
  iexists f12; isplitr
  swap; · iexact H12
  ipureintro
  exact funext fun y => hf12 y (by have : (y 0).val < 1536 := (y 0).isLt; omega)

end

end Cert.Kernel.Own

end
-- ==== Proof.Plain.Gs.lean ====
/-
  The loop that adds up the group sizes before the group of the grid point.
-/
module

public import proofs.«01_k».proof.Proof.Plain.Rows
public import Idealize.ShloMosaic.Lib.MemrefSat
public import Idealize.ShloMosaic.Lib.Exec
public import Idealize.ShloMosaic.Lib.Tactic

@[expose] public section

set_option maxRecDepth 16384

noncomputable section

namespace Cert.Kernel.Own

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg3 : Memref sig .tc .smem S5 .i32) (harg3 : arg3.IsWhole) (arg4 : Memref sig .tc .vmem S1536x1024 .bf16) (harg4 : arg4.IsWhole)
  (arg5 : Memref sig .tc .vmem S1536x1024 .bf16) (harg5 : arg5.IsWhole) (arg6 : Memref sig .tc .vmem S1x1024x1024 .f32) (harg6 : arg6.IsWhole)
  (arg7 : Memref sig .tc .vmem S1536x1024 .fp8e4m3) (harg7 : arg7.IsWhole) (arg8 : Memref sig .tc .vmem S48x1024 .f32) (harg8 : arg8.IsWhole)
  (arg9 : Memref sig .tc .vmem S1536x1024 .fp8e5m2) (harg9 : arg9.IsWhole) (arg10 : Memref sig .tc .vmem S48x1024 .f32) (harg10 : arg10.IsWhole)
  (arg11 : Memref sig .tc .vmem S4096x1536 .bf16) (harg11 : arg11.IsWhole) (arg12 : Memref sig .tc .vmem S1536x1024 .bf16) (harg12 : arg12.IsWhole)
  (arg13 : Memref sig .tc .vmem S256x1024 .bf16) (harg13 : arg13.IsWhole)

/-- Group `k`'s size, read off the table. -/
def sizeW (T : Vec F S5 .i32) (k : ℕ) : BitVec 32 := if h : k < 5 then T (fun a => match a with | ⟨0, _⟩ => ⟨k, h⟩) else 0#32
/-- The sum of the sizes of the groups before group `k`. -/
def startW (T : Vec F S5 .i32) : ℕ → BitVec 32
  | 0 => 0#32
  | k + 1 => Scalar.addi (startW T k) (sizeW T k)

/-- A load of one table entry. -/
theorem ld_size (T : Vec F S5 .i32) {off : Fin 1 → ℕ} (k : ℕ) (hoff : off = ![k]) (hk : k < 5) (inb : ∀ a, off a + S1.size a ≤ S5.size a)
    (x : (Rect.unit (s := S5) off S1.size inb).shape.Idx) : View.ld T (Rect.unit (s := S5) off S1.size inb) x = sizeW T k := by
  subst hoff
  unfold sizeW
  rw [dif_pos hk]
  refine congrArg T (funext fun a => Fin.ext ?_)
  have h0 : (x 0).val < 1 := (x 0).isLt
  match a with
  | ⟨0, _⟩ => show k + 1 * (x 0).val = k; omega

/-- The table's half share. -/
abbrev tb (q : PosShare TreeShare) (f : BufTy.Contents (Elt F) arg3.view.ty) : sProp 𝕄 := arg3.view.loc (c : Thread nD τ) ↦[arg3.view.set]{q} f

set_option maxHeartbeats 1000000 in
theorem trip4 (E : Set ℕ) (q : PosShare TreeShare) (f : BufTy.Contents (Elt F) arg3.view.ty) (k : Fin (k0_t4_loop i).trips) (acc : BitVec 32)
    (hacc : acc = startW (arg3.view.read (Elt F) f) k.val) :
    tb c arg3 q f
      ⊢ wp frame (wpE (defs₀ (F := F)) Variants.none (c : Thread nD τ) none) E (k0_t4_body (F := F) i arg3 harg3 arg4 harg4 arg5 harg5 arg6 harg6 arg7 harg7 arg8 harg8 arg9 harg9 arg10 harg10 arg11 harg11 arg12 harg12 arg13 harg13 k acc)
          (fun r => iprop(⌜r = startW (arg3.view.read (Elt F) f) (k.val + 1)⌝ ∗ tb c arg3 q f)) := by
  unfold k0_t4_body
  iintro H
  sl_exec
  sl_step
  isplitr
  swap; · iexact H
  ipureintro
  subst hacc
  have hk : k.val < 5 := by have h := lt_of_lt_of_eq k.isLt (trips4 i); have h5 : (i 2).val < 5 := (i 2).isLt; omega
  show Scalar.addi _ (arg3.view.readAt (Elt F) (Rect.unit (s := S5) (k0_off7 i k) S1.size (k0_off7_inb i k)).toLoadRect f (Shape.Idx.first _)) = Scalar.addi _ (sizeW _ _)
  rw [View.readAt_eq_ld]
  exact congrArg (Scalar.addi _) (ld_size _ _ (off7 i k) hk _ _)

/-- The accumulating loop yields the sum of the sizes of the groups before the grid point's. -/
theorem loop4 (E : Set ℕ) (q : PosShare TreeShare) (f : BufTy.Contents (Elt F) arg3.view.ty) :
    tb c arg3 q f
      ⊢ wp frame (wpE (defs₀ (F := F)) Variants.none (c : Thread nD τ) none) E
          (Scf.Loop.for (k0_t4_loop i) (k0_t4_ok i) 0#32 (k0_t4_body (F := F) i arg3 harg3 arg4 harg4 arg5 harg5 arg6 harg6 arg7 harg7 arg8 harg8 arg9 harg9 arg10 harg10 arg11 harg11 arg12 harg12 arg13 harg13))
          (fun r => iprop(⌜r = startW (arg3.view.read (Elt F) f) (i 2).val⌝ ∗ tb c arg3 q f)) := by
  refine BIBase.Entails.trans ?_ (Scf.wp_for frame _ E (k0_t4_loop i).lb (k0_t4_loop i).ub (k0_t4_loop i).st _ _ _
    (fun k r => iprop(⌜r = startW (arg3.view.read (Elt F) f) k⌝ ∗ tb c arg3 q f)) ?_)
  · iintro H
    isplitl [H]
    · isplitr
      swap; · iexact H
      ipureintro; rfl
    rw [show Scf.trips (k0_t4_loop i).lb (k0_t4_loop i).ub (k0_t4_loop i).st = (i 2).val from trips4 i]
    iintro %_ H
    iexact H
  · intro k acc
    iintro ⟨%h, H⟩
    iapply (trip4 c i arg3 harg3 arg4 harg4 arg5 harg5 arg6 harg6 arg7 harg7 arg8 harg8 arg9 harg9 arg10 harg10 arg11 harg11 arg12 harg12 arg13 harg13 E q f k acc h)
    iexact H

/-- The second loop makes no trip. -/
theorem loop5 (E : Set ℕ) (P : sProp 𝕄) (v : BitVec 32) :
    P ⊢ wp frame (wpE (defs₀ (F := F)) Variants.none (c : Thread nD τ) none) E
          (Scf.Loop.for (k0_t5_loop i) (k0_t5_ok i) v (k0_t5_body (F := F) i arg3 harg3 arg4 harg4 arg5 harg5 arg6 harg6 arg7 harg7 arg8 harg8 arg9 harg9 arg10 harg10 arg11 harg11 arg12 harg12 arg13 harg13))
          (fun r => iprop(⌜r = v⌝ ∗ P)) := by
  refine BIBase.Entails.trans ?_ (Scf.wp_for frame _ E (k0_t5_loop i).lb (k0_t5_loop i).ub (k0_t5_loop i).st _ _ _
    (fun k r => iprop(⌜r = v⌝ ∗ P)) ?_)
  · iintro H
    isplitl [H]
    · isplitr
      swap; · iexact H
      ipureintro; rfl
    iintro %_ H
    iexact H
  · intro k acc
    exact absurd (lt_of_lt_of_eq k.isLt (trips5 i)) (by omega)

end

end Cert.Kernel.Own

end
-- ==== Proof.Plain.Chunk.lean ====
/-
  One weight-gradient block: the load of the row chunks of a group, their product, and its store.
-/
module

public import proofs.«01_k».proof.Proof.Plain.Rows
public import proofs.«01_k».proof.Proof.Plain.Words
public import Idealize.ShloMosaic.Lib.MemrefSat
public import Idealize.ShloMosaic.Lib.Exec
public import Idealize.ShloMosaic.Lib.Tactic

@[expose] public section

set_option maxRecDepth 16384

noncomputable section

namespace Cert.Kernel.Own

open Cert.Own Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg3 : Memref sig .tc .smem S5 .i32) (harg3 : arg3.IsWhole) (arg4 : Memref sig .tc .vmem S1536x1024 .bf16) (harg4 : arg4.IsWhole)
  (arg5 : Memref sig .tc .vmem S1536x1024 .bf16) (harg5 : arg5.IsWhole) (arg6 : Memref sig .tc .vmem S1x1024x1024 .f32) (harg6 : arg6.IsWhole)
  (arg7 : Memref sig .tc .vmem S1536x1024 .fp8e4m3) (harg7 : arg7.IsWhole) (arg8 : Memref sig .tc .vmem S48x1024 .f32) (harg8 : arg8.IsWhole)
  (arg9 : Memref sig .tc .vmem S1536x1024 .fp8e5m2) (harg9 : arg9.IsWhole) (arg10 : Memref sig .tc .vmem S48x1024 .f32) (harg10 : arg10.IsWhole)
  (arg11 : Memref sig .tc .vmem S4096x1536 .bf16) (harg11 : arg11.IsWhole) (arg12 : Memref sig .tc .vmem S1536x1024 .bf16) (harg12 : arg12.IsWhole)
  (arg13 : Memref sig .tc .vmem S256x1024 .bf16) (harg13 : arg13.IsWhole)

/-- The shapes of `W` rows of `dy` and of `W` columns of the transposed `x`. -/
abbrev SRows (W : ℕ) : Shape := ⟨2, ![W, 1024]⟩
abbrev SCols (W : ℕ) : Shape := ⟨2, ![1024, W]⟩

/-- `W` rows of a block of `dy` from row `r`, and `W` columns from column `r` of the 1024 rows of the transposed `x` at grid row `m`. -/
def rowsOf (W : ℕ) (D : Vec F S1536x1024 .bf16) (r : ℕ) : Vec F (SRows W) .bf16 :=
  fun j => D (ix2 ⟨(r + (j 0).val) % 1536, Nat.mod_lt _ (by decide)⟩ (j 1))
def colsOf (W : ℕ) (Z : Vec F S4096x1536 .bf16) (m r : ℕ) : Vec F (SCols W) .bf16 :=
  fun j => Z (ix2 ⟨(1024 * m + (j 0).val) % 4096, Nat.mod_lt _ (by decide)⟩ ⟨(r + (j 1).val) % 1536, Nat.mod_lt _ (by decide)⟩)

theorem ld_rowsOf (W : ℕ) (D : Vec F S1536x1024 .bf16) {off : Fin 2 → ℕ} (r : ℕ) (hoff : off = ![r, 0]) (hr : r + W ≤ 1536)
    (inb : ∀ a : Fin 2, off a + (SRows W).size a ≤ S1536x1024.size a) :
    View.ld D (Rect.unit (s := S1536x1024) off (SRows W).size inb) = rowsOf W D r := by
  subst hoff
  funext j
  unfold rowsOf
  show D _ = D _
  refine congrArg D (funext fun a => Fin.ext ?_)
  have h0 : (j 0).val < W := (j 0).isLt
  match a with
  | ⟨0, _⟩ => show r + 1 * (j 0).val = (r + (j 0).val) % 1536; omega
  | ⟨1, _⟩ => show 0 + 1 * (j 1).val = (j 1).val; omega

theorem ld_colsOf (W : ℕ) (Z : Vec F S4096x1536 .bf16) {off : Fin 2 → ℕ} (m r : ℕ) (hoff : off = ![1024 * m, r]) (hm : m < 4) (hr : r + W ≤ 1536)
    (inb : ∀ a : Fin 2, off a + (SCols W).size a ≤ S4096x1536.size a) :
    View.ld Z (Rect.unit (s := S4096x1536) off (SCols W).size inb) = colsOf W Z m r := by
  subst hoff
  funext j
  unfold colsOf
  show Z _ = Z _
  refine congrArg Z (funext fun a => Fin.ext ?_)
  have h0 : (j 0).val < 1024 := (j 0).isLt
  have h1 : (j 1).val < W := (j 1).isLt
  match a with
  | ⟨0, _⟩ => show 1024 * m + 1 * (j 0).val = (1024 * m + (j 0).val) % 4096; omega
  | ⟨1, _⟩ => show r + 1 * (j 1).val = (r + (j 1).val) % 1536; omega

/-- A store of the whole block leaves what was stored. -/
theorem read_store6 (v : View sig .tc .vmem S1x1024x1024 .f32) (f : v.ty.Contents (Elt F)) (inb : ∀ a : Fin 3, (![0, 0, 0] : Fin 3 → ℕ) a + S1x1024x1024.size a ≤ S1x1024x1024.size a)
    (w : Vec F S1x1024x1024 .f32) : v.read (Elt F) (v.writes (Elt F) f [⟨Rect.unit (s := S1x1024x1024) ![0, 0, 0] S1x1024x1024.size inb, w⟩]) = w := by
  funext y
  exact View.read_writes_cons_unit_of_mem v f inb w [] y y rfl (fun a => by
    match a with
    | ⟨0, _⟩ => exact (Nat.zero_add _).symm
    | ⟨1, _⟩ => exact (Nat.zero_add _).symm
    | ⟨2, _⟩ => exact (Nat.zero_add _).symm)

set_option maxHeartbeats 1000000 in
/-- Loading `W` rows of the dequantised `dy`, `W` columns of the transposed `x`, and storing a block computed from them. -/
theorem chunk (E : Set ℕ) (W : ℕ) (pay : Vec F (SRows W) .bf16 → Vec F (SCols W) .bf16 → FVec F S1x1024x1024 .f32)
    (o12 o11 : Fin 2 → ℕ) (inb12 : ∀ a : Fin 2, o12 a + (SRows W).size a ≤ S1536x1024.size a)
    (inb11 : ∀ a : Fin 2, o11 a + (SCols W).size a ≤ S4096x1536.size a)
    (hl12 : arg12.view.LoadsAt (Rect.unit (s := S1536x1024) o12 (SRows W).size inb12).toLoadRect)
    (hl11 : arg11.view.LoadsAt (Rect.unit (s := S4096x1536) o11 (SCols W).size inb11).toLoadRect)
    (D : Vec F S1536x1024 .bf16) (Z : Vec F S4096x1536 .bf16) (V0 : Vec F S1x1024x1024 .f32)
    {α : Type} (K : Prog (TpuEff nD τ sig (Elt F) Λ₀ .tc) α) (Φ : α → sProp 𝕄)
    (hK : iprop(owns (c : Thread nD τ) arg12 fullShare D ∗ owns (c : Thread nD τ) arg11 fullShare Z
            ∗ owns (c : Thread nD τ) arg6 fullShare (pay (View.ld D (Rect.unit (s := S1536x1024) o12 (SRows W).size inb12))
                (View.ld Z (Rect.unit (s := S4096x1536) o11 (SCols W).size inb11))))
        ⊢ wp frame (wpE (defs₀ (F := F)) Variants.none (c : Thread nD τ) none) E K Φ) :
    (iprop(owns (c : Thread nD τ) arg12 fullShare D ∗ owns (c : Thread nD τ) arg11 fullShare Z ∗ owns (c : Thread nD τ) arg6 fullShare V0) : sProp 𝕄)
      ⊢ wp frame (wpE (defs₀ (F := F)) Variants.none (c : Thread nD τ) none) E
          (do
            let v95 : Vec F (SRows W) .bf16 ← Prog.lift (.load arg12 (Rect.unit (s := S1536x1024) o12 (SRows W).size inb12).toLoadRect hl12)
            let v101 : Vec F (SCols W) .bf16 ← Prog.lift (.load arg11 (Rect.unit (s := S4096x1536) o11 (SCols W).size inb11).toLoadRect hl11)
            let v103 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
            Prog.lift (.store arg6 (Rect.unit (s := S1x1024x1024) ![0, 0, 0] S1x1024x1024.size inb_S1x1024x1024_S1x1024x1024_0_0_0) (pay v95 v101) Finset.univ (View.stores_vmem_bits_univ h_S1x1024x1024 rfl) (.inl rfl))
            K : Prog (TpuEff nD τ sig (Elt F) Λ₀ .tc) α) Φ := by
  have hK' : iprop((∃ f, ⌜arg12.view.read (Elt F) f = D⌝ ∗ (arg12.view.loc (c : Thread nD τ) ↦[arg12.view.set]{fullShare} f))
        ∗ (∃ f, ⌜arg11.view.read (Elt F) f = Z⌝ ∗ (arg11.view.loc (c : Thread nD τ) ↦[arg11.view.set]{fullShare} f))
        ∗ (∃ f, ⌜arg6.view.read (Elt F) f = pay (View.ld D (Rect.unit (s := S1536x1024) o12 (SRows W).size inb12))
                (View.ld Z (Rect.unit (s := S4096x1536) o11 (SCols W).size inb11))⌝ ∗ (arg6.view.loc (c : Thread nD τ) ↦[arg6.view.set]{fullShare} f)))
        ⊢ wp frame (wpE (defs₀ (F := F)) Variants.none (c : Thread nD τ) none) E K Φ := hK
  unfold owns
  iintro ⟨⟨%f12, %hf12, H12⟩, ⟨%f11, %hf11, H11⟩, ⟨%f6, -, H6⟩⟩
  subst hf12 hf11
  sl_exec
  iapply hK'
  isplitl [H12]
  · iexists f12; isplitr; · ipureintro; rfl
    iexact H12
  isplitl [H11]
  · iexists f11; isplitr; · ipureintro; rfl
    iexact H11
  iexists _; isplitr
  swap; · iexact H6
  ipureintro
  rw [read_store6, View.readAt_eq_ld, View.readAt_eq_ld]

variable {s g : BitVec 32} (hs : s.toNat ≤ 7680) (hg : g.toNat ≤ 1536)

include hs hg

/-- The chunk conditional for `j` chunks, `W = 256 j` rows: after it the block is right if the group meets at most `j` chunks. -/
theorem chunk_step (E : Set ℕ) (W j : ℕ) (hj1 : 1 ≤ j) (hj8 : j < 8) (hW : W = 256 * j) (b : BitVec 1) (hb : b = isW (cntW s g) (BitVec.ofNat 32 j))
    (pay : Vec F (SRows W) .bf16 → Vec F (SCols W) .bf16 → FVec F S1x1024x1024 .f32)
    (o12 o11 : Fin 2 → ℕ) (ho12 : o12 = ![(rowW s).toNat, 0]) (ho11 : o11 = ![(Scalar.muli (BitVec.ofNat 32 (i 1).val) 1024#32).toNat, (rowW s).toNat])
    (inb12 : b = 1#1 → ∀ a : Fin 2, o12 a + (SRows W).size a ≤ S1536x1024.size a)
    (inb11 : b = 1#1 → ∀ a : Fin 2, o11 a + (SCols W).size a ≤ S4096x1536.size a)
    (hl12 : ∀ h : b = 1#1, arg12.view.LoadsAt (Rect.unit (s := S1536x1024) o12 (SRows W).size (inb12 h)).toLoadRect)
    (hl11 : ∀ h : b = 1#1, arg11.view.LoadsAt (Rect.unit (s := S4096x1536) o11 (SCols W).size (inb11 h)).toLoadRect)
    (D : Vec F S1536x1024 .bf16) (Z : Vec F S4096x1536 .bf16) (R : Vec F S1x1024x1024 .f32)
    (hR : cntN s.toNat g.toNat = j → R = pay (rowsOf W D (rowN s.toNat)) (colsOf W Z (i 1).val (rowN s.toNat)))
    {α : Type} (K : Prog (TpuEff nD τ sig (Elt F) Λ₀ .tc) α) (Φ : α → sProp 𝕄)
    (hK : iprop(owns (c : Thread nD τ) arg12 fullShare D ∗ owns (c : Thread nD τ) arg11 fullShare Z
            ∗ ownsSat (c : Thread nD τ) arg6 fullShare (fun V => cntN s.toNat g.toNat < j + 1 → V = R))
        ⊢ wp frame (wpE (defs₀ (F := F)) Variants.none (c : Thread nD τ) none) E K Φ) :
    (iprop(owns (c : Thread nD τ) arg12 fullShare D ∗ owns (c : Thread nD τ) arg11 fullShare Z
        ∗ ownsSat (c : Thread nD τ) arg6 fullShare (fun V => cntN s.toNat g.toNat < j → V = R)) : sProp 𝕄)
      ⊢ wp frame (wpE (defs₀ (F := F)) Variants.none (c : Thread nD τ) none) E
          (if h : b = 1#1 then (do
            let v95 : Vec F (SRows W) .bf16 ← Prog.lift (.load arg12 (Rect.unit (s := S1536x1024) o12 (SRows W).size (inb12 h)).toLoadRect (hl12 h))
            let v101 : Vec F (SCols W) .bf16 ← Prog.lift (.load arg11 (Rect.unit (s := S4096x1536) o11 (SCols W).size (inb11 h)).toLoadRect (hl11 h))
            let v103 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
            Prog.lift (.store arg6 (Rect.unit (s := S1x1024x1024) ![0, 0, 0] S1x1024x1024.size inb_S1x1024x1024_S1x1024x1024_0_0_0) (pay v95 v101) Finset.univ (View.stores_vmem_bits_univ h_S1x1024x1024 rfl) (.inl rfl))
            K : Prog (TpuEff nD τ sig (Elt F) Λ₀ .tc) α) else K) Φ := by
  have hiff : b = 1#1 ↔ cntN s.toNat g.toNat = j := by rw [hb]; exact isW_iff hs hg hj8
  by_cases h : b = 1#1
  · rw [dif_pos h]
    have hn := hiff.1 h
    have hrow := row_le hs hg hj1 hn
    have h4 : (i 1).val < 4 := (i 1).isLt
    iintro ⟨H12, H11, H6⟩
    ihave H6 := (ownsSat_any (c : Thread nD τ) arg6 fullShare) $$ H6
    icases H6 with ⟨%V0, H6⟩
    iapply (chunk c arg6 arg11 arg12 E W pay o12 o11 (inb12 h) (inb11 h) (hl12 h) (hl11 h) D Z V0 K Φ (by
      rw [ld_rowsOf W D (rowN s.toNat) (by rw [ho12, rowW_toNat hs]) (by omega) (inb12 h),
        ld_colsOf W Z (i 1).val (rowN s.toNat) (by rw [ho11, rowW_toNat hs, mul_ofNat]) h4 (by omega) (inb11 h)]
      refine BIBase.Entails.trans ?_ hK
      iintro ⟨H12, H11, H6⟩
      isplitl [H12]; · iexact H12
      isplitl [H11]; · iexact H11
      iapply (ownsSat_intro (c : Thread nD τ) arg6 fullShare (X := pay (rowsOf W D (rowN s.toNat)) (colsOf W Z (i 1).val (rowN s.toNat)))
        (fun _ => (hR hn).symm))
      iexact H6))
    isplitl [H12]; · iexact H12
    isplitl [H11]; · iexact H11
    iexact H6
  · rw [dif_neg h]
    refine BIBase.Entails.trans ?_ hK
    iintro ⟨H12, H11, H6⟩
    isplitl [H12]; · iexact H12
    isplitl [H11]; · iexact H11
    have hne : cntN s.toNat g.toNat ≠ j := fun e => h (hiff.2 e)
    iapply (ownsSat_mono (c : Thread nD τ) arg6 fullShare (Φ := fun V => cntN s.toNat g.toNat < j → V = R) (fun V hV hlt => hV (by omega)))
    iexact H6

end

end Cert.Kernel.Own

end
-- ==== Proof.Plain.Tail.lean ====
/-
  The end of the kernel body: the weight-gradient block of a group and a grid point, by the number of chunks the group meets.
-/
module

public import proofs.«01_k».proof.Proof.Plain.Rows
public import proofs.«01_k».proof.Proof.Plain.Words
public import proofs.«01_k».proof.Proof.Plain.Chunk
public import Idealize.ShloMosaic.Lib.MemrefSat
public import Idealize.ShloMosaic.Lib.Exec
public import Idealize.ShloMosaic.Lib.Tactic

@[expose] public section

set_option maxRecDepth 16384

noncomputable section

namespace Cert.Kernel.Own

open Cert.Own Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] wp

section
variable (c : Dev nD) (i : grid0.Coords)
  (arg3 : Memref sig .tc .smem S5 .i32) (harg3 : arg3.IsWhole) (arg4 : Memref sig .tc .vmem S1536x1024 .bf16) (harg4 : arg4.IsWhole)
  (arg5 : Memref sig .tc .vmem S1536x1024 .bf16) (harg5 : arg5.IsWhole) (arg6 : Memref sig .tc .vmem S1x1024x1024 .f32) (harg6 : arg6.IsWhole)
  (arg7 : Memref sig .tc .vmem S1536x1024 .fp8e4m3) (harg7 : arg7.IsWhole) (arg8 : Memref sig .tc .vmem S48x1024 .f32) (harg8 : arg8.IsWhole)
  (arg9 : Memref sig .tc .vmem S1536x1024 .fp8e5m2) (harg9 : arg9.IsWhole) (arg10 : Memref sig .tc .vmem S48x1024 .f32) (harg10 : arg10.IsWhole)
  (arg11 : Memref sig .tc .vmem S4096x1536 .bf16) (harg11 : arg11.IsWhole) (arg12 : Memref sig .tc .vmem S1536x1024 .bf16) (harg12 : arg12.IsWhole)
  (arg13 : Memref sig .tc .vmem S256x1024 .bf16) (harg13 : arg13.IsWhole)

/-- The sign test and the remainder test of the kernel's floor division by 256. -/
def sgnW (w : BitVec 32) : BitVec 1 :=
  Scalar.cmpi .ne (Scalar.subi (Scalar.extui (Scalar.cmpi .sgt w 0#32)) (Scalar.extui (Scalar.cmpi .slt w 0#32)))
      (Scalar.subi (Scalar.extui (Scalar.cmpi .sgt 256#32 0#32)) (Scalar.extui (Scalar.cmpi .slt 256#32 0#32)))
def remW (w : BitVec 32) : BitVec 1 := Scalar.cmpi .ne (Scalar.remsi w 256#32) 0#32

/-- The block of the weight gradient of a group with rows from `s`, `g` of them, at grid row `m`. -/
def dwBlk (m : ℕ) (s g : BitVec 32) (Z : Vec F S4096x1536 .bf16) (D : Vec F S1536x1024 .bf16) : Vec F S1x1024x1024 .f32 :=
  match cntN s.toNat g.toNat with
  | 1 => k0_pay26 s (stopW s g) (Scalar.divsi s 256#32) (sgnW s) (remW s) (rowsOf 256 D (rowN s.toNat)) (colsOf 256 Z m (rowN s.toNat))
  | 2 => k0_pay1 s (stopW s g) (rowW s) (rowsOf 512 D (rowN s.toNat)) (colsOf 512 Z m (rowN s.toNat))
  | 3 => k0_pay2 s (stopW s g) (rowW s) (rowsOf 768 D (rowN s.toNat)) (colsOf 768 Z m (rowN s.toNat))
  | 4 => k0_pay3 s (stopW s g) (rowW s) (rowsOf 1024 D (rowN s.toNat)) (colsOf 1024 Z m (rowN s.toNat))
  | 5 => k0_pay4 s (stopW s g) (rowW s) (rowsOf 1280 D (rowN s.toNat)) (colsOf 1280 Z m (rowN s.toNat))
  | 6 => k0_pay5 s (stopW s g) (rowW s) (rowsOf 1536 D (rowN s.toNat)) (colsOf 1536 Z m (rowN s.toNat))
  | _ => k0_pay25 (F := F)

/-- The body after the group's range has been read. -/
def tailProg (v16 : BitVec 32) (v18 : BitVec 32) (k0_hw2 : k0_chk2 i v16 v18) (v20 : BitVec 32) (v21 : BitVec 32) (v32 : BitVec 1) (v34 : BitVec 1) :
    Prog (TpuEff nD τ sig (Elt F) Λ₀ .tc) PUnit := do
  let ⟨v59, v62, v64, v72, c0_i32_30⟩ : Σ' (v59 : BitVec 32) (v62 : BitVec 32) (v64 : BitVec 32) (v72 : BitVec 32), BitVec 32 ← k0_part6 i arg3 harg3 arg4 harg4 arg5 harg5 arg6 harg6 arg7 harg7 arg8 harg8 arg9 harg9 arg10 harg10 arg11 harg11 arg12 harg12 arg13 harg13 (BitVec.ofNat 32 (i 1).val) v16 v18 k0_hw2 v20 v21 v32 v34
  if k0_h5 : k0_cond5 v16 v18 = 1#1 then do
    let v95 : Vec F S512x1024 .bf16 ← Prog.lift (.load arg12 (Rect.unit (s := S1536x1024) (k0_off12 v16) S512x1024.size (k0_off12_inb i v16 v18 k0_hw2 k0_h5)).toLoadRect (View.loadsAt_vmem h_S512x1024))
    let v101 : Vec F S1024x512 .bf16 ← Prog.lift (.load arg11 (Rect.unit (s := S4096x1536) (k0_off13 i v16) S1024x512.size (k0_off13_inb i v16 v18 k0_hw2 k0_h5)).toLoadRect (View.loadsAt_vmem h_S1024x512))
    let v103 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
    Prog.lift (.store arg6 (Rect.unit (s := S1x1024x1024) ![0, 0, 0] S1x1024x1024.size inb_S1x1024x1024_S1x1024x1024_0_0_0) (k0_pay1 v16 v20 v62 v95 v101) Finset.univ (View.stores_vmem_bits_univ h_S1x1024x1024 rfl) (.inl rfl))
    pure ⟨⟩
  else do
    pure ⟨⟩
  if k0_h6 : k0_cond6 v16 v18 = 1#1 then do
    let v95 : Vec F S768x1024 .bf16 ← Prog.lift (.load arg12 (Rect.unit (s := S1536x1024) (k0_off14 v16) S768x1024.size (k0_off14_inb i v16 v18 k0_hw2 k0_h6)).toLoadRect (View.loadsAt_vmem h_S768x1024))
    let v101 : Vec F S1024x768 .bf16 ← Prog.lift (.load arg11 (Rect.unit (s := S4096x1536) (k0_off15 i v16) S1024x768.size (k0_off15_inb i v16 v18 k0_hw2 k0_h6)).toLoadRect (View.loadsAt_vmem h_S1024x768))
    let v103 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
    Prog.lift (.store arg6 (Rect.unit (s := S1x1024x1024) ![0, 0, 0] S1x1024x1024.size inb_S1x1024x1024_S1x1024x1024_0_0_0) (k0_pay2 v16 v20 v62 v95 v101) Finset.univ (View.stores_vmem_bits_univ h_S1x1024x1024 rfl) (.inl rfl))
    pure ⟨⟩
  else do
    pure ⟨⟩
  if k0_h7 : k0_cond7 v16 v18 = 1#1 then do
    let v95 : Vec F S1024x1024 .bf16 ← Prog.lift (.load arg12 (Rect.unit (s := S1536x1024) (k0_off16 v16) S1024x1024.size (k0_off16_inb i v16 v18 k0_hw2 k0_h7)).toLoadRect (View.loadsAt_vmem h_S1024x1024))
    let v101 : Vec F S1024x1024 .bf16 ← Prog.lift (.load arg11 (Rect.unit (s := S4096x1536) (k0_off17 i v16) S1024x1024.size (k0_off17_inb i v16 v18 k0_hw2 k0_h7)).toLoadRect (View.loadsAt_vmem h_S1024x1024))
    let v103 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
    Prog.lift (.store arg6 (Rect.unit (s := S1x1024x1024) ![0, 0, 0] S1x1024x1024.size inb_S1x1024x1024_S1x1024x1024_0_0_0) (k0_pay3 v16 v20 v62 v95 v101) Finset.univ (View.stores_vmem_bits_univ h_S1x1024x1024 rfl) (.inl rfl))
    pure ⟨⟩
  else do
    pure ⟨⟩
  if k0_h8 : k0_cond8 v16 v18 = 1#1 then do
    let v95 : Vec F S1280x1024 .bf16 ← Prog.lift (.load arg12 (Rect.unit (s := S1536x1024) (k0_off18 v16) S1280x1024.size (k0_off18_inb i v16 v18 k0_hw2 k0_h8)).toLoadRect (View.loadsAt_vmem h_S1280x1024))
    let v101 : Vec F S1024x1280 .bf16 ← Prog.lift (.load arg11 (Rect.unit (s := S4096x1536) (k0_off19 i v16) S1024x1280.size (k0_off19_inb i v16 v18 k0_hw2 k0_h8)).toLoadRect (View.loadsAt_vmem h_S1024x1280))
    let v103 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
    Prog.lift (.store arg6 (Rect.unit (s := S1x1024x1024) ![0, 0, 0] S1x1024x1024.size inb_S1x1024x1024_S1x1024x1024_0_0_0) (k0_pay4 v16 v20 v62 v95 v101) Finset.univ (View.stores_vmem_bits_univ h_S1x1024x1024 rfl) (.inl rfl))
    pure ⟨⟩
  else do
    pure ⟨⟩
  if k0_h9 : k0_cond9 v16 v18 = 1#1 then do
    let v95 : Vec F S1536x1024 .bf16 ← Prog.lift (.load arg12 (Rect.unit (s := S1536x1024) (k0_off20 v16) S1536x1024.size (k0_off20_inb i v16 v18 k0_hw2 k0_h9)).toLoadRect (View.loadsAt_vmem h_S1536x1024))
    let v101 : Vec F S1024x1536 .bf16 ← Prog.lift (.load arg11 (Rect.unit (s := S4096x1536) (k0_off21 i v16) S1024x1536.size (k0_off21_inb i v16 v18 k0_hw2 k0_h9)).toLoadRect (View.loadsAt_vmem h_S1024x1536))
    let v103 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
    Prog.lift (.store arg6 (Rect.unit (s := S1x1024x1024) ![0, 0, 0] S1x1024x1024.size inb_S1x1024x1024_S1x1024x1024_0_0_0) (k0_pay5 v16 v20 v62 v95 v101) Finset.univ (View.stores_vmem_bits_univ h_S1x1024x1024 rfl) (.inl rfl))
    pure ⟨⟩
  else do
    pure ⟨⟩
  pure ⟨⟩

variable {s g : BitVec 32} (hs : s.toNat ≤ 7680) (hg : g.toNat ≤ 1536)

/-- What is held through the tail: the two scratch buffers read, and the block, right if fewer than `j` chunks are met. -/
def tailSt (s g : BitVec 32) (D : Vec F S1536x1024 .bf16) (Z : Vec F S4096x1536 .bf16) (j : ℕ) : sProp 𝕄 :=
  iprop(owns (c : Thread nD τ) arg12 fullShare D ∗ owns (c : Thread nD τ) arg11 fullShare Z
        ∗ ownsSat (c : Thread nD τ) arg6 fullShare (fun V => cntN s.toNat g.toNat < j → V = dwBlk (i 1).val s g Z D))

include hs hg

set_option maxHeartbeats 4000000 in
/-- The store of zeros, made where no chunk is met, with what follows it. -/
theorem zero_step (E : Set ℕ) (b : BitVec 1) (hb : b = isW (cntW s g) 0#32) (D : Vec F S1536x1024 .bf16) (Z : Vec F S4096x1536 .bf16)
    {α : Type} (K : Prog (TpuEff nD τ sig (Elt F) Λ₀ .tc) α) (Φ : α → sProp 𝕄)
    (hK : tailSt c i arg6 arg11 arg12 s g D Z 1 ⊢ wp frame (wpE (defs₀ (F := F)) Variants.none (c : Thread nD τ) none) E K Φ) :
    tailSt c i arg6 arg11 arg12 s g D Z 0
      ⊢ wp frame (wpE (defs₀ (F := F)) Variants.none (c : Thread nD τ) none) E
          (if b = 1#1 then (do
            let v87 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
            Prog.lift (.store arg6 (Rect.unit (s := S1x1024x1024) ![0, 0, 0] S1x1024x1024.size inb_S1x1024x1024_S1x1024x1024_0_0_0) (k0_pay25 (F := F)) Finset.univ (View.stores_vmem_bits_univ h_S1x1024x1024 rfl) (.inl rfl))
            K : Prog (TpuEff nD τ sig (Elt F) Λ₀ .tc) α) else K) Φ := by
  have hiff : b = 1#1 ↔ cntN s.toNat g.toNat = 0 := by rw [hb]; exact isW_iff hs hg (by decide)
  unfold tailSt at hK ⊢
  by_cases h : b = 1#1
  · rw [if_pos h]
    have hn := hiff.1 h
    iintro ⟨H12, H11, H6⟩
    ihave H6 := (ownsSat_any (c : Thread nD τ) arg6 fullShare) $$ H6
    icases H6 with ⟨%V0, H6⟩
    have hopen : owns (c : Thread nD τ) arg6 fullShare V0 ⊢ ((∃ f, ⌜arg6.view.read (Elt F) f = V0⌝ ∗ (arg6.view.loc (c : Thread nD τ) ↦[arg6.view.set]{fullShare} f)) : sProp 𝕄) := .rfl
    ihave H6 := hopen $$ H6
    icases H6 with ⟨%f6, -, H6⟩
    sl_exec
    iapply hK
    isplitl [H12]; · iexact H12
    isplitl [H11]; · iexact H11
    iapply (ownsSat_intro (c : Thread nD τ) arg6 fullShare (X := dwBlk (i 1).val s g Z D) (fun _ => rfl))
    unfold owns
    iexists _; isplitr
    swap; · iexact H6
    ipureintro
    rw [read_store6]
    simp only [dwBlk, hn]
  · rw [if_neg h]
    refine BIBase.Entails.trans ?_ hK
    have hne : cntN s.toNat g.toNat ≠ 0 := fun e => h (hiff.2 e)
    iintro ⟨H12, H11, H6⟩
    isplitl [H12]; · iexact H12
    isplitl [H11]; · iexact H11
    iapply (ownsSat_mono (c : Thread nD τ) arg6 fullShare (Φ := fun V => cntN s.toNat g.toNat < 0 → V = dwBlk (i 1).val s g Z D) (fun V hV hlt => absurd hlt (by omega)))
    iexact H6

set_option maxHeartbeats 4000000 in
/-- The store of zeros for a group that meets no chunk, then the case of one chunk. -/
theorem tail_part6 (E : Set ℕ) (hw2 : k0_chk2 i s g) (D : Vec F S1536x1024 .bf16) (Z : Vec F S4096x1536 .bf16) :
    tailSt c i arg6 arg11 arg12 s g D Z 0
      ⊢ wp frame (wpE (defs₀ (F := F)) Variants.none (c : Thread nD τ) none) E
          (k0_part6 (F := F) i arg3 harg3 arg4 harg4 arg5 harg5 arg6 harg6 arg7 harg7 arg8 harg8 arg9 harg9 arg10 harg10 arg11 harg11 arg12 harg12 arg13 harg13 (BitVec.ofNat 32 (i 1).val) s g hw2 (stopW s g) (Scalar.divsi s 256#32) (sgnW s) (remW s))
          (fun r => iprop(⌜r = ⟨cntW s g, rowW s, Scalar.muli (BitVec.ofNat 32 (i 1).val) 1024#32, Scalar.extui (Scalar.cmpi .eq (cntW s g) 2#32), 0#32⟩⌝
            ∗ tailSt c i arg6 arg11 arg12 s g D Z 2)) := by
  rw [k0_part6_eq_skeleton]
  unfold k0_part6_skel
  refine zero_step c i arg6 arg11 arg12 hs hg E _ rfl D Z _ _ ?_
  unfold tailSt
  refine chunk_step c i arg6 arg11 arg12 hs hg E 256 1 (by decide) (by decide) rfl _ (cond4_eq s g) (k0_pay26 s (stopW s g) (Scalar.divsi s 256#32) (sgnW s) (remW s)) _ _
    (off10 s) (off11 i s) _ _ _ _ D Z _ (fun h => by simp only [dwBlk, h]) _ _ ?_
  dsimp only
  iintro H
  sl_step
  isplitr
  · ipureintro; rfl
  iexact H

set_option maxHeartbeats 4000000 in
/-- The whole tail. -/
theorem tail (E : Set ℕ) (hw2 : k0_chk2 i s g) (D : Vec F S1536x1024 .bf16) (Z : Vec F S4096x1536 .bf16) :
    tailSt c i arg6 arg11 arg12 s g D Z 0
      ⊢ wp frame (wpE (defs₀ (F := F)) Variants.none (c : Thread nD τ) none) E
          (tailProg (F := F) i arg3 harg3 arg4 harg4 arg5 harg5 arg6 harg6 arg7 harg7 arg8 harg8 arg9 harg9 arg10 harg10 arg11 harg11 arg12 harg12 arg13 harg13 s g hw2 (stopW s g) (Scalar.divsi s 256#32) (sgnW s) (remW s))
          (fun _ => tailSt c i arg6 arg11 arg12 s g D Z 7) := by
  unfold tailProg
  rw [wp_bind]
  refine (tail_part6 c i arg3 harg3 arg4 harg4 arg5 harg5 arg6 harg6 arg7 harg7 arg8 harg8 arg9 harg9 arg10 harg10 arg11 harg11 arg12 harg12 arg13 harg13 hs hg E hw2 D Z).trans (wp_mono frame _ E fun r => ?_)
  iintro ⟨%hr, H⟩
  subst hr
  istop
  unfold tailSt
  refine chunk_step c i arg6 arg11 arg12 hs hg E 512 2 (by decide) (by decide) rfl _ (cond5_eq s g) (k0_pay1 s (stopW s g) (rowW s)) _ _
    (off12 s) (off13 i s) _ _ _ _ D Z _ (fun h => by simp only [dwBlk, h]) _ _ ?_
  refine chunk_step c i arg6 arg11 arg12 hs hg E 768 3 (by decide) (by decide) rfl _ (cond6_eq s g) (k0_pay2 s (stopW s g) (rowW s)) _ _
    (off14 s) (off15 i s) _ _ _ _ D Z _ (fun h => by simp only [dwBlk, h]) _ _ ?_
  refine chunk_step c i arg6 arg11 arg12 hs hg E 1024 4 (by decide) (by decide) rfl _ (cond7_eq s g) (k0_pay3 s (stopW s g) (rowW s)) _ _
    (off16 s) (off17 i s) _ _ _ _ D Z _ (fun h => by simp only [dwBlk, h]) _ _ ?_
  refine chunk_step c i arg6 arg11 arg12 hs hg E 1280 5 (by decide) (by decide) rfl _ (cond8_eq s g) (k0_pay4 s (stopW s g) (rowW s)) _ _
    (off18 s) (off19 i s) _ _ _ _ D Z _ (fun h => by simp only [dwBlk, h]) _ _ ?_
  refine chunk_step c i arg6 arg11 arg12 hs hg E 1536 6 (by decide) (by decide) rfl _ (cond9_eq s g) (k0_pay5 s (stopW s g) (rowW s)) _ _
    (off20 s) (off21 i s) _ _ _ _ D Z _ (fun h => by simp only [dwBlk, h]) _ _ ?_
  iintro H
  sl_step
  iexact H

end

end Cert.Kernel.Own

end
-- ==== Proof.Plain.Body.lean ====
/-
  The whole kernel body at one grid point, from what it is handed to what it leaves.
-/
module

public import proofs.«01_k».proof.Proof.Plain.Rows
public import proofs.«01_k».proof.Proof.Plain.Words
public import proofs.«01_k».proof.Proof.Plain.LoopX
public import proofs.«01_k».proof.Proof.Plain.LoopY
public import proofs.«01_k».proof.Proof.Plain.Gs
public import proofs.«01_k».proof.Proof.Plain.Tail
public import Idealize.ShloMosaic.Lib.MemrefSat
public import Idealize.ShloMosaic.Lib.Exec
public import Idealize.ShloMosaic.Lib.Tactic

@[expose] public section

set_option maxRecDepth 16384

noncomputable section

namespace Cert.Kernel.Own

open Cert.Own Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] wp

section
variable (c : Dev nD) (i : grid0.Coords)
  (arg3 : Memref sig .tc .smem S5 .i32) (harg3 : arg3.IsWhole) (arg4 : Memref sig .tc .vmem S1536x1024 .bf16) (harg4 : arg4.IsWhole)
  (arg5 : Memref sig .tc .vmem S1536x1024 .bf16) (harg5 : arg5.IsWhole) (arg6 : Memref sig .tc .vmem S1x1024x1024 .f32) (harg6 : arg6.IsWhole)
  (arg7 : Memref sig .tc .vmem S1536x1024 .fp8e4m3) (harg7 : arg7.IsWhole) (arg8 : Memref sig .tc .vmem S48x1024 .f32) (harg8 : arg8.IsWhole)
  (arg9 : Memref sig .tc .vmem S1536x1024 .fp8e5m2) (harg9 : arg9.IsWhole) (arg10 : Memref sig .tc .vmem S48x1024 .f32) (harg10 : arg10.IsWhole)
  (arg11 : Memref sig .tc .vmem S4096x1536 .bf16) (harg11 : arg11.IsWhole) (arg12 : Memref sig .tc .vmem S1536x1024 .bf16) (harg12 : arg12.IsWhole)
  (arg13 : Memref sig .tc .vmem S256x1024 .bf16) (harg13 : arg13.IsWhole)

/-- A conditional without an alternative, with what follows it. -/
theorem dite_seq (E : Set ℕ) (b : BitVec 1) (L : b = 1#1 → Prog (TpuEff nD τ sig (Elt F) Λ₀ .tc) PUnit) (P Q : sProp 𝕄)
    (hA : ∀ h, P ⊢ wp frame (wpE (defs₀ (F := F)) Variants.none (c : Thread nD τ) none) E (L h) (fun _ => Q)) (hB : b ≠ 1#1 → P ⊢ Q)
    {α : Type} (K : Prog (TpuEff nD τ sig (Elt F) Λ₀ .tc) α) (Φ : α → sProp 𝕄)
    (hK : Q ⊢ wp frame (wpE (defs₀ (F := F)) Variants.none (c : Thread nD τ) none) E K Φ) :
    P ⊢ wp frame (wpE (defs₀ (F := F)) Variants.none (c : Thread nD τ) none) E (if h : b = 1#1 then (do L h; K) else K) Φ := by
  by_cases h : b = 1#1
  · rw [dif_pos h, wp_bind]
    exact (hA h).trans (wp_mono frame _ E fun _ => hK)
  · rw [dif_neg h]
    exact (hB h).trans hK

/-- What quantising `x` needs and changes. -/
def stX (X : Vec F S1536x1024 .bf16) (A7 : Vec F S1536x1024 .fp8e4m3) (A8 : Vec F S48x1024 .f32) (Ψ : Vec F S4096x1536 .bf16 → Prop) : sProp 𝕄 :=
  iprop(owns (c : Thread nD τ) arg4 fullShare X ∗ owns (c : Thread nD τ) arg7 fullShare A7 ∗ owns (c : Thread nD τ) arg8 fullShare A8
    ∗ ownsSat (c : Thread nD τ) arg13 fullShare (fun _ => True) ∗ ownsSat (c : Thread nD τ) arg11 fullShare Ψ)

/-- What quantising `dy` needs and changes. -/
def stY (Y : Vec F S1536x1024 .bf16) (A9 : Vec F S1536x1024 .fp8e5m2) (A10 : Vec F S48x1024 .f32) (D : Vec F S1536x1024 .bf16) : sProp 𝕄 :=
  iprop(owns (c : Thread nD τ) arg5 fullShare Y ∗ owns (c : Thread nD τ) arg9 fullShare A9 ∗ owns (c : Thread nD τ) arg10 fullShare A10
    ∗ owns (c : Thread nD τ) arg12 fullShare D)

theorem stepX (E : Set ℕ) (X : Vec F S1536x1024 .bf16) (A7 : Vec F S1536x1024 .fp8e4m3) (A8 : Vec F S48x1024 .f32) (Ψ₀ Ψ : Vec F S4096x1536 .bf16 → Prop)
    (h1 : k0_cond1 i = 1#1 → ∀ Z0, Ψ₀ Z0 → ∀ Z, XtOk X Z0 (i 1).val 6 Z → Ψ Z) (h0 : k0_cond1 i ≠ 1#1 → ∀ Z, Ψ₀ Z → Ψ Z) (Fr : sProp 𝕄)
    {α : Type} (K : Prog (TpuEff nD τ sig (Elt F) Λ₀ .tc) α) (Φ : α → sProp 𝕄)
    (hK : iprop(stX c arg4 arg7 arg8 arg11 arg13 X (if k0_cond1 i = 1#1 then codesX X else A7) (if k0_cond1 i = 1#1 then scalesX X else A8) Ψ ∗ Fr)
      ⊢ wp frame (wpE (defs₀ (F := F)) Variants.none (c : Thread nD τ) none) E K Φ) :
    (iprop(stX c arg4 arg7 arg8 arg11 arg13 X A7 A8 Ψ₀ ∗ Fr) : sProp 𝕄) ⊢ wp frame (wpE (defs₀ (F := F)) Variants.none (c : Thread nD τ) none) E
      (if h : k0_cond1 i = 1#1 then (do Scf.Loop.for k0_t1_loop (k0_t1_ok i h) ⟨⟩ (k0_t1_body (F := F) i arg3 harg3 arg4 harg4 arg5 harg5 arg6 harg6 arg7 harg7 arg8 harg8 arg9 harg9 arg10 harg10 arg11 harg11 arg12 harg12 arg13 harg13 h); K) else K) Φ := by
  refine dite_seq c E _ (fun h => Scf.Loop.for k0_t1_loop (k0_t1_ok i h) ⟨⟩ (k0_t1_body (F := F) i arg3 harg3 arg4 harg4 arg5 harg5 arg6 harg6 arg7 harg7 arg8 harg8 arg9 harg9 arg10 harg10 arg11 harg11 arg12 harg12 arg13 harg13 h)) _ _ (fun h => ?_) (fun h => ?_) K Φ hK
  · rw [if_pos h, if_pos h]
    unfold stX
    iintro ⟨⟨H4, H7, H8, H13, H11⟩, HF⟩
    ihave H11 := (show ownsSat (c : Thread nD τ) arg11 fullShare Ψ₀ ⊢ (iprop(∃ Z0, ⌜Ψ₀ Z0⌝ ∗ owns (c : Thread nD τ) arg11 fullShare Z0) : sProp 𝕄) from ownsSat_elim (c : Thread nD τ) arg11 fullShare _) $$ H11
    icases H11 with ⟨%Z0, %hZ0, H11⟩
    have hmono : (iprop((owns (c : Thread nD τ) arg4 fullShare X ∗ owns (c : Thread nD τ) arg7 fullShare (codesX X) ∗ owns (c : Thread nD τ) arg8 fullShare (scalesX X)
          ∗ ownsSat (c : Thread nD τ) arg13 fullShare (fun _ => True) ∗ ownsSat (c : Thread nD τ) arg11 fullShare (XtOk X Z0 (i 1).val 6)) ∗ Fr) : sProp 𝕄)
        ⊢ iprop((owns (c : Thread nD τ) arg4 fullShare X ∗ owns (c : Thread nD τ) arg7 fullShare (codesX X) ∗ owns (c : Thread nD τ) arg8 fullShare (scalesX X)
          ∗ ownsSat (c : Thread nD τ) arg13 fullShare (fun _ => True) ∗ ownsSat (c : Thread nD τ) arg11 fullShare Ψ) ∗ Fr) :=
      BIClass.sep_mono (BIClass.sep_mono .rfl (BIClass.sep_mono .rfl (BIClass.sep_mono .rfl (BIClass.sep_mono .rfl
        (ownsSat_mono (c : Thread nD τ) arg11 fullShare (fun Z hZ => h1 h Z0 hZ0 Z hZ)))))) .rfl
    iapply ((BIClass.sep_mono ((show _ ⊢ _ from loop1 c i arg3 harg3 arg4 harg4 arg5 harg5 arg6 harg6 arg7 harg7 arg8 harg8 arg9 harg9 arg10 harg10 arg11 harg11 arg12 harg12 arg13 harg13 E h X Z0).trans (wp_mono frame _ E fun _ => inv1_done c i arg4 arg7 arg8 arg11 arg13 X Z0)) (BIBase.Entails.rfl (P := Fr))).trans
      ((wp_frame_r frame _ E).trans (wp_mono frame _ E fun _ => hmono)))
    isplitr [HF]
    swap; · iexact HF
    unfold inv1
    isplitl [H4]; · iexact H4
    isplitl [H7]
    · iapply (ownsSat_intro (c : Thread nD τ) arg7 fullShare (X := A7) (fun y hy => absurd hy (by omega))); iexact H7
    isplitl [H8]
    · iapply (ownsSat_intro (c : Thread nD τ) arg8 fullShare (X := A8) (fun y hy => absurd hy (by omega))); iexact H8
    isplitl [H13]; · iexact H13
    iapply (ownsSat_intro (c : Thread nD τ) arg11 fullShare (X := Z0) ⟨fun y l hl hy => absurd hy (by omega), fun y _ => rfl⟩); iexact H11
  · rw [if_neg h, if_neg h]
    unfold stX
    iintro ⟨⟨H4, H7, H8, H13, H11⟩, HF⟩
    isplitr [HF]
    swap; · iexact HF
    isplitl [H4]; · iexact H4
    isplitl [H7]; · iexact H7
    isplitl [H8]; · iexact H8
    isplitl [H13]; · iexact H13
    iapply (ownsSat_mono (c : Thread nD τ) arg11 fullShare (h0 h)); iexact H11

theorem stepY (E : Set ℕ) (Y : Vec F S1536x1024 .bf16) (A9 : Vec F S1536x1024 .fp8e5m2) (A10 : Vec F S48x1024 .f32) (D : Vec F S1536x1024 .bf16)
    (h0 : k0_cond2 i ≠ 1#1 → D = hatsY Y) (Fr : sProp 𝕄)
    {α : Type} (K : Prog (TpuEff nD τ sig (Elt F) Λ₀ .tc) α) (Φ : α → sProp 𝕄)
    (hK : iprop(stY c arg5 arg9 arg10 arg12 Y (if k0_cond2 i = 1#1 then codesY Y else A9) (if k0_cond2 i = 1#1 then scalesY Y else A10) (hatsY Y) ∗ Fr)
      ⊢ wp frame (wpE (defs₀ (F := F)) Variants.none (c : Thread nD τ) none) E K Φ) :
    (iprop(stY c arg5 arg9 arg10 arg12 Y A9 A10 D ∗ Fr) : sProp 𝕄) ⊢ wp frame (wpE (defs₀ (F := F)) Variants.none (c : Thread nD τ) none) E
      (if h : k0_cond2 i = 1#1 then (do Scf.Loop.for k0_t3_loop (k0_t3_ok i h) ⟨⟩ (k0_t3_body (F := F) i arg3 harg3 arg4 harg4 arg5 harg5 arg6 harg6 arg7 harg7 arg8 harg8 arg9 harg9 arg10 harg10 arg11 harg11 arg12 harg12 arg13 harg13 h); K) else K) Φ := by
  refine dite_seq c E _ (fun h => Scf.Loop.for k0_t3_loop (k0_t3_ok i h) ⟨⟩ (k0_t3_body (F := F) i arg3 harg3 arg4 harg4 arg5 harg5 arg6 harg6 arg7 harg7 arg8 harg8 arg9 harg9 arg10 harg10 arg11 harg11 arg12 harg12 arg13 harg13 h)) _ _ (fun h => ?_) (fun h => ?_) K Φ hK
  · rw [if_pos h, if_pos h]
    refine BIBase.Entails.trans ?_ ((BIClass.sep_mono ((show _ ⊢ _ from loop3 c i arg3 harg3 arg4 harg4 arg5 harg5 arg6 harg6 arg7 harg7 arg8 harg8 arg9 harg9 arg10 harg10 arg11 harg11 arg12 harg12 arg13 harg13 E h Y).trans (wp_mono frame _ E fun _ => inv3_done c arg5 arg9 arg10 arg12 Y)) BIBase.Entails.rfl).trans
      ((wp_frame_r frame _ E).trans (wp_mono frame _ E fun _ => .rfl)))
    unfold stY inv3
    iintro ⟨⟨H5, H9, H10, H12⟩, HF⟩
    isplitr [HF]
    swap; · iexact HF
    isplitl [H5]; · iexact H5
    isplitl [H9]
    · iapply (ownsSat_intro (c : Thread nD τ) arg9 fullShare (X := A9) (fun y hy => absurd hy (by omega))); iexact H9
    isplitl [H10]
    · iapply (ownsSat_intro (c : Thread nD τ) arg10 fullShare (X := A10) (fun y hy => absurd hy (by omega))); iexact H10
    iapply (ownsSat_intro (c : Thread nD τ) arg12 fullShare (X := D) (fun y hy => absurd hy (by omega))); iexact H12
  · rw [if_neg h, if_neg h, h0 h]

section
variable (q : PosShare TreeShare) (f : BufTy.Contents (Elt F) arg3.view.ty)
  (hs : (startW (arg3.view.read (Elt F) f) (i 2).val).toNat ≤ 7680) (hg : (sizeW (arg3.view.read (Elt F) f) (i 2).val).toNat ≤ 1536)

include hs hg

set_option maxHeartbeats 4000000 in
/-- The first part of the body: both quantisations and the group's range. -/
theorem part5 (E : Set ℕ) (X Y : Vec F S1536x1024 .bf16) (A7 : Vec F S1536x1024 .fp8e4m3) (A8 : Vec F S48x1024 .f32) (Ψ₀ Ψ : Vec F S4096x1536 .bf16 → Prop)
    (A9 : Vec F S1536x1024 .fp8e5m2) (A10 : Vec F S48x1024 .f32) (D : Vec F S1536x1024 .bf16)
    (hX1 : k0_cond1 i = 1#1 → ∀ Z0, Ψ₀ Z0 → ∀ Z, XtOk X Z0 (i 1).val 6 Z → Ψ Z) (hX0 : k0_cond1 i ≠ 1#1 → ∀ Z, Ψ₀ Z → Ψ Z)
    (hY0 : k0_cond2 i ≠ 1#1 → D = hatsY Y) :
    (iprop(stX c arg4 arg7 arg8 arg11 arg13 X A7 A8 Ψ₀ ∗ stY c arg5 arg9 arg10 arg12 Y A9 A10 D ∗ tb c arg3 q f) : sProp 𝕄)
      ⊢ wp frame (wpE (defs₀ (F := F)) Variants.none (c : Thread nD τ) none) E (k0_part5 (F := F) i arg3 harg3 arg4 harg4 arg5 harg5 arg6 harg6 arg7 harg7 arg8 harg8 arg9 harg9 arg10 harg10 arg11 harg11 arg12 harg12 arg13 harg13)
          (fun r => iprop(⌜∃ hw2, r = ⟨BitVec.ofNat 32 (i 1).val, startW (arg3.view.read (Elt F) f) (i 2).val, sizeW (arg3.view.read (Elt F) f) (i 2).val, hw2,
                stopW (startW (arg3.view.read (Elt F) f) (i 2).val) (sizeW (arg3.view.read (Elt F) f) (i 2).val),
                Scalar.divsi (startW (arg3.view.read (Elt F) f) (i 2).val) 256#32, sgnW (startW (arg3.view.read (Elt F) f) (i 2).val), remW (startW (arg3.view.read (Elt F) f) (i 2).val)⟩⌝
            ∗ stX c arg4 arg7 arg8 arg11 arg13 X (if k0_cond1 i = 1#1 then codesX X else A7) (if k0_cond1 i = 1#1 then scalesX X else A8) Ψ
            ∗ stY c arg5 arg9 arg10 arg12 Y (if k0_cond2 i = 1#1 then codesY Y else A9) (if k0_cond2 i = 1#1 then scalesY Y else A10) (hatsY Y)
            ∗ tb c arg3 q f)) := by
  rw [k0_part5_eq_skeleton]
  unfold k0_part5_skel
  refine stepX c i arg3 harg3 arg4 harg4 arg5 harg5 arg6 harg6 arg7 harg7 arg8 harg8 arg9 harg9 arg10 harg10 arg11 harg11 arg12 harg12 arg13 harg13 E X A7 A8 Ψ₀ Ψ hX1 hX0 _ _ _ ?_
  refine BIBase.Entails.trans ?_ (stepY c i arg3 harg3 arg4 harg4 arg5 harg5 arg6 harg6 arg7 harg7 arg8 harg8 arg9 harg9 arg10 harg10 arg11 harg11 arg12 harg12 arg13 harg13 E Y A9 A10 D hY0 (iprop(stX c arg4 arg7 arg8 arg11 arg13 X (if k0_cond1 i = 1#1 then codesX X else A7) (if k0_cond1 i = 1#1 then scalesX X else A8) Ψ ∗ tb c arg3 q f)) _ _ ?_)
  · iintro ⟨HX, HY, HT⟩
    isplitl [HY]; · iexact HY
    isplitl [HX]; · iexact HX
    iexact HT
  rw [wp_bind]
  refine BIBase.Entails.trans ?_ (((BIClass.sep_mono BIBase.Entails.rfl (loop4 c i arg3 harg3 arg4 harg4 arg5 harg5 arg6 harg6 arg7 harg7 arg8 harg8 arg9 harg9 arg10 harg10 arg11 harg11 arg12 harg12 arg13 harg13 E q f)).trans (wp_frame_l frame _ E)).trans (wp_mono frame _ E fun r => ?_)) (Q := iprop((stY c arg5 arg9 arg10 arg12 Y (if k0_cond2 i = 1#1 then codesY Y else A9) (if k0_cond2 i = 1#1 then scalesY Y else A10) (hatsY Y) ∗ stX c arg4 arg7 arg8 arg11 arg13 X (if k0_cond1 i = 1#1 then codesX X else A7) (if k0_cond1 i = 1#1 then scalesX X else A8) Ψ) ∗ tb c arg3 q f))
  · iintro ⟨HY, HX, HT⟩
    isplitr [HT]
    · isplitl [HY]; · iexact HY
      iexact HX
    iexact HT
  iintro ⟨H, %hr, HT⟩
  subst hr
  istop
  rw [wp_bind]
  refine BIBase.Entails.trans (loop5 c i arg3 harg3 arg4 harg4 arg5 harg5 arg6 harg6 arg7 harg7 arg8 harg8 arg9 harg9 arg10 harg10 arg11 harg11 arg12 harg12 arg13 harg13 E _ _) (wp_mono frame _ E fun r => ?_)
  iintro ⟨%hr, ⟨HY, HX⟩, HT⟩
  subst hr
  have hk : (i 2).val < 5 := (i 2).isLt
  have he : arg3.view.readAt (Elt F) (Rect.unit (s := S5) (k0_off9 i) S1.size (k0_off9_inb i)).toLoadRect f (Shape.Idx.first (by show 0 < S1.numel; rw [numel1_S1]; exact Nat.one_pos)) = sizeW (arg3.view.read (Elt F) f) (i 2).val := by
    rw [View.readAt_eq_ld]
    exact ld_size _ _ (off9 i) hk _ _
  have w1 : k0_chk1 (startW (arg3.view.read (Elt F) f) (i 2).val) := chk1 hs hg
  have w2 : k0_chk2 i (startW (arg3.view.read (Elt F) f) (i 2).val) (arg3.view.readAt (Elt F) (Rect.unit (s := S5) (k0_off9 i) S1.size (k0_off9_inb i)).toLoadRect f (Shape.Idx.first (by show 0 < S1.numel; rw [numel1_S1]; exact Nat.one_pos))) := by
    rw [he]; exact chk2 hs hg i
  sl_exec
  sl_step
  isplitr
  · ipureintro
    have key : ∀ g', g' = sizeW (arg3.view.read (Elt F) f) (i 2).val → ∀ hw, ∃ hw2, (⟨BitVec.ofNat 32 (i 1).val, startW (arg3.view.read (Elt F) f) (i 2).val, g', hw,
        stopW (startW (arg3.view.read (Elt F) f) (i 2).val) g', Scalar.divsi (startW (arg3.view.read (Elt F) f) (i 2).val) 256#32, sgnW (startW (arg3.view.read (Elt F) f) (i 2).val), remW (startW (arg3.view.read (Elt F) f) (i 2).val)⟩ :
        Σ' (arg1 : BitVec 32) (v16 : BitVec 32) (v18 : Elt F .i32) (k0_hw2 : k0_chk2 i v16 v18) (v20 : BitVec 32) (v21 : BitVec 32) (v32 : BitVec 1), BitVec 1)
        = ⟨BitVec.ofNat 32 (i 1).val, startW (arg3.view.read (Elt F) f) (i 2).val, sizeW (arg3.view.read (Elt F) f) (i 2).val, hw2,
                stopW (startW (arg3.view.read (Elt F) f) (i 2).val) (sizeW (arg3.view.read (Elt F) f) (i 2).val),
                Scalar.divsi (startW (arg3.view.read (Elt F) f) (i 2).val) 256#32, sgnW (startW (arg3.view.read (Elt F) f) (i 2).val), remW (startW (arg3.view.read (Elt F) f) (i 2).val)⟩ := by
      rintro _ rfl hw; exact ⟨hw, rfl⟩
    exact key _ he w2
  isplitl [HX]; · iexact HX
  isplitl [HY]; · iexact HY
  iexact HT

set_option maxHeartbeats 4000000 in
/-- The whole body. `hR` says that the block does not depend on what else the transposed scratch holds. -/
theorem body_ok (E : Set ℕ) (X Y : Vec F S1536x1024 .bf16) (A7 : Vec F S1536x1024 .fp8e4m3) (A8 : Vec F S48x1024 .f32) (Ψ₀ Ψ : Vec F S4096x1536 .bf16 → Prop)
    (A9 : Vec F S1536x1024 .fp8e5m2) (A10 : Vec F S48x1024 .f32) (D : Vec F S1536x1024 .bf16) (R : Vec F S1x1024x1024 .f32)
    (hX1 : k0_cond1 i = 1#1 → ∀ Z0, Ψ₀ Z0 → ∀ Z, XtOk X Z0 (i 1).val 6 Z → Ψ Z) (hX0 : k0_cond1 i ≠ 1#1 → ∀ Z, Ψ₀ Z → Ψ Z)
    (hY0 : k0_cond2 i ≠ 1#1 → D = hatsY Y)
    (hR : ∀ Z, Ψ Z → dwBlk (i 1).val (startW (arg3.view.read (Elt F) f) (i 2).val) (sizeW (arg3.view.read (Elt F) f) (i 2).val) Z (hatsY Y) = R) :
    (iprop(stX c arg4 arg7 arg8 arg11 arg13 X A7 A8 Ψ₀ ∗ stY c arg5 arg9 arg10 arg12 Y A9 A10 D ∗ tb c arg3 q f ∗ ownsSat (c : Thread nD τ) arg6 fullShare (fun _ => True)) : sProp 𝕄)
      ⊢ wp frame (wpE (defs₀ (F := F)) Variants.none (c : Thread nD τ) none) E (cc0_mx_grouped_weight_grad (F := F) i arg3 harg3 arg4 harg4 arg5 harg5 arg6 harg6 arg7 harg7 arg8 harg8 arg9 harg9 arg10 harg10 arg11 harg11 arg12 harg12 arg13 harg13)
          (fun _ => iprop(stX c arg4 arg7 arg8 arg11 arg13 X (if k0_cond1 i = 1#1 then codesX X else A7) (if k0_cond1 i = 1#1 then scalesX X else A8) Ψ
            ∗ stY c arg5 arg9 arg10 arg12 Y (if k0_cond2 i = 1#1 then codesY Y else A9) (if k0_cond2 i = 1#1 then scalesY Y else A10) (hatsY Y)
            ∗ tb c arg3 q f ∗ owns (c : Thread nD τ) arg6 fullShare R)) := by
  rw [cc0_mx_grouped_weight_grad_eq_skeleton]
  unfold cc0_mx_grouped_weight_grad_skel
  rw [wp_bind]
  refine BIBase.Entails.trans ?_ ((BIClass.sep_mono (part5 c i arg3 harg3 arg4 harg4 arg5 harg5 arg6 harg6 arg7 harg7 arg8 harg8 arg9 harg9 arg10 harg10 arg11 harg11 arg12 harg12 arg13 harg13 q f hs hg E X Y A7 A8 Ψ₀ Ψ A9 A10 D hX1 hX0 hY0) BIBase.Entails.rfl).trans
    ((wp_frame_r frame _ E (R := ownsSat (c : Thread nD τ) arg6 fullShare (fun _ => True))).trans (wp_mono frame _ E fun r => ?_)))
  · iintro ⟨HX, HY, HT, H6⟩
    isplitr [H6]
    swap; · iexact H6
    isplitl [HX]; · iexact HX
    isplitl [HY]; · iexact HY
    iexact HT
  iintro ⟨⟨%hr, HX, HY, HT⟩, H6⟩
  obtain ⟨hw2, rfl⟩ := hr
  unfold stX stY
  icases HX with ⟨H4, H7, H8, H13, H11⟩
  icases HY with ⟨H5, H9, H10, H12⟩
  ihave H11 := (show ownsSat (c : Thread nD τ) arg11 fullShare Ψ ⊢ (iprop(∃ Z0, ⌜Ψ Z0⌝ ∗ owns (c : Thread nD τ) arg11 fullShare Z0) : sProp 𝕄) from ownsSat_elim (c : Thread nD τ) arg11 fullShare _) $$ H11
  icases H11 with ⟨%Z, %hZ, H11⟩
  generalize hs' : startW (arg3.view.read (Elt F) f) (i 2).val = s at *
  generalize hg' : sizeW (arg3.view.read (Elt F) f) (i 2).val = g at *
  generalize (if k0_cond1 i = 1#1 then codesX X else A7) = B7
  generalize (if k0_cond1 i = 1#1 then scalesX X else A8) = B8
  generalize (if k0_cond2 i = 1#1 then codesY Y else A9) = B9
  generalize (if k0_cond2 i = 1#1 then scalesY Y else A10) = B10
  have hT := tail c i arg3 harg3 arg4 harg4 arg5 harg5 arg6 harg6 arg7 harg7 arg8 harg8 arg9 harg9 arg10 harg10 arg11 harg11 arg12 harg12 arg13 harg13 hs hg E hw2 (hatsY Y) Z
  have key := (BIClass.sep_mono hT (BIBase.Entails.rfl (P := iprop(owns (c : Thread nD τ) arg4 fullShare X ∗ owns (c : Thread nD τ) arg7 fullShare B7 ∗ owns (c : Thread nD τ) arg8 fullShare B8
      ∗ ownsSat (c : Thread nD τ) arg13 fullShare (fun _ => True) ∗ owns (c : Thread nD τ) arg5 fullShare Y ∗ owns (c : Thread nD τ) arg9 fullShare B9 ∗ owns (c : Thread nD τ) arg10 fullShare B10 ∗ tb c arg3 q f)))).trans (wp_frame_r frame _ E)
  have hmono : (iprop(tailSt c i arg6 arg11 arg12 s g (hatsY Y) Z 7 ∗ owns (c : Thread nD τ) arg4 fullShare X ∗ owns (c : Thread nD τ) arg7 fullShare B7 ∗ owns (c : Thread nD τ) arg8 fullShare B8
      ∗ ownsSat (c : Thread nD τ) arg13 fullShare (fun _ => True) ∗ owns (c : Thread nD τ) arg5 fullShare Y ∗ owns (c : Thread nD τ) arg9 fullShare B9 ∗ owns (c : Thread nD τ) arg10 fullShare B10 ∗ tb c arg3 q f) : sProp 𝕄)
      ⊢ iprop((owns (c : Thread nD τ) arg4 fullShare X ∗ owns (c : Thread nD τ) arg7 fullShare B7 ∗ owns (c : Thread nD τ) arg8 fullShare B8
          ∗ ownsSat (c : Thread nD τ) arg13 fullShare (fun _ => True) ∗ ownsSat (c : Thread nD τ) arg11 fullShare Ψ)
        ∗ (owns (c : Thread nD τ) arg5 fullShare Y ∗ owns (c : Thread nD τ) arg9 fullShare B9 ∗ owns (c : Thread nD τ) arg10 fullShare B10 ∗ owns (c : Thread nD τ) arg12 fullShare (hatsY Y))
        ∗ tb c arg3 q f ∗ owns (c : Thread nD τ) arg6 fullShare R) := by
    unfold tailSt
    iintro ⟨⟨H12, H11, H6⟩, H4, H7, H8, H13, H5, H9, H10, HT⟩
    isplitl [H4 H7 H8 H13 H11]
    · isplitl [H4]; · iexact H4
      isplitl [H7]; · iexact H7
      isplitl [H8]; · iexact H8
      isplitl [H13]; · iexact H13
      iapply (ownsSat_intro (c : Thread nD τ) arg11 fullShare (X := Z) hZ); iexact H11
    isplitl [H5 H9 H10 H12]
    · isplitl [H5]; · iexact H5
      isplitl [H9]; · iexact H9
      isplitl [H10]; · iexact H10
      iexact H12
    isplitl [HT]; · iexact HT
    have hcnt : cntN s.toNat g.toNat < 7 := by have := cntN_le s.toNat g.toNat; omega
    ihave H6 := (show ownsSat (c : Thread nD τ) arg6 fullShare (fun V => cntN s.toNat g.toNat < 7 → V = dwBlk (i 1).val s g Z (hatsY Y)) ⊢ (iprop(∃ V, ⌜cntN s.toNat g.toNat < 7 → V = dwBlk (i 1).val s g Z (hatsY Y)⌝ ∗ owns (c : Thread nD τ) arg6 fullShare V) : sProp 𝕄) from ownsSat_elim (c : Thread nD τ) arg6 fullShare _) $$ H6
    icases H6 with ⟨%V, %hV, H6⟩
    rw [← hR Z hZ, ← hV hcnt]
    iexact H6
  iapply (key.trans (wp_mono frame _ E fun _ => hmono))
  unfold tailSt
  isplitl [H12 H11 H6]
  · isplitl [H12]; · iexact H12
    isplitl [H11]; · iexact H11
    iapply (ownsSat_mono (c : Thread nD τ) arg6 fullShare (Φ := fun _ => True) (fun V _ hlt => absurd hlt (by omega))); iexact H6
  isplitl [H4]; · iexact H4
  isplitl [H7]; · iexact H7
  isplitl [H8]; · iexact H8
  isplitl [H13]; · iexact H13
  isplitl [H5]; · iexact H5
  isplitl [H9]; · iexact H9
  isplitl [H10]; · iexact H10
  iexact HT
end
end

end Cert.Kernel.Own

end
-- ==== Proof.Plain.Sched.lean ====
/-
  The 7 x 4 x 5 grid counted as one number: its coordinates, the two guards of the body, the blocks in use at each point,
  where the staged results are written back, and what each staged buffer is to hold after each point.
-/
module

public import proofs.«01_k».proof.Proof.Plain.Frame
public import proofs.«01_k».proof.Proof.Plain.Body
public import Idealize.ShloMosaic.Lib.Pipeline.TableIdle
public import Idealize.ShloMosaic.Lib.Pipeline.ValueKit
public import Idealize.ShloMosaic.Lib.Decide

@[expose] public section

set_option maxRecDepth 16384

noncomputable section

namespace Cert.Kernel.Own

open Cert.Own Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The block of `x` in use at point `n`. -/
def mIdx (n : ℕ) : ℕ := if n < 20 then n / 5 else 3

theorem mIdx_lt {n : ℕ} (h : n < 140) : mIdx n < 4 := by unfold mIdx; split <;> omega

/-- The coordinates of a point. -/
theorem coords0 : ∀ t : Fin grid0.N, (grid0.coords t 0).val = t.val / 20 := by decide +kernel
theorem coords1 : ∀ t : Fin grid0.N, (grid0.coords t 1).val = t.val / 5 % 4 := by decide +kernel
theorem coords2 : ∀ t : Fin grid0.N, (grid0.coords t 2).val = t.val % 5 := by decide +kernel

/-- Where `x` is quantised, and where `dy` is. -/
theorem cond1_iff : ∀ t : Fin grid0.N, k0_cond1 (grid0.coords t) = 1#1 ↔ t.val < 20 ∧ t.val % 5 = 0 := by decide +kernel
theorem cond2_iff : ∀ t : Fin grid0.N, k0_cond2 (grid0.coords t) = 1#1 ↔ t.val % 20 = 0 := by decide +kernel

/-- Which block each window is on. -/
theorem idxX : ∀ t : Fin grid0.N, cc0_transform_0 (grid0.coords t) = ![0, mIdx t.val] := by decide +kernel
theorem idxY : ∀ t : Fin grid0.N, cc0_transform_1 (grid0.coords t) = ![0, t.val / 20] := by decide +kernel
theorem idxW : ∀ t : Fin grid0.N, cc0_transform_2 (grid0.coords t) = ![t.val % 5, t.val / 5 % 4, t.val / 20] := by decide +kernel
theorem idxXc : ∀ t : Fin grid0.N, cc0_transform_3 (grid0.coords t) = ![0, mIdx t.val] := by decide +kernel
theorem idxXs : ∀ t : Fin grid0.N, cc0_transform_4 (grid0.coords t) = ![0, mIdx t.val] := by decide +kernel
theorem idxYc : ∀ t : Fin grid0.N, cc0_transform_5 (grid0.coords t) = ![0, t.val / 20] := by decide +kernel
theorem idxYs : ∀ t : Fin grid0.N, cc0_transform_6 (grid0.coords t) = ![0, t.val / 20] := by decide +kernel

variable (m : (ℓ : Loc nD τ sig) → Buf (Elt F) ℓ)

/-- The operands as the pallas_call finds them, and their blocks of 1024 columns. -/
def xarr (c : Dev nD) : Vec F S1536x4096 .bf16 := V m c main_v0
def yarr (c : Dev nD) : Vec F S1536x7168 .bf16 := V m c main_v1
def xb (c : Dev nD) (k : ℕ) : Vec F S1536x1024 .bf16 := fun y => xarr m c (ValueIdx.ix2 (y 0) ⟨(1024 * k + (y 1).val) % 4096, Nat.mod_lt _ (by decide)⟩)
def yb (c : Dev nD) (k : ℕ) : Vec F S1536x1024 .bf16 := fun y => yarr m c (ValueIdx.ix2 (y 0) ⟨(1024 * k + (y 1).val) % 7168, Nat.mod_lt _ (by decide)⟩)

theorem iblkX (hO : Ok m) (c : Dev nD) (t : Fin (cfgM m hO).N) : iblk m hO c 0 t = xb m c (mIdx t.val) := by
  have hb : mIdx t.val < 4 := mIdx_lt t.isLt
  funext y
  have e0 : (pcfg0.win (adm m hO) 0).index t (0 : Fin 2) = 0 := congrFun (idxX t) 0
  have e1 : (pcfg0.win (adm m hO) 0).index t (1 : Fin 2) = mIdx t.val := congrFun (idxX t) 1
  unfold xb xarr
  blk_ext [iblk, e0, e1]

theorem iblkY (hO : Ok m) (c : Dev nD) (t : Fin (cfgM m hO).N) : iblk m hO c 1 t = yb m c (t.val / 20) := by
  have hb : t.val < 140 := t.isLt
  funext y
  have e0 : (pcfg0.win (adm m hO) 1).index t (0 : Fin 2) = 0 := congrFun (idxY t) 0
  have e1 : (pcfg0.win (adm m hO) 1).index t (1 : Fin 2) = t.val / 20 := congrFun (idxY t) 1
  unfold yb yarr
  blk_ext [iblk, e0, e1]

/-- All of `x` dequantised and transposed, as the scratch holds it once every block has been through. -/
def xhatT (c : Dev nD) : Vec F S4096x1536 .bf16 :=
  fun y => hatX (xb m c ((y 0).val / 1024)) (y 1).val ⟨(y 0).val % 1024, Nat.mod_lt _ (by decide)⟩

/-- The output block of a point: group `n % 5`, rows `n / 5 % 4` and columns `n / 20`. -/
def dwAt (c : Dev nD) (n : ℕ) : Vec F S1x1024x1024 .f32 :=
  dwBlk (n / 5 % 4) (startW (F := F) (tbl m 0) (n % 5)) (sizeW (F := F) (tbl m 0) (n % 5)) (xhatT m c) (hatsY (yb m c (n / 20)))

/-- The rows of the transposed scratch that are set when point `n` begins. -/
def ΨX (c : Dev nD) (n : ℕ) (Z : Vec F S4096x1536 .bf16) : Prop := ∀ y : S4096x1536.Idx, 5 * ((y 0).val / 1024) < n → Z y = xhatT m c y
/-- The block of `dy` is set except where a new column block is about to begin. -/
def ΨY (c : Dev nD) (n : ℕ) (D : Vec F S1536x1024 .bf16) : Prop := n % 20 ≠ 0 → D = hatsY (yb m c (n / 20))

theorem ΨX_new (c : Dev nD) {n : ℕ} (hn : n < 20) (h5 : n % 5 = 0) (Z0 : Vec F S4096x1536 .bf16) (h : ΨX m c n Z0) (Z : Vec F S4096x1536 .bf16)
    (hZ : XtOk (xb m c (mIdx n)) Z0 (n / 5 % 4) 6 Z) : ΨX m c (n + 1) Z := by
  intro y hy
  have b0 : (y 0).val < 4096 := (y 0).isLt
  have b1 : (y 1).val < 1536 := (y 1).isLt
  by_cases hm : (y 0).val / 1024 = n / 5
  · have e := hZ.1 y ⟨(y 0).val % 1024, Nat.mod_lt _ (by decide)⟩ (by show (y 0).val = 1024 * (n / 5 % 4) + (y 0).val % 1024; omega) (by omega)
    rw [e]
    unfold xhatT mIdx
    rw [if_pos hn, hm]
  · rw [hZ.2 y (by omega)]
    exact h y (by omega)

theorem ΨX_keep (c : Dev nD) {n : ℕ} (hn : ¬ (n < 20 ∧ n % 5 = 0)) (Z : Vec F S4096x1536 .bf16) (h : ΨX m c n Z) : ΨX m c (n + 1) Z := by
  intro y hy
  have b0 : (y 0).val < 4096 := (y 0).isLt
  exact h y (by omega)

theorem colsOf_congr (c : Dev nD) {n : ℕ} (Z : Vec F S4096x1536 .bf16) (h : ΨX m c (n + 1) Z) (W r : ℕ) :
    colsOf W Z (n / 5 % 4) r = colsOf W (xhatT m c) (n / 5 % 4) r := by
  funext j
  have b0 : (j 0).val < 1024 := (j 0).isLt
  unfold colsOf
  refine h _ ?_
  show 5 * ((1024 * (n / 5 % 4) + (j 0).val) % 4096 / 1024) < n + 1
  omega

/-- The output block depends on the rows of the scratch that are set. -/
theorem dwAt_of (c : Dev nD) {n : ℕ} (Z : Vec F S4096x1536 .bf16) (h : ΨX m c (n + 1) Z) :
    dwBlk (n / 5 % 4) (startW (F := F) (tbl m 0) (n % 5)) (sizeW (F := F) (tbl m 0) (n % 5)) Z (hatsY (yb m c (n / 20))) = dwAt m c n := by
  unfold dwAt dwBlk
  simp only [colsOf_congr m c Z h]

/-- The scratch when point `n` begins. -/
def PhiAt (c : Dev nD) (n : ℕ) : sProp 𝕄 :=
  iprop(ownsSat (c : Thread nD τ) (Memref.whole cc0_scratch0) fullShare (ΨX m c n)
    ∗ ownsSat (c : Thread nD τ) (Memref.whole cc0_scratch1) fullShare (ΨY m c n)
    ∗ ownsSat (c : Thread nD τ) (Memref.whole cc0_scratch2) fullShare (fun _ => True)
    ∗ tb c tbM0_0 fullShare.right (tbl m 0) ∗ (∃ r, prngReg c r))

/-- The proof data of the pallas_call: its arrays, what each staged buffer holds after each point, and the scratch between points. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => xb m c (mIdx t.val)
    | ⟨1, _⟩ => yb m c (t.val / 20)
    | ⟨2, _⟩ => dwAt m c t.val
    | ⟨3, _⟩ => codesX (xb m c (mIdx t.val))
    | ⟨4, _⟩ => scalesX (xb m c (mIdx t.val))
    | ⟨5, _⟩ => codesY (yb m c (t.val / 20))
    | ⟨6, _⟩ => scalesY (yb m c (t.val / 20))
  Φ t := PhiAt m c t.val
  q _ := fullShare
  owed _ := 0

section
variable (hO : Ok m) (c : Dev nD)

theorem A_eq (w : Fin (cfgM m hO).W) : (dats m hO 0 c).A w = V m c (Pipeline.arrRef spec0 w) := by dsimp only [dats]

theorem Phi_at (t : Fin ((cfgM m hO).N + 1)) : (dats m hO 0 c).Φ t = PhiAt m c t.val := by dsimp only [dats]

theorem after0 (t : Fin (cfgM m hO).N) : (dats m hO 0 c).after 0 t = xb m c (mIdx t.val) := by dsimp only [dats]; rfl
theorem after1 (t : Fin (cfgM m hO).N) : (dats m hO 0 c).after 1 t = yb m c (t.val / 20) := by dsimp only [dats]; rfl
theorem after2 (t : Fin (cfgM m hO).N) : (dats m hO 0 c).after 2 t = dwAt m c t.val := by dsimp only [dats]; rfl
theorem after3 (t : Fin (cfgM m hO).N) : (dats m hO 0 c).after 3 t = codesX (xb m c (mIdx t.val)) := by dsimp only [dats]; rfl
theorem after4 (t : Fin (cfgM m hO).N) : (dats m hO 0 c).after 4 t = scalesX (xb m c (mIdx t.val)) := by dsimp only [dats]; rfl
theorem after5 (t : Fin (cfgM m hO).N) : (dats m hO 0 c).after 5 t = codesY (yb m c (t.val / 20)) := by dsimp only [dats]; rfl
theorem after6 (t : Fin (cfgM m hO).N) : (dats m hO 0 c).after 6 t = scalesY (yb m c (t.val / 20)) := by dsimp only [dats]; rfl

theorem before0 (t : Fin (cfgM m hO).N) (d) : (dats m hO 0 c).before 0 t d = xb m c (mIdx t.val) :=
  (before0_0_of m hO (dats m hO 0 c) (A_eq m hO c 0) (fun t => (after0 m hO c t).trans (iblkX m hO c t).symm) t d).trans (iblkX m hO c t)
theorem before1 (t : Fin (cfgM m hO).N) (d) : (dats m hO 0 c).before 1 t d = yb m c (t.val / 20) :=
  (before0_1_of m hO (dats m hO 0 c) (A_eq m hO c 1) (fun t => (after1 m hO c t).trans (iblkY m hO c t).symm) t d).trans (iblkY m hO c t)

/-- A buffer of a result that the body leaves alone at a point already holds what it is to hold after it: nothing was written
    back since it was stored. -/
theorem before_idle (w : Fin (cfgM m hO).W) (hw : ((cfgM m hO).win w).isOut = true) (hclip : ∀ (i : (cfgM m hO).grid.Coords) a, ((cfgM m hO).win w).clip i a = none)
    (h0 : ∀ t : Fin (cfgM m hO).N, (cfgM m hO).idle w ((cfgM m hO).grid.coords t) = true → t.val ≠ 0)
    (hfl : ∀ (n : ℕ) (h : n + 1 < (cfgM m hO).N), (cfgM m hO).idle w ((cfgM m hO).grid.coords ⟨n + 1, h⟩) = true → ((cfgM m hO).win w).flush ⟨n, Nat.lt_of_succ_lt h⟩ = false)
    (hcarry : ∀ (t : Fin (cfgM m hO).N) (_ : t.val ≠ 0), (cfgM m hO).idle w ((cfgM m hO).grid.coords t) = true →
      (dats m hO 0 c).after w t = (dats m hO 0 c).after w ⟨t.val - 1, by omega⟩)
    (t : Fin (cfgM m hO).N) (hi : (cfgM m hO).idle w ((cfgM m hO).grid.coords t) = true) (d) :
    (dats m hO 0 c).before w t d = (dats m hO 0 c).after w t := by
  have hfr : ∀ (n : ℕ) (h : n < (cfgM m hO).N), (cfgM m hO).idle w ((cfgM m hO).grid.coords ⟨n, h⟩) = true → (cfgM m hO).fresh w n = false := by
    intro n
    induction n with
    | zero => intro h hi; exact absurd rfl (h0 _ hi)
    | succ n ih =>
      intro h hi
      rw [Cfg.fresh_succ _ w n (Nat.lt_of_succ_lt h), hfl n h hi, Bool.false_or]
      cases hj : (cfgM m hO).idle w ((cfgM m hO).grid.coords ⟨n, Nat.lt_of_succ_lt h⟩)
      · rfl
      · rw [ih (Nat.lt_of_succ_lt h) hj]; rfl
  rw [Dat.before_out_traj (dats m hO 0 c) w hw hclip (fun t ht hi _ => hcarry t ht hi) t.val t rfl d, hfr t.val t.isLt hi, if_neg Bool.false_ne_true,
    ← hcarry t (h0 t hi) hi]
end

end Cert.Kernel.Own

end
-- ==== Proof.Plain.Run.lean ====
/-
  The kernel's run: the body at every point of the grid, and the whole program from launch to end.
-/
module

public import proofs.«01_k».proof.Proof.Plain.Sched
public import Idealize.ShloMosaic.Lib.Pipeline.FrameBody

@[expose] public section

set_option maxRecDepth 16384

noncomputable section

namespace Cert.Kernel.Own

open Cert.Own Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

attribute [local irreducible] wp

variable (m : (ℓ : Loc nD τ sig) → Buf (Elt F) ℓ) (hO : Ok m) (c : Dev nD)

theorem idle3 (t : Fin grid0.N) (h : (!(k0_cond1 (grid0.coords t) == 1#1)) = true) : ¬ (t.val < 20 ∧ t.val % 5 = 0) := by
  rw [← cond1_iff t]; simpa using h
theorem idle5 (t : Fin grid0.N) (h : (!(k0_cond2 (grid0.coords t) == 1#1)) = true) : ¬ t.val % 20 = 0 := by
  rw [← cond2_iff t]; simpa using h

theorem mIdx_pred {n : ℕ} (h : ¬ (n < 20 ∧ n % 5 = 0)) : mIdx (n - 1) = mIdx n := by
  unfold mIdx
  split <;> split <;> omega

/-- A block that stays where it is at the next point is not written back. -/
theorem flushOf_same {r : ℕ} (ix : grid0.Coords → Fin r → ℕ) (n : ℕ) (h : n + 1 < grid0.N)
    (e : ix (grid0.coords ⟨n + 1, h⟩) = ix (grid0.coords ⟨n, Nat.lt_of_succ_lt h⟩)) : Pipeline.Window.flushOf grid0 true ix ⟨n, Nat.lt_of_succ_lt h⟩ = false := by
  have hne : n + 1 ≠ grid0.N := by omega
  unfold Pipeline.Window.flushOf
  simp [hne, e]

/-- The codes and scales already stand in their buffers at a point that does not store them. -/
theorem idle_3 (t : Fin (cfgM m hO).N) (h : (cfgM m hO).idle 3 ((cfgM m hO).grid.coords t) = true) (d) : (dats m hO 0 c).before 3 t d = (dats m hO 0 c).after 3 t :=
  before_idle m hO c 3 rfl (fun _ _ => rfl) (fun t h => by have := idle3 t h; omega)
    (fun n h hi => flushOf_same cc0_transform_3 n h (by rw [idxXc, idxXc, ← mIdx_pred (idle3 ⟨n + 1, h⟩ hi)]; rfl))
    (fun t _ hi => by rw [after3, after3, mIdx_pred (idle3 t hi)]) t h d
theorem idle_4 (t : Fin (cfgM m hO).N) (h : (cfgM m hO).idle 4 ((cfgM m hO).grid.coords t) = true) (d) : (dats m hO 0 c).before 4 t d = (dats m hO 0 c).after 4 t :=
  before_idle m hO c 4 rfl (fun _ _ => rfl) (fun t h => by have := idle3 t h; omega)
    (fun n h hi => flushOf_same cc0_transform_4 n h (by rw [idxXs, idxXs, ← mIdx_pred (idle3 ⟨n + 1, h⟩ hi)]; rfl))
    (fun t _ hi => by rw [after4, after4, mIdx_pred (idle3 t hi)]) t h d
theorem div20 {n : ℕ} (h : ¬ n % 20 = 0) : (n - 1) / 20 = n / 20 := by omega
theorem idle_5 (t : Fin (cfgM m hO).N) (h : (cfgM m hO).idle 5 ((cfgM m hO).grid.coords t) = true) (d) : (dats m hO 0 c).before 5 t d = (dats m hO 0 c).after 5 t :=
  before_idle m hO c 5 rfl (fun _ _ => rfl) (fun t h => by have := idle5 t h; omega)
    (fun n h hi => flushOf_same cc0_transform_5 n h (by rw [idxYc, idxYc, ← div20 (idle5 ⟨n + 1, h⟩ hi)]; rfl))
    (fun t _ hi => by rw [after5, after5, div20 (idle5 t hi)]) t h d
theorem idle_6 (t : Fin (cfgM m hO).N) (h : (cfgM m hO).idle 6 ((cfgM m hO).grid.coords t) = true) (d) : (dats m hO 0 c).before 6 t d = (dats m hO 0 c).after 6 t :=
  before_idle m hO c 6 rfl (fun _ _ => rfl) (fun t h => by have := idle5 t h; omega)
    (fun n h hi => flushOf_same cc0_transform_6 n h (by rw [idxYs, idxYs, ← div20 (idle5 ⟨n + 1, h⟩ hi)]; rfl))
    (fun t _ hi => by rw [after6, after6, div20 (idle5 t hi)]) t h d

/-- A buffer at what it is to hold after the point is left as the pipeline asks, stored there or not. -/
theorem leaves_of (w : Fin (cfgM m hO).W) (t : Fin (cfgM m hO).N) (hl : (cfgM m hO).loose w = false)
    (hi : (cfgM m hO).idle w ((cfgM m hO).grid.coords t) = true → ∀ d, (dats m hO 0 c).before w t d = (dats m hO 0 c).after w t) :
    owns (c : Thread nD τ) (((cfgM m hO).win w).stage ((cfgM m hO).slots t w)) fullShare ((dats m hO 0 c).after w t) ⊢ ((dats m hO 0 c).leaves w t : sProp 𝕄) := by
  unfold Dat.leaves
  cases h1 : (cfgM m hO).idle w ((cfgM m hO).grid.coords t)
  · simp only [hl]; exact .rfl
  · cases h2 : ((cfgM m hO).win w).flush t
    · simp only
      iintro H
      iexists ((dats m hO 0 c).after w t)
      rw [hi h1]
      iexact H
    · simp only [hl]; exact .rfl

/-- What the body is called with at a point, and what it returns. -/
def bodyPre (t : Fin (cfgM m hO).N) : sProp 𝕄 :=
  iprop((dats m hO 0 c).Φ t.castSucc ∗ (dats m hO 0 c).owesAt () t.castSucc
    ∗ (∃ d, owns (c : Thread nD τ) (st0_0 (adm m hO) t) fullShare ((dats m hO 0 c).before 0 t d))
    ∗ (∃ d, owns (c : Thread nD τ) (st0_1 (adm m hO) t) fullShare ((dats m hO 0 c).before 1 t d))
    ∗ (∃ d, owns (c : Thread nD τ) (st0_2 (adm m hO) t) fullShare ((dats m hO 0 c).before 2 t d))
    ∗ (∃ d, owns (c : Thread nD τ) (st0_3 (adm m hO) t) fullShare ((dats m hO 0 c).before 3 t d))
    ∗ (∃ d, owns (c : Thread nD τ) (st0_4 (adm m hO) t) fullShare ((dats m hO 0 c).before 4 t d))
    ∗ (∃ d, owns (c : Thread nD τ) (st0_5 (adm m hO) t) fullShare ((dats m hO 0 c).before 5 t d))
    ∗ (∃ d, owns (c : Thread nD τ) (st0_6 (adm m hO) t) fullShare ((dats m hO 0 c).before 6 t d)))
def bodyPost (t : Fin (cfgM m hO).N) : sProp 𝕄 :=
  iprop((dats m hO 0 c).Φ t.succ ∗ (dats m hO 0 c).owesAt () t.succ
    ∗ (dats m hO 0 c).leaves 0 t ∗ (dats m hO 0 c).leaves 1 t ∗ (dats m hO 0 c).leaves 2 t ∗ (dats m hO 0 c).leaves 3 t
    ∗ (dats m hO 0 c).leaves 4 t ∗ (dats m hO 0 c).leaves 5 t ∗ (dats m hO 0 c).leaves 6 t)

theorem defs₀_row (t : Fin (cfgM m hO).N) :
    defs₀ (F := F) .tc (cfgM m hO).body ((cfgM m hO).bodyArgs t ((cfgM m hO).slots t)) = bodyAt0 (adm m hO) t := by
  unfold defs₀; rw [Defs.onTc_tc]

theorem tb_eq (f : TbBuf0 (F := F) c tbM0_0) : (tbPt0 c tbM0_0 f : sProp 𝕄) = tb c tbM0_0 fullShare.right f := by
  unfold tb
  rw [show (tbM0_0.view.set) = Finset.univ from View.set_whole _]

/-- The sizes and starts read off the table are in range. -/
structure Bounds : Prop where
  size : ∀ k, k < 5 → (sizeW (F := F) (tbl m 0) k).toNat ≤ 1536
  start : ∀ k, k < 5 → (startW (F := F) (tbl m 0) k).toNat ≤ 7680

/-- The body at a point, from and to the scratch and the staged buffers as they are to stand there. -/
theorem body_at (hB : Bounds m) (t : Fin (cfgM m hO).N) (A7 : Vec F S1536x1024 .fp8e4m3) (A8 : Vec F S48x1024 .f32) (A9 : Vec F S1536x1024 .fp8e5m2) (A10 : Vec F S48x1024 .f32)
    (D : Vec F S1536x1024 .bf16) (hD : ΨY m c t.val D) :
    (iprop(stX c (st0_0 (adm m hO) t) (st0_3 (adm m hO) t) (st0_4 (adm m hO) t) (Memref.whole cc0_scratch0) (Memref.whole cc0_scratch2) (xb m c (mIdx t.val)) A7 A8 (ΨX m c t.val)
      ∗ stY c (st0_1 (adm m hO) t) (st0_5 (adm m hO) t) (st0_6 (adm m hO) t) (Memref.whole cc0_scratch1) (yb m c (t.val / 20)) A9 A10 D ∗ tb c tbM0_0 fullShare.right (tbl m 0)
      ∗ ownsSat (c : Thread nD τ) (st0_2 (adm m hO) t) fullShare (fun _ => True)) : sProp 𝕄)
      ⊢ wp frame (wpE (defs₀ (F := F)) Variants.none (c : Thread nD τ) none) Set.univ (bodyAt0 (adm m hO) t)
          (fun _ => iprop(stX c (st0_0 (adm m hO) t) (st0_3 (adm m hO) t) (st0_4 (adm m hO) t) (Memref.whole cc0_scratch0) (Memref.whole cc0_scratch2) (xb m c (mIdx t.val))
              (if k0_cond1 (grid0.coords t) = 1#1 then codesX (xb m c (mIdx t.val)) else A7) (if k0_cond1 (grid0.coords t) = 1#1 then scalesX (xb m c (mIdx t.val)) else A8) (ΨX m c (t.val + 1))
            ∗ stY c (st0_1 (adm m hO) t) (st0_5 (adm m hO) t) (st0_6 (adm m hO) t) (Memref.whole cc0_scratch1) (yb m c (t.val / 20))
              (if k0_cond2 (grid0.coords t) = 1#1 then codesY (yb m c (t.val / 20)) else A9) (if k0_cond2 (grid0.coords t) = 1#1 then scalesY (yb m c (t.val / 20)) else A10) (hatsY (yb m c (t.val / 20)))
            ∗ tb c tbM0_0 fullShare.right (tbl m 0)
            ∗ owns (c : Thread nD τ) (st0_2 (adm m hO) t) fullShare (dwAt m c t.val))) := by
  have hc0 : (grid0.coords t 0).val = t.val / 20 := coords0 t
  have hc1 : (grid0.coords t 1).val = t.val / 5 % 4 := coords1 t
  have hc2 : (grid0.coords t 2).val = t.val % 5 := coords2 t
  have hx : k0_cond1 (grid0.coords t) = 1#1 ↔ t.val < 20 ∧ t.val % 5 = 0 := cond1_iff t
  have hy : k0_cond2 (grid0.coords t) = 1#1 ↔ t.val % 20 = 0 := cond2_iff t
  have hs : (startW (F := F) (tbM0_0.view.read (Elt F) (tbl m 0)) (grid0.coords t 2).val).toNat ≤ 7680 := by rw [hc2]; exact hB.start _ (Nat.mod_lt _ (by decide))
  have hg : (sizeW (F := F) (tbM0_0.view.read (Elt F) (tbl m 0)) (grid0.coords t 2).val).toNat ≤ 1536 := by rw [hc2]; exact hB.size _ (Nat.mod_lt _ (by decide))
  have hX1 : k0_cond1 (grid0.coords t) = 1#1 → ∀ Z0, ΨX m c t.val Z0 → ∀ Z, XtOk (xb m c (mIdx t.val)) Z0 (grid0.coords t 1).val 6 Z → ΨX m c (t.val + 1) Z :=
    fun h Z0 h0 Z hZ => by rw [hc1] at hZ; exact ΨX_new m c (hx.1 h).1 (hx.1 h).2 Z0 h0 Z hZ
  have hX0 : k0_cond1 (grid0.coords t) ≠ 1#1 → ∀ Z, ΨX m c t.val Z → ΨX m c (t.val + 1) Z := fun h Z hZ => ΨX_keep m c (fun h' => h (hx.2 h')) Z hZ
  have hY0 : k0_cond2 (grid0.coords t) ≠ 1#1 → D = hatsY (yb m c (t.val / 20)) := fun h => hD (fun h' => h (hy.2 h'))
  have hR : ∀ Z, ΨX m c (t.val + 1) Z → dwBlk (grid0.coords t 1).val (startW (F := F) (tbM0_0.view.read (Elt F) (tbl m 0)) (grid0.coords t 2).val) (sizeW (F := F) (tbM0_0.view.read (Elt F) (tbl m 0)) (grid0.coords t 2).val) Z (hatsY (yb m c (t.val / 20))) = dwAt m c t.val :=
    fun Z hZ => by rw [hc1, hc2]; exact dwAt_of m c Z hZ
  exact body_ok c (grid0.coords t) tbM0_0 (Memref.isWhole_whole _) (spec0_0.stage ((cfg0 (adm m hO)).slots t 0)) (hstage0_0 (((cfg0 (adm m hO)).slots t 0).cast nbuf0_0))
    (spec0_1.stage ((cfg0 (adm m hO)).slots t 1)) (hstage0_1 (((cfg0 (adm m hO)).slots t 1).cast nbuf0_1))
    (spec0_2.stage ((cfg0 (adm m hO)).slots t 2)) (hstage0_2 (((cfg0 (adm m hO)).slots t 2).cast nbuf0_2))
    (spec0_3.stage ((cfg0 (adm m hO)).slots t 3)) (hstage0_3 (((cfg0 (adm m hO)).slots t 3).cast nbuf0_3))
    (spec0_4.stage ((cfg0 (adm m hO)).slots t 4)) (hstage0_4 (((cfg0 (adm m hO)).slots t 4).cast nbuf0_4))
    (spec0_5.stage ((cfg0 (adm m hO)).slots t 5)) (hstage0_5 (((cfg0 (adm m hO)).slots t 5).cast nbuf0_5))
    (spec0_6.stage ((cfg0 (adm m hO)).slots t 6)) (hstage0_6 (((cfg0 (adm m hO)).slots t 6).cast nbuf0_6))
    (Memref.whole cc0_scratch0) (Memref.isWhole_whole _) (Memref.whole cc0_scratch1) (Memref.isWhole_whole _) (Memref.whole cc0_scratch2) (Memref.isWhole_whole _)
    fullShare.right (tbl m 0) hs hg Set.univ (xb m c (mIdx t.val)) (yb m c (t.val / 20)) A7 A8 (ΨX m c t.val) (ΨX m c (t.val + 1)) A9 A10 D (dwAt m c t.val) hX1 hX0 hY0 hR

theorem Phi_cast (t : Fin (cfgM m hO).N) : (dats m hO 0 c).Φ t.castSucc = PhiAt m c t.val :=
  (Phi_at m hO c _).trans (congrArg (PhiAt m c) (Fin.val_castSucc t))
theorem Phi_succ (t : Fin (cfgM m hO).N) : (dats m hO 0 c).Φ t.succ = PhiAt m c (t.val + 1) :=
  (Phi_at m hO c _).trans (congrArg (PhiAt m c) (Fin.val_succ t))

/-- The scratch and the buffers as the body takes them, -/
theorem pre_at (n : ℕ) (s0 s1 : Memref sig .tc .vmem S1536x1024 .bf16) (s2 : Memref sig .tc .vmem S1x1024x1024 .f32) (s3 : Memref sig .tc .vmem S1536x1024 .fp8e4m3) (s4 : Memref sig .tc .vmem S48x1024 .f32)
    (s5 : Memref sig .tc .vmem S1536x1024 .fp8e5m2) (s6 : Memref sig .tc .vmem S48x1024 .f32) (X Y : Vec F S1536x1024 .bf16) (W : Vec F S1x1024x1024 .f32)
    (A7 : Vec F S1536x1024 .fp8e4m3) (A8 : Vec F S48x1024 .f32) (A9 : Vec F S1536x1024 .fp8e5m2) (A10 : Vec F S48x1024 .f32) :
    (iprop(PhiAt m c n ∗ owns (c : Thread nD τ) s0 fullShare X ∗ owns (c : Thread nD τ) s1 fullShare Y ∗ owns (c : Thread nD τ) s2 fullShare W ∗ owns (c : Thread nD τ) s3 fullShare A7
        ∗ owns (c : Thread nD τ) s4 fullShare A8 ∗ owns (c : Thread nD τ) s5 fullShare A9 ∗ owns (c : Thread nD τ) s6 fullShare A10) : sProp 𝕄)
      ⊢ iprop(∃ D, ⌜ΨY m c n D⌝ ∗ (stX c s0 s3 s4 (Memref.whole cc0_scratch0) (Memref.whole cc0_scratch2) X A7 A8 (ΨX m c n)
        ∗ stY c s1 s5 s6 (Memref.whole cc0_scratch1) Y A9 A10 D ∗ tb c tbM0_0 fullShare.right (tbl m 0)
        ∗ ownsSat (c : Thread nD τ) s2 fullShare (fun _ => True)) ∗ (∃ r, prngReg c r)) := by
  unfold PhiAt stX stY
  iintro ⟨⟨HX, HD, HS, HT, HP⟩, H0, H1, H2, H3, H4, H5, H6⟩
  ihave HD := (show ownsSat (c : Thread nD τ) (Memref.whole cc0_scratch1) fullShare (ΨY m c n) ⊢ (iprop(∃ D, ⌜ΨY m c n D⌝ ∗ owns (c : Thread nD τ) (Memref.whole cc0_scratch1) fullShare D) : sProp 𝕄) from ownsSat_elim (c : Thread nD τ) _ fullShare _) $$ HD
  icases HD with ⟨%D, %hD, HD⟩
  iexists D
  isplitr; · ipureintro; exact hD
  isplitr [HP]
  swap; · iexact HP
  isplitl [HX HS H0 H3 H4]
  · isplitl [H0]; · iexact H0
    isplitl [H3]; · iexact H3
    isplitl [H4]; · iexact H4
    isplitl [HS]; · iexact HS
    iexact HX
  isplitl [HD H1 H5 H6]
  · isplitl [H1]; · iexact H1
    isplitl [H5]; · iexact H5
    isplitl [H6]; · iexact H6
    iexact HD
  isplitl [HT]; · iexact HT
  iapply (ownsSat_intro (c : Thread nD τ) s2 fullShare (X := W) (Φ := fun _ => True) trivial); iexact H2

/-- and as it leaves them. -/
theorem post_at (n : ℕ) (s0 s1 : Memref sig .tc .vmem S1536x1024 .bf16) (s2 : Memref sig .tc .vmem S1x1024x1024 .f32) (s3 : Memref sig .tc .vmem S1536x1024 .fp8e4m3) (s4 : Memref sig .tc .vmem S48x1024 .f32)
    (s5 : Memref sig .tc .vmem S1536x1024 .fp8e5m2) (s6 : Memref sig .tc .vmem S48x1024 .f32) (X Y : Vec F S1536x1024 .bf16) (W : Vec F S1x1024x1024 .f32)
    (A7 : Vec F S1536x1024 .fp8e4m3) (A8 : Vec F S48x1024 .f32) (A9 : Vec F S1536x1024 .fp8e5m2) (A10 : Vec F S48x1024 .f32) (D : Vec F S1536x1024 .bf16) (hD : ΨY m c n D) :
    (iprop((stX c s0 s3 s4 (Memref.whole cc0_scratch0) (Memref.whole cc0_scratch2) X A7 A8 (ΨX m c n)
        ∗ stY c s1 s5 s6 (Memref.whole cc0_scratch1) Y A9 A10 D ∗ tb c tbM0_0 fullShare.right (tbl m 0)
        ∗ owns (c : Thread nD τ) s2 fullShare W) ∗ (∃ r, prngReg c r)) : sProp 𝕄)
      ⊢ iprop(PhiAt m c n ∗ owns (c : Thread nD τ) s0 fullShare X ∗ owns (c : Thread nD τ) s1 fullShare Y ∗ owns (c : Thread nD τ) s2 fullShare W ∗ owns (c : Thread nD τ) s3 fullShare A7
        ∗ owns (c : Thread nD τ) s4 fullShare A8 ∗ owns (c : Thread nD τ) s5 fullShare A9 ∗ owns (c : Thread nD τ) s6 fullShare A10) := by
  unfold PhiAt stX stY
  iintro ⟨⟨⟨H0, H3, H4, HS, HX⟩, ⟨H1, H5, H6, HD⟩, HT, H2⟩, HP⟩
  isplitl [HX HD HS HT HP]
  · isplitl [HX]; · iexact HX
    isplitl [HD]; · iapply (ownsSat_intro (c : Thread nD τ) (Memref.whole cc0_scratch1) fullShare (X := D) hD); iexact HD
    isplitl [HS]; · iexact HS
    isplitl [HT]; · iexact HT
    iexact HP
  isplitl [H0]; · iexact H0
  isplitl [H1]; · iexact H1
  isplitl [H2]; · iexact H2
  isplitl [H3]; · iexact H3
  isplitl [H4]; · iexact H4
  isplitl [H5]; · iexact H5
  iexact H6

theorem ΨY_next {n : ℕ} : ΨY m c (n + 1) (hatsY (yb m c (n / 20))) := by
  intro h
  rw [show (n + 1) / 20 = n / 20 by omega]

theorem ite_of {α : Type} (P : Prop) [Decidable P] {a b z : α} (h1 : P → a = z) (h2 : ¬ P → b = z) : (if P then a else b) = z := by
  split
  · next h => exact h1 h
  · next h => exact h2 h

/-- The body at a point, scratch to scratch; what stays in a buffer that is not stored is already what it is to hold. -/
theorem sound_at (hB : Bounds m) (t : Fin (cfgM m hO).N) (W : Vec F S1x1024x1024 .f32) (A7 : Vec F S1536x1024 .fp8e4m3) (A8 : Vec F S48x1024 .f32) (A9 : Vec F S1536x1024 .fp8e5m2) (A10 : Vec F S48x1024 .f32)
    (R0 R1 : Vec F S1536x1024 .bf16) (R2 : Vec F S1x1024x1024 .f32) (R3 : Vec F S1536x1024 .fp8e4m3) (R4 : Vec F S48x1024 .f32) (R5 : Vec F S1536x1024 .fp8e5m2) (R6 : Vec F S48x1024 .f32)
    (e0 : xb m c (mIdx t.val) = R0) (e1 : yb m c (t.val / 20) = R1) (e2 : dwAt m c t.val = R2)
    (e3 : k0_cond1 (grid0.coords t) = 1#1 → codesX (xb m c (mIdx t.val)) = R3) (i3 : ¬ k0_cond1 (grid0.coords t) = 1#1 → A7 = R3)
    (e4 : k0_cond1 (grid0.coords t) = 1#1 → scalesX (xb m c (mIdx t.val)) = R4) (i4 : ¬ k0_cond1 (grid0.coords t) = 1#1 → A8 = R4)
    (e5 : k0_cond2 (grid0.coords t) = 1#1 → codesY (yb m c (t.val / 20)) = R5) (i5 : ¬ k0_cond2 (grid0.coords t) = 1#1 → A9 = R5)
    (e6 : k0_cond2 (grid0.coords t) = 1#1 → scalesY (yb m c (t.val / 20)) = R6) (i6 : ¬ k0_cond2 (grid0.coords t) = 1#1 → A10 = R6) :
    (iprop(PhiAt m c t.val ∗ owns (c : Thread nD τ) (st0_0 (adm m hO) t) fullShare (xb m c (mIdx t.val)) ∗ owns (c : Thread nD τ) (st0_1 (adm m hO) t) fullShare (yb m c (t.val / 20))
        ∗ owns (c : Thread nD τ) (st0_2 (adm m hO) t) fullShare W ∗ owns (c : Thread nD τ) (st0_3 (adm m hO) t) fullShare A7 ∗ owns (c : Thread nD τ) (st0_4 (adm m hO) t) fullShare A8
        ∗ owns (c : Thread nD τ) (st0_5 (adm m hO) t) fullShare A9 ∗ owns (c : Thread nD τ) (st0_6 (adm m hO) t) fullShare A10) : sProp 𝕄)
      ⊢ wp frame (wpE (defs₀ (F := F)) Variants.none (c : Thread nD τ) none) Set.univ (bodyAt0 (adm m hO) t) (fun _ =>
        iprop(PhiAt m c (t.val + 1) ∗ owns (c : Thread nD τ) (st0_0 (adm m hO) t) fullShare R0 ∗ owns (c : Thread nD τ) (st0_1 (adm m hO) t) fullShare R1
        ∗ owns (c : Thread nD τ) (st0_2 (adm m hO) t) fullShare R2 ∗ owns (c : Thread nD τ) (st0_3 (adm m hO) t) fullShare R3 ∗ owns (c : Thread nD τ) (st0_4 (adm m hO) t) fullShare R4
        ∗ owns (c : Thread nD τ) (st0_5 (adm m hO) t) fullShare R5 ∗ owns (c : Thread nD τ) (st0_6 (adm m hO) t) fullShare R6)) := by
  refine BIBase.Entails.trans (pre_at m c t.val _ _ _ _ _ _ _ _ _ W A7 A8 A9 A10) ?_
  iintro ⟨%D, %hD, H⟩
  have s := body_at m hO c hB t A7 A8 A9 A10 D hD
  rw [ite_of _ e3 i3, ite_of _ e4 i4, ite_of _ e5 i5, ite_of _ e6 i6] at s
  subst e0 e1 e2
  have key := ((BIClass.sep_mono s (BIBase.Entails.rfl (P := iprop(∃ r, prngReg c r)))).trans (wp_frame_r frame _ Set.univ)).trans
    (wp_mono frame _ Set.univ fun _ => post_at m c (t.val + 1) _ _ _ _ _ _ _ _ _ _ _ _ _ _ _ (ΨY_next m c))
  iapply key
  iexact H

/-- The body at any point, as the pipeline calls it. -/
theorem sound_body (hB : Bounds m) (t : Fin (cfgM m hO).N) :
    bodyPre m hO c t ⊢ wp frame (wpE (defs₀ (F := F)) Variants.none (c : Thread nD τ) none) Set.univ (bodyAt0 (adm m hO) t) (fun _ => bodyPost m hO c t) := by
  unfold bodyPre bodyPost
  rw [Phi_cast, Phi_succ, show (dats m hO 0 c).owesAt () t.succ = (dats m hO 0 c).owesAt () t.castSucc from rfl]
  simp only [before0, before1]
  iintro ⟨HΦ, Ho, ⟨%d0, H0⟩, ⟨%d1, H1⟩, ⟨%d2, H2⟩, ⟨%d3, H3⟩, ⟨%d4, H4⟩, ⟨%d5, H5⟩, ⟨%d6, H6⟩⟩
  have s := sound_at m hO c hB t ((dats m hO 0 c).before 2 t d2) ((dats m hO 0 c).before 3 t d3) ((dats m hO 0 c).before 4 t d4) ((dats m hO 0 c).before 5 t d5) ((dats m hO 0 c).before 6 t d6)
    ((dats m hO 0 c).after 0 t) ((dats m hO 0 c).after 1 t) ((dats m hO 0 c).after 2 t) ((dats m hO 0 c).after 3 t) ((dats m hO 0 c).after 4 t) ((dats m hO 0 c).after 5 t) ((dats m hO 0 c).after 6 t)
    (after0 m hO c t).symm (after1 m hO c t).symm (after2 m hO c t).symm
    (fun _ => (after3 m hO c t).symm) (fun h => idle_3 m hO c t (by show (!(k0_cond1 (grid0.coords t) == 1#1)) = true; simpa using h) d3)
    (fun _ => (after4 m hO c t).symm) (fun h => idle_4 m hO c t (by show (!(k0_cond1 (grid0.coords t) == 1#1)) = true; simpa using h) d4)
    (fun _ => (after5 m hO c t).symm) (fun h => idle_5 m hO c t (by show (!(k0_cond2 (grid0.coords t) == 1#1)) = true; simpa using h) d5)
    (fun _ => (after6 m hO c t).symm) (fun h => idle_6 m hO c t (by show (!(k0_cond2 (grid0.coords t) == 1#1)) = true; simpa using h) d6)
  have post : (iprop((PhiAt m c (t.val + 1) ∗ owns (c : Thread nD τ) (st0_0 (adm m hO) t) fullShare ((dats m hO 0 c).after 0 t) ∗ owns (c : Thread nD τ) (st0_1 (adm m hO) t) fullShare ((dats m hO 0 c).after 1 t)
        ∗ owns (c : Thread nD τ) (st0_2 (adm m hO) t) fullShare ((dats m hO 0 c).after 2 t) ∗ owns (c : Thread nD τ) (st0_3 (adm m hO) t) fullShare ((dats m hO 0 c).after 3 t)
        ∗ owns (c : Thread nD τ) (st0_4 (adm m hO) t) fullShare ((dats m hO 0 c).after 4 t) ∗ owns (c : Thread nD τ) (st0_5 (adm m hO) t) fullShare ((dats m hO 0 c).after 5 t)
        ∗ owns (c : Thread nD τ) (st0_6 (adm m hO) t) fullShare ((dats m hO 0 c).after 6 t)) ∗ (dats m hO 0 c).owesAt () t.castSucc) : sProp 𝕄)
      ⊢ iprop(PhiAt m c (t.val + 1) ∗ (dats m hO 0 c).owesAt () t.castSucc
        ∗ (dats m hO 0 c).leaves 0 t ∗ (dats m hO 0 c).leaves 1 t ∗ (dats m hO 0 c).leaves 2 t ∗ (dats m hO 0 c).leaves 3 t
        ∗ (dats m hO 0 c).leaves 4 t ∗ (dats m hO 0 c).leaves 5 t ∗ (dats m hO 0 c).leaves 6 t) := by
    iintro ⟨⟨HΦ, H0, H1, H2, H3, H4, H5, H6⟩, Ho⟩
    isplitl [HΦ]; · iexact HΦ
    isplitl [Ho]; · iexact Ho
    isplitl [H0]; · iapply (leaves_of m hO c 0 t rfl (fun h => absurd h Bool.false_ne_true)); iexact H0
    isplitl [H1]; · iapply (leaves_of m hO c 1 t rfl (fun h => absurd h Bool.false_ne_true)); iexact H1
    isplitl [H2]; · iapply (leaves_of m hO c 2 t rfl (fun h => absurd h Bool.false_ne_true)); iexact H2
    isplitl [H3]; · iapply (leaves_of m hO c 3 t rfl (fun h d => idle_3 m hO c t h d)); iexact H3
    isplitl [H4]; · iapply (leaves_of m hO c 4 t rfl (fun h d => idle_4 m hO c t h d)); iexact H4
    isplitl [H5]; · iapply (leaves_of m hO c 5 t rfl (fun h d => idle_5 m hO c t h d)); iexact H5
    iapply (leaves_of m hO c 6 t rfl (fun h d => idle_6 m hO c t h d)); iexact H6
  have key := ((BIClass.sep_mono s (BIBase.Entails.rfl (P := (dats m hO 0 c).owesAt () t.castSucc))).trans (wp_frame_r frame _ Set.univ)).trans (wp_mono frame _ Set.univ fun _ => post)
  iapply key
  isplitr [Ho]
  swap; · iexact Ho
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  iexact H6

end Cert.Kernel.Own

end
-- ==== Proof.Plain.Whole.lean ====
/-
  The whole program: it runs to the end, leaves its arguments and every counter as they were, and its results at what the
  blocks written back add up to.
-/
module

public import proofs.«01_k».proof.Proof.Plain.Run
public import Idealize.ShloMosaic.Lib.Pipeline.FrameBody

@[expose] public section

set_option maxRecDepth 16384

noncomputable section

namespace Cert.Kernel.Own

open Cert.Own Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

attribute [local irreducible] wp

variable (m : (ℓ : Loc nD τ sig) → Buf (Elt F) ℓ) (ρ : Dev nD → PrngReg) (hO : Ok m) (c : Dev nD)

theorem body_obligation (hB : Bounds m) : BodyObligationLoose (dats m hO 0 c) (defs₀ (F := F)) Variants.none () Set.univ := fun t => by
  rw [bigSep_W0, bigSep_W0, defs₀_row]
  exact sound_body m hO c hB t

/-- Before the first point the scratch holds anything. -/
theorem Phi_in : (iprop(Pipeline.ΦA spec0 c ∗ Pipeline.ΦT pre0 (tbl m) c) : sProp 𝕄) ⊢ (dats m hO 0 c).Φ 0 := by
  rw [Phi_at, PhiT0_eq]
  unfold Pipeline.ΦA PhiAt
  rw [scopedRest0_eq]
  iintro ⟨⟨⟨⟨%f0, H0⟩, ⟨%f1, H1⟩, ⟨%f2, H2⟩⟩, HP⟩, HT⟩
  isplitl [H0]
  · iapply (ownsSat_intro (c : Thread nD τ) (Memref.whole cc0_scratch0) fullShare (X := f0) (Φ := ΨX m c 0) (fun y h => absurd h (Nat.not_lt_zero _)))
    iapply (BIBase.Entails.of_eq (owns_whole (c : Thread nD τ) cc0_scratch0 fullShare f0).symm); iexact H0
  isplitl [H1]
  · iapply (ownsSat_intro (c : Thread nD τ) (Memref.whole cc0_scratch1) fullShare (X := f1) (Φ := ΨY m c 0) (fun h => absurd rfl h))
    iapply (BIBase.Entails.of_eq (owns_whole (c : Thread nD τ) cc0_scratch1 fullShare f1).symm); iexact H1
  isplitl [H2]
  · iapply (ownsSat_intro (c : Thread nD τ) (Memref.whole cc0_scratch2) fullShare (X := f2) (Φ := fun _ => True) trivial)
    iapply (BIBase.Entails.of_eq (owns_whole (c : Thread nD τ) cc0_scratch2 fullShare f2).symm); iexact H2
  isplitl [HT]; · iapply (BIBase.Entails.of_eq (tb_eq (F := F) c (tbl m 0))); iexact HT
  iexact HP

theorem whole_any (b : Ref sig .tc) (Φ : b.ty.Contents (Elt F) → Prop) :
    (ownsSat (c : Thread nD τ) (Memref.whole b) fullShare Φ : sProp 𝕄) ⊢ iprop(∃ f : Buf (Elt F) ((c : Thread nD τ).loc b), ((c : Thread nD τ).loc b) ↦{fullShare} f) := by
  iintro H
  ihave H := (ownsSat_any (c : Thread nD τ) (Memref.whole b) fullShare) $$ H
  icases H with ⟨%X, H⟩
  iexists X
  iapply (BIBase.Entails.of_eq (owns_whole (c : Thread nD τ) b fullShare X)); iexact H

/-- After the last point it holds something. -/
theorem Phi_out : (dats m hO 0 c).Φ (Fin.last (cfgM m hO).N) ⊢ (Pipeline.ΦA spec0 c : sProp 𝕄) := by
  rw [Phi_at]
  unfold Pipeline.ΦA PhiAt
  rw [scopedRest0_eq]
  iintro ⟨H0, H1, H2, HT, HP⟩
  isplitr [HP]
  swap; · iexact HP
  isplitl [H0]; · iapply (whole_any c cc0_scratch0 _); iexact H0
  isplitl [H1]; · iapply (whole_any c cc0_scratch1 _); iexact H1
  iapply (whole_any c cc0_scratch2 _); iexact H2

set_option backward.isDefEq.respectTransparency.types false in
set_option maxHeartbeats 800000 in
/-- The run: every array of the pallas_call ends at what its blocks add up to, every other buffer as launched, every counter at zero. -/
theorem run (hB : Bounds m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => body_obligation m hO c hB) (hshare := fun c => (dats m hO 0 c).share_full fun _ => rfl)
    (howed := fun _ _ => rfl) (V := V m) (hmain := hmain m Variants.none) (hA := fun c w => A_eq m hO c w) (hpf := V_pre m)
    (hin := fun c => Phi_in m hO c) (hout := fun c => Phi_out m hO c) (hQ' := fun _ h => h)

/-- The arguments end as launched, and every counter at zero. -/
theorem frame (hO : Ok m) (hB : Bounds m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ hO (dats m hO) (fun c w => A_eq m hO c w) ((θ_run defs _ _).mono (fun _ h => h.1) (run m ρ hO hB)))
    ((θ_run defs _ _).mono (fun _ h => h.2) (run m ρ hO hB))

end Cert.Kernel.Own

end
-- ==== Proof.Plain.Entry.lean ====
/-
  What the precondition gives the run: the group sizes and their running sums are in range.
-/
module

public import proofs.«01_k».proof.Proof.Pre
public import proofs.«01_k».proof.Proof.Plain.Whole

@[expose] public section

noncomputable section

namespace Cert.Kernel.Own

open Cert.Own Cert.Kernel Cert.Kernel.Gen
open Idealize.ShloMosaic Idealize.ShloMosaic.TcCoe

variable {F : FTy → Type} [FloatOps F]

/-- Every word of a table of group sizes is at most 1536. -/
def SizesLe (T : IVec S5 32) : Prop := ∀ i, (T i).toNat ≤ 1536

theorem size_bound (T : Vec F S5 .i32) (h : SizesLe T) (k : ℕ) : (sizeW T k).toNat ≤ 1536 := by
  unfold sizeW
  split
  · exact h _
  · exact Nat.zero_le _

theorem start_bound (T : Vec F S5 .i32) (h : SizesLe T) : ∀ k : ℕ, k < 6 → (startW T k).toNat ≤ 1536 * k
  | 0, _ => Nat.zero_le _
  | k + 1, hk => by
    have h1 := start_bound T h k (by omega)
    have h2 := size_bound T h k
    show (startW T k + sizeW T k).toNat ≤ _
    rw [BitVec.toNat_add]
    exact (Nat.mod_le _ _).trans (by omega)

variable (m : (ℓ : Loc nD τ sig) → Buf (Elt F) ℓ)

theorem bounds_of (x : FVec F S6x256x4096 .bf16) (y : FVec F S6x256x7168 .bf16)
    (h : Cert.Pre_valid.fn (F := F) x y (m (((0 : Dev nD) : Thread nD τ).loc main_arg2)) = fun _ => 1#1) : Bounds m := by
  have hg : SizesLe (tbl m 0) := fun i => by
    have e : tbl m 0 = m (((0 : Dev nD) : Thread nD τ).loc main_arg2) := V_main_arg2 m 0
    rw [e]
    exact size_le ((pre_elements h).2.2 i)
  exact ⟨fun k _ => size_bound _ hg k, fun k hk => (start_bound _ hg k (by omega)).trans (by omega)⟩

end Cert.Kernel.Own

end
-- ==== Proof.Idealized.Points.lean ====
/-
  The schedule of the kernel's one pallas_call on its 7 x 4 x 5 grid: at which points each block is brought in or written
  back, the block memrefs in use at a point, and the kernel body as it is called there.
-/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0 is fetched at points [0, 5, 10, 15]: no closed form stated
/-- Window 1 (operand 2 (%1)) is fetched at the points ≡ 0 (mod 20), at any contents of the tables (its index map reads none). -/
theorem fetch0_1 (a : (pcfg0 (F := F)).Adm) : ∀ t : Fin (cfg0 a).N, ((cfg0 a).win 1).fetch t = true ↔ t.val % 20 = 0 :=
  (fun t => Pipeline.Window.fetchOf_reads cc0_transform_1 reads0_1 hreads0_1 0 (by decide) (by decide) (Pipeline.Window.sep_of_coord cc0_transform_1 0 1 (fun _ => rfl) (by decide)) (P := 20) (by decide) t : ∀ t : Fin grid0.N, Pipeline.Window.fetchOf grid0 false cc0_transform_1 t = true ↔ t.val % 20 = 0)
/-- Window 2 (result 0 (%2#0)) is written back at every point, at any contents of the tables (its index map reads none). -/
theorem flush0_2 (a : (pcfg0 (F := F)).Adm) : ∀ t : Fin (cfg0 a).N, ((cfg0 a).win 2).flush t = true :=
  (fun t => (Pipeline.Window.flushOf_reads cc0_transform_2 reads0_2 hreads0_2 2 (by decide) (by decide) (Pipeline.Window.sep_of_coord cc0_transform_2 2 0 (fun _ => rfl) (by decide)) (P := 1) (m := 0) (by decide) rfl t).mpr (Nat.mod_one _) : ∀ t : Fin grid0.N, Pipeline.Window.flushOf grid0 true cc0_transform_2 t = true)
-- window 3 is written back at points [4, 9, 14, 139]: no closed form stated
-- window 4 is written back at points [4, 9, 14, 139]: no closed form stated
/-- Window 5 (result 3 (%2#3)) is written back at the points ≡ 19 (mod 20), at any contents of the tables (its index map reads none). -/
theorem flush0_5 (a : (pcfg0 (F := F)).Adm) : ∀ t : Fin (cfg0 a).N, ((cfg0 a).win 5).flush t = true ↔ t.val % 20 = 19 :=
  (fun t => Pipeline.Window.flushOf_reads cc0_transform_5 reads0_5 hreads0_5 0 (by decide) (by decide) (Pipeline.Window.sep_of_coord cc0_transform_5 0 1 (fun _ => rfl) (by decide)) (P := 20) (m := 19) (by decide) rfl t : ∀ t : Fin grid0.N, Pipeline.Window.flushOf grid0 true cc0_transform_5 t = true ↔ t.val % 20 = 19)
/-- Window 6 (result 4 (%2#4)) is written back at the points ≡ 19 (mod 20), at any contents of the tables (its index map reads none). -/
theorem flush0_6 (a : (pcfg0 (F := F)).Adm) : ∀ t : Fin (cfg0 a).N, ((cfg0 a).win 6).flush t = true ↔ t.val % 20 = 19 :=
  (fun t => Pipeline.Window.flushOf_reads cc0_transform_6 reads0_6 hreads0_6 0 (by decide) (by decide) (Pipeline.Window.sep_of_coord cc0_transform_6 0 1 (fun _ => rfl) (by decide)) (P := 20) (m := 19) (by decide) rfl t : ∀ t : Fin grid0.N, Pipeline.Window.flushOf grid0 true cc0_transform_6 t = true ↔ t.val % 20 = 19)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mx_grouped_weight_grad (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _)

end Cert.KernelIdeal.Gen

end
-- ==== Proof.Idealized.Frame.lean ====
/-
  @main up to the pallas_call, the argument arrays there, the group-size table, and each block at a point read off its array.
-/
module

public import proofs.«01_k».proof.Proof.Gen.KernelIdeal.Launch
public import proofs.«01_k».proof.Proof.Idealized.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S5 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

end Cert.KernelIdeal.Gen

end
-- ==== Proof.Idealized.Rows.lean ====
/-
  What the quantising loops of the kernel compute, block of 32 rows by block of 32 rows, as functions of the whole 1536 x 1024
  block they read, and the closed forms of the offsets at which they read and write.
-/
module

public import proofs.«01_k».proof.Proof.Idealized.Frame
public import proofs.«01_k».proof.Proof.Gen.KernelIdeal.Skeleton
public import Idealize.ShloMosaic.Lib.Pipeline.Value
public import Idealize.ShloMosaic.Lib.ValueIdxCore
public import Idealize.ShloMosaic.Lib.WritesUnit

@[expose] public section

set_option maxRecDepth 16384

noncomputable section

namespace Cert.KernelIdeal.Own

open Cert.KernelIdeal Cert.KernelIdeal.Gen
open Idealize.ShloMosaic Idealize.ShloMosaic.TcCoe Idealize.ShloMosaic.ValueIdx

variable {F : FTy → Type} [FloatOps F]

/-- Rows `32 k` to `32 k + 31` of a 1536 x 1024 block (row numbers modulo 1536, so that `k` may be any number). -/
def rows32 (X : Vec F S1536x1024 .bf16) (k : ℕ) : Vec F S32x1024 .bf16 :=
  fun j => X (ix2 ⟨(32 * k + (j 0).val) % 1536, Nat.mod_lt _ (by decide)⟩ (j 1))

/-- The scaled values of one block of 32 rows of `x`, before clipping. -/
abbrev quotX (b : Vec F S32x1024 .bf16) : FVec F S32x1024 .bf16 := k0_pay11 (k0_pay6 b) (k0_pay7 b) (k0_pay8 b)
/-- The scale of each column of one block of 32 rows of `x`. -/
abbrev scaleRowX (b : Vec F S32x1024 .bf16) : FVec F S1x1024 .f32 := k0_pay10 (k0_pay7 b) (k0_pay8 b)
/-- The same two for a block of 32 rows of `dy`. -/
abbrev quotY (b : Vec F S32x1024 .bf16) : FVec F S32x1024 .bf16 := k0_pay18 (k0_pay12 b) (k0_pay13 b) (k0_pay14 b) (k0_pay15 b)
abbrev scaleRowY (b : Vec F S32x1024 .bf16) : FVec F S1x1024 .f32 := k0_pay17 (k0_pay13 b) (k0_pay14 b) (k0_pay15 b)

/-- Codes, scales and dequantised values of a block of `x`, at row `r` (for the scales: block `r` of 32 rows) and column `l`. -/
def codeX (X : Vec F S1536x1024 .bf16) (r : ℕ) (l : Fin 1024) : Elt F .fp8e4m3 :=
  k0_pay20 (quotX (rows32 X (r / 32))) (Scalar.ofBits .f32 0xC3E00000#32) (ix2 ⟨r % 32, Nat.mod_lt _ (by decide)⟩ l)
def scaleX (X : Vec F S1536x1024 .bf16) (r : ℕ) (l : Fin 1024) : Elt F .f32 := scaleRowX (rows32 X r) (ix2 0 l)
def hatX (X : Vec F S1536x1024 .bf16) (r : ℕ) (l : Fin 1024) : Elt F .bf16 :=
  k0_pay21 (scaleRowX (rows32 X (r / 32))) (quotX (rows32 X (r / 32))) (Scalar.ofBits .f32 0xC3E00000#32)
    (ix2 ⟨r % 32, Nat.mod_lt _ (by decide)⟩ l)
/-- Codes, scales and dequantised values of a block of `dy`. -/
def codeY (X : Vec F S1536x1024 .bf16) (r : ℕ) (l : Fin 1024) : Elt F .fp8e5m2 :=
  k0_pay23 (quotY (rows32 X (r / 32))) (Scalar.ofBits .f32 0x47600000#32) (k0_pay19 (F := F)) (ix2 ⟨r % 32, Nat.mod_lt _ (by decide)⟩ l)
def scaleY (X : Vec F S1536x1024 .bf16) (r : ℕ) (l : Fin 1024) : Elt F .f32 := scaleRowY (rows32 X r) (ix2 0 l)
def hatY (X : Vec F S1536x1024 .bf16) (r : ℕ) (l : Fin 1024) : Elt F .bf16 :=
  k0_pay24 (scaleRowY (rows32 X (r / 32))) (quotY (rows32 X (r / 32))) (Scalar.ofBits .f32 0x47600000#32) (k0_pay19 (F := F))
    (ix2 ⟨r % 32, Nat.mod_lt _ (by decide)⟩ l)

/-- The whole blocks of codes and scales. -/
def codesX (X : Vec F S1536x1024 .bf16) : Vec F S1536x1024 .fp8e4m3 := fun j => codeX X (j 0).val (j 1)
def scalesX (X : Vec F S1536x1024 .bf16) : Vec F S48x1024 .f32 := fun j => scaleX X (j 0).val (j 1)
def codesY (X : Vec F S1536x1024 .bf16) : Vec F S1536x1024 .fp8e5m2 := fun j => codeY X (j 0).val (j 1)
def scalesY (X : Vec F S1536x1024 .bf16) : Vec F S48x1024 .f32 := fun j => scaleY X (j 0).val (j 1)

/-! ## Trips and offsets -/

theorem trips1 : k0_t1_loop.trips = 6 := by decide +kernel
theorem trips2 : k0_t2_loop.trips = 8 := by decide +kernel
theorem trips3 : k0_t3_loop.trips = 48 := by decide +kernel
theorem trips4 : ∀ i : grid0.Coords, (k0_t4_loop i).trips = (i 2).val := by decide +kernel
theorem trips5 : ∀ i : grid0.Coords, (k0_t5_loop i).trips = 0 := by decide +kernel

theorem off1 : ∀ (a : Fin k0_t1_loop.trips) (b : Fin k0_t2_loop.trips), k0_off1 a b = ![256 * a.val + 32 * b.val, 0] := by decide +kernel
theorem off2 : ∀ (a : Fin k0_t1_loop.trips) (b : Fin k0_t2_loop.trips), k0_off2 a b = ![8 * a.val + b.val, 0] := by decide +kernel
theorem off3 : ∀ b : Fin k0_t2_loop.trips, k0_off3 b = ![32 * b.val, 0] := by decide +kernel
theorem off4 : ∀ (i : grid0.Coords) (a : Fin k0_t1_loop.trips), k0_off4 i a = ![1024 * (i 1).val, 256 * a.val] := by decide +kernel
theorem off5 : ∀ b : Fin k0_t3_loop.trips, k0_off5 b = ![32 * b.val, 0] := by decide +kernel
theorem off6 : ∀ b : Fin k0_t3_loop.trips, k0_off6 b = ![b.val, 0] := by decide +kernel
theorem off7 : ∀ (i : grid0.Coords) (b : Fin (k0_t4_loop i).trips), k0_off7 i b = ![b.val] := by decide +kernel
theorem off9 : ∀ i : grid0.Coords, k0_off9 i = ![(i 2).val] := by decide +kernel

/-! ## Reading whole rows -/

/-- A store of rows `[o, o + W)` extends agreement with `G` from the rows below `o` to the rows below `o + W`. -/
theorem rows_step {sig : RefSig} {κ : Kind} {sp : Space} {e : EltTy} {n0 n1 : ℕ} {Val : EltTy → Type}
    (v : View sig κ sp (⟨2, ![n0, n1]⟩ : Shape) e) (f : v.ty.Contents Val)
    {off size : Fin 2 → ℕ} {o W : ℕ} (inb : ∀ a : Fin 2, off a + size a ≤ (![n0, n1] : Fin 2 → ℕ) a)
    (w : (Rect.unit (s := ⟨2, ![n0, n1]⟩) off size inb).shape.Idx → Val e) (hoff : off = ![o, 0]) (hs0 : size 0 = W) (hs1 : size 1 = n1)
    (G : ℕ → Fin n1 → Val e)
    (hprev : ∀ y : (⟨2, ![n0, n1]⟩ : Shape).Idx, (y 0).val < o → v.read Val f y = G (y 0).val (y 1))
    (hw : ∀ (x : (Rect.unit (s := ⟨2, ![n0, n1]⟩) off size inb).shape.Idx), w x = G (o + (x 0).val) ⟨(x 1).val, lt_of_lt_of_eq (x 1).isLt hs1⟩) :
    ∀ y : (⟨2, ![n0, n1]⟩ : Shape).Idx, (y 0).val < o + W →
      v.read Val (v.writes Val f [⟨Rect.unit (s := ⟨2, ![n0, n1]⟩) off size inb, w⟩]) y = G (y 0).val (y 1) := by
  intro y hy
  by_cases h : o ≤ (y 0).val
  · have hb0 : (y 0).val - o < size 0 := by omega
    have hb1 : (y 1).val < size 1 := lt_of_lt_of_eq (y 1).isLt hs1.symm
    let x : (Rect.unit (s := ⟨2, ![n0, n1]⟩) off size inb).shape.Idx :=
      fun a => match a with | ⟨0, _⟩ => ⟨(y 0).val - o, hb0⟩ | ⟨1, _⟩ => ⟨(y 1).val, hb1⟩
    have hx0 : o + (x 0).val = (y 0).val := by show o + ((y 0).val - o) = _; omega
    rw [View.read_writes_cons_rows_of_mem v f inb w [] y x hoff hx0.symm rfl, hw x, hx0]
    rfl
  · rw [View.read_writes_cons_rows_of_not_mem v f inb w [] y hoff hs0 (Or.inl (by omega))]
    exact hprev y (by omega)

/-- A load of rows `[o, o + 32)` of a 1536 x 1024 block, `o = 32 k`, reads `rows32`. -/
theorem ld_rows32 (X : Vec F S1536x1024 .bf16) {off : Fin 2 → ℕ} (k : ℕ) (hoff : off = ![32 * k, 0]) (hk : k < 48)
    (inb : ∀ a, off a + S32x1024.size a ≤ S1536x1024.size a) :
    View.ld X (Rect.unit (s := S1536x1024) off S32x1024.size inb) = rows32 X k := by
  subst hoff
  funext j
  unfold rows32
  show X _ = X _
  refine congrArg X (funext fun a => Fin.ext ?_)
  have h0 : (j 0).val < 32 := (j 0).isLt
  match a with
  | ⟨0, _⟩ => show 32 * k + 1 * (j 0).val = (32 * k + (j 0).val) % 1536; omega
  | ⟨1, _⟩ => show 0 + 1 * (j 1).val = (j 1).val; omega

/-- A value of a 32-row block at row `r % 32`, for any `r` with the row as its remainder. -/
theorem code_of_blocks {e : EltTy} (G : ℕ → Vec F S32x1024 e) (k : ℕ) (x : S32x1024.Idx) (r : ℕ) (l : Fin 1024) (hr : r = 32 * k + (x 0).val)
    (hl : l.val = (x 1).val) : G k x = G (r / 32) (ix2 ⟨r % 32, Nat.mod_lt _ (by decide)⟩ l) := by
  have h0 : (x 0).val < 32 := (x 0).isLt
  have hk : r / 32 = k := by omega
  rw [hk]
  refine congrArg (G k) (funext fun a => Fin.ext ?_)
  match a with
  | ⟨0, _⟩ => show (x 0).val = r % 32; omega
  | ⟨1, _⟩ => exact hl.symm

end Cert.KernelIdeal.Own

end
-- ==== Proof.Idealized.Words.lean ====
/-
  The kernel's conditions and offsets in terms of the row range of a group, and that its loads are in range.
-/
module

public import proofs.«01_k».proof.Proof.RowWords
public import proofs.«01_k».proof.Proof.Idealized.Frame
public import proofs.«01_k».proof.Proof.Gen.KernelIdeal.Skeleton

@[expose] public section

set_option maxRecDepth 16384

noncomputable section

namespace Cert.KernelIdeal.Own

open Cert.Own Cert.KernelIdeal Cert.KernelIdeal.Gen
open Idealize.ShloMosaic Idealize.ShloMosaic.TcCoe

theorem mul_ofNat : ∀ i : grid0.Coords, (Scalar.muli (BitVec.ofNat 32 (i 1).val) 1024#32).toNat = 1024 * (i 1).val := by decide +kernel

/-! ## The kernel's own words are these -/

theorem cond4_eq (s g : BitVec 32) : k0_cond4 s g = isW (cntW s g) 1#32 := rfl
theorem cond5_eq (s g : BitVec 32) : k0_cond5 s g = isW (cntW s g) 2#32 := rfl
theorem cond6_eq (s g : BitVec 32) : k0_cond6 s g = isW (cntW s g) 3#32 := rfl
theorem cond7_eq (s g : BitVec 32) : k0_cond7 s g = isW (cntW s g) 4#32 := rfl
theorem cond8_eq (s g : BitVec 32) : k0_cond8 s g = isW (cntW s g) 5#32 := rfl
theorem cond9_eq (s g : BitVec 32) : k0_cond9 s g = isW (cntW s g) 6#32 := rfl

theorem off10 (s : BitVec 32) : k0_off10 s = ![(rowW s).toNat, 0] := rfl
theorem off11 (i : grid0.Coords) (s : BitVec 32) : k0_off11 i s = ![(Scalar.muli (BitVec.ofNat 32 (i 1).val) 1024#32).toNat, (rowW s).toNat] := rfl
theorem off12 (s : BitVec 32) : k0_off12 s = ![(rowW s).toNat, 0] := rfl
theorem off13 (i : grid0.Coords) (s : BitVec 32) : k0_off13 i s = ![(Scalar.muli (BitVec.ofNat 32 (i 1).val) 1024#32).toNat, (rowW s).toNat] := rfl
theorem off14 (s : BitVec 32) : k0_off14 s = ![(rowW s).toNat, 0] := rfl
theorem off15 (i : grid0.Coords) (s : BitVec 32) : k0_off15 i s = ![(Scalar.muli (BitVec.ofNat 32 (i 1).val) 1024#32).toNat, (rowW s).toNat] := rfl
theorem off16 (s : BitVec 32) : k0_off16 s = ![(rowW s).toNat, 0] := rfl
theorem off17 (i : grid0.Coords) (s : BitVec 32) : k0_off17 i s = ![(Scalar.muli (BitVec.ofNat 32 (i 1).val) 1024#32).toNat, (rowW s).toNat] := rfl
theorem off18 (s : BitVec 32) : k0_off18 s = ![(rowW s).toNat, 0] := rfl
theorem off19 (i : grid0.Coords) (s : BitVec 32) : k0_off19 i s = ![(Scalar.muli (BitVec.ofNat 32 (i 1).val) 1024#32).toNat, (rowW s).toNat] := rfl
theorem off20 (s : BitVec 32) : k0_off20 s = ![(rowW s).toNat, 0] := rfl
theorem off21 (i : grid0.Coords) (s : BitVec 32) : k0_off21 i s = ![(Scalar.muli (BitVec.ofNat 32 (i 1).val) 1024#32).toNat, (rowW s).toNat] := rfl

section
variable {s g : BitVec 32} (hs : s.toNat ≤ 7680) (hg : g.toNat ≤ 1536)
include hs hg

theorem chk1 : k0_chk1 s := by
  show 256 ∣ (rowW s).toNat
  rw [rowW_toNat hs]
  exact ⟨_, rfl⟩

theorem in_rows {j : ℕ} (h1 : 1 ≤ j) (h7 : j < 8) (h : isW (cntW s g) (BitVec.ofNat 32 j) = 1#1) {w : ℕ} (hw : w = 256 * j) (a : Fin 2) :
    (![(rowW s).toNat, 0] : Fin 2 → ℕ) a + (![w, 1024] : Fin 2 → ℕ) a ≤ (![1536, 1024] : Fin 2 → ℕ) a := by
  have h' := row_le hs hg h1 ((isW_iff hs hg h7).1 h)
  rw [rowW_toNat hs]
  match a with
  | ⟨0, _⟩ => show rowN s.toNat + w ≤ 1536; omega
  | ⟨1, _⟩ => show 0 + 1024 ≤ 1024; omega

theorem in_cols (i : grid0.Coords) {j : ℕ} (h1 : 1 ≤ j) (h7 : j < 8) (h : isW (cntW s g) (BitVec.ofNat 32 j) = 1#1) {w : ℕ} (hw : w = 256 * j) (a : Fin 2) :
    (![(Scalar.muli (BitVec.ofNat 32 (i 1).val) 1024#32).toNat, (rowW s).toNat] : Fin 2 → ℕ) a + (![1024, w] : Fin 2 → ℕ) a ≤ (![4096, 1536] : Fin 2 → ℕ) a := by
  have h' := row_le hs hg h1 ((isW_iff hs hg h7).1 h)
  have h4 : (i 1).val < 4 := (i 1).isLt
  rw [rowW_toNat hs, mul_ofNat]
  match a with
  | ⟨0, _⟩ => show 1024 * (i 1).val + 1024 ≤ 4096; omega
  | ⟨1, _⟩ => show rowN s.toNat + w ≤ 1536; omega

/-- Every load the kernel makes after reading the group sizes is in range. -/
theorem chk2 (i : grid0.Coords) : k0_chk2 i s g := by
  refine ⟨fun h a => ?_, fun h a => ?_, fun h a => ?_, fun h a => ?_, fun h a => ?_, fun h a => ?_, fun h a => ?_, fun h a => ?_,
    fun h a => ?_, fun h a => ?_, fun h a => ?_, fun h a => ?_⟩
  · exact in_rows hs hg (j := 1) (by decide) (by decide) h (w := 256) rfl a
  · exact in_cols hs hg i (j := 1) (by decide) (by decide) h (w := 256) rfl a
  · exact in_rows hs hg (j := 2) (by decide) (by decide) h (w := 512) rfl a
  · exact in_cols hs hg i (j := 2) (by decide) (by decide) h (w := 512) rfl a
  · exact in_rows hs hg (j := 3) (by decide) (by decide) h (w := 768) rfl a
  · exact in_cols hs hg i (j := 3) (by decide) (by decide) h (w := 768) rfl a
  · exact in_rows hs hg (j := 4) (by decide) (by decide) h (w := 1024) rfl a
  · exact in_cols hs hg i (j := 4) (by decide) (by decide) h (w := 1024) rfl a
  · exact in_rows hs hg (j := 5) (by decide) (by decide) h (w := 1280) rfl a
  · exact in_cols hs hg i (j := 5) (by decide) (by decide) h (w := 1280) rfl a
  · exact in_rows hs hg (j := 6) (by decide) (by decide) h (w := 1536) rfl a
  · exact in_cols hs hg i (j := 6) (by decide) (by decide) h (w := 1536) rfl a
end

end Cert.KernelIdeal.Own

end
-- ==== Proof.Idealized.LoopX.lean ====
/-
  The loop that quantises one block of `x`: 6 trips of 8 trips, 32 rows each, then 256 columns of the transposed scratch.
-/
module

public import proofs.«01_k».proof.Proof.Idealized.Rows
public import Idealize.ShloMosaic.Lib.MemrefSat
public import Idealize.ShloMosaic.Lib.Exec
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg3 : Memref sig .tc .smem S5 .i32) (harg3 : arg3.IsWhole) (arg4 : Memref sig .tc .vmem S1536x1024 .bf16) (harg4 : arg4.IsWhole)
  (arg5 : Memref sig .tc .vmem S1536x1024 .bf16) (harg5 : arg5.IsWhole) (arg6 : Memref sig .tc .vmem S1x1024x1024 .f32) (harg6 : arg6.IsWhole)
  (arg7 : Memref sig .tc .vmem S1536x1024 .fp8e4m3) (harg7 : arg7.IsWhole) (arg8 : Memref sig .tc .vmem S48x1024 .f32) (harg8 : arg8.IsWhole)
  (arg9 : Memref sig .tc .vmem S1536x1024 .fp8e5m2) (harg9 : arg9.IsWhole) (arg10 : Memref sig .tc .vmem S48x1024 .f32) (harg10 : arg10.IsWhole)
  (arg11 : Memref sig .tc .vmem S4096x1536 .bf16) (harg11 : arg11.IsWhole) (arg12 : Memref sig .tc .vmem S1536x1024 .bf16) (harg12 : arg12.IsWhole)
  (arg13 : Memref sig .tc .vmem S256x1024 .bf16) (harg13 : arg13.IsWhole)

/-- Before trip `k` of the inner loop, in trip `a` of the outer: the codes, the scales and the 256-row scratch are done on the
    rows of the trips before. -/
def inv2 (X : Vec F S1536x1024 .bf16) (a k : ℕ) : sProp 𝕄 :=
  iprop(owns (c : Thread nD τ) arg4 fullShare X
    ∗ ownsSat (c : Thread nD τ) arg7 fullShare (fun Y => ∀ y : S1536x1024.Idx, (y 0).val < 256 * a + 32 * k → Y y = codeX X (y 0).val (y 1))
    ∗ ownsSat (c : Thread nD τ) arg8 fullShare (fun Y => ∀ y : S48x1024.Idx, (y 0).val < 8 * a + k → Y y = scaleX X (y 0).val (y 1))
    ∗ ownsSat (c : Thread nD τ) arg13 fullShare (fun Y => ∀ y : S256x1024.Idx, (y 0).val < 32 * k → Y y = hatX X (256 * a + (y 0).val) (y 1)))

set_option maxHeartbeats 1000000 in
/-- One trip of the inner loop. -/
theorem trip2 (E : Set ℕ) (h1 : k0_cond1 i = 1#1) (a : Fin k0_t1_loop.trips) (w14 : BitVec 32) (X : Vec F S1536x1024 .bf16) (k : Fin k0_t2_loop.trips) (u : Unit) :
    inv2 c arg4 arg7 arg8 arg13 X a.val k.val
      ⊢ wp frame (wpE (defs₀ (F := F)) Variants.none (c : Thread nD τ) none) E (k0_t2_body (F := F) i arg3 harg3 arg4 harg4 arg5 harg5 arg6 harg6 arg7 harg7 arg8 harg8 arg9 harg9 arg10 harg10 arg11 harg11 arg12 harg12 arg13 harg13 h1 a w14 k u)
          (fun _ => inv2 c arg4 arg7 arg8 arg13 X a.val (k.val + 1)) := by
  have ha : a.val < 6 := lt_of_lt_of_eq a.isLt trips1
  have hk : k.val < 8 := lt_of_lt_of_eq k.isLt trips2
  unfold inv2 k0_t2_body owns ownsSat
  iintro ⟨⟨%f4, %hf4, H4⟩, ⟨%f7, %hf7, H7⟩, ⟨%f8, %hf8, H8⟩, ⟨%f13, %hf13, H13⟩⟩
  sl_exec
  sl_step
  have hld : arg4.view.readAt (Elt F) (Rect.unit (s := S1536x1024) (k0_off1 a k) S32x1024.size (k0_off1_inb i a k h1)).toLoadRect f4 = rows32 X (8 * a.val + k.val) := by
    rw [View.readAt_eq_ld, hf4]
    exact ld_rows32 X _ (by rw [off1]; congr 1; omega) (by omega) _
  isplitl [H4]
  · iexists f4; isplitr; · ipureintro; exact hf4
    iexact H4
  isplitl [H7]
  · iexists _; isplitr
    swap; · iexact H7
    ipureintro
    intro y hy
    refine rows_step arg7.view f7 (W := 32) _ _ (off1 a k) rfl rfl (codeX X) hf7 (fun x => ?_) y (by omega)
    show k0_pay20 (quotX (arg4.view.readAt (Elt F) (Rect.unit (s := S1536x1024) (k0_off1 a k) S32x1024.size (k0_off1_inb i a k h1)).toLoadRect f4)) (Scalar.ofBits .f32 0xC3E00000#32) x = _
    rw [hld]
    exact code_of_blocks (F := F) (e := .fp8e4m3) (fun k => k0_pay20 (quotX (rows32 X k)) (Scalar.ofBits .f32 0xC3E00000#32)) (8 * a.val + k.val) x
      (256 * a.val + 32 * k.val + (x 0).val) _ (by omega) rfl
  isplitl [H8]
  · iexists _; isplitr
    swap; · iexact H8
    ipureintro
    intro y hy
    refine rows_step arg8.view f8 (W := 1) _ _ (off2 a k) rfl rfl (scaleX X) hf8 (fun x => ?_) y (by omega)
    show scaleRowX (arg4.view.readAt (Elt F) (Rect.unit (s := S1536x1024) (k0_off1 a k) S32x1024.size (k0_off1_inb i a k h1)).toLoadRect f4) x = _
    rw [hld]
    have hx : (x 0).val = 0 := by have : (x 0).val < 1 := (x 0).isLt; omega
    show _ = scaleRowX (rows32 X (8 * a.val + k.val + (x 0).val)) _
    rw [hx]
    exact congrArg (scaleRowX (rows32 X (8 * a.val + k.val))) (funext fun a => by match a with | ⟨0, _⟩ => exact Fin.ext hx | ⟨1, _⟩ => rfl)
  iexists _; isplitr
  swap; · iexact H13
  ipureintro
  intro y hy
  refine rows_step arg13.view f13 (W := 32) _ _ (off3 k) rfl rfl (fun r l => hatX X (256 * a.val + r) l) hf13 (fun x => ?_) y (by omega)
  show k0_pay21 (scaleRowX (arg4.view.readAt (Elt F) (Rect.unit (s := S1536x1024) (k0_off1 a k) S32x1024.size (k0_off1_inb i a k h1)).toLoadRect f4)) (quotX (arg4.view.readAt (Elt F) (Rect.unit (s := S1536x1024) (k0_off1 a k) S32x1024.size (k0_off1_inb i a k h1)).toLoadRect f4)) (Scalar.ofBits .f32 0xC3E00000#32) x = _
  rw [hld]
  exact code_of_blocks (F := F) (e := .bf16) (fun k => k0_pay21 (scaleRowX (rows32 X k)) (quotX (rows32 X k)) (Scalar.ofBits .f32 0xC3E00000#32)) (8 * a.val + k.val) x
    (256 * a.val + (32 * k.val + (x 0).val)) _ (by omega) rfl

/-- The transposed scratch after the first `k` trips of the outer loop at grid row `m`: on the 1024 rows of `m`, the columns
    below `256 k` hold the transposed dequantised values; the other rows are as they were. -/
def XtOk (X : Vec F S1536x1024 .bf16) (Y0 : Vec F S4096x1536 .bf16) (m k : ℕ) (Y : Vec F S4096x1536 .bf16) : Prop :=
  (∀ (y : S4096x1536.Idx) (l : Fin 1024), (y 0).val = 1024 * m + l.val → (y 1).val < 256 * k → Y y = hatX X (y 1).val l)
    ∧ ∀ y : S4096x1536.Idx, (y 0).val < 1024 * m ∨ 1024 * m + 1024 ≤ (y 0).val → Y y = Y0 y

/-- Before trip `k` of the outer loop. -/
def inv1 (X : Vec F S1536x1024 .bf16) (Y0 : Vec F S4096x1536 .bf16) (k : ℕ) : sProp 𝕄 :=
  iprop(owns (c : Thread nD τ) arg4 fullShare X
    ∗ ownsSat (c : Thread nD τ) arg7 fullShare (fun Y => ∀ y : S1536x1024.Idx, (y 0).val < 256 * k → Y y = codeX X (y 0).val (y 1))
    ∗ ownsSat (c : Thread nD τ) arg8 fullShare (fun Y => ∀ y : S48x1024.Idx, (y 0).val < 8 * k → Y y = scaleX X (y 0).val (y 1))
    ∗ ownsSat (c : Thread nD τ) arg13 fullShare (fun _ => True)
    ∗ ownsSat (c : Thread nD τ) arg11 fullShare (XtOk X Y0 (i 1).val k))

/-- Storing the transpose of 256 dequantised rows extends the transposed scratch by 256 columns. -/
theorem xt_step (v : View sig .tc .vmem S4096x1536 .bf16) (f : v.ty.Contents (Elt F)) (X : Vec F S1536x1024 .bf16) (Y0 : Vec F S4096x1536 .bf16)
    (m k : ℕ) {off : Fin 2 → ℕ} (inb : ∀ a, off a + S1024x256.size a ≤ S4096x1536.size a) (hoff : off = ![1024 * m, 256 * k])
    (H : Vec F S256x1024 .bf16) (hH : ∀ y : S256x1024.Idx, H y = hatX X (256 * k + (y 0).val) (y 1))
    (hf : XtOk X Y0 m k (v.read (Elt F) f)) :
    XtOk X Y0 m (k + 1) (v.read (Elt F) (v.writes (Elt F) f [⟨Rect.unit (s := S4096x1536) off S1024x256.size inb, k0_pay22 H⟩])) := by
  constructor
  · intro y l hl hy
    by_cases h : 256 * k ≤ (y 1).val
    · have hb : (y 1).val - 256 * k < 256 := by omega
      rw [View.read_writes_cons_unit_of_mem v f inb (k0_pay22 H) [] y (ix2 l ⟨(y 1).val - 256 * k, hb⟩) hoff
        (fun a => by
          match a with
          | ⟨0, _⟩ => exact hl
          | ⟨1, _⟩ => show (y 1).val = 256 * k + ((y 1).val - 256 * k); omega)]
      have e : k0_pay22 H (ix2 l ⟨(y 1).val - 256 * k, hb⟩) = H (ix2 ⟨(y 1).val - 256 * k, hb⟩ l) := by
        unfold k0_pay22
        rw [shapeCast_self]
        exact transpose_apply _ _ _ _ _ (fun a => by match a with | ⟨0, _⟩ => rfl | ⟨1, _⟩ => rfl)
      rw [e, hH]
      show hatX X (256 * k + ((y 1).val - 256 * k)) l = _
      congr 1; omega
    · rw [View.read_writes_cons_unit_of_not_mem v f inb (k0_pay22 H) [] y hoff (1 : Fin 2) (Or.inl (by show _ < 256 * k; omega))]
      exact hf.1 y l hl (by omega)
  · intro y hy
    rw [View.read_writes_cons_unit_of_not_mem v f inb (k0_pay22 H) [] y hoff (0 : Fin 2) (by
      rcases hy with hy | hy
      · exact Or.inl hy
      · exact Or.inr hy)]
    exact hf.2 y hy

set_option maxHeartbeats 1000000 in
/-- One trip of the outer loop. -/
theorem trip1 (E : Set ℕ) (h1 : k0_cond1 i = 1#1) (X : Vec F S1536x1024 .bf16) (Y0 : Vec F S4096x1536 .bf16) (k : Fin k0_t1_loop.trips) (u : Unit) :
    inv1 c i arg4 arg7 arg8 arg11 arg13 X Y0 k.val
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 h1 k u)
          (fun _ => inv1 c i arg4 arg7 arg8 arg11 arg13 X Y0 (k.val + 1)) := by
  unfold k0_t1_body
  rw [wp_bind]
  refine BIBase.Entails.trans ?_ (Scf.wp_for frame _ E k0_t2_loop.lb k0_t2_loop.ub k0_t2_loop.st _ _ _
    (fun j _ => iprop(inv2 c arg4 arg7 arg8 arg13 X k.val j ∗ ownsSat (c : Thread nD τ) arg11 fullShare (XtOk X Y0 (i 1).val k.val))) ?_)
  · unfold inv1 inv2 ownsSat
    iintro ⟨H4, ⟨%f7, %hf7, H7⟩, ⟨%f8, %hf8, H8⟩, ⟨%f13, -, H13⟩, ⟨%f11, %hf11, H11⟩⟩
    isplitl [H4 H7 H8 H13 H11]
    · isplitl [H4 H7 H8 H13]
      · isplitl [H4]; · iexact H4
        isplitl [H7]
        · iexists f7; isplitr
          swap; · iexact H7
          ipureintro; exact fun y hy => hf7 y (by omega)
        isplitl [H8]
        · iexists f8; isplitr
          swap; · iexact H8
          ipureintro; exact fun y hy => hf8 y (by omega)
        iexists f13; isplitr
        swap; · iexact H13
        ipureintro; exact fun y hy => absurd hy (by omega)
      iexists f11; isplitr
      swap; · iexact H11
      ipureintro; exact hf11
    rw [show Scf.trips k0_t2_loop.lb k0_t2_loop.ub k0_t2_loop.st = 8 from trips2]
    iintro %_ ⟨⟨H4, ⟨%g7, %hg7, H7⟩, ⟨%g8, %hg8, H8⟩, ⟨%g13, %hg13, H13⟩⟩, ⟨%g11, %hg11, H11⟩⟩
    sl_exec
    sl_step
    isplitl [H4]; · iexact H4
    isplitl [H7]
    · iexists g7; isplitr
      swap; · iexact H7
      ipureintro; exact fun y hy => hg7 y (by omega)
    isplitl [H8]
    · iexists g8; isplitr
      swap; · iexact H8
      ipureintro; exact fun y hy => hg8 y (by omega)
    isplitl [H13]
    · iexists g13; isplitr
      swap; · iexact H13
      ipureintro; trivial
    iexists _; isplitr
    swap; · iexact H11
    ipureintro
    refine xt_step arg11.view g11 X Y0 (i 1).val k.val _ (off4 i k) _ (fun y => ?_) hg11
    rw [View.readAt_eq_ld, View.ld_unit_zero (S := S256x1024) (funext fun a => by fin_cases a <;> rfl)]
    exact hg13 y (y 0).isLt
  · intro j u'
    refine (BIClass.sep_mono (trip2 c i arg3 harg3 arg4 harg4 arg5 harg5 arg6 harg6 arg7 harg7 arg8 harg8 arg9 harg9 arg10 harg10 arg11 harg11 arg12 harg12 arg13 harg13 E h1 k (Scf.iv 0#32 1#32 k) X j u') BIBase.Entails.rfl).trans ?_
    exact wp_frame_r frame _ E

/-- The whole loop. -/
theorem loop1 (E : Set ℕ) (h1 : k0_cond1 i = 1#1) (X : Vec F S1536x1024 .bf16) (Y0 : Vec F S4096x1536 .bf16) :
    inv1 c i arg4 arg7 arg8 arg11 arg13 X Y0 0
      ⊢ wp frame (wpE (defs₀ (F := F)) Variants.none (c : Thread nD τ) none) E
          (Scf.Loop.for k0_t1_loop (k0_t1_ok i h1) ⟨⟩ (k0_t1_body (F := F) i arg3 harg3 arg4 harg4 arg5 harg5 arg6 harg6 arg7 harg7 arg8 harg8 arg9 harg9 arg10 harg10 arg11 harg11 arg12 harg12 arg13 harg13 h1))
          (fun _ => inv1 c i arg4 arg7 arg8 arg11 arg13 X Y0 6) := by
  refine BIBase.Entails.trans ?_ (Scf.wp_for frame _ E k0_t1_loop.lb k0_t1_loop.ub k0_t1_loop.st _ _ _
    (fun k _ => inv1 c i arg4 arg7 arg8 arg11 arg13 X Y0 k) ?_)
  · iintro H
    isplitl [H]; · iexact H
    rw [show Scf.trips k0_t1_loop.lb k0_t1_loop.ub k0_t1_loop.st = 6 from trips1]
    iintro %_ H
    iexact H
  · intro k u
    exact trip1 c i arg3 harg3 arg4 harg4 arg5 harg5 arg6 harg6 arg7 harg7 arg8 harg8 arg9 harg9 arg10 harg10 arg11 harg11 arg12 harg12 arg13 harg13 E h1 X Y0 k u

/-- After the loop the codes and the scales are those of the whole block. -/
theorem inv1_done (X : Vec F S1536x1024 .bf16) (Y0 : Vec F S4096x1536 .bf16) :
    inv1 c i arg4 arg7 arg8 arg11 arg13 X Y0 6
      ⊢ iprop(owns (c : Thread nD τ) arg4 fullShare X ∗ owns (c : Thread nD τ) arg7 fullShare (codesX X)
          ∗ owns (c : Thread nD τ) arg8 fullShare (scalesX X) ∗ ownsSat (c : Thread nD τ) arg13 fullShare (fun _ => True)
          ∗ ownsSat (c : Thread nD τ) arg11 fullShare (XtOk X Y0 (i 1).val 6)) := by
  unfold inv1 ownsSat owns
  iintro ⟨H4, ⟨%f7, %hf7, H7⟩, ⟨%f8, %hf8, H8⟩, H13, H11⟩
  isplitl [H4]; · iexact H4
  isplitl [H7]
  · iexists f7; isplitr
    swap; · iexact H7
    ipureintro
    exact funext fun y => hf7 y (by have : (y 0).val < 1536 := (y 0).isLt; omega)
  isplitl [H8]
  · iexists f8; isplitr
    swap; · iexact H8
    ipureintro
    exact funext fun y => hf8 y (by have : (y 0).val < 48 := (y 0).isLt; omega)
  isplitl [H13]; · iexact H13
  iexact H11
end

end Cert.KernelIdeal.Own

end
-- ==== Proof.Idealized.LoopY.lean ====
/-
  The loop that quantises one block of `dy`: 48 trips of 32 rows each.
-/
module

public import proofs.«01_k».proof.Proof.Idealized.Rows
public import Idealize.ShloMosaic.Lib.MemrefSat
public import Idealize.ShloMosaic.Lib.Exec
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg3 : Memref sig .tc .smem S5 .i32) (harg3 : arg3.IsWhole) (arg4 : Memref sig .tc .vmem S1536x1024 .bf16) (harg4 : arg4.IsWhole)
  (arg5 : Memref sig .tc .vmem S1536x1024 .bf16) (harg5 : arg5.IsWhole) (arg6 : Memref sig .tc .vmem S1x1024x1024 .f32) (harg6 : arg6.IsWhole)
  (arg7 : Memref sig .tc .vmem S1536x1024 .fp8e4m3) (harg7 : arg7.IsWhole) (arg8 : Memref sig .tc .vmem S48x1024 .f32) (harg8 : arg8.IsWhole)
  (arg9 : Memref sig .tc .vmem S1536x1024 .fp8e5m2) (harg9 : arg9.IsWhole) (arg10 : Memref sig .tc .vmem S48x1024 .f32) (harg10 : arg10.IsWhole)
  (arg11 : Memref sig .tc .vmem S4096x1536 .bf16) (harg11 : arg11.IsWhole) (arg12 : Memref sig .tc .vmem S1536x1024 .bf16) (harg12 : arg12.IsWhole)
  (arg13 : Memref sig .tc .vmem S256x1024 .bf16) (harg13 : arg13.IsWhole)

/-- Before trip `k`: the codes, the scales and the dequantised values are done on the rows of the trips before. -/
def inv3 (X : Vec F S1536x1024 .bf16) (k : ℕ) : sProp 𝕄 :=
  iprop(owns (c : Thread nD τ) arg5 fullShare X
    ∗ ownsSat (c : Thread nD τ) arg9 fullShare (fun Y => ∀ y : S1536x1024.Idx, (y 0).val < 32 * k → Y y = codeY X (y 0).val (y 1))
    ∗ ownsSat (c : Thread nD τ) arg10 fullShare (fun Y => ∀ y : S48x1024.Idx, (y 0).val < k → Y y = scaleY X (y 0).val (y 1))
    ∗ ownsSat (c : Thread nD τ) arg12 fullShare (fun Y => ∀ y : S1536x1024.Idx, (y 0).val < 32 * k → Y y = hatY X (y 0).val (y 1)))

set_option maxHeartbeats 1000000 in
/-- One trip. -/
theorem trip3 (E : Set ℕ) (h2 : k0_cond2 i = 1#1) (X : Vec F S1536x1024 .bf16) (k : Fin k0_t3_loop.trips) (u : Unit) :
    inv3 c arg5 arg9 arg10 arg12 X k.val
      ⊢ wp frame (wpE (defs₀ (F := F)) Variants.none (c : Thread nD τ) none) E (k0_t3_body (F := F) i arg3 harg3 arg4 harg4 arg5 harg5 arg6 harg6 arg7 harg7 arg8 harg8 arg9 harg9 arg10 harg10 arg11 harg11 arg12 harg12 arg13 harg13 h2 k u)
          (fun _ => inv3 c arg5 arg9 arg10 arg12 X (k.val + 1)) := by
  have hk : k.val < 48 := lt_of_lt_of_eq k.isLt trips3
  unfold inv3 k0_t3_body owns ownsSat
  iintro ⟨⟨%f4, %hf4, H4⟩, ⟨%f7, %hf7, H7⟩, ⟨%f8, %hf8, H8⟩, ⟨%f13, %hf13, H13⟩⟩
  sl_exec
  sl_step
  have hld : arg5.view.readAt (Elt F) (Rect.unit (s := S1536x1024) (k0_off5 k) S32x1024.size (k0_off5_inb i k h2)).toLoadRect f4 = rows32 X k.val := by
    rw [View.readAt_eq_ld, hf4]
    exact ld_rows32 X _ (off5 k) (by omega) _
  isplitl [H4]
  · iexists f4; isplitr; · ipureintro; exact hf4
    iexact H4
  isplitl [H7]
  · iexists _; isplitr
    swap; · iexact H7
    ipureintro
    intro y hy
    refine rows_step arg9.view f7 (W := 32) _ _ (off5 k) rfl rfl (codeY X) hf7 (fun x => ?_) y (by omega)
    show k0_pay23 (quotY (arg5.view.readAt (Elt F) (Rect.unit (s := S1536x1024) (k0_off5 k) S32x1024.size (k0_off5_inb i k h2)).toLoadRect f4)) (Scalar.ofBits .f32 0x47600000#32) (k0_pay19 (F := F)) x = _
    rw [hld]
    exact code_of_blocks (F := F) (e := .fp8e5m2) (fun k => k0_pay23 (quotY (rows32 X k)) (Scalar.ofBits .f32 0x47600000#32) (k0_pay19 (F := F))) k.val x
      (32 * k.val + (x 0).val) _ (by omega) rfl
  isplitl [H8]
  · iexists _; isplitr
    swap; · iexact H8
    ipureintro
    intro y hy
    refine rows_step arg10.view f8 (W := 1) _ _ (off6 k) rfl rfl (scaleY X) hf8 (fun x => ?_) y (by omega)
    show scaleRowY (arg5.view.readAt (Elt F) (Rect.unit (s := S1536x1024) (k0_off5 k) S32x1024.size (k0_off5_inb i k h2)).toLoadRect f4) x = _
    rw [hld]
    have hx : (x 0).val = 0 := by have : (x 0).val < 1 := (x 0).isLt; omega
    show _ = scaleRowY (rows32 X (k.val + (x 0).val)) _
    rw [hx]
    exact congrArg (scaleRowY (rows32 X k.val)) (funext fun a => by match a with | ⟨0, _⟩ => exact Fin.ext hx | ⟨1, _⟩ => rfl)
  iexists _; isplitr
  swap; · iexact H13
  ipureintro
  intro y hy
  refine rows_step arg12.view f13 (W := 32) _ _ (off5 k) rfl rfl (hatY X) hf13 (fun x => ?_) y (by omega)
  show k0_pay24 (scaleRowY (arg5.view.readAt (Elt F) (Rect.unit (s := S1536x1024) (k0_off5 k) S32x1024.size (k0_off5_inb i k h2)).toLoadRect f4)) (quotY (arg5.view.readAt (Elt F) (Rect.unit (s := S1536x1024) (k0_off5 k) S32x1024.size (k0_off5_inb i k h2)).toLoadRect f4)) (Scalar.ofBits .f32 0x47600000#32) (k0_pay19 (F := F)) x = _
  rw [hld]
  exact code_of_blocks (F := F) (e := .bf16) (fun k => k0_pay24 (scaleRowY (rows32 X k)) (quotY (rows32 X k)) (Scalar.ofBits .f32 0x47600000#32) (k0_pay19 (F := F))) k.val x
    (32 * k.val + (x 0).val) _ (by omega) rfl

/-- The dequantised values of a whole block of `dy`. -/
def hatsY (X : Vec F S1536x1024 .bf16) : Vec F S1536x1024 .bf16 := fun j => hatY X (j 0).val (j 1)

/-- The whole loop. -/
theorem loop3 (E : Set ℕ) (h2 : k0_cond2 i = 1#1) (X : Vec F S1536x1024 .bf16) :
    inv3 c arg5 arg9 arg10 arg12 X 0
      ⊢ wp frame (wpE (defs₀ (F := F)) Variants.none (c : Thread nD τ) none) E
          (Scf.Loop.for k0_t3_loop (k0_t3_ok i h2) ⟨⟩ (k0_t3_body (F := F) i arg3 harg3 arg4 harg4 arg5 harg5 arg6 harg6 arg7 harg7 arg8 harg8 arg9 harg9 arg10 harg10 arg11 harg11 arg12 harg12 arg13 harg13 h2))
          (fun _ => inv3 c arg5 arg9 arg10 arg12 X 48) := by
  refine BIBase.Entails.trans ?_ (Scf.wp_for frame _ E k0_t3_loop.lb k0_t3_loop.ub k0_t3_loop.st _ _ _
    (fun k _ => inv3 c arg5 arg9 arg10 arg12 X k) ?_)
  · iintro H
    isplitl [H]; · iexact H
    rw [show Scf.trips k0_t3_loop.lb k0_t3_loop.ub k0_t3_loop.st = 48 from trips3]
    iintro %_ H
    iexact H
  · intro k u
    exact trip3 c i arg3 harg3 arg4 harg4 arg5 harg5 arg6 harg6 arg7 harg7 arg8 harg8 arg9 harg9 arg10 harg10 arg11 harg11 arg12 harg12 arg13 harg13 E h2 X k u

/-- After the loop codes, scales and dequantised values are those of the whole block. -/
theorem inv3_done (X : Vec F S1536x1024 .bf16) :
    inv3 c arg5 arg9 arg10 arg12 X 48
      ⊢ iprop(owns (c : Thread nD τ) arg5 fullShare X ∗ owns (c : Thread nD τ) arg9 fullShare (codesY X)
          ∗ owns (c : Thread nD τ) arg10 fullShare (scalesY X) ∗ owns (c : Thread nD τ) arg12 fullShare (hatsY X)) := by
  unfold inv3 ownsSat owns
  iintro ⟨H4, ⟨%f7, %hf7, H7⟩, ⟨%f8, %hf8, H8⟩, ⟨%f12, %hf12, H12⟩⟩
  isplitl [H4]; · iexact H4
  isplitl [H7]
  · iexists f7; isplitr
    swap; · iexact H7
    ipureintro
    exact funext fun y => hf7 y (by have : (y 0).val < 1536 := (y 0).isLt; omega)
  isplitl [H8]
  · iexists f8; isplitr
    swap; · iexact H8
    ipureintro
    exact funext fun y => hf8 y (by have : (y 0).val < 48 := (y 0).isLt; omega)
  iexists f12; isplitr
  swap; · iexact H12
  ipureintro
  exact funext fun y => hf12 y (by have : (y 0).val < 1536 := (y 0).isLt; omega)

end

end Cert.KernelIdeal.Own

end
-- ==== Proof.Idealized.Gs.lean ====
/-
  The loop that adds up the group sizes before the group of the grid point.
-/
module

public import proofs.«01_k».proof.Proof.Idealized.Rows
public import Idealize.ShloMosaic.Lib.MemrefSat
public import Idealize.ShloMosaic.Lib.Exec
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg3 : Memref sig .tc .smem S5 .i32) (harg3 : arg3.IsWhole) (arg4 : Memref sig .tc .vmem S1536x1024 .bf16) (harg4 : arg4.IsWhole)
  (arg5 : Memref sig .tc .vmem S1536x1024 .bf16) (harg5 : arg5.IsWhole) (arg6 : Memref sig .tc .vmem S1x1024x1024 .f32) (harg6 : arg6.IsWhole)
  (arg7 : Memref sig .tc .vmem S1536x1024 .fp8e4m3) (harg7 : arg7.IsWhole) (arg8 : Memref sig .tc .vmem S48x1024 .f32) (harg8 : arg8.IsWhole)
  (arg9 : Memref sig .tc .vmem S1536x1024 .fp8e5m2) (harg9 : arg9.IsWhole) (arg10 : Memref sig .tc .vmem S48x1024 .f32) (harg10 : arg10.IsWhole)
  (arg11 : Memref sig .tc .vmem S4096x1536 .bf16) (harg11 : arg11.IsWhole) (arg12 : Memref sig .tc .vmem S1536x1024 .bf16) (harg12 : arg12.IsWhole)
  (arg13 : Memref sig .tc .vmem S256x1024 .bf16) (harg13 : arg13.IsWhole)

/-- Group `k`'s size, read off the table. -/
def sizeW (T : Vec F S5 .i32) (k : ℕ) : BitVec 32 := if h : k < 5 then T (fun a => match a with | ⟨0, _⟩ => ⟨k, h⟩) else 0#32
/-- The sum of the sizes of the groups before group `k`. -/
def startW (T : Vec F S5 .i32) : ℕ → BitVec 32
  | 0 => 0#32
  | k + 1 => Scalar.addi (startW T k) (sizeW T k)

/-- A load of one table entry. -/
theorem ld_size (T : Vec F S5 .i32) {off : Fin 1 → ℕ} (k : ℕ) (hoff : off = ![k]) (hk : k < 5) (inb : ∀ a, off a + S1.size a ≤ S5.size a)
    (x : (Rect.unit (s := S5) off S1.size inb).shape.Idx) : View.ld T (Rect.unit (s := S5) off S1.size inb) x = sizeW T k := by
  subst hoff
  unfold sizeW
  rw [dif_pos hk]
  refine congrArg T (funext fun a => Fin.ext ?_)
  have h0 : (x 0).val < 1 := (x 0).isLt
  match a with
  | ⟨0, _⟩ => show k + 1 * (x 0).val = k; omega

/-- The table's half share. -/
abbrev tb (q : PosShare TreeShare) (f : BufTy.Contents (Elt F) arg3.view.ty) : sProp 𝕄 := arg3.view.loc (c : Thread nD τ) ↦[arg3.view.set]{q} f

set_option maxHeartbeats 1000000 in
theorem trip4 (E : Set ℕ) (q : PosShare TreeShare) (f : BufTy.Contents (Elt F) arg3.view.ty) (k : Fin (k0_t4_loop i).trips) (acc : BitVec 32)
    (hacc : acc = startW (arg3.view.read (Elt F) f) k.val) :
    tb c arg3 q f
      ⊢ wp frame (wpE (defs₀ (F := F)) Variants.none (c : Thread nD τ) none) E (k0_t4_body (F := F) i arg3 harg3 arg4 harg4 arg5 harg5 arg6 harg6 arg7 harg7 arg8 harg8 arg9 harg9 arg10 harg10 arg11 harg11 arg12 harg12 arg13 harg13 k acc)
          (fun r => iprop(⌜r = startW (arg3.view.read (Elt F) f) (k.val + 1)⌝ ∗ tb c arg3 q f)) := by
  unfold k0_t4_body
  iintro H
  sl_exec
  sl_step
  isplitr
  swap; · iexact H
  ipureintro
  subst hacc
  have hk : k.val < 5 := by have h := lt_of_lt_of_eq k.isLt (trips4 i); have h5 : (i 2).val < 5 := (i 2).isLt; omega
  show Scalar.addi _ (arg3.view.readAt (Elt F) (Rect.unit (s := S5) (k0_off7 i k) S1.size (k0_off7_inb i k)).toLoadRect f (Shape.Idx.first _)) = Scalar.addi _ (sizeW _ _)
  rw [View.readAt_eq_ld]
  exact congrArg (Scalar.addi _) (ld_size _ _ (off7 i k) hk _ _)

/-- The accumulating loop yields the sum of the sizes of the groups before the grid point's. -/
theorem loop4 (E : Set ℕ) (q : PosShare TreeShare) (f : BufTy.Contents (Elt F) arg3.view.ty) :
    tb c arg3 q f
      ⊢ wp frame (wpE (defs₀ (F := F)) Variants.none (c : Thread nD τ) none) E
          (Scf.Loop.for (k0_t4_loop i) (k0_t4_ok i) 0#32 (k0_t4_body (F := F) i arg3 harg3 arg4 harg4 arg5 harg5 arg6 harg6 arg7 harg7 arg8 harg8 arg9 harg9 arg10 harg10 arg11 harg11 arg12 harg12 arg13 harg13))
          (fun r => iprop(⌜r = startW (arg3.view.read (Elt F) f) (i 2).val⌝ ∗ tb c arg3 q f)) := by
  refine BIBase.Entails.trans ?_ (Scf.wp_for frame _ E (k0_t4_loop i).lb (k0_t4_loop i).ub (k0_t4_loop i).st _ _ _
    (fun k r => iprop(⌜r = startW (arg3.view.read (Elt F) f) k⌝ ∗ tb c arg3 q f)) ?_)
  · iintro H
    isplitl [H]
    · isplitr
      swap; · iexact H
      ipureintro; rfl
    rw [show Scf.trips (k0_t4_loop i).lb (k0_t4_loop i).ub (k0_t4_loop i).st = (i 2).val from trips4 i]
    iintro %_ H
    iexact H
  · intro k acc
    iintro ⟨%h, H⟩
    iapply (trip4 c i arg3 harg3 arg4 harg4 arg5 harg5 arg6 harg6 arg7 harg7 arg8 harg8 arg9 harg9 arg10 harg10 arg11 harg11 arg12 harg12 arg13 harg13 E q f k acc h)
    iexact H

/-- The second loop makes no trip. -/
theorem loop5 (E : Set ℕ) (P : sProp 𝕄) (v : BitVec 32) :
    P ⊢ wp frame (wpE (defs₀ (F := F)) Variants.none (c : Thread nD τ) none) E
          (Scf.Loop.for (k0_t5_loop i) (k0_t5_ok i) v (k0_t5_body (F := F) i arg3 harg3 arg4 harg4 arg5 harg5 arg6 harg6 arg7 harg7 arg8 harg8 arg9 harg9 arg10 harg10 arg11 harg11 arg12 harg12 arg13 harg13))
          (fun r => iprop(⌜r = v⌝ ∗ P)) := by
  refine BIBase.Entails.trans ?_ (Scf.wp_for frame _ E (k0_t5_loop i).lb (k0_t5_loop i).ub (k0_t5_loop i).st _ _ _
    (fun k r => iprop(⌜r = v⌝ ∗ P)) ?_)
  · iintro H
    isplitl [H]
    · isplitr
      swap; · iexact H
      ipureintro; rfl
    iintro %_ H
    iexact H
  · intro k acc
    exact absurd (lt_of_lt_of_eq k.isLt (trips5 i)) (by omega)

end

end Cert.KernelIdeal.Own

end
-- ==== Proof.Idealized.Chunk.lean ====
/-
  One weight-gradient block: the load of the row chunks of a group, their product, and its store.
-/
module

public import proofs.«01_k».proof.Proof.Idealized.Rows
public import proofs.«01_k».proof.Proof.Idealized.Words
public import Idealize.ShloMosaic.Lib.MemrefSat
public import Idealize.ShloMosaic.Lib.Exec
public import Idealize.ShloMosaic.Lib.Tactic

@[expose] public section

set_option maxRecDepth 16384

noncomputable section

namespace Cert.KernelIdeal.Own

open Cert.Own Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords)
  (arg3 : Memref sig .tc .smem S5 .i32) (harg3 : arg3.IsWhole) (arg4 : Memref sig .tc .vmem S1536x1024 .bf16) (harg4 : arg4.IsWhole)
  (arg5 : Memref sig .tc .vmem S1536x1024 .bf16) (harg5 : arg5.IsWhole) (arg6 : Memref sig .tc .vmem S1x1024x1024 .f32) (harg6 : arg6.IsWhole)
  (arg7 : Memref sig .tc .vmem S1536x1024 .fp8e4m3) (harg7 : arg7.IsWhole) (arg8 : Memref sig .tc .vmem S48x1024 .f32) (harg8 : arg8.IsWhole)
  (arg9 : Memref sig .tc .vmem S1536x1024 .fp8e5m2) (harg9 : arg9.IsWhole) (arg10 : Memref sig .tc .vmem S48x1024 .f32) (harg10 : arg10.IsWhole)
  (arg11 : Memref sig .tc .vmem S4096x1536 .bf16) (harg11 : arg11.IsWhole) (arg12 : Memref sig .tc .vmem S1536x1024 .bf16) (harg12 : arg12.IsWhole)
  (arg13 : Memref sig .tc .vmem S256x1024 .bf16) (harg13 : arg13.IsWhole)

/-- The shapes of `W` rows of `dy` and of `W` columns of the transposed `x`. -/
abbrev SRows (W : ℕ) : Shape := ⟨2, ![W, 1024]⟩
abbrev SCols (W : ℕ) : Shape := ⟨2, ![1024, W]⟩

/-- `W` rows of a block of `dy` from row `r`, and `W` columns from column `r` of the 1024 rows of the transposed `x` at grid row `m`. -/
def rowsOf (W : ℕ) (D : Vec F S1536x1024 .bf16) (r : ℕ) : Vec F (SRows W) .bf16 :=
  fun j => D (ix2 ⟨(r + (j 0).val) % 1536, Nat.mod_lt _ (by decide)⟩ (j 1))
def colsOf (W : ℕ) (Z : Vec F S4096x1536 .bf16) (m r : ℕ) : Vec F (SCols W) .bf16 :=
  fun j => Z (ix2 ⟨(1024 * m + (j 0).val) % 4096, Nat.mod_lt _ (by decide)⟩ ⟨(r + (j 1).val) % 1536, Nat.mod_lt _ (by decide)⟩)

theorem ld_rowsOf (W : ℕ) (D : Vec F S1536x1024 .bf16) {off : Fin 2 → ℕ} (r : ℕ) (hoff : off = ![r, 0]) (hr : r + W ≤ 1536)
    (inb : ∀ a : Fin 2, off a + (SRows W).size a ≤ S1536x1024.size a) :
    View.ld D (Rect.unit (s := S1536x1024) off (SRows W).size inb) = rowsOf W D r := by
  subst hoff
  funext j
  unfold rowsOf
  show D _ = D _
  refine congrArg D (funext fun a => Fin.ext ?_)
  have h0 : (j 0).val < W := (j 0).isLt
  match a with
  | ⟨0, _⟩ => show r + 1 * (j 0).val = (r + (j 0).val) % 1536; omega
  | ⟨1, _⟩ => show 0 + 1 * (j 1).val = (j 1).val; omega

theorem ld_colsOf (W : ℕ) (Z : Vec F S4096x1536 .bf16) {off : Fin 2 → ℕ} (m r : ℕ) (hoff : off = ![1024 * m, r]) (hm : m < 4) (hr : r + W ≤ 1536)
    (inb : ∀ a : Fin 2, off a + (SCols W).size a ≤ S4096x1536.size a) :
    View.ld Z (Rect.unit (s := S4096x1536) off (SCols W).size inb) = colsOf W Z m r := by
  subst hoff
  funext j
  unfold colsOf
  show Z _ = Z _
  refine congrArg Z (funext fun a => Fin.ext ?_)
  have h0 : (j 0).val < 1024 := (j 0).isLt
  have h1 : (j 1).val < W := (j 1).isLt
  match a with
  | ⟨0, _⟩ => show 1024 * m + 1 * (j 0).val = (1024 * m + (j 0).val) % 4096; omega
  | ⟨1, _⟩ => show r + 1 * (j 1).val = (r + (j 1).val) % 1536; omega

/-- A store of the whole block leaves what was stored. -/
theorem read_store6 (v : View sig .tc .vmem S1x1024x1024 .f32) (f : v.ty.Contents (Elt F)) (inb : ∀ a : Fin 3, (![0, 0, 0] : Fin 3 → ℕ) a + S1x1024x1024.size a ≤ S1x1024x1024.size a)
    (w : Vec F S1x1024x1024 .f32) : v.read (Elt F) (v.writes (Elt F) f [⟨Rect.unit (s := S1x1024x1024) ![0, 0, 0] S1x1024x1024.size inb, w⟩]) = w := by
  funext y
  exact View.read_writes_cons_unit_of_mem v f inb w [] y y rfl (fun a => by
    match a with
    | ⟨0, _⟩ => exact (Nat.zero_add _).symm
    | ⟨1, _⟩ => exact (Nat.zero_add _).symm
    | ⟨2, _⟩ => exact (Nat.zero_add _).symm)

set_option maxHeartbeats 1000000 in
/-- Loading `W` rows of the dequantised `dy`, `W` columns of the transposed `x`, and storing a block computed from them. -/
theorem chunk (E : Set ℕ) (W : ℕ) (pay : Vec F (SRows W) .bf16 → Vec F (SCols W) .bf16 → FVec F S1x1024x1024 .f32)
    (o12 o11 : Fin 2 → ℕ) (inb12 : ∀ a : Fin 2, o12 a + (SRows W).size a ≤ S1536x1024.size a)
    (inb11 : ∀ a : Fin 2, o11 a + (SCols W).size a ≤ S4096x1536.size a)
    (hl12 : arg12.view.LoadsAt (Rect.unit (s := S1536x1024) o12 (SRows W).size inb12).toLoadRect)
    (hl11 : arg11.view.LoadsAt (Rect.unit (s := S4096x1536) o11 (SCols W).size inb11).toLoadRect)
    (D : Vec F S1536x1024 .bf16) (Z : Vec F S4096x1536 .bf16) (V0 : Vec F S1x1024x1024 .f32)
    {α : Type} (K : Prog (TpuEff nD τ sig (Elt F) Λ₀ .tc) α) (Φ : α → sProp 𝕄)
    (hK : iprop(owns (c : Thread nD τ) arg12 fullShare D ∗ owns (c : Thread nD τ) arg11 fullShare Z
            ∗ owns (c : Thread nD τ) arg6 fullShare (pay (View.ld D (Rect.unit (s := S1536x1024) o12 (SRows W).size inb12))
                (View.ld Z (Rect.unit (s := S4096x1536) o11 (SCols W).size inb11))))
        ⊢ wp frame (wpE (defs₀ (F := F)) Variants.none (c : Thread nD τ) none) E K Φ) :
    (iprop(owns (c : Thread nD τ) arg12 fullShare D ∗ owns (c : Thread nD τ) arg11 fullShare Z ∗ owns (c : Thread nD τ) arg6 fullShare V0) : sProp 𝕄)
      ⊢ wp frame (wpE (defs₀ (F := F)) Variants.none (c : Thread nD τ) none) E
          (do
            let v95 : Vec F (SRows W) .bf16 ← Prog.lift (.load arg12 (Rect.unit (s := S1536x1024) o12 (SRows W).size inb12).toLoadRect hl12)
            let v101 : Vec F (SCols W) .bf16 ← Prog.lift (.load arg11 (Rect.unit (s := S4096x1536) o11 (SCols W).size inb11).toLoadRect hl11)
            let v103 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
            Prog.lift (.store arg6 (Rect.unit (s := S1x1024x1024) ![0, 0, 0] S1x1024x1024.size inb_S1x1024x1024_S1x1024x1024_0_0_0) (pay v95 v101) Finset.univ (View.stores_vmem_bits_univ h_S1x1024x1024 rfl) (.inl rfl))
            K : Prog (TpuEff nD τ sig (Elt F) Λ₀ .tc) α) Φ := by
  have hK' : iprop((∃ f, ⌜arg12.view.read (Elt F) f = D⌝ ∗ (arg12.view.loc (c : Thread nD τ) ↦[arg12.view.set]{fullShare} f))
        ∗ (∃ f, ⌜arg11.view.read (Elt F) f = Z⌝ ∗ (arg11.view.loc (c : Thread nD τ) ↦[arg11.view.set]{fullShare} f))
        ∗ (∃ f, ⌜arg6.view.read (Elt F) f = pay (View.ld D (Rect.unit (s := S1536x1024) o12 (SRows W).size inb12))
                (View.ld Z (Rect.unit (s := S4096x1536) o11 (SCols W).size inb11))⌝ ∗ (arg6.view.loc (c : Thread nD τ) ↦[arg6.view.set]{fullShare} f)))
        ⊢ wp frame (wpE (defs₀ (F := F)) Variants.none (c : Thread nD τ) none) E K Φ := hK
  unfold owns
  iintro ⟨⟨%f12, %hf12, H12⟩, ⟨%f11, %hf11, H11⟩, ⟨%f6, -, H6⟩⟩
  subst hf12 hf11
  sl_exec
  iapply hK'
  isplitl [H12]
  · iexists f12; isplitr; · ipureintro; rfl
    iexact H12
  isplitl [H11]
  · iexists f11; isplitr; · ipureintro; rfl
    iexact H11
  iexists _; isplitr
  swap; · iexact H6
  ipureintro
  rw [read_store6, View.readAt_eq_ld, View.readAt_eq_ld]

variable {s g : BitVec 32} (hs : s.toNat ≤ 7680) (hg : g.toNat ≤ 1536)

include hs hg

/-- The chunk conditional for `j` chunks, `W = 256 j` rows: after it the block is right if the group meets at most `j` chunks. -/
theorem chunk_step (E : Set ℕ) (W j : ℕ) (hj1 : 1 ≤ j) (hj8 : j < 8) (hW : W = 256 * j) (b : BitVec 1) (hb : b = isW (cntW s g) (BitVec.ofNat 32 j))
    (pay : Vec F (SRows W) .bf16 → Vec F (SCols W) .bf16 → FVec F S1x1024x1024 .f32)
    (o12 o11 : Fin 2 → ℕ) (ho12 : o12 = ![(rowW s).toNat, 0]) (ho11 : o11 = ![(Scalar.muli (BitVec.ofNat 32 (i 1).val) 1024#32).toNat, (rowW s).toNat])
    (inb12 : b = 1#1 → ∀ a : Fin 2, o12 a + (SRows W).size a ≤ S1536x1024.size a)
    (inb11 : b = 1#1 → ∀ a : Fin 2, o11 a + (SCols W).size a ≤ S4096x1536.size a)
    (hl12 : ∀ h : b = 1#1, arg12.view.LoadsAt (Rect.unit (s := S1536x1024) o12 (SRows W).size (inb12 h)).toLoadRect)
    (hl11 : ∀ h : b = 1#1, arg11.view.LoadsAt (Rect.unit (s := S4096x1536) o11 (SCols W).size (inb11 h)).toLoadRect)
    (D : Vec F S1536x1024 .bf16) (Z : Vec F S4096x1536 .bf16) (R : Vec F S1x1024x1024 .f32)
    (hR : cntN s.toNat g.toNat = j → R = pay (rowsOf W D (rowN s.toNat)) (colsOf W Z (i 1).val (rowN s.toNat)))
    {α : Type} (K : Prog (TpuEff nD τ sig (Elt F) Λ₀ .tc) α) (Φ : α → sProp 𝕄)
    (hK : iprop(owns (c : Thread nD τ) arg12 fullShare D ∗ owns (c : Thread nD τ) arg11 fullShare Z
            ∗ ownsSat (c : Thread nD τ) arg6 fullShare (fun V => cntN s.toNat g.toNat < j + 1 → V = R))
        ⊢ wp frame (wpE (defs₀ (F := F)) Variants.none (c : Thread nD τ) none) E K Φ) :
    (iprop(owns (c : Thread nD τ) arg12 fullShare D ∗ owns (c : Thread nD τ) arg11 fullShare Z
        ∗ ownsSat (c : Thread nD τ) arg6 fullShare (fun V => cntN s.toNat g.toNat < j → V = R)) : sProp 𝕄)
      ⊢ wp frame (wpE (defs₀ (F := F)) Variants.none (c : Thread nD τ) none) E
          (if h : b = 1#1 then (do
            let v95 : Vec F (SRows W) .bf16 ← Prog.lift (.load arg12 (Rect.unit (s := S1536x1024) o12 (SRows W).size (inb12 h)).toLoadRect (hl12 h))
            let v101 : Vec F (SCols W) .bf16 ← Prog.lift (.load arg11 (Rect.unit (s := S4096x1536) o11 (SCols W).size (inb11 h)).toLoadRect (hl11 h))
            let v103 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
            Prog.lift (.store arg6 (Rect.unit (s := S1x1024x1024) ![0, 0, 0] S1x1024x1024.size inb_S1x1024x1024_S1x1024x1024_0_0_0) (pay v95 v101) Finset.univ (View.stores_vmem_bits_univ h_S1x1024x1024 rfl) (.inl rfl))
            K : Prog (TpuEff nD τ sig (Elt F) Λ₀ .tc) α) else K) Φ := by
  have hiff : b = 1#1 ↔ cntN s.toNat g.toNat = j := by rw [hb]; exact isW_iff hs hg hj8
  by_cases h : b = 1#1
  · rw [dif_pos h]
    have hn := hiff.1 h
    have hrow := row_le hs hg hj1 hn
    have h4 : (i 1).val < 4 := (i 1).isLt
    iintro ⟨H12, H11, H6⟩
    ihave H6 := (ownsSat_any (c : Thread nD τ) arg6 fullShare) $$ H6
    icases H6 with ⟨%V0, H6⟩
    iapply (chunk c arg6 arg11 arg12 E W pay o12 o11 (inb12 h) (inb11 h) (hl12 h) (hl11 h) D Z V0 K Φ (by
      rw [ld_rowsOf W D (rowN s.toNat) (by rw [ho12, rowW_toNat hs]) (by omega) (inb12 h),
        ld_colsOf W Z (i 1).val (rowN s.toNat) (by rw [ho11, rowW_toNat hs, mul_ofNat]) h4 (by omega) (inb11 h)]
      refine BIBase.Entails.trans ?_ hK
      iintro ⟨H12, H11, H6⟩
      isplitl [H12]; · iexact H12
      isplitl [H11]; · iexact H11
      iapply (ownsSat_intro (c : Thread nD τ) arg6 fullShare (X := pay (rowsOf W D (rowN s.toNat)) (colsOf W Z (i 1).val (rowN s.toNat)))
        (fun _ => (hR hn).symm))
      iexact H6))
    isplitl [H12]; · iexact H12
    isplitl [H11]; · iexact H11
    iexact H6
  · rw [dif_neg h]
    refine BIBase.Entails.trans ?_ hK
    iintro ⟨H12, H11, H6⟩
    isplitl [H12]; · iexact H12
    isplitl [H11]; · iexact H11
    have hne : cntN s.toNat g.toNat ≠ j := fun e => h (hiff.2 e)
    iapply (ownsSat_mono (c : Thread nD τ) arg6 fullShare (Φ := fun V => cntN s.toNat g.toNat < j → V = R) (fun V hV hlt => hV (by omega)))
    iexact H6

end

end Cert.KernelIdeal.Own

end
-- ==== Proof.Idealized.Tail.lean ====
/-
  The end of the kernel body: the weight-gradient block of a group and a grid point, by the number of chunks the group meets.
-/
module

public import proofs.«01_k».proof.Proof.Idealized.Rows
public import proofs.«01_k».proof.Proof.Idealized.Words
public import proofs.«01_k».proof.Proof.Idealized.Chunk
public import Idealize.ShloMosaic.Lib.MemrefSat
public import Idealize.ShloMosaic.Lib.Exec
public import Idealize.ShloMosaic.Lib.Tactic

@[expose] public section

set_option maxRecDepth 16384

noncomputable section

namespace Cert.KernelIdeal.Own

open Cert.Own Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] wp

section
variable (c : Dev nD) (i : grid0.Coords)
  (arg3 : Memref sig .tc .smem S5 .i32) (harg3 : arg3.IsWhole) (arg4 : Memref sig .tc .vmem S1536x1024 .bf16) (harg4 : arg4.IsWhole)
  (arg5 : Memref sig .tc .vmem S1536x1024 .bf16) (harg5 : arg5.IsWhole) (arg6 : Memref sig .tc .vmem S1x1024x1024 .f32) (harg6 : arg6.IsWhole)
  (arg7 : Memref sig .tc .vmem S1536x1024 .fp8e4m3) (harg7 : arg7.IsWhole) (arg8 : Memref sig .tc .vmem S48x1024 .f32) (harg8 : arg8.IsWhole)
  (arg9 : Memref sig .tc .vmem S1536x1024 .fp8e5m2) (harg9 : arg9.IsWhole) (arg10 : Memref sig .tc .vmem S48x1024 .f32) (harg10 : arg10.IsWhole)
  (arg11 : Memref sig .tc .vmem S4096x1536 .bf16) (harg11 : arg11.IsWhole) (arg12 : Memref sig .tc .vmem S1536x1024 .bf16) (harg12 : arg12.IsWhole)
  (arg13 : Memref sig .tc .vmem S256x1024 .bf16) (harg13 : arg13.IsWhole)

/-- The sign test and the remainder test of the kernel's floor division by 256. -/
def sgnW (w : BitVec 32) : BitVec 1 :=
  Scalar.cmpi .ne (Scalar.subi (Scalar.extui (Scalar.cmpi .sgt w 0#32)) (Scalar.extui (Scalar.cmpi .slt w 0#32)))
      (Scalar.subi (Scalar.extui (Scalar.cmpi .sgt 256#32 0#32)) (Scalar.extui (Scalar.cmpi .slt 256#32 0#32)))
def remW (w : BitVec 32) : BitVec 1 := Scalar.cmpi .ne (Scalar.remsi w 256#32) 0#32

/-- The block of the weight gradient of a group with rows from `s`, `g` of them, at grid row `m`. -/
def dwBlk (m : ℕ) (s g : BitVec 32) (Z : Vec F S4096x1536 .bf16) (D : Vec F S1536x1024 .bf16) : Vec F S1x1024x1024 .f32 :=
  match cntN s.toNat g.toNat with
  | 1 => k0_pay26 s (stopW s g) (Scalar.divsi s 256#32) (sgnW s) (remW s) (rowsOf 256 D (rowN s.toNat)) (colsOf 256 Z m (rowN s.toNat))
  | 2 => k0_pay1 s (stopW s g) (rowW s) (rowsOf 512 D (rowN s.toNat)) (colsOf 512 Z m (rowN s.toNat))
  | 3 => k0_pay2 s (stopW s g) (rowW s) (rowsOf 768 D (rowN s.toNat)) (colsOf 768 Z m (rowN s.toNat))
  | 4 => k0_pay3 s (stopW s g) (rowW s) (rowsOf 1024 D (rowN s.toNat)) (colsOf 1024 Z m (rowN s.toNat))
  | 5 => k0_pay4 s (stopW s g) (rowW s) (rowsOf 1280 D (rowN s.toNat)) (colsOf 1280 Z m (rowN s.toNat))
  | 6 => k0_pay5 s (stopW s g) (rowW s) (rowsOf 1536 D (rowN s.toNat)) (colsOf 1536 Z m (rowN s.toNat))
  | _ => k0_pay25 (F := F)

/-- The body after the group's range has been read. -/
def tailProg (v16 : BitVec 32) (v18 : BitVec 32) (k0_hw2 : k0_chk2 i v16 v18) (v20 : BitVec 32) (v21 : BitVec 32) (v32 : BitVec 1) (v34 : BitVec 1) :
    Prog (TpuEff nD τ sig (Elt F) Λ₀ .tc) PUnit := do
  let ⟨v59, v62, v64, v72, c0_i32_30⟩ : Σ' (v59 : BitVec 32) (v62 : BitVec 32) (v64 : BitVec 32) (v72 : BitVec 32), BitVec 32 ← k0_part6 i arg3 harg3 arg4 harg4 arg5 harg5 arg6 harg6 arg7 harg7 arg8 harg8 arg9 harg9 arg10 harg10 arg11 harg11 arg12 harg12 arg13 harg13 (BitVec.ofNat 32 (i 1).val) v16 v18 k0_hw2 v20 v21 v32 v34
  if k0_h5 : k0_cond5 v16 v18 = 1#1 then do
    let v95 : Vec F S512x1024 .bf16 ← Prog.lift (.load arg12 (Rect.unit (s := S1536x1024) (k0_off12 v16) S512x1024.size (k0_off12_inb i v16 v18 k0_hw2 k0_h5)).toLoadRect (View.loadsAt_vmem h_S512x1024))
    let v101 : Vec F S1024x512 .bf16 ← Prog.lift (.load arg11 (Rect.unit (s := S4096x1536) (k0_off13 i v16) S1024x512.size (k0_off13_inb i v16 v18 k0_hw2 k0_h5)).toLoadRect (View.loadsAt_vmem h_S1024x512))
    let v103 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
    Prog.lift (.store arg6 (Rect.unit (s := S1x1024x1024) ![0, 0, 0] S1x1024x1024.size inb_S1x1024x1024_S1x1024x1024_0_0_0) (k0_pay1 v16 v20 v62 v95 v101) Finset.univ (View.stores_vmem_bits_univ h_S1x1024x1024 rfl) (.inl rfl))
    pure ⟨⟩
  else do
    pure ⟨⟩
  if k0_h6 : k0_cond6 v16 v18 = 1#1 then do
    let v95 : Vec F S768x1024 .bf16 ← Prog.lift (.load arg12 (Rect.unit (s := S1536x1024) (k0_off14 v16) S768x1024.size (k0_off14_inb i v16 v18 k0_hw2 k0_h6)).toLoadRect (View.loadsAt_vmem h_S768x1024))
    let v101 : Vec F S1024x768 .bf16 ← Prog.lift (.load arg11 (Rect.unit (s := S4096x1536) (k0_off15 i v16) S1024x768.size (k0_off15_inb i v16 v18 k0_hw2 k0_h6)).toLoadRect (View.loadsAt_vmem h_S1024x768))
    let v103 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
    Prog.lift (.store arg6 (Rect.unit (s := S1x1024x1024) ![0, 0, 0] S1x1024x1024.size inb_S1x1024x1024_S1x1024x1024_0_0_0) (k0_pay2 v16 v20 v62 v95 v101) Finset.univ (View.stores_vmem_bits_univ h_S1x1024x1024 rfl) (.inl rfl))
    pure ⟨⟩
  else do
    pure ⟨⟩
  if k0_h7 : k0_cond7 v16 v18 = 1#1 then do
    let v95 : Vec F S1024x1024 .bf16 ← Prog.lift (.load arg12 (Rect.unit (s := S1536x1024) (k0_off16 v16) S1024x1024.size (k0_off16_inb i v16 v18 k0_hw2 k0_h7)).toLoadRect (View.loadsAt_vmem h_S1024x1024))
    let v101 : Vec F S1024x1024 .bf16 ← Prog.lift (.load arg11 (Rect.unit (s := S4096x1536) (k0_off17 i v16) S1024x1024.size (k0_off17_inb i v16 v18 k0_hw2 k0_h7)).toLoadRect (View.loadsAt_vmem h_S1024x1024))
    let v103 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
    Prog.lift (.store arg6 (Rect.unit (s := S1x1024x1024) ![0, 0, 0] S1x1024x1024.size inb_S1x1024x1024_S1x1024x1024_0_0_0) (k0_pay3 v16 v20 v62 v95 v101) Finset.univ (View.stores_vmem_bits_univ h_S1x1024x1024 rfl) (.inl rfl))
    pure ⟨⟩
  else do
    pure ⟨⟩
  if k0_h8 : k0_cond8 v16 v18 = 1#1 then do
    let v95 : Vec F S1280x1024 .bf16 ← Prog.lift (.load arg12 (Rect.unit (s := S1536x1024) (k0_off18 v16) S1280x1024.size (k0_off18_inb i v16 v18 k0_hw2 k0_h8)).toLoadRect (View.loadsAt_vmem h_S1280x1024))
    let v101 : Vec F S1024x1280 .bf16 ← Prog.lift (.load arg11 (Rect.unit (s := S4096x1536) (k0_off19 i v16) S1024x1280.size (k0_off19_inb i v16 v18 k0_hw2 k0_h8)).toLoadRect (View.loadsAt_vmem h_S1024x1280))
    let v103 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
    Prog.lift (.store arg6 (Rect.unit (s := S1x1024x1024) ![0, 0, 0] S1x1024x1024.size inb_S1x1024x1024_S1x1024x1024_0_0_0) (k0_pay4 v16 v20 v62 v95 v101) Finset.univ (View.stores_vmem_bits_univ h_S1x1024x1024 rfl) (.inl rfl))
    pure ⟨⟩
  else do
    pure ⟨⟩
  if k0_h9 : k0_cond9 v16 v18 = 1#1 then do
    let v95 : Vec F S1536x1024 .bf16 ← Prog.lift (.load arg12 (Rect.unit (s := S1536x1024) (k0_off20 v16) S1536x1024.size (k0_off20_inb i v16 v18 k0_hw2 k0_h9)).toLoadRect (View.loadsAt_vmem h_S1536x1024))
    let v101 : Vec F S1024x1536 .bf16 ← Prog.lift (.load arg11 (Rect.unit (s := S4096x1536) (k0_off21 i v16) S1024x1536.size (k0_off21_inb i v16 v18 k0_hw2 k0_h9)).toLoadRect (View.loadsAt_vmem h_S1024x1536))
    let v103 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
    Prog.lift (.store arg6 (Rect.unit (s := S1x1024x1024) ![0, 0, 0] S1x1024x1024.size inb_S1x1024x1024_S1x1024x1024_0_0_0) (k0_pay5 v16 v20 v62 v95 v101) Finset.univ (View.stores_vmem_bits_univ h_S1x1024x1024 rfl) (.inl rfl))
    pure ⟨⟩
  else do
    pure ⟨⟩
  pure ⟨⟩

variable {s g : BitVec 32} (hs : s.toNat ≤ 7680) (hg : g.toNat ≤ 1536)

/-- What is held through the tail: the two scratch buffers read, and the block, right if fewer than `j` chunks are met. -/
def tailSt (s g : BitVec 32) (D : Vec F S1536x1024 .bf16) (Z : Vec F S4096x1536 .bf16) (j : ℕ) : sProp 𝕄 :=
  iprop(owns (c : Thread nD τ) arg12 fullShare D ∗ owns (c : Thread nD τ) arg11 fullShare Z
        ∗ ownsSat (c : Thread nD τ) arg6 fullShare (fun V => cntN s.toNat g.toNat < j → V = dwBlk (i 1).val s g Z D))

include hs hg

set_option maxHeartbeats 4000000 in
/-- The store of zeros, made where no chunk is met, with what follows it. -/
theorem zero_step (E : Set ℕ) (b : BitVec 1) (hb : b = isW (cntW s g) 0#32) (D : Vec F S1536x1024 .bf16) (Z : Vec F S4096x1536 .bf16)
    {α : Type} (K : Prog (TpuEff nD τ sig (Elt F) Λ₀ .tc) α) (Φ : α → sProp 𝕄)
    (hK : tailSt c i arg6 arg11 arg12 s g D Z 1 ⊢ wp frame (wpE (defs₀ (F := F)) Variants.none (c : Thread nD τ) none) E K Φ) :
    tailSt c i arg6 arg11 arg12 s g D Z 0
      ⊢ wp frame (wpE (defs₀ (F := F)) Variants.none (c : Thread nD τ) none) E
          (if b = 1#1 then (do
            let v87 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
            Prog.lift (.store arg6 (Rect.unit (s := S1x1024x1024) ![0, 0, 0] S1x1024x1024.size inb_S1x1024x1024_S1x1024x1024_0_0_0) (k0_pay25 (F := F)) Finset.univ (View.stores_vmem_bits_univ h_S1x1024x1024 rfl) (.inl rfl))
            K : Prog (TpuEff nD τ sig (Elt F) Λ₀ .tc) α) else K) Φ := by
  have hiff : b = 1#1 ↔ cntN s.toNat g.toNat = 0 := by rw [hb]; exact isW_iff hs hg (by decide)
  unfold tailSt at hK ⊢
  by_cases h : b = 1#1
  · rw [if_pos h]
    have hn := hiff.1 h
    iintro ⟨H12, H11, H6⟩
    ihave H6 := (ownsSat_any (c : Thread nD τ) arg6 fullShare) $$ H6
    icases H6 with ⟨%V0, H6⟩
    have hopen : owns (c : Thread nD τ) arg6 fullShare V0 ⊢ ((∃ f, ⌜arg6.view.read (Elt F) f = V0⌝ ∗ (arg6.view.loc (c : Thread nD τ) ↦[arg6.view.set]{fullShare} f)) : sProp 𝕄) := .rfl
    ihave H6 := hopen $$ H6
    icases H6 with ⟨%f6, -, H6⟩
    sl_exec
    iapply hK
    isplitl [H12]; · iexact H12
    isplitl [H11]; · iexact H11
    iapply (ownsSat_intro (c : Thread nD τ) arg6 fullShare (X := dwBlk (i 1).val s g Z D) (fun _ => rfl))
    unfold owns
    iexists _; isplitr
    swap; · iexact H6
    ipureintro
    rw [read_store6]
    simp only [dwBlk, hn]
  · rw [if_neg h]
    refine BIBase.Entails.trans ?_ hK
    have hne : cntN s.toNat g.toNat ≠ 0 := fun e => h (hiff.2 e)
    iintro ⟨H12, H11, H6⟩
    isplitl [H12]; · iexact H12
    isplitl [H11]; · iexact H11
    iapply (ownsSat_mono (c : Thread nD τ) arg6 fullShare (Φ := fun V => cntN s.toNat g.toNat < 0 → V = dwBlk (i 1).val s g Z D) (fun V hV hlt => absurd hlt (by omega)))
    iexact H6

set_option maxHeartbeats 4000000 in
/-- The store of zeros for a group that meets no chunk, then the case of one chunk. -/
theorem tail_part6 (E : Set ℕ) (hw2 : k0_chk2 i s g) (D : Vec F S1536x1024 .bf16) (Z : Vec F S4096x1536 .bf16) :
    tailSt c i arg6 arg11 arg12 s g D Z 0
      ⊢ wp frame (wpE (defs₀ (F := F)) Variants.none (c : Thread nD τ) none) E
          (k0_part6 (F := F) i arg3 harg3 arg4 harg4 arg5 harg5 arg6 harg6 arg7 harg7 arg8 harg8 arg9 harg9 arg10 harg10 arg11 harg11 arg12 harg12 arg13 harg13 (BitVec.ofNat 32 (i 1).val) s g hw2 (stopW s g) (Scalar.divsi s 256#32) (sgnW s) (remW s))
          (fun r => iprop(⌜r = ⟨cntW s g, rowW s, Scalar.muli (BitVec.ofNat 32 (i 1).val) 1024#32, Scalar.extui (Scalar.cmpi .eq (cntW s g) 2#32), 0#32⟩⌝
            ∗ tailSt c i arg6 arg11 arg12 s g D Z 2)) := by
  rw [k0_part6_eq_skeleton]
  unfold k0_part6_skel
  refine zero_step c i arg6 arg11 arg12 hs hg E _ rfl D Z _ _ ?_
  unfold tailSt
  refine chunk_step c i arg6 arg11 arg12 hs hg E 256 1 (by decide) (by decide) rfl _ (cond4_eq s g) (k0_pay26 s (stopW s g) (Scalar.divsi s 256#32) (sgnW s) (remW s)) _ _
    (off10 s) (off11 i s) _ _ _ _ D Z _ (fun h => by simp only [dwBlk, h]) _ _ ?_
  dsimp only
  iintro H
  sl_step
  isplitr
  · ipureintro; rfl
  iexact H

set_option maxHeartbeats 4000000 in
/-- The whole tail. -/
theorem tail (E : Set ℕ) (hw2 : k0_chk2 i s g) (D : Vec F S1536x1024 .bf16) (Z : Vec F S4096x1536 .bf16) :
    tailSt c i arg6 arg11 arg12 s g D Z 0
      ⊢ wp frame (wpE (defs₀ (F := F)) Variants.none (c : Thread nD τ) none) E
          (tailProg (F := F) i arg3 harg3 arg4 harg4 arg5 harg5 arg6 harg6 arg7 harg7 arg8 harg8 arg9 harg9 arg10 harg10 arg11 harg11 arg12 harg12 arg13 harg13 s g hw2 (stopW s g) (Scalar.divsi s 256#32) (sgnW s) (remW s))
          (fun _ => tailSt c i arg6 arg11 arg12 s g D Z 7) := by
  unfold tailProg
  rw [wp_bind]
  refine (tail_part6 c i arg3 harg3 arg4 harg4 arg5 harg5 arg6 harg6 arg7 harg7 arg8 harg8 arg9 harg9 arg10 harg10 arg11 harg11 arg12 harg12 arg13 harg13 hs hg E hw2 D Z).trans (wp_mono frame _ E fun r => ?_)
  iintro ⟨%hr, H⟩
  subst hr
  istop
  unfold tailSt
  refine chunk_step c i arg6 arg11 arg12 hs hg E 512 2 (by decide) (by decide) rfl _ (cond5_eq s g) (k0_pay1 s (stopW s g) (rowW s)) _ _
    (off12 s) (off13 i s) _ _ _ _ D Z _ (fun h => by simp only [dwBlk, h]) _ _ ?_
  refine chunk_step c i arg6 arg11 arg12 hs hg E 768 3 (by decide) (by decide) rfl _ (cond6_eq s g) (k0_pay2 s (stopW s g) (rowW s)) _ _
    (off14 s) (off15 i s) _ _ _ _ D Z _ (fun h => by simp only [dwBlk, h]) _ _ ?_
  refine chunk_step c i arg6 arg11 arg12 hs hg E 1024 4 (by decide) (by decide) rfl _ (cond7_eq s g) (k0_pay3 s (stopW s g) (rowW s)) _ _
    (off16 s) (off17 i s) _ _ _ _ D Z _ (fun h => by simp only [dwBlk, h]) _ _ ?_
  refine chunk_step c i arg6 arg11 arg12 hs hg E 1280 5 (by decide) (by decide) rfl _ (cond8_eq s g) (k0_pay4 s (stopW s g) (rowW s)) _ _
    (off18 s) (off19 i s) _ _ _ _ D Z _ (fun h => by simp only [dwBlk, h]) _ _ ?_
  refine chunk_step c i arg6 arg11 arg12 hs hg E 1536 6 (by decide) (by decide) rfl _ (cond9_eq s g) (k0_pay5 s (stopW s g) (rowW s)) _ _
    (off20 s) (off21 i s) _ _ _ _ D Z _ (fun h => by simp only [dwBlk, h]) _ _ ?_
  iintro H
  sl_step
  iexact H

end

end Cert.KernelIdeal.Own

end
-- ==== Proof.Idealized.Body.lean ====
/-
  The whole kernel body at one grid point, from what it is handed to what it leaves.
-/
module

public import proofs.«01_k».proof.Proof.Idealized.Rows
public import proofs.«01_k».proof.Proof.Idealized.Words
public import proofs.«01_k».proof.Proof.Idealized.LoopX
public import proofs.«01_k».proof.Proof.Idealized.LoopY
public import proofs.«01_k».proof.Proof.Idealized.Gs
public import proofs.«01_k».proof.Proof.Idealized.Tail
public import Idealize.ShloMosaic.Lib.MemrefSat
public import Idealize.ShloMosaic.Lib.Exec
public import Idealize.ShloMosaic.Lib.Tactic

@[expose] public section

set_option maxRecDepth 16384

noncomputable section

namespace Cert.KernelIdeal.Own

open Cert.Own Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] wp

section
variable (c : Dev nD) (i : grid0.Coords)
  (arg3 : Memref sig .tc .smem S5 .i32) (harg3 : arg3.IsWhole) (arg4 : Memref sig .tc .vmem S1536x1024 .bf16) (harg4 : arg4.IsWhole)
  (arg5 : Memref sig .tc .vmem S1536x1024 .bf16) (harg5 : arg5.IsWhole) (arg6 : Memref sig .tc .vmem S1x1024x1024 .f32) (harg6 : arg6.IsWhole)
  (arg7 : Memref sig .tc .vmem S1536x1024 .fp8e4m3) (harg7 : arg7.IsWhole) (arg8 : Memref sig .tc .vmem S48x1024 .f32) (harg8 : arg8.IsWhole)
  (arg9 : Memref sig .tc .vmem S1536x1024 .fp8e5m2) (harg9 : arg9.IsWhole) (arg10 : Memref sig .tc .vmem S48x1024 .f32) (harg10 : arg10.IsWhole)
  (arg11 : Memref sig .tc .vmem S4096x1536 .bf16) (harg11 : arg11.IsWhole) (arg12 : Memref sig .tc .vmem S1536x1024 .bf16) (harg12 : arg12.IsWhole)
  (arg13 : Memref sig .tc .vmem S256x1024 .bf16) (harg13 : arg13.IsWhole)

/-- A conditional without an alternative, with what follows it. -/
theorem dite_seq (E : Set ℕ) (b : BitVec 1) (L : b = 1#1 → Prog (TpuEff nD τ sig (Elt F) Λ₀ .tc) PUnit) (P Q : sProp 𝕄)
    (hA : ∀ h, P ⊢ wp frame (wpE (defs₀ (F := F)) Variants.none (c : Thread nD τ) none) E (L h) (fun _ => Q)) (hB : b ≠ 1#1 → P ⊢ Q)
    {α : Type} (K : Prog (TpuEff nD τ sig (Elt F) Λ₀ .tc) α) (Φ : α → sProp 𝕄)
    (hK : Q ⊢ wp frame (wpE (defs₀ (F := F)) Variants.none (c : Thread nD τ) none) E K Φ) :
    P ⊢ wp frame (wpE (defs₀ (F := F)) Variants.none (c : Thread nD τ) none) E (if h : b = 1#1 then (do L h; K) else K) Φ := by
  by_cases h : b = 1#1
  · rw [dif_pos h, wp_bind]
    exact (hA h).trans (wp_mono frame _ E fun _ => hK)
  · rw [dif_neg h]
    exact (hB h).trans hK

/-- What quantising `x` needs and changes. -/
def stX (X : Vec F S1536x1024 .bf16) (A7 : Vec F S1536x1024 .fp8e4m3) (A8 : Vec F S48x1024 .f32) (Ψ : Vec F S4096x1536 .bf16 → Prop) : sProp 𝕄 :=
  iprop(owns (c : Thread nD τ) arg4 fullShare X ∗ owns (c : Thread nD τ) arg7 fullShare A7 ∗ owns (c : Thread nD τ) arg8 fullShare A8
    ∗ ownsSat (c : Thread nD τ) arg13 fullShare (fun _ => True) ∗ ownsSat (c : Thread nD τ) arg11 fullShare Ψ)

/-- What quantising `dy` needs and changes. -/
def stY (Y : Vec F S1536x1024 .bf16) (A9 : Vec F S1536x1024 .fp8e5m2) (A10 : Vec F S48x1024 .f32) (D : Vec F S1536x1024 .bf16) : sProp 𝕄 :=
  iprop(owns (c : Thread nD τ) arg5 fullShare Y ∗ owns (c : Thread nD τ) arg9 fullShare A9 ∗ owns (c : Thread nD τ) arg10 fullShare A10
    ∗ owns (c : Thread nD τ) arg12 fullShare D)

theorem stepX (E : Set ℕ) (X : Vec F S1536x1024 .bf16) (A7 : Vec F S1536x1024 .fp8e4m3) (A8 : Vec F S48x1024 .f32) (Ψ₀ Ψ : Vec F S4096x1536 .bf16 → Prop)
    (h1 : k0_cond1 i = 1#1 → ∀ Z0, Ψ₀ Z0 → ∀ Z, XtOk X Z0 (i 1).val 6 Z → Ψ Z) (h0 : k0_cond1 i ≠ 1#1 → ∀ Z, Ψ₀ Z → Ψ Z) (Fr : sProp 𝕄)
    {α : Type} (K : Prog (TpuEff nD τ sig (Elt F) Λ₀ .tc) α) (Φ : α → sProp 𝕄)
    (hK : iprop(stX c arg4 arg7 arg8 arg11 arg13 X (if k0_cond1 i = 1#1 then codesX X else A7) (if k0_cond1 i = 1#1 then scalesX X else A8) Ψ ∗ Fr)
      ⊢ wp frame (wpE (defs₀ (F := F)) Variants.none (c : Thread nD τ) none) E K Φ) :
    (iprop(stX c arg4 arg7 arg8 arg11 arg13 X A7 A8 Ψ₀ ∗ Fr) : sProp 𝕄) ⊢ wp frame (wpE (defs₀ (F := F)) Variants.none (c : Thread nD τ) none) E
      (if h : k0_cond1 i = 1#1 then (do Scf.Loop.for k0_t1_loop (k0_t1_ok i h) ⟨⟩ (k0_t1_body (F := F) i arg3 harg3 arg4 harg4 arg5 harg5 arg6 harg6 arg7 harg7 arg8 harg8 arg9 harg9 arg10 harg10 arg11 harg11 arg12 harg12 arg13 harg13 h); K) else K) Φ := by
  refine dite_seq c E _ (fun h => Scf.Loop.for k0_t1_loop (k0_t1_ok i h) ⟨⟩ (k0_t1_body (F := F) i arg3 harg3 arg4 harg4 arg5 harg5 arg6 harg6 arg7 harg7 arg8 harg8 arg9 harg9 arg10 harg10 arg11 harg11 arg12 harg12 arg13 harg13 h)) _ _ (fun h => ?_) (fun h => ?_) K Φ hK
  · rw [if_pos h, if_pos h]
    unfold stX
    iintro ⟨⟨H4, H7, H8, H13, H11⟩, HF⟩
    ihave H11 := (show ownsSat (c : Thread nD τ) arg11 fullShare Ψ₀ ⊢ (iprop(∃ Z0, ⌜Ψ₀ Z0⌝ ∗ owns (c : Thread nD τ) arg11 fullShare Z0) : sProp 𝕄) from ownsSat_elim (c : Thread nD τ) arg11 fullShare _) $$ H11
    icases H11 with ⟨%Z0, %hZ0, H11⟩
    have hmono : (iprop((owns (c : Thread nD τ) arg4 fullShare X ∗ owns (c : Thread nD τ) arg7 fullShare (codesX X) ∗ owns (c : Thread nD τ) arg8 fullShare (scalesX X)
          ∗ ownsSat (c : Thread nD τ) arg13 fullShare (fun _ => True) ∗ ownsSat (c : Thread nD τ) arg11 fullShare (XtOk X Z0 (i 1).val 6)) ∗ Fr) : sProp 𝕄)
        ⊢ iprop((owns (c : Thread nD τ) arg4 fullShare X ∗ owns (c : Thread nD τ) arg7 fullShare (codesX X) ∗ owns (c : Thread nD τ) arg8 fullShare (scalesX X)
          ∗ ownsSat (c : Thread nD τ) arg13 fullShare (fun _ => True) ∗ ownsSat (c : Thread nD τ) arg11 fullShare Ψ) ∗ Fr) :=
      BIClass.sep_mono (BIClass.sep_mono .rfl (BIClass.sep_mono .rfl (BIClass.sep_mono .rfl (BIClass.sep_mono .rfl
        (ownsSat_mono (c : Thread nD τ) arg11 fullShare (fun Z hZ => h1 h Z0 hZ0 Z hZ)))))) .rfl
    iapply ((BIClass.sep_mono ((show _ ⊢ _ from loop1 c i arg3 harg3 arg4 harg4 arg5 harg5 arg6 harg6 arg7 harg7 arg8 harg8 arg9 harg9 arg10 harg10 arg11 harg11 arg12 harg12 arg13 harg13 E h X Z0).trans (wp_mono frame _ E fun _ => inv1_done c i arg4 arg7 arg8 arg11 arg13 X Z0)) (BIBase.Entails.rfl (P := Fr))).trans
      ((wp_frame_r frame _ E).trans (wp_mono frame _ E fun _ => hmono)))
    isplitr [HF]
    swap; · iexact HF
    unfold inv1
    isplitl [H4]; · iexact H4
    isplitl [H7]
    · iapply (ownsSat_intro (c : Thread nD τ) arg7 fullShare (X := A7) (fun y hy => absurd hy (by omega))); iexact H7
    isplitl [H8]
    · iapply (ownsSat_intro (c : Thread nD τ) arg8 fullShare (X := A8) (fun y hy => absurd hy (by omega))); iexact H8
    isplitl [H13]; · iexact H13
    iapply (ownsSat_intro (c : Thread nD τ) arg11 fullShare (X := Z0) ⟨fun y l hl hy => absurd hy (by omega), fun y _ => rfl⟩); iexact H11
  · rw [if_neg h, if_neg h]
    unfold stX
    iintro ⟨⟨H4, H7, H8, H13, H11⟩, HF⟩
    isplitr [HF]
    swap; · iexact HF
    isplitl [H4]; · iexact H4
    isplitl [H7]; · iexact H7
    isplitl [H8]; · iexact H8
    isplitl [H13]; · iexact H13
    iapply (ownsSat_mono (c : Thread nD τ) arg11 fullShare (h0 h)); iexact H11

theorem stepY (E : Set ℕ) (Y : Vec F S1536x1024 .bf16) (A9 : Vec F S1536x1024 .fp8e5m2) (A10 : Vec F S48x1024 .f32) (D : Vec F S1536x1024 .bf16)
    (h0 : k0_cond2 i ≠ 1#1 → D = hatsY Y) (Fr : sProp 𝕄)
    {α : Type} (K : Prog (TpuEff nD τ sig (Elt F) Λ₀ .tc) α) (Φ : α → sProp 𝕄)
    (hK : iprop(stY c arg5 arg9 arg10 arg12 Y (if k0_cond2 i = 1#1 then codesY Y else A9) (if k0_cond2 i = 1#1 then scalesY Y else A10) (hatsY Y) ∗ Fr)
      ⊢ wp frame (wpE (defs₀ (F := F)) Variants.none (c : Thread nD τ) none) E K Φ) :
    (iprop(stY c arg5 arg9 arg10 arg12 Y A9 A10 D ∗ Fr) : sProp 𝕄) ⊢ wp frame (wpE (defs₀ (F := F)) Variants.none (c : Thread nD τ) none) E
      (if h : k0_cond2 i = 1#1 then (do Scf.Loop.for k0_t3_loop (k0_t3_ok i h) ⟨⟩ (k0_t3_body (F := F) i arg3 harg3 arg4 harg4 arg5 harg5 arg6 harg6 arg7 harg7 arg8 harg8 arg9 harg9 arg10 harg10 arg11 harg11 arg12 harg12 arg13 harg13 h); K) else K) Φ := by
  refine dite_seq c E _ (fun h => Scf.Loop.for k0_t3_loop (k0_t3_ok i h) ⟨⟩ (k0_t3_body (F := F) i arg3 harg3 arg4 harg4 arg5 harg5 arg6 harg6 arg7 harg7 arg8 harg8 arg9 harg9 arg10 harg10 arg11 harg11 arg12 harg12 arg13 harg13 h)) _ _ (fun h => ?_) (fun h => ?_) K Φ hK
  · rw [if_pos h, if_pos h]
    refine BIBase.Entails.trans ?_ ((BIClass.sep_mono ((show _ ⊢ _ from loop3 c i arg3 harg3 arg4 harg4 arg5 harg5 arg6 harg6 arg7 harg7 arg8 harg8 arg9 harg9 arg10 harg10 arg11 harg11 arg12 harg12 arg13 harg13 E h Y).trans (wp_mono frame _ E fun _ => inv3_done c arg5 arg9 arg10 arg12 Y)) BIBase.Entails.rfl).trans
      ((wp_frame_r frame _ E).trans (wp_mono frame _ E fun _ => .rfl)))
    unfold stY inv3
    iintro ⟨⟨H5, H9, H10, H12⟩, HF⟩
    isplitr [HF]
    swap; · iexact HF
    isplitl [H5]; · iexact H5
    isplitl [H9]
    · iapply (ownsSat_intro (c : Thread nD τ) arg9 fullShare (X := A9) (fun y hy => absurd hy (by omega))); iexact H9
    isplitl [H10]
    · iapply (ownsSat_intro (c : Thread nD τ) arg10 fullShare (X := A10) (fun y hy => absurd hy (by omega))); iexact H10
    iapply (ownsSat_intro (c : Thread nD τ) arg12 fullShare (X := D) (fun y hy => absurd hy (by omega))); iexact H12
  · rw [if_neg h, if_neg h, h0 h]

section
variable (q : PosShare TreeShare) (f : BufTy.Contents (Elt F) arg3.view.ty)
  (hs : (startW (arg3.view.read (Elt F) f) (i 2).val).toNat ≤ 7680) (hg : (sizeW (arg3.view.read (Elt F) f) (i 2).val).toNat ≤ 1536)

include hs hg

set_option maxHeartbeats 4000000 in
/-- The first part of the body: both quantisations and the group's range. -/
theorem part5 (E : Set ℕ) (X Y : Vec F S1536x1024 .bf16) (A7 : Vec F S1536x1024 .fp8e4m3) (A8 : Vec F S48x1024 .f32) (Ψ₀ Ψ : Vec F S4096x1536 .bf16 → Prop)
    (A9 : Vec F S1536x1024 .fp8e5m2) (A10 : Vec F S48x1024 .f32) (D : Vec F S1536x1024 .bf16)
    (hX1 : k0_cond1 i = 1#1 → ∀ Z0, Ψ₀ Z0 → ∀ Z, XtOk X Z0 (i 1).val 6 Z → Ψ Z) (hX0 : k0_cond1 i ≠ 1#1 → ∀ Z, Ψ₀ Z → Ψ Z)
    (hY0 : k0_cond2 i ≠ 1#1 → D = hatsY Y) :
    (iprop(stX c arg4 arg7 arg8 arg11 arg13 X A7 A8 Ψ₀ ∗ stY c arg5 arg9 arg10 arg12 Y A9 A10 D ∗ tb c arg3 q f) : sProp 𝕄)
      ⊢ wp frame (wpE (defs₀ (F := F)) Variants.none (c : Thread nD τ) none) E (k0_part5 (F := F) i arg3 harg3 arg4 harg4 arg5 harg5 arg6 harg6 arg7 harg7 arg8 harg8 arg9 harg9 arg10 harg10 arg11 harg11 arg12 harg12 arg13 harg13)
          (fun r => iprop(⌜∃ hw2, r = ⟨BitVec.ofNat 32 (i 1).val, startW (arg3.view.read (Elt F) f) (i 2).val, sizeW (arg3.view.read (Elt F) f) (i 2).val, hw2,
                stopW (startW (arg3.view.read (Elt F) f) (i 2).val) (sizeW (arg3.view.read (Elt F) f) (i 2).val),
                Scalar.divsi (startW (arg3.view.read (Elt F) f) (i 2).val) 256#32, sgnW (startW (arg3.view.read (Elt F) f) (i 2).val), remW (startW (arg3.view.read (Elt F) f) (i 2).val)⟩⌝
            ∗ stX c arg4 arg7 arg8 arg11 arg13 X (if k0_cond1 i = 1#1 then codesX X else A7) (if k0_cond1 i = 1#1 then scalesX X else A8) Ψ
            ∗ stY c arg5 arg9 arg10 arg12 Y (if k0_cond2 i = 1#1 then codesY Y else A9) (if k0_cond2 i = 1#1 then scalesY Y else A10) (hatsY Y)
            ∗ tb c arg3 q f)) := by
  rw [k0_part5_eq_skeleton]
  unfold k0_part5_skel
  refine stepX c i arg3 harg3 arg4 harg4 arg5 harg5 arg6 harg6 arg7 harg7 arg8 harg8 arg9 harg9 arg10 harg10 arg11 harg11 arg12 harg12 arg13 harg13 E X A7 A8 Ψ₀ Ψ hX1 hX0 _ _ _ ?_
  refine BIBase.Entails.trans ?_ (stepY c i arg3 harg3 arg4 harg4 arg5 harg5 arg6 harg6 arg7 harg7 arg8 harg8 arg9 harg9 arg10 harg10 arg11 harg11 arg12 harg12 arg13 harg13 E Y A9 A10 D hY0 (iprop(stX c arg4 arg7 arg8 arg11 arg13 X (if k0_cond1 i = 1#1 then codesX X else A7) (if k0_cond1 i = 1#1 then scalesX X else A8) Ψ ∗ tb c arg3 q f)) _ _ ?_)
  · iintro ⟨HX, HY, HT⟩
    isplitl [HY]; · iexact HY
    isplitl [HX]; · iexact HX
    iexact HT
  rw [wp_bind]
  refine BIBase.Entails.trans ?_ (((BIClass.sep_mono BIBase.Entails.rfl (loop4 c i arg3 harg3 arg4 harg4 arg5 harg5 arg6 harg6 arg7 harg7 arg8 harg8 arg9 harg9 arg10 harg10 arg11 harg11 arg12 harg12 arg13 harg13 E q f)).trans (wp_frame_l frame _ E)).trans (wp_mono frame _ E fun r => ?_)) (Q := iprop((stY c arg5 arg9 arg10 arg12 Y (if k0_cond2 i = 1#1 then codesY Y else A9) (if k0_cond2 i = 1#1 then scalesY Y else A10) (hatsY Y) ∗ stX c arg4 arg7 arg8 arg11 arg13 X (if k0_cond1 i = 1#1 then codesX X else A7) (if k0_cond1 i = 1#1 then scalesX X else A8) Ψ) ∗ tb c arg3 q f))
  · iintro ⟨HY, HX, HT⟩
    isplitr [HT]
    · isplitl [HY]; · iexact HY
      iexact HX
    iexact HT
  iintro ⟨H, %hr, HT⟩
  subst hr
  istop
  rw [wp_bind]
  refine BIBase.Entails.trans (loop5 c i arg3 harg3 arg4 harg4 arg5 harg5 arg6 harg6 arg7 harg7 arg8 harg8 arg9 harg9 arg10 harg10 arg11 harg11 arg12 harg12 arg13 harg13 E _ _) (wp_mono frame _ E fun r => ?_)
  iintro ⟨%hr, ⟨HY, HX⟩, HT⟩
  subst hr
  have hk : (i 2).val < 5 := (i 2).isLt
  have he : arg3.view.readAt (Elt F) (Rect.unit (s := S5) (k0_off9 i) S1.size (k0_off9_inb i)).toLoadRect f (Shape.Idx.first (by show 0 < S1.numel; rw [numel1_S1]; exact Nat.one_pos)) = sizeW (arg3.view.read (Elt F) f) (i 2).val := by
    rw [View.readAt_eq_ld]
    exact ld_size _ _ (off9 i) hk _ _
  have w1 : k0_chk1 (startW (arg3.view.read (Elt F) f) (i 2).val) := chk1 hs hg
  have w2 : k0_chk2 i (startW (arg3.view.read (Elt F) f) (i 2).val) (arg3.view.readAt (Elt F) (Rect.unit (s := S5) (k0_off9 i) S1.size (k0_off9_inb i)).toLoadRect f (Shape.Idx.first (by show 0 < S1.numel; rw [numel1_S1]; exact Nat.one_pos))) := by
    rw [he]; exact chk2 hs hg i
  sl_exec
  sl_step
  isplitr
  · ipureintro
    have key : ∀ g', g' = sizeW (arg3.view.read (Elt F) f) (i 2).val → ∀ hw, ∃ hw2, (⟨BitVec.ofNat 32 (i 1).val, startW (arg3.view.read (Elt F) f) (i 2).val, g', hw,
        stopW (startW (arg3.view.read (Elt F) f) (i 2).val) g', Scalar.divsi (startW (arg3.view.read (Elt F) f) (i 2).val) 256#32, sgnW (startW (arg3.view.read (Elt F) f) (i 2).val), remW (startW (arg3.view.read (Elt F) f) (i 2).val)⟩ :
        Σ' (arg1 : BitVec 32) (v16 : BitVec 32) (v18 : Elt F .i32) (k0_hw2 : k0_chk2 i v16 v18) (v20 : BitVec 32) (v21 : BitVec 32) (v32 : BitVec 1), BitVec 1)
        = ⟨BitVec.ofNat 32 (i 1).val, startW (arg3.view.read (Elt F) f) (i 2).val, sizeW (arg3.view.read (Elt F) f) (i 2).val, hw2,
                stopW (startW (arg3.view.read (Elt F) f) (i 2).val) (sizeW (arg3.view.read (Elt F) f) (i 2).val),
                Scalar.divsi (startW (arg3.view.read (Elt F) f) (i 2).val) 256#32, sgnW (startW (arg3.view.read (Elt F) f) (i 2).val), remW (startW (arg3.view.read (Elt F) f) (i 2).val)⟩ := by
      rintro _ rfl hw; exact ⟨hw, rfl⟩
    exact key _ he w2
  isplitl [HX]; · iexact HX
  isplitl [HY]; · iexact HY
  iexact HT

set_option maxHeartbeats 4000000 in
/-- The whole body. `hR` says that the block does not depend on what else the transposed scratch holds. -/
theorem body_ok (E : Set ℕ) (X Y : Vec F S1536x1024 .bf16) (A7 : Vec F S1536x1024 .fp8e4m3) (A8 : Vec F S48x1024 .f32) (Ψ₀ Ψ : Vec F S4096x1536 .bf16 → Prop)
    (A9 : Vec F S1536x1024 .fp8e5m2) (A10 : Vec F S48x1024 .f32) (D : Vec F S1536x1024 .bf16) (R : Vec F S1x1024x1024 .f32)
    (hX1 : k0_cond1 i = 1#1 → ∀ Z0, Ψ₀ Z0 → ∀ Z, XtOk X Z0 (i 1).val 6 Z → Ψ Z) (hX0 : k0_cond1 i ≠ 1#1 → ∀ Z, Ψ₀ Z → Ψ Z)
    (hY0 : k0_cond2 i ≠ 1#1 → D = hatsY Y)
    (hR : ∀ Z, Ψ Z → dwBlk (i 1).val (startW (arg3.view.read (Elt F) f) (i 2).val) (sizeW (arg3.view.read (Elt F) f) (i 2).val) Z (hatsY Y) = R) :
    (iprop(stX c arg4 arg7 arg8 arg11 arg13 X A7 A8 Ψ₀ ∗ stY c arg5 arg9 arg10 arg12 Y A9 A10 D ∗ tb c arg3 q f ∗ ownsSat (c : Thread nD τ) arg6 fullShare (fun _ => True)) : sProp 𝕄)
      ⊢ wp frame (wpE (defs₀ (F := F)) Variants.none (c : Thread nD τ) none) E (cc0_mx_grouped_weight_grad (F := F) i arg3 harg3 arg4 harg4 arg5 harg5 arg6 harg6 arg7 harg7 arg8 harg8 arg9 harg9 arg10 harg10 arg11 harg11 arg12 harg12 arg13 harg13)
          (fun _ => iprop(stX c arg4 arg7 arg8 arg11 arg13 X (if k0_cond1 i = 1#1 then codesX X else A7) (if k0_cond1 i = 1#1 then scalesX X else A8) Ψ
            ∗ stY c arg5 arg9 arg10 arg12 Y (if k0_cond2 i = 1#1 then codesY Y else A9) (if k0_cond2 i = 1#1 then scalesY Y else A10) (hatsY Y)
            ∗ tb c arg3 q f ∗ owns (c : Thread nD τ) arg6 fullShare R)) := by
  rw [cc0_mx_grouped_weight_grad_eq_skeleton]
  unfold cc0_mx_grouped_weight_grad_skel
  rw [wp_bind]
  refine BIBase.Entails.trans ?_ ((BIClass.sep_mono (part5 c i arg3 harg3 arg4 harg4 arg5 harg5 arg6 harg6 arg7 harg7 arg8 harg8 arg9 harg9 arg10 harg10 arg11 harg11 arg12 harg12 arg13 harg13 q f hs hg E X Y A7 A8 Ψ₀ Ψ A9 A10 D hX1 hX0 hY0) BIBase.Entails.rfl).trans
    ((wp_frame_r frame _ E (R := ownsSat (c : Thread nD τ) arg6 fullShare (fun _ => True))).trans (wp_mono frame _ E fun r => ?_)))
  · iintro ⟨HX, HY, HT, H6⟩
    isplitr [H6]
    swap; · iexact H6
    isplitl [HX]; · iexact HX
    isplitl [HY]; · iexact HY
    iexact HT
  iintro ⟨⟨%hr, HX, HY, HT⟩, H6⟩
  obtain ⟨hw2, rfl⟩ := hr
  unfold stX stY
  icases HX with ⟨H4, H7, H8, H13, H11⟩
  icases HY with ⟨H5, H9, H10, H12⟩
  ihave H11 := (show ownsSat (c : Thread nD τ) arg11 fullShare Ψ ⊢ (iprop(∃ Z0, ⌜Ψ Z0⌝ ∗ owns (c : Thread nD τ) arg11 fullShare Z0) : sProp 𝕄) from ownsSat_elim (c : Thread nD τ) arg11 fullShare _) $$ H11
  icases H11 with ⟨%Z, %hZ, H11⟩
  generalize hs' : startW (arg3.view.read (Elt F) f) (i 2).val = s at *
  generalize hg' : sizeW (arg3.view.read (Elt F) f) (i 2).val = g at *
  generalize (if k0_cond1 i = 1#1 then codesX X else A7) = B7
  generalize (if k0_cond1 i = 1#1 then scalesX X else A8) = B8
  generalize (if k0_cond2 i = 1#1 then codesY Y else A9) = B9
  generalize (if k0_cond2 i = 1#1 then scalesY Y else A10) = B10
  have hT := tail c i arg3 harg3 arg4 harg4 arg5 harg5 arg6 harg6 arg7 harg7 arg8 harg8 arg9 harg9 arg10 harg10 arg11 harg11 arg12 harg12 arg13 harg13 hs hg E hw2 (hatsY Y) Z
  have key := (BIClass.sep_mono hT (BIBase.Entails.rfl (P := iprop(owns (c : Thread nD τ) arg4 fullShare X ∗ owns (c : Thread nD τ) arg7 fullShare B7 ∗ owns (c : Thread nD τ) arg8 fullShare B8
      ∗ ownsSat (c : Thread nD τ) arg13 fullShare (fun _ => True) ∗ owns (c : Thread nD τ) arg5 fullShare Y ∗ owns (c : Thread nD τ) arg9 fullShare B9 ∗ owns (c : Thread nD τ) arg10 fullShare B10 ∗ tb c arg3 q f)))).trans (wp_frame_r frame _ E)
  have hmono : (iprop(tailSt c i arg6 arg11 arg12 s g (hatsY Y) Z 7 ∗ owns (c : Thread nD τ) arg4 fullShare X ∗ owns (c : Thread nD τ) arg7 fullShare B7 ∗ owns (c : Thread nD τ) arg8 fullShare B8
      ∗ ownsSat (c : Thread nD τ) arg13 fullShare (fun _ => True) ∗ owns (c : Thread nD τ) arg5 fullShare Y ∗ owns (c : Thread nD τ) arg9 fullShare B9 ∗ owns (c : Thread nD τ) arg10 fullShare B10 ∗ tb c arg3 q f) : sProp 𝕄)
      ⊢ iprop((owns (c : Thread nD τ) arg4 fullShare X ∗ owns (c : Thread nD τ) arg7 fullShare B7 ∗ owns (c : Thread nD τ) arg8 fullShare B8
          ∗ ownsSat (c : Thread nD τ) arg13 fullShare (fun _ => True) ∗ ownsSat (c : Thread nD τ) arg11 fullShare Ψ)
        ∗ (owns (c : Thread nD τ) arg5 fullShare Y ∗ owns (c : Thread nD τ) arg9 fullShare B9 ∗ owns (c : Thread nD τ) arg10 fullShare B10 ∗ owns (c : Thread nD τ) arg12 fullShare (hatsY Y))
        ∗ tb c arg3 q f ∗ owns (c : Thread nD τ) arg6 fullShare R) := by
    unfold tailSt
    iintro ⟨⟨H12, H11, H6⟩, H4, H7, H8, H13, H5, H9, H10, HT⟩
    isplitl [H4 H7 H8 H13 H11]
    · isplitl [H4]; · iexact H4
      isplitl [H7]; · iexact H7
      isplitl [H8]; · iexact H8
      isplitl [H13]; · iexact H13
      iapply (ownsSat_intro (c : Thread nD τ) arg11 fullShare (X := Z) hZ); iexact H11
    isplitl [H5 H9 H10 H12]
    · isplitl [H5]; · iexact H5
      isplitl [H9]; · iexact H9
      isplitl [H10]; · iexact H10
      iexact H12
    isplitl [HT]; · iexact HT
    have hcnt : cntN s.toNat g.toNat < 7 := by have := cntN_le s.toNat g.toNat; omega
    ihave H6 := (show ownsSat (c : Thread nD τ) arg6 fullShare (fun V => cntN s.toNat g.toNat < 7 → V = dwBlk (i 1).val s g Z (hatsY Y)) ⊢ (iprop(∃ V, ⌜cntN s.toNat g.toNat < 7 → V = dwBlk (i 1).val s g Z (hatsY Y)⌝ ∗ owns (c : Thread nD τ) arg6 fullShare V) : sProp 𝕄) from ownsSat_elim (c : Thread nD τ) arg6 fullShare _) $$ H6
    icases H6 with ⟨%V, %hV, H6⟩
    rw [← hR Z hZ, ← hV hcnt]
    iexact H6
  iapply (key.trans (wp_mono frame _ E fun _ => hmono))
  unfold tailSt
  isplitl [H12 H11 H6]
  · isplitl [H12]; · iexact H12
    isplitl [H11]; · iexact H11
    iapply (ownsSat_mono (c : Thread nD τ) arg6 fullShare (Φ := fun _ => True) (fun V _ hlt => absurd hlt (by omega))); iexact H6
  isplitl [H4]; · iexact H4
  isplitl [H7]; · iexact H7
  isplitl [H8]; · iexact H8
  isplitl [H13]; · iexact H13
  isplitl [H5]; · iexact H5
  isplitl [H9]; · iexact H9
  isplitl [H10]; · iexact H10
  iexact HT
end
end

end Cert.KernelIdeal.Own

end
-- ==== Proof.Idealized.Sched.lean ====
/-
  The 7 x 4 x 5 grid counted as one number: its coordinates, the two guards of the body, the blocks in use at each point,
  where the staged results are written back, and what each staged buffer is to hold after each point.
-/
module

public import proofs.«01_k».proof.Proof.Idealized.Frame
public import proofs.«01_k».proof.Proof.Idealized.Body
public import Idealize.ShloMosaic.Lib.Pipeline.TableIdle
public import Idealize.ShloMosaic.Lib.Pipeline.ValueKit
public import Idealize.ShloMosaic.Lib.Decide

@[expose] public section

set_option maxRecDepth 16384

noncomputable section

namespace Cert.KernelIdeal.Own

open Cert.Own Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The block of `x` in use at point `n`. -/
def mIdx (n : ℕ) : ℕ := if n < 20 then n / 5 else 3

theorem mIdx_lt {n : ℕ} (h : n < 140) : mIdx n < 4 := by unfold mIdx; split <;> omega

/-- The coordinates of a point. -/
theorem coords0 : ∀ t : Fin grid0.N, (grid0.coords t 0).val = t.val / 20 := by decide +kernel
theorem coords1 : ∀ t : Fin grid0.N, (grid0.coords t 1).val = t.val / 5 % 4 := by decide +kernel
theorem coords2 : ∀ t : Fin grid0.N, (grid0.coords t 2).val = t.val % 5 := by decide +kernel

/-- Where `x` is quantised, and where `dy` is. -/
theorem cond1_iff : ∀ t : Fin grid0.N, k0_cond1 (grid0.coords t) = 1#1 ↔ t.val < 20 ∧ t.val % 5 = 0 := by decide +kernel
theorem cond2_iff : ∀ t : Fin grid0.N, k0_cond2 (grid0.coords t) = 1#1 ↔ t.val % 20 = 0 := by decide +kernel

/-- Which block each window is on. -/
theorem idxX : ∀ t : Fin grid0.N, cc0_transform_0 (grid0.coords t) = ![0, mIdx t.val] := by decide +kernel
theorem idxY : ∀ t : Fin grid0.N, cc0_transform_1 (grid0.coords t) = ![0, t.val / 20] := by decide +kernel
theorem idxW : ∀ t : Fin grid0.N, cc0_transform_2 (grid0.coords t) = ![t.val % 5, t.val / 5 % 4, t.val / 20] := by decide +kernel
theorem idxXc : ∀ t : Fin grid0.N, cc0_transform_3 (grid0.coords t) = ![0, mIdx t.val] := by decide +kernel
theorem idxXs : ∀ t : Fin grid0.N, cc0_transform_4 (grid0.coords t) = ![0, mIdx t.val] := by decide +kernel
theorem idxYc : ∀ t : Fin grid0.N, cc0_transform_5 (grid0.coords t) = ![0, t.val / 20] := by decide +kernel
theorem idxYs : ∀ t : Fin grid0.N, cc0_transform_6 (grid0.coords t) = ![0, t.val / 20] := by decide +kernel

variable (m : (ℓ : Loc nD τ sig) → Buf (Elt F) ℓ)

/-- The operands as the pallas_call finds them, and their blocks of 1024 columns. -/
def xarr (c : Dev nD) : Vec F S1536x4096 .bf16 := V m c main_v0
def yarr (c : Dev nD) : Vec F S1536x7168 .bf16 := V m c main_v1
def xb (c : Dev nD) (k : ℕ) : Vec F S1536x1024 .bf16 := fun y => xarr m c (ValueIdx.ix2 (y 0) ⟨(1024 * k + (y 1).val) % 4096, Nat.mod_lt _ (by decide)⟩)
def yb (c : Dev nD) (k : ℕ) : Vec F S1536x1024 .bf16 := fun y => yarr m c (ValueIdx.ix2 (y 0) ⟨(1024 * k + (y 1).val) % 7168, Nat.mod_lt _ (by decide)⟩)

theorem iblkX (hO : Ok m) (c : Dev nD) (t : Fin (cfgM m hO).N) : iblk m hO c 0 t = xb m c (mIdx t.val) := by
  have hb : mIdx t.val < 4 := mIdx_lt t.isLt
  funext y
  have e0 : (pcfg0.win (adm m hO) 0).index t (0 : Fin 2) = 0 := congrFun (idxX t) 0
  have e1 : (pcfg0.win (adm m hO) 0).index t (1 : Fin 2) = mIdx t.val := congrFun (idxX t) 1
  unfold xb xarr
  blk_ext [iblk, e0, e1]

theorem iblkY (hO : Ok m) (c : Dev nD) (t : Fin (cfgM m hO).N) : iblk m hO c 1 t = yb m c (t.val / 20) := by
  have hb : t.val < 140 := t.isLt
  funext y
  have e0 : (pcfg0.win (adm m hO) 1).index t (0 : Fin 2) = 0 := congrFun (idxY t) 0
  have e1 : (pcfg0.win (adm m hO) 1).index t (1 : Fin 2) = t.val / 20 := congrFun (idxY t) 1
  unfold yb yarr
  blk_ext [iblk, e0, e1]

/-- All of `x` dequantised and transposed, as the scratch holds it once every block has been through. -/
def xhatT (c : Dev nD) : Vec F S4096x1536 .bf16 :=
  fun y => hatX (xb m c ((y 0).val / 1024)) (y 1).val ⟨(y 0).val % 1024, Nat.mod_lt _ (by decide)⟩

/-- The output block of a point: group `n % 5`, rows `n / 5 % 4` and columns `n / 20`. -/
def dwAt (c : Dev nD) (n : ℕ) : Vec F S1x1024x1024 .f32 :=
  dwBlk (n / 5 % 4) (startW (F := F) (tbl m 0) (n % 5)) (sizeW (F := F) (tbl m 0) (n % 5)) (xhatT m c) (hatsY (yb m c (n / 20)))

/-- The rows of the transposed scratch that are set when point `n` begins. -/
def ΨX (c : Dev nD) (n : ℕ) (Z : Vec F S4096x1536 .bf16) : Prop := ∀ y : S4096x1536.Idx, 5 * ((y 0).val / 1024) < n → Z y = xhatT m c y
/-- The block of `dy` is set except where a new column block is about to begin. -/
def ΨY (c : Dev nD) (n : ℕ) (D : Vec F S1536x1024 .bf16) : Prop := n % 20 ≠ 0 → D = hatsY (yb m c (n / 20))

theorem ΨX_new (c : Dev nD) {n : ℕ} (hn : n < 20) (h5 : n % 5 = 0) (Z0 : Vec F S4096x1536 .bf16) (h : ΨX m c n Z0) (Z : Vec F S4096x1536 .bf16)
    (hZ : XtOk (xb m c (mIdx n)) Z0 (n / 5 % 4) 6 Z) : ΨX m c (n + 1) Z := by
  intro y hy
  have b0 : (y 0).val < 4096 := (y 0).isLt
  have b1 : (y 1).val < 1536 := (y 1).isLt
  by_cases hm : (y 0).val / 1024 = n / 5
  · have e := hZ.1 y ⟨(y 0).val % 1024, Nat.mod_lt _ (by decide)⟩ (by show (y 0).val = 1024 * (n / 5 % 4) + (y 0).val % 1024; omega) (by omega)
    rw [e]
    unfold xhatT mIdx
    rw [if_pos hn, hm]
  · rw [hZ.2 y (by omega)]
    exact h y (by omega)

theorem ΨX_keep (c : Dev nD) {n : ℕ} (hn : ¬ (n < 20 ∧ n % 5 = 0)) (Z : Vec F S4096x1536 .bf16) (h : ΨX m c n Z) : ΨX m c (n + 1) Z := by
  intro y hy
  have b0 : (y 0).val < 4096 := (y 0).isLt
  exact h y (by omega)

theorem colsOf_congr (c : Dev nD) {n : ℕ} (Z : Vec F S4096x1536 .bf16) (h : ΨX m c (n + 1) Z) (W r : ℕ) :
    colsOf W Z (n / 5 % 4) r = colsOf W (xhatT m c) (n / 5 % 4) r := by
  funext j
  have b0 : (j 0).val < 1024 := (j 0).isLt
  unfold colsOf
  refine h _ ?_
  show 5 * ((1024 * (n / 5 % 4) + (j 0).val) % 4096 / 1024) < n + 1
  omega

/-- The output block depends on the rows of the scratch that are set. -/
theorem dwAt_of (c : Dev nD) {n : ℕ} (Z : Vec F S4096x1536 .bf16) (h : ΨX m c (n + 1) Z) :
    dwBlk (n / 5 % 4) (startW (F := F) (tbl m 0) (n % 5)) (sizeW (F := F) (tbl m 0) (n % 5)) Z (hatsY (yb m c (n / 20))) = dwAt m c n := by
  unfold dwAt dwBlk
  simp only [colsOf_congr m c Z h]

/-- The scratch when point `n` begins. -/
def PhiAt (c : Dev nD) (n : ℕ) : sProp 𝕄 :=
  iprop(ownsSat (c : Thread nD τ) (Memref.whole cc0_scratch0) fullShare (ΨX m c n)
    ∗ ownsSat (c : Thread nD τ) (Memref.whole cc0_scratch1) fullShare (ΨY m c n)
    ∗ ownsSat (c : Thread nD τ) (Memref.whole cc0_scratch2) fullShare (fun _ => True)
    ∗ tb c tbM0_0 fullShare.right (tbl m 0) ∗ (∃ r, prngReg c r))

/-- The proof data of the pallas_call: its arrays, what each staged buffer holds after each point, and the scratch between points. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => xb m c (mIdx t.val)
    | ⟨1, _⟩ => yb m c (t.val / 20)
    | ⟨2, _⟩ => dwAt m c t.val
    | ⟨3, _⟩ => codesX (xb m c (mIdx t.val))
    | ⟨4, _⟩ => scalesX (xb m c (mIdx t.val))
    | ⟨5, _⟩ => codesY (yb m c (t.val / 20))
    | ⟨6, _⟩ => scalesY (yb m c (t.val / 20))
  Φ t := PhiAt m c t.val
  q _ := fullShare
  owed _ := 0

section
variable (hO : Ok m) (c : Dev nD)

theorem A_eq (w : Fin (cfgM m hO).W) : (dats m hO 0 c).A w = V m c (Pipeline.arrRef spec0 w) := by dsimp only [dats]

theorem Phi_at (t : Fin ((cfgM m hO).N + 1)) : (dats m hO 0 c).Φ t = PhiAt m c t.val := by dsimp only [dats]

theorem after0 (t : Fin (cfgM m hO).N) : (dats m hO 0 c).after 0 t = xb m c (mIdx t.val) := by dsimp only [dats]; rfl
theorem after1 (t : Fin (cfgM m hO).N) : (dats m hO 0 c).after 1 t = yb m c (t.val / 20) := by dsimp only [dats]; rfl
theorem after2 (t : Fin (cfgM m hO).N) : (dats m hO 0 c).after 2 t = dwAt m c t.val := by dsimp only [dats]; rfl
theorem after3 (t : Fin (cfgM m hO).N) : (dats m hO 0 c).after 3 t = codesX (xb m c (mIdx t.val)) := by dsimp only [dats]; rfl
theorem after4 (t : Fin (cfgM m hO).N) : (dats m hO 0 c).after 4 t = scalesX (xb m c (mIdx t.val)) := by dsimp only [dats]; rfl
theorem after5 (t : Fin (cfgM m hO).N) : (dats m hO 0 c).after 5 t = codesY (yb m c (t.val / 20)) := by dsimp only [dats]; rfl
theorem after6 (t : Fin (cfgM m hO).N) : (dats m hO 0 c).after 6 t = scalesY (yb m c (t.val / 20)) := by dsimp only [dats]; rfl

theorem before0 (t : Fin (cfgM m hO).N) (d) : (dats m hO 0 c).before 0 t d = xb m c (mIdx t.val) :=
  (before0_0_of m hO (dats m hO 0 c) (A_eq m hO c 0) (fun t => (after0 m hO c t).trans (iblkX m hO c t).symm) t d).trans (iblkX m hO c t)
theorem before1 (t : Fin (cfgM m hO).N) (d) : (dats m hO 0 c).before 1 t d = yb m c (t.val / 20) :=
  (before0_1_of m hO (dats m hO 0 c) (A_eq m hO c 1) (fun t => (after1 m hO c t).trans (iblkY m hO c t).symm) t d).trans (iblkY m hO c t)

/-- A buffer of a result that the body leaves alone at a point already holds what it is to hold after it: nothing was written
    back since it was stored. -/
theorem before_idle (w : Fin (cfgM m hO).W) (hw : ((cfgM m hO).win w).isOut = true) (hclip : ∀ (i : (cfgM m hO).grid.Coords) a, ((cfgM m hO).win w).clip i a = none)
    (h0 : ∀ t : Fin (cfgM m hO).N, (cfgM m hO).idle w ((cfgM m hO).grid.coords t) = true → t.val ≠ 0)
    (hfl : ∀ (n : ℕ) (h : n + 1 < (cfgM m hO).N), (cfgM m hO).idle w ((cfgM m hO).grid.coords ⟨n + 1, h⟩) = true → ((cfgM m hO).win w).flush ⟨n, Nat.lt_of_succ_lt h⟩ = false)
    (hcarry : ∀ (t : Fin (cfgM m hO).N) (_ : t.val ≠ 0), (cfgM m hO).idle w ((cfgM m hO).grid.coords t) = true →
      (dats m hO 0 c).after w t = (dats m hO 0 c).after w ⟨t.val - 1, by omega⟩)
    (t : Fin (cfgM m hO).N) (hi : (cfgM m hO).idle w ((cfgM m hO).grid.coords t) = true) (d) :
    (dats m hO 0 c).before w t d = (dats m hO 0 c).after w t := by
  have hfr : ∀ (n : ℕ) (h : n < (cfgM m hO).N), (cfgM m hO).idle w ((cfgM m hO).grid.coords ⟨n, h⟩) = true → (cfgM m hO).fresh w n = false := by
    intro n
    induction n with
    | zero => intro h hi; exact absurd rfl (h0 _ hi)
    | succ n ih =>
      intro h hi
      rw [Cfg.fresh_succ _ w n (Nat.lt_of_succ_lt h), hfl n h hi, Bool.false_or]
      cases hj : (cfgM m hO).idle w ((cfgM m hO).grid.coords ⟨n, Nat.lt_of_succ_lt h⟩)
      · rfl
      · rw [ih (Nat.lt_of_succ_lt h) hj]; rfl
  rw [Dat.before_out_traj (dats m hO 0 c) w hw hclip (fun t ht hi _ => hcarry t ht hi) t.val t rfl d, hfr t.val t.isLt hi, if_neg Bool.false_ne_true,
    ← hcarry t (h0 t hi) hi]
end

end Cert.KernelIdeal.Own

end
-- ==== Proof.Idealized.Run.lean ====
/-
  The kernel's run: the body at every point of the grid, and the whole program from launch to end.
-/
module

public import proofs.«01_k».proof.Proof.Idealized.Sched
public import Idealize.ShloMosaic.Lib.Pipeline.FrameBody

@[expose] public section

set_option maxRecDepth 16384

noncomputable section

namespace Cert.KernelIdeal.Own

open Cert.Own Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

attribute [local irreducible] wp

variable (m : (ℓ : Loc nD τ sig) → Buf (Elt F) ℓ) (hO : Ok m) (c : Dev nD)

theorem idle3 (t : Fin grid0.N) (h : (!(k0_cond1 (grid0.coords t) == 1#1)) = true) : ¬ (t.val < 20 ∧ t.val % 5 = 0) := by
  rw [← cond1_iff t]; simpa using h
theorem idle5 (t : Fin grid0.N) (h : (!(k0_cond2 (grid0.coords t) == 1#1)) = true) : ¬ t.val % 20 = 0 := by
  rw [← cond2_iff t]; simpa using h

theorem mIdx_pred {n : ℕ} (h : ¬ (n < 20 ∧ n % 5 = 0)) : mIdx (n - 1) = mIdx n := by
  unfold mIdx
  split <;> split <;> omega

/-- A block that stays where it is at the next point is not written back. -/
theorem flushOf_same {r : ℕ} (ix : grid0.Coords → Fin r → ℕ) (n : ℕ) (h : n + 1 < grid0.N)
    (e : ix (grid0.coords ⟨n + 1, h⟩) = ix (grid0.coords ⟨n, Nat.lt_of_succ_lt h⟩)) : Pipeline.Window.flushOf grid0 true ix ⟨n, Nat.lt_of_succ_lt h⟩ = false := by
  have hne : n + 1 ≠ grid0.N := by omega
  unfold Pipeline.Window.flushOf
  simp [hne, e]

/-- The codes and scales already stand in their buffers at a point that does not store them. -/
theorem idle_3 (t : Fin (cfgM m hO).N) (h : (cfgM m hO).idle 3 ((cfgM m hO).grid.coords t) = true) (d) : (dats m hO 0 c).before 3 t d = (dats m hO 0 c).after 3 t :=
  before_idle m hO c 3 rfl (fun _ _ => rfl) (fun t h => by have := idle3 t h; omega)
    (fun n h hi => flushOf_same cc0_transform_3 n h (by rw [idxXc, idxXc, ← mIdx_pred (idle3 ⟨n + 1, h⟩ hi)]; rfl))
    (fun t _ hi => by rw [after3, after3, mIdx_pred (idle3 t hi)]) t h d
theorem idle_4 (t : Fin (cfgM m hO).N) (h : (cfgM m hO).idle 4 ((cfgM m hO).grid.coords t) = true) (d) : (dats m hO 0 c).before 4 t d = (dats m hO 0 c).after 4 t :=
  before_idle m hO c 4 rfl (fun _ _ => rfl) (fun t h => by have := idle3 t h; omega)
    (fun n h hi => flushOf_same cc0_transform_4 n h (by rw [idxXs, idxXs, ← mIdx_pred (idle3 ⟨n + 1, h⟩ hi)]; rfl))
    (fun t _ hi => by rw [after4, after4, mIdx_pred (idle3 t hi)]) t h d
theorem div20 {n : ℕ} (h : ¬ n % 20 = 0) : (n - 1) / 20 = n / 20 := by omega
theorem idle_5 (t : Fin (cfgM m hO).N) (h : (cfgM m hO).idle 5 ((cfgM m hO).grid.coords t) = true) (d) : (dats m hO 0 c).before 5 t d = (dats m hO 0 c).after 5 t :=
  before_idle m hO c 5 rfl (fun _ _ => rfl) (fun t h => by have := idle5 t h; omega)
    (fun n h hi => flushOf_same cc0_transform_5 n h (by rw [idxYc, idxYc, ← div20 (idle5 ⟨n + 1, h⟩ hi)]; rfl))
    (fun t _ hi => by rw [after5, after5, div20 (idle5 t hi)]) t h d
theorem idle_6 (t : Fin (cfgM m hO).N) (h : (cfgM m hO).idle 6 ((cfgM m hO).grid.coords t) = true) (d) : (dats m hO 0 c).before 6 t d = (dats m hO 0 c).after 6 t :=
  before_idle m hO c 6 rfl (fun _ _ => rfl) (fun t h => by have := idle5 t h; omega)
    (fun n h hi => flushOf_same cc0_transform_6 n h (by rw [idxYs, idxYs, ← div20 (idle5 ⟨n + 1, h⟩ hi)]; rfl))
    (fun t _ hi => by rw [after6, after6, div20 (idle5 t hi)]) t h d

/-- A buffer at what it is to hold after the point is left as the pipeline asks, stored there or not. -/
theorem leaves_of (w : Fin (cfgM m hO).W) (t : Fin (cfgM m hO).N) (hl : (cfgM m hO).loose w = false)
    (hi : (cfgM m hO).idle w ((cfgM m hO).grid.coords t) = true → ∀ d, (dats m hO 0 c).before w t d = (dats m hO 0 c).after w t) :
    owns (c : Thread nD τ) (((cfgM m hO).win w).stage ((cfgM m hO).slots t w)) fullShare ((dats m hO 0 c).after w t) ⊢ ((dats m hO 0 c).leaves w t : sProp 𝕄) := by
  unfold Dat.leaves
  cases h1 : (cfgM m hO).idle w ((cfgM m hO).grid.coords t)
  · simp only [hl]; exact .rfl
  · cases h2 : ((cfgM m hO).win w).flush t
    · simp only
      iintro H
      iexists ((dats m hO 0 c).after w t)
      rw [hi h1]
      iexact H
    · simp only [hl]; exact .rfl

/-- What the body is called with at a point, and what it returns. -/
def bodyPre (t : Fin (cfgM m hO).N) : sProp 𝕄 :=
  iprop((dats m hO 0 c).Φ t.castSucc ∗ (dats m hO 0 c).owesAt () t.castSucc
    ∗ (∃ d, owns (c : Thread nD τ) (st0_0 (adm m hO) t) fullShare ((dats m hO 0 c).before 0 t d))
    ∗ (∃ d, owns (c : Thread nD τ) (st0_1 (adm m hO) t) fullShare ((dats m hO 0 c).before 1 t d))
    ∗ (∃ d, owns (c : Thread nD τ) (st0_2 (adm m hO) t) fullShare ((dats m hO 0 c).before 2 t d))
    ∗ (∃ d, owns (c : Thread nD τ) (st0_3 (adm m hO) t) fullShare ((dats m hO 0 c).before 3 t d))
    ∗ (∃ d, owns (c : Thread nD τ) (st0_4 (adm m hO) t) fullShare ((dats m hO 0 c).before 4 t d))
    ∗ (∃ d, owns (c : Thread nD τ) (st0_5 (adm m hO) t) fullShare ((dats m hO 0 c).before 5 t d))
    ∗ (∃ d, owns (c : Thread nD τ) (st0_6 (adm m hO) t) fullShare ((dats m hO 0 c).before 6 t d)))
def bodyPost (t : Fin (cfgM m hO).N) : sProp 𝕄 :=
  iprop((dats m hO 0 c).Φ t.succ ∗ (dats m hO 0 c).owesAt () t.succ
    ∗ (dats m hO 0 c).leaves 0 t ∗ (dats m hO 0 c).leaves 1 t ∗ (dats m hO 0 c).leaves 2 t ∗ (dats m hO 0 c).leaves 3 t
    ∗ (dats m hO 0 c).leaves 4 t ∗ (dats m hO 0 c).leaves 5 t ∗ (dats m hO 0 c).leaves 6 t)

theorem defs₀_row (t : Fin (cfgM m hO).N) :
    defs₀ (F := F) .tc (cfgM m hO).body ((cfgM m hO).bodyArgs t ((cfgM m hO).slots t)) = bodyAt0 (adm m hO) t := by
  unfold defs₀; rw [Defs.onTc_tc]

theorem tb_eq (f : TbBuf0 (F := F) c tbM0_0) : (tbPt0 c tbM0_0 f : sProp 𝕄) = tb c tbM0_0 fullShare.right f := by
  unfold tb
  rw [show (tbM0_0.view.set) = Finset.univ from View.set_whole _]

/-- The sizes and starts read off the table are in range. -/
structure Bounds : Prop where
  size : ∀ k, k < 5 → (sizeW (F := F) (tbl m 0) k).toNat ≤ 1536
  start : ∀ k, k < 5 → (startW (F := F) (tbl m 0) k).toNat ≤ 7680

/-- The body at a point, from and to the scratch and the staged buffers as they are to stand there. -/
theorem body_at (hB : Bounds m) (t : Fin (cfgM m hO).N) (A7 : Vec F S1536x1024 .fp8e4m3) (A8 : Vec F S48x1024 .f32) (A9 : Vec F S1536x1024 .fp8e5m2) (A10 : Vec F S48x1024 .f32)
    (D : Vec F S1536x1024 .bf16) (hD : ΨY m c t.val D) :
    (iprop(stX c (st0_0 (adm m hO) t) (st0_3 (adm m hO) t) (st0_4 (adm m hO) t) (Memref.whole cc0_scratch0) (Memref.whole cc0_scratch2) (xb m c (mIdx t.val)) A7 A8 (ΨX m c t.val)
      ∗ stY c (st0_1 (adm m hO) t) (st0_5 (adm m hO) t) (st0_6 (adm m hO) t) (Memref.whole cc0_scratch1) (yb m c (t.val / 20)) A9 A10 D ∗ tb c tbM0_0 fullShare.right (tbl m 0)
      ∗ ownsSat (c : Thread nD τ) (st0_2 (adm m hO) t) fullShare (fun _ => True)) : sProp 𝕄)
      ⊢ wp frame (wpE (defs₀ (F := F)) Variants.none (c : Thread nD τ) none) Set.univ (bodyAt0 (adm m hO) t)
          (fun _ => iprop(stX c (st0_0 (adm m hO) t) (st0_3 (adm m hO) t) (st0_4 (adm m hO) t) (Memref.whole cc0_scratch0) (Memref.whole cc0_scratch2) (xb m c (mIdx t.val))
              (if k0_cond1 (grid0.coords t) = 1#1 then codesX (xb m c (mIdx t.val)) else A7) (if k0_cond1 (grid0.coords t) = 1#1 then scalesX (xb m c (mIdx t.val)) else A8) (ΨX m c (t.val + 1))
            ∗ stY c (st0_1 (adm m hO) t) (st0_5 (adm m hO) t) (st0_6 (adm m hO) t) (Memref.whole cc0_scratch1) (yb m c (t.val / 20))
              (if k0_cond2 (grid0.coords t) = 1#1 then codesY (yb m c (t.val / 20)) else A9) (if k0_cond2 (grid0.coords t) = 1#1 then scalesY (yb m c (t.val / 20)) else A10) (hatsY (yb m c (t.val / 20)))
            ∗ tb c tbM0_0 fullShare.right (tbl m 0)
            ∗ owns (c : Thread nD τ) (st0_2 (adm m hO) t) fullShare (dwAt m c t.val))) := by
  have hc0 : (grid0.coords t 0).val = t.val / 20 := coords0 t
  have hc1 : (grid0.coords t 1).val = t.val / 5 % 4 := coords1 t
  have hc2 : (grid0.coords t 2).val = t.val % 5 := coords2 t
  have hx : k0_cond1 (grid0.coords t) = 1#1 ↔ t.val < 20 ∧ t.val % 5 = 0 := cond1_iff t
  have hy : k0_cond2 (grid0.coords t) = 1#1 ↔ t.val % 20 = 0 := cond2_iff t
  have hs : (startW (F := F) (tbM0_0.view.read (Elt F) (tbl m 0)) (grid0.coords t 2).val).toNat ≤ 7680 := by rw [hc2]; exact hB.start _ (Nat.mod_lt _ (by decide))
  have hg : (sizeW (F := F) (tbM0_0.view.read (Elt F) (tbl m 0)) (grid0.coords t 2).val).toNat ≤ 1536 := by rw [hc2]; exact hB.size _ (Nat.mod_lt _ (by decide))
  have hX1 : k0_cond1 (grid0.coords t) = 1#1 → ∀ Z0, ΨX m c t.val Z0 → ∀ Z, XtOk (xb m c (mIdx t.val)) Z0 (grid0.coords t 1).val 6 Z → ΨX m c (t.val + 1) Z :=
    fun h Z0 h0 Z hZ => by rw [hc1] at hZ; exact ΨX_new m c (hx.1 h).1 (hx.1 h).2 Z0 h0 Z hZ
  have hX0 : k0_cond1 (grid0.coords t) ≠ 1#1 → ∀ Z, ΨX m c t.val Z → ΨX m c (t.val + 1) Z := fun h Z hZ => ΨX_keep m c (fun h' => h (hx.2 h')) Z hZ
  have hY0 : k0_cond2 (grid0.coords t) ≠ 1#1 → D = hatsY (yb m c (t.val / 20)) := fun h => hD (fun h' => h (hy.2 h'))
  have hR : ∀ Z, ΨX m c (t.val + 1) Z → dwBlk (grid0.coords t 1).val (startW (F := F) (tbM0_0.view.read (Elt F) (tbl m 0)) (grid0.coords t 2).val) (sizeW (F := F) (tbM0_0.view.read (Elt F) (tbl m 0)) (grid0.coords t 2).val) Z (hatsY (yb m c (t.val / 20))) = dwAt m c t.val :=
    fun Z hZ => by rw [hc1, hc2]; exact dwAt_of m c Z hZ
  exact body_ok c (grid0.coords t) tbM0_0 (Memref.isWhole_whole _) (spec0_0.stage ((cfg0 (adm m hO)).slots t 0)) (hstage0_0 (((cfg0 (adm m hO)).slots t 0).cast nbuf0_0))
    (spec0_1.stage ((cfg0 (adm m hO)).slots t 1)) (hstage0_1 (((cfg0 (adm m hO)).slots t 1).cast nbuf0_1))
    (spec0_2.stage ((cfg0 (adm m hO)).slots t 2)) (hstage0_2 (((cfg0 (adm m hO)).slots t 2).cast nbuf0_2))
    (spec0_3.stage ((cfg0 (adm m hO)).slots t 3)) (hstage0_3 (((cfg0 (adm m hO)).slots t 3).cast nbuf0_3))
    (spec0_4.stage ((cfg0 (adm m hO)).slots t 4)) (hstage0_4 (((cfg0 (adm m hO)).slots t 4).cast nbuf0_4))
    (spec0_5.stage ((cfg0 (adm m hO)).slots t 5)) (hstage0_5 (((cfg0 (adm m hO)).slots t 5).cast nbuf0_5))
    (spec0_6.stage ((cfg0 (adm m hO)).slots t 6)) (hstage0_6 (((cfg0 (adm m hO)).slots t 6).cast nbuf0_6))
    (Memref.whole cc0_scratch0) (Memref.isWhole_whole _) (Memref.whole cc0_scratch1) (Memref.isWhole_whole _) (Memref.whole cc0_scratch2) (Memref.isWhole_whole _)
    fullShare.right (tbl m 0) hs hg Set.univ (xb m c (mIdx t.val)) (yb m c (t.val / 20)) A7 A8 (ΨX m c t.val) (ΨX m c (t.val + 1)) A9 A10 D (dwAt m c t.val) hX1 hX0 hY0 hR

theorem Phi_cast (t : Fin (cfgM m hO).N) : (dats m hO 0 c).Φ t.castSucc = PhiAt m c t.val :=
  (Phi_at m hO c _).trans (congrArg (PhiAt m c) (Fin.val_castSucc t))
theorem Phi_succ (t : Fin (cfgM m hO).N) : (dats m hO 0 c).Φ t.succ = PhiAt m c (t.val + 1) :=
  (Phi_at m hO c _).trans (congrArg (PhiAt m c) (Fin.val_succ t))

/-- The scratch and the buffers as the body takes them, -/
theorem pre_at (n : ℕ) (s0 s1 : Memref sig .tc .vmem S1536x1024 .bf16) (s2 : Memref sig .tc .vmem S1x1024x1024 .f32) (s3 : Memref sig .tc .vmem S1536x1024 .fp8e4m3) (s4 : Memref sig .tc .vmem S48x1024 .f32)
    (s5 : Memref sig .tc .vmem S1536x1024 .fp8e5m2) (s6 : Memref sig .tc .vmem S48x1024 .f32) (X Y : Vec F S1536x1024 .bf16) (W : Vec F S1x1024x1024 .f32)
    (A7 : Vec F S1536x1024 .fp8e4m3) (A8 : Vec F S48x1024 .f32) (A9 : Vec F S1536x1024 .fp8e5m2) (A10 : Vec F S48x1024 .f32) :
    (iprop(PhiAt m c n ∗ owns (c : Thread nD τ) s0 fullShare X ∗ owns (c : Thread nD τ) s1 fullShare Y ∗ owns (c : Thread nD τ) s2 fullShare W ∗ owns (c : Thread nD τ) s3 fullShare A7
        ∗ owns (c : Thread nD τ) s4 fullShare A8 ∗ owns (c : Thread nD τ) s5 fullShare A9 ∗ owns (c : Thread nD τ) s6 fullShare A10) : sProp 𝕄)
      ⊢ iprop(∃ D, ⌜ΨY m c n D⌝ ∗ (stX c s0 s3 s4 (Memref.whole cc0_scratch0) (Memref.whole cc0_scratch2) X A7 A8 (ΨX m c n)
        ∗ stY c s1 s5 s6 (Memref.whole cc0_scratch1) Y A9 A10 D ∗ tb c tbM0_0 fullShare.right (tbl m 0)
        ∗ ownsSat (c : Thread nD τ) s2 fullShare (fun _ => True)) ∗ (∃ r, prngReg c r)) := by
  unfold PhiAt stX stY
  iintro ⟨⟨HX, HD, HS, HT, HP⟩, H0, H1, H2, H3, H4, H5, H6⟩
  ihave HD := (show ownsSat (c : Thread nD τ) (Memref.whole cc0_scratch1) fullShare (ΨY m c n) ⊢ (iprop(∃ D, ⌜ΨY m c n D⌝ ∗ owns (c : Thread nD τ) (Memref.whole cc0_scratch1) fullShare D) : sProp 𝕄) from ownsSat_elim (c : Thread nD τ) _ fullShare _) $$ HD
  icases HD with ⟨%D, %hD, HD⟩
  iexists D
  isplitr; · ipureintro; exact hD
  isplitr [HP]
  swap; · iexact HP
  isplitl [HX HS H0 H3 H4]
  · isplitl [H0]; · iexact H0
    isplitl [H3]; · iexact H3
    isplitl [H4]; · iexact H4
    isplitl [HS]; · iexact HS
    iexact HX
  isplitl [HD H1 H5 H6]
  · isplitl [H1]; · iexact H1
    isplitl [H5]; · iexact H5
    isplitl [H6]; · iexact H6
    iexact HD
  isplitl [HT]; · iexact HT
  iapply (ownsSat_intro (c : Thread nD τ) s2 fullShare (X := W) (Φ := fun _ => True) trivial); iexact H2

/-- and as it leaves them. -/
theorem post_at (n : ℕ) (s0 s1 : Memref sig .tc .vmem S1536x1024 .bf16) (s2 : Memref sig .tc .vmem S1x1024x1024 .f32) (s3 : Memref sig .tc .vmem S1536x1024 .fp8e4m3) (s4 : Memref sig .tc .vmem S48x1024 .f32)
    (s5 : Memref sig .tc .vmem S1536x1024 .fp8e5m2) (s6 : Memref sig .tc .vmem S48x1024 .f32) (X Y : Vec F S1536x1024 .bf16) (W : Vec F S1x1024x1024 .f32)
    (A7 : Vec F S1536x1024 .fp8e4m3) (A8 : Vec F S48x1024 .f32) (A9 : Vec F S1536x1024 .fp8e5m2) (A10 : Vec F S48x1024 .f32) (D : Vec F S1536x1024 .bf16) (hD : ΨY m c n D) :
    (iprop((stX c s0 s3 s4 (Memref.whole cc0_scratch0) (Memref.whole cc0_scratch2) X A7 A8 (ΨX m c n)
        ∗ stY c s1 s5 s6 (Memref.whole cc0_scratch1) Y A9 A10 D ∗ tb c tbM0_0 fullShare.right (tbl m 0)
        ∗ owns (c : Thread nD τ) s2 fullShare W) ∗ (∃ r, prngReg c r)) : sProp 𝕄)
      ⊢ iprop(PhiAt m c n ∗ owns (c : Thread nD τ) s0 fullShare X ∗ owns (c : Thread nD τ) s1 fullShare Y ∗ owns (c : Thread nD τ) s2 fullShare W ∗ owns (c : Thread nD τ) s3 fullShare A7
        ∗ owns (c : Thread nD τ) s4 fullShare A8 ∗ owns (c : Thread nD τ) s5 fullShare A9 ∗ owns (c : Thread nD τ) s6 fullShare A10) := by
  unfold PhiAt stX stY
  iintro ⟨⟨⟨H0, H3, H4, HS, HX⟩, ⟨H1, H5, H6, HD⟩, HT, H2⟩, HP⟩
  isplitl [HX HD HS HT HP]
  · isplitl [HX]; · iexact HX
    isplitl [HD]; · iapply (ownsSat_intro (c : Thread nD τ) (Memref.whole cc0_scratch1) fullShare (X := D) hD); iexact HD
    isplitl [HS]; · iexact HS
    isplitl [HT]; · iexact HT
    iexact HP
  isplitl [H0]; · iexact H0
  isplitl [H1]; · iexact H1
  isplitl [H2]; · iexact H2
  isplitl [H3]; · iexact H3
  isplitl [H4]; · iexact H4
  isplitl [H5]; · iexact H5
  iexact H6

theorem ΨY_next {n : ℕ} : ΨY m c (n + 1) (hatsY (yb m c (n / 20))) := by
  intro h
  rw [show (n + 1) / 20 = n / 20 by omega]

theorem ite_of {α : Type} (P : Prop) [Decidable P] {a b z : α} (h1 : P → a = z) (h2 : ¬ P → b = z) : (if P then a else b) = z := by
  split
  · next h => exact h1 h
  · next h => exact h2 h

/-- The body at a point, scratch to scratch; what stays in a buffer that is not stored is already what it is to hold. -/
theorem sound_at (hB : Bounds m) (t : Fin (cfgM m hO).N) (W : Vec F S1x1024x1024 .f32) (A7 : Vec F S1536x1024 .fp8e4m3) (A8 : Vec F S48x1024 .f32) (A9 : Vec F S1536x1024 .fp8e5m2) (A10 : Vec F S48x1024 .f32)
    (R0 R1 : Vec F S1536x1024 .bf16) (R2 : Vec F S1x1024x1024 .f32) (R3 : Vec F S1536x1024 .fp8e4m3) (R4 : Vec F S48x1024 .f32) (R5 : Vec F S1536x1024 .fp8e5m2) (R6 : Vec F S48x1024 .f32)
    (e0 : xb m c (mIdx t.val) = R0) (e1 : yb m c (t.val / 20) = R1) (e2 : dwAt m c t.val = R2)
    (e3 : k0_cond1 (grid0.coords t) = 1#1 → codesX (xb m c (mIdx t.val)) = R3) (i3 : ¬ k0_cond1 (grid0.coords t) = 1#1 → A7 = R3)
    (e4 : k0_cond1 (grid0.coords t) = 1#1 → scalesX (xb m c (mIdx t.val)) = R4) (i4 : ¬ k0_cond1 (grid0.coords t) = 1#1 → A8 = R4)
    (e5 : k0_cond2 (grid0.coords t) = 1#1 → codesY (yb m c (t.val / 20)) = R5) (i5 : ¬ k0_cond2 (grid0.coords t) = 1#1 → A9 = R5)
    (e6 : k0_cond2 (grid0.coords t) = 1#1 → scalesY (yb m c (t.val / 20)) = R6) (i6 : ¬ k0_cond2 (grid0.coords t) = 1#1 → A10 = R6) :
    (iprop(PhiAt m c t.val ∗ owns (c : Thread nD τ) (st0_0 (adm m hO) t) fullShare (xb m c (mIdx t.val)) ∗ owns (c : Thread nD τ) (st0_1 (adm m hO) t) fullShare (yb m c (t.val / 20))
        ∗ owns (c : Thread nD τ) (st0_2 (adm m hO) t) fullShare W ∗ owns (c : Thread nD τ) (st0_3 (adm m hO) t) fullShare A7 ∗ owns (c : Thread nD τ) (st0_4 (adm m hO) t) fullShare A8
        ∗ owns (c : Thread nD τ) (st0_5 (adm m hO) t) fullShare A9 ∗ owns (c : Thread nD τ) (st0_6 (adm m hO) t) fullShare A10) : sProp 𝕄)
      ⊢ wp frame (wpE (defs₀ (F := F)) Variants.none (c : Thread nD τ) none) Set.univ (bodyAt0 (adm m hO) t) (fun _ =>
        iprop(PhiAt m c (t.val + 1) ∗ owns (c : Thread nD τ) (st0_0 (adm m hO) t) fullShare R0 ∗ owns (c : Thread nD τ) (st0_1 (adm m hO) t) fullShare R1
        ∗ owns (c : Thread nD τ) (st0_2 (adm m hO) t) fullShare R2 ∗ owns (c : Thread nD τ) (st0_3 (adm m hO) t) fullShare R3 ∗ owns (c : Thread nD τ) (st0_4 (adm m hO) t) fullShare R4
        ∗ owns (c : Thread nD τ) (st0_5 (adm m hO) t) fullShare R5 ∗ owns (c : Thread nD τ) (st0_6 (adm m hO) t) fullShare R6)) := by
  refine BIBase.Entails.trans (pre_at m c t.val _ _ _ _ _ _ _ _ _ W A7 A8 A9 A10) ?_
  iintro ⟨%D, %hD, H⟩
  have s := body_at m hO c hB t A7 A8 A9 A10 D hD
  rw [ite_of _ e3 i3, ite_of _ e4 i4, ite_of _ e5 i5, ite_of _ e6 i6] at s
  subst e0 e1 e2
  have key := ((BIClass.sep_mono s (BIBase.Entails.rfl (P := iprop(∃ r, prngReg c r)))).trans (wp_frame_r frame _ Set.univ)).trans
    (wp_mono frame _ Set.univ fun _ => post_at m c (t.val + 1) _ _ _ _ _ _ _ _ _ _ _ _ _ _ _ (ΨY_next m c))
  iapply key
  iexact H

/-- The body at any point, as the pipeline calls it. -/
theorem sound_body (hB : Bounds m) (t : Fin (cfgM m hO).N) :
    bodyPre m hO c t ⊢ wp frame (wpE (defs₀ (F := F)) Variants.none (c : Thread nD τ) none) Set.univ (bodyAt0 (adm m hO) t) (fun _ => bodyPost m hO c t) := by
  unfold bodyPre bodyPost
  rw [Phi_cast, Phi_succ, show (dats m hO 0 c).owesAt () t.succ = (dats m hO 0 c).owesAt () t.castSucc from rfl]
  simp only [before0, before1]
  iintro ⟨HΦ, Ho, ⟨%d0, H0⟩, ⟨%d1, H1⟩, ⟨%d2, H2⟩, ⟨%d3, H3⟩, ⟨%d4, H4⟩, ⟨%d5, H5⟩, ⟨%d6, H6⟩⟩
  have s := sound_at m hO c hB t ((dats m hO 0 c).before 2 t d2) ((dats m hO 0 c).before 3 t d3) ((dats m hO 0 c).before 4 t d4) ((dats m hO 0 c).before 5 t d5) ((dats m hO 0 c).before 6 t d6)
    ((dats m hO 0 c).after 0 t) ((dats m hO 0 c).after 1 t) ((dats m hO 0 c).after 2 t) ((dats m hO 0 c).after 3 t) ((dats m hO 0 c).after 4 t) ((dats m hO 0 c).after 5 t) ((dats m hO 0 c).after 6 t)
    (after0 m hO c t).symm (after1 m hO c t).symm (after2 m hO c t).symm
    (fun _ => (after3 m hO c t).symm) (fun h => idle_3 m hO c t (by show (!(k0_cond1 (grid0.coords t) == 1#1)) = true; simpa using h) d3)
    (fun _ => (after4 m hO c t).symm) (fun h => idle_4 m hO c t (by show (!(k0_cond1 (grid0.coords t) == 1#1)) = true; simpa using h) d4)
    (fun _ => (after5 m hO c t).symm) (fun h => idle_5 m hO c t (by show (!(k0_cond2 (grid0.coords t) == 1#1)) = true; simpa using h) d5)
    (fun _ => (after6 m hO c t).symm) (fun h => idle_6 m hO c t (by show (!(k0_cond2 (grid0.coords t) == 1#1)) = true; simpa using h) d6)
  have post : (iprop((PhiAt m c (t.val + 1) ∗ owns (c : Thread nD τ) (st0_0 (adm m hO) t) fullShare ((dats m hO 0 c).after 0 t) ∗ owns (c : Thread nD τ) (st0_1 (adm m hO) t) fullShare ((dats m hO 0 c).after 1 t)
        ∗ owns (c : Thread nD τ) (st0_2 (adm m hO) t) fullShare ((dats m hO 0 c).after 2 t) ∗ owns (c : Thread nD τ) (st0_3 (adm m hO) t) fullShare ((dats m hO 0 c).after 3 t)
        ∗ owns (c : Thread nD τ) (st0_4 (adm m hO) t) fullShare ((dats m hO 0 c).after 4 t) ∗ owns (c : Thread nD τ) (st0_5 (adm m hO) t) fullShare ((dats m hO 0 c).after 5 t)
        ∗ owns (c : Thread nD τ) (st0_6 (adm m hO) t) fullShare ((dats m hO 0 c).after 6 t)) ∗ (dats m hO 0 c).owesAt () t.castSucc) : sProp 𝕄)
      ⊢ iprop(PhiAt m c (t.val + 1) ∗ (dats m hO 0 c).owesAt () t.castSucc
        ∗ (dats m hO 0 c).leaves 0 t ∗ (dats m hO 0 c).leaves 1 t ∗ (dats m hO 0 c).leaves 2 t ∗ (dats m hO 0 c).leaves 3 t
        ∗ (dats m hO 0 c).leaves 4 t ∗ (dats m hO 0 c).leaves 5 t ∗ (dats m hO 0 c).leaves 6 t) := by
    iintro ⟨⟨HΦ, H0, H1, H2, H3, H4, H5, H6⟩, Ho⟩
    isplitl [HΦ]; · iexact HΦ
    isplitl [Ho]; · iexact Ho
    isplitl [H0]; · iapply (leaves_of m hO c 0 t rfl (fun h => absurd h Bool.false_ne_true)); iexact H0
    isplitl [H1]; · iapply (leaves_of m hO c 1 t rfl (fun h => absurd h Bool.false_ne_true)); iexact H1
    isplitl [H2]; · iapply (leaves_of m hO c 2 t rfl (fun h => absurd h Bool.false_ne_true)); iexact H2
    isplitl [H3]; · iapply (leaves_of m hO c 3 t rfl (fun h d => idle_3 m hO c t h d)); iexact H3
    isplitl [H4]; · iapply (leaves_of m hO c 4 t rfl (fun h d => idle_4 m hO c t h d)); iexact H4
    isplitl [H5]; · iapply (leaves_of m hO c 5 t rfl (fun h d => idle_5 m hO c t h d)); iexact H5
    iapply (leaves_of m hO c 6 t rfl (fun h d => idle_6 m hO c t h d)); iexact H6
  have key := ((BIClass.sep_mono s (BIBase.Entails.rfl (P := (dats m hO 0 c).owesAt () t.castSucc))).trans (wp_frame_r frame _ Set.univ)).trans (wp_mono frame _ Set.univ fun _ => post)
  iapply key
  isplitr [Ho]
  swap; · iexact Ho
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  iexact H6

end Cert.KernelIdeal.Own

end
-- ==== Proof.Idealized.Whole.lean ====
/-
  The whole program: it runs to the end, leaves its arguments and every counter as they were, and its results at what the
  blocks written back add up to.
-/
module

public import proofs.«01_k».proof.Proof.Idealized.Run
public import Idealize.ShloMosaic.Lib.Pipeline.FrameBody

@[expose] public section

set_option maxRecDepth 16384

noncomputable section

namespace Cert.KernelIdeal.Own

open Cert.Own Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

attribute [local irreducible] wp

variable (m : (ℓ : Loc nD τ sig) → Buf (Elt F) ℓ) (ρ : Dev nD → PrngReg) (hO : Ok m) (c : Dev nD)

theorem body_obligation (hB : Bounds m) : BodyObligationLoose (dats m hO 0 c) (defs₀ (F := F)) Variants.none () Set.univ := fun t => by
  rw [bigSep_W0, bigSep_W0, defs₀_row]
  exact sound_body m hO c hB t

/-- Before the first point the scratch holds anything. -/
theorem Phi_in : (iprop(Pipeline.ΦA spec0 c ∗ Pipeline.ΦT pre0 (tbl m) c) : sProp 𝕄) ⊢ (dats m hO 0 c).Φ 0 := by
  rw [Phi_at, PhiT0_eq]
  unfold Pipeline.ΦA PhiAt
  rw [scopedRest0_eq]
  iintro ⟨⟨⟨⟨%f0, H0⟩, ⟨%f1, H1⟩, ⟨%f2, H2⟩⟩, HP⟩, HT⟩
  isplitl [H0]
  · iapply (ownsSat_intro (c : Thread nD τ) (Memref.whole cc0_scratch0) fullShare (X := f0) (Φ := ΨX m c 0) (fun y h => absurd h (Nat.not_lt_zero _)))
    iapply (BIBase.Entails.of_eq (owns_whole (c : Thread nD τ) cc0_scratch0 fullShare f0).symm); iexact H0
  isplitl [H1]
  · iapply (ownsSat_intro (c : Thread nD τ) (Memref.whole cc0_scratch1) fullShare (X := f1) (Φ := ΨY m c 0) (fun h => absurd rfl h))
    iapply (BIBase.Entails.of_eq (owns_whole (c : Thread nD τ) cc0_scratch1 fullShare f1).symm); iexact H1
  isplitl [H2]
  · iapply (ownsSat_intro (c : Thread nD τ) (Memref.whole cc0_scratch2) fullShare (X := f2) (Φ := fun _ => True) trivial)
    iapply (BIBase.Entails.of_eq (owns_whole (c : Thread nD τ) cc0_scratch2 fullShare f2).symm); iexact H2
  isplitl [HT]; · iapply (BIBase.Entails.of_eq (tb_eq (F := F) c (tbl m 0))); iexact HT
  iexact HP

theorem whole_any (b : Ref sig .tc) (Φ : b.ty.Contents (Elt F) → Prop) :
    (ownsSat (c : Thread nD τ) (Memref.whole b) fullShare Φ : sProp 𝕄) ⊢ iprop(∃ f : Buf (Elt F) ((c : Thread nD τ).loc b), ((c : Thread nD τ).loc b) ↦{fullShare} f) := by
  iintro H
  ihave H := (ownsSat_any (c : Thread nD τ) (Memref.whole b) fullShare) $$ H
  icases H with ⟨%X, H⟩
  iexists X
  iapply (BIBase.Entails.of_eq (owns_whole (c : Thread nD τ) b fullShare X)); iexact H

/-- After the last point it holds something. -/
theorem Phi_out : (dats m hO 0 c).Φ (Fin.last (cfgM m hO).N) ⊢ (Pipeline.ΦA spec0 c : sProp 𝕄) := by
  rw [Phi_at]
  unfold Pipeline.ΦA PhiAt
  rw [scopedRest0_eq]
  iintro ⟨H0, H1, H2, HT, HP⟩
  isplitr [HP]
  swap; · iexact HP
  isplitl [H0]; · iapply (whole_any c cc0_scratch0 _); iexact H0
  isplitl [H1]; · iapply (whole_any c cc0_scratch1 _); iexact H1
  iapply (whole_any c cc0_scratch2 _); iexact H2

set_option backward.isDefEq.respectTransparency.types false in
set_option maxHeartbeats 800000 in
/-- The run: every array of the pallas_call ends at what its blocks add up to, every other buffer as launched, every counter at zero. -/
theorem run (hB : Bounds m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => body_obligation m hO c hB) (hshare := fun c => (dats m hO 0 c).share_full fun _ => rfl)
    (howed := fun _ _ => rfl) (V := V m) (hmain := hmain m Variants.none) (hA := fun c w => A_eq m hO c w) (hpf := V_pre m)
    (hin := fun c => Phi_in m hO c) (hout := fun c => Phi_out m hO c) (hQ' := fun _ h => h)

/-- The arguments end as launched, and every counter at zero. -/
theorem frame (hO : Ok m) (hB : Bounds m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ hO (dats m hO) (fun c w => A_eq m hO c w) ((θ_run defs _ _).mono (fun _ h => h.1) (run m ρ hO hB)))
    ((θ_run defs _ _).mono (fun _ h => h.2) (run m ρ hO hB))

end Cert.KernelIdeal.Own

end
-- ==== Proof.Idealized.Entry.lean ====
/-
  What the precondition gives the run: the group sizes and their running sums are in range.
-/
module

public import proofs.«01_k».proof.Proof.Pre
public import proofs.«01_k».proof.Proof.Idealized.Whole

@[expose] public section

noncomputable section

namespace Cert.KernelIdeal.Own

open Cert.Own Cert.KernelIdeal Cert.KernelIdeal.Gen
open Idealize.ShloMosaic Idealize.ShloMosaic.TcCoe

variable {F : FTy → Type} [FloatOps F]

/-- Every word of a table of group sizes is at most 1536. -/
def SizesLe (T : IVec S5 32) : Prop := ∀ i, (T i).toNat ≤ 1536

theorem size_bound (T : Vec F S5 .i32) (h : SizesLe T) (k : ℕ) : (sizeW T k).toNat ≤ 1536 := by
  unfold sizeW
  split
  · exact h _
  · exact Nat.zero_le _

theorem start_bound (T : Vec F S5 .i32) (h : SizesLe T) : ∀ k : ℕ, k < 6 → (startW T k).toNat ≤ 1536 * k
  | 0, _ => Nat.zero_le _
  | k + 1, hk => by
    have h1 := start_bound T h k (by omega)
    have h2 := size_bound T h k
    show (startW T k + sizeW T k).toNat ≤ _
    rw [BitVec.toNat_add]
    exact (Nat.mod_le _ _).trans (by omega)

variable (m : (ℓ : Loc nD τ sig) → Buf (Elt F) ℓ)

theorem bounds_of (x : FVec F S6x256x4096 .bf16) (y : FVec F S6x256x7168 .bf16)
    (h : Cert.Pre_valid.fn (F := F) x y (m (((0 : Dev nD) : Thread nD τ).loc main_arg2)) = fun _ => 1#1) : Bounds m := by
  have hg : SizesLe (tbl m 0) := fun i => by
    have e : tbl m 0 = m (((0 : Dev nD) : Thread nD τ).loc main_arg2) := V_main_arg2 m 0
    rw [e]
    exact size_le ((pre_elements h).2.2 i)
  exact ⟨fun k _ => size_bound _ hg k, fun k hk => (start_bound _ hg k (by omega)).trans (by omega)⟩

end Cert.KernelIdeal.Own

end
-- ==== Proof.Idealized.Arrays.lean ====
/-
  The arrays the pallas_call leaves: every block written back is in its place, and the blocks cover each array.
-/
module

public import proofs.«01_k».proof.Proof.Idealized.Whole
public import Idealize.ShloMosaic.Lib.Pipeline.ValueKit

@[expose] public section

set_option maxRecDepth 16384

noncomputable section

namespace Cert.KernelIdeal.Own

open Cert.Own Cert.KernelIdeal Cert.KernelIdeal.Gen
open Idealize.ShloMosaic Idealize.ShloMosaic.TcCoe

variable {F : FTy → Type} [FloatOps F]

theorem all3 {p : Fin 3 → Prop} (h0 : p 0) (h1 : p 1) (h2 : p 2) : ∀ a, p a
  | 0 => h0 | 1 => h1 | 2 => h2

/-- The points at which the four blocks of `x` are written back. -/
def ptX (k : ℕ) : ℕ := if k < 3 then 5 * k + 4 else 139
theorem ptX_lt {k : ℕ} (h : k < 4) : ptX k < 140 := by unfold ptX; split <;> omega

theorem flush3 : ∀ k : Fin 4, Pipeline.Window.flushOf grid0 true cc0_transform_3 (⟨ptX k.val, ptX_lt k.isLt⟩ : Fin grid0.N) = true := by decide +kernel
theorem flush4 : ∀ k : Fin 4, Pipeline.Window.flushOf grid0 true cc0_transform_4 (⟨ptX k.val, ptX_lt k.isLt⟩ : Fin grid0.N) = true := by decide +kernel
theorem flush5 : ∀ k : Fin 7, Pipeline.Window.flushOf grid0 true cc0_transform_5 (⟨20 * k.val + 19, by have := k.isLt; show _ < 140; omega⟩ : Fin grid0.N) = true := by decide +kernel
theorem flush6 : ∀ k : Fin 7, Pipeline.Window.flushOf grid0 true cc0_transform_6 (⟨20 * k.val + 19, by have := k.isLt; show _ < 140; omega⟩ : Fin grid0.N) = true := by decide +kernel
theorem mIdx_ptX : ∀ k : Fin 4, mIdx (ptX k.val) = k.val := by decide +kernel

theorem put {α : Type} (f : ℕ → ℕ → Fin 1024 → α) (n r : ℕ) (l : Fin 1024) :
    f n r l = f ((n * 1024 + l.val) / 1024) r ⟨(n * 1024 + l.val) % 1024, Nat.mod_lt _ (by decide)⟩ := by
  have h := l.isLt
  have q : (n * 1024 + l.val) / 1024 = n := by omega
  have e : (⟨(n * 1024 + l.val) % 1024, Nat.mod_lt _ (by decide)⟩ : Fin 1024) = l := Fin.ext (by show _ % 1024 = l.val; omega)
  rw [q, e]

theorem put3 {α : Type} (f : ℕ → ℕ → ℕ → S1x1024x1024.Idx → α) (n p q : ℕ) (y : S1x1024x1024.Idx) :
    f n p q y = f n ((p * 1024 + (y 1).val) / 1024) ((q * 1024 + (y 2).val) / 1024)
      (ValueIdx.ix3 0 ⟨(p * 1024 + (y 1).val) % 1024, Nat.mod_lt _ (by decide)⟩ ⟨(q * 1024 + (y 2).val) % 1024, Nat.mod_lt _ (by decide)⟩) := by
  have h0 : (y 0).val < 1 := (y 0).isLt
  have h1 : (y 1).val < 1024 := (y 1).isLt
  have h2 : (y 2).val < 1024 := (y 2).isLt
  have e1 : (p * 1024 + (y 1).val) / 1024 = p := by omega
  have e2 : (q * 1024 + (y 2).val) / 1024 = q := by omega
  have e : ValueIdx.ix3 (0 : Fin 1) (⟨(p * 1024 + (y 1).val) % 1024, Nat.mod_lt _ (by decide)⟩ : Fin 1024)
      (⟨(q * 1024 + (y 2).val) % 1024, Nat.mod_lt _ (by decide)⟩ : Fin 1024) = y := by
    funext a
    refine Fin.ext ?_
    revert a
    refine all3 ?_ ?_ ?_
    · show 0 = (y 0).val; omega
    · show (p * 1024 + (y 1).val) % 1024 = (y 1).val; omega
    · show (q * 1024 + (y 2).val) % 1024 = (y 2).val; omega
  rw [e1, e2, e]

variable (m : (ℓ : Loc nD τ sig) → Buf (Elt F) ℓ)

/-- The weight gradient, block by block. -/
theorem arr2 (hO : Ok m) (c : Dev nD) : (dats m hO 0 c).arrAt 2 (cfgM m hO).N
    = (fun i => dwBlk ((i 1).val / 1024) (startW (F := F) (tbl m 0) (i 0).val) (sizeW (F := F) (tbl m 0) (i 0).val) (xhatT m c)
        (hatsY (yb m c ((i 2).val / 1024))) (ValueIdx.ix3 0 ⟨(i 1).val % 1024, Nat.mod_lt _ (by decide)⟩ ⟨(i 2).val % 1024, Nat.mod_lt _ (by decide)⟩)
        : Vec F S5x4096x7168 .f32) := by
  refine (dats m hO 0 c).arrAt_eq_of_emb 2 _ (fun t hf y => ?_) (fun (i : (S5x4096x7168 : Shape).Idx) => ?_)
  · have e0 : (pcfg0.win (adm m hO) 2).index t (0 : Fin 3) = t.val % 5 := congrFun (idxW t) 0
    have e1 : (pcfg0.win (adm m hO) 2).index t (1 : Fin 3) = t.val / 5 % 4 := congrFun (idxW t) 1
    have e2 : (pcfg0.win (adm m hO) 2).index t (2 : Fin 3) = t.val / 20 := congrFun (idxW t) 2
    blk_simp [e0, e1, e2]
    rw [after2]
    exact put3 (fun k a b => dwBlk a (startW (F := F) (tbl m 0) k) (sizeW (F := F) (tbl m 0) k) (xhatT m c) (hatsY (yb m c b))) _ _ _ y
  · have i0 : (i 0).val < 5 := (i 0).isLt
    have i1 : (i 1).val < 4096 := (i 1).isLt
    have i2 : (i 2).val < 7168 := (i 2).isLt
    refine ⟨⟨20 * ((i 2).val / 1024) + 5 * ((i 1).val / 1024) + (i 0).val, by show _ < 140; omega⟩, flush0_2 _ _, ?_⟩
    generalize ht : (⟨20 * ((i 2).val / 1024) + 5 * ((i 1).val / 1024) + (i 0).val, _⟩ : Fin (cfgM m hO).N) = t
    have hv : t.val = 20 * ((i 2).val / 1024) + 5 * ((i 1).val / 1024) + (i 0).val := by rw [← ht]
    have e0 : (pcfg0.win (adm m hO) 2).index t (0 : Fin 3) = t.val % 5 := congrFun (idxW t) 0
    have e1 : (pcfg0.win (adm m hO) 2).index t (1 : Fin 3) = t.val / 5 % 4 := congrFun (idxW t) 1
    have e2 : (pcfg0.win (adm m hO) 2).index t (2 : Fin 3) = t.val / 20 := congrFun (idxW t) 2
    refine ((pcfg0.win (adm m hO) 2).emb_mem_blk_iff t i).mpr (all3 (p := fun a => _ ∧ _) ?_ ?_ ?_)
    · show (pcfg0.win (adm m hO) 2).index t (0 : Fin 3) * 1 ≤ (i 0).val ∧ (i 0).val < (pcfg0.win (adm m hO) 2).index t (0 : Fin 3) * 1 + 1
      omega
    · show (pcfg0.win (adm m hO) 2).index t (1 : Fin 3) * 1024 ≤ (i 1).val ∧ (i 1).val < (pcfg0.win (adm m hO) 2).index t (1 : Fin 3) * 1024 + 1024
      omega
    · show (pcfg0.win (adm m hO) 2).index t (2 : Fin 3) * 1024 ≤ (i 2).val ∧ (i 2).val < (pcfg0.win (adm m hO) 2).index t (2 : Fin 3) * 1024 + 1024
      omega

/-- The codes of `x`, column block by column block. -/
theorem arr3 (hO : Ok m) (c : Dev nD) : (dats m hO 0 c).arrAt 3 (cfgM m hO).N
    = (fun i => codeX (xb m c ((i 1).val / 1024)) (i 0).val ⟨(i 1).val % 1024, Nat.mod_lt _ (by decide)⟩ : Vec F S1536x4096 .fp8e4m3) := by
  refine (dats m hO 0 c).arrAt_eq_of_emb 3 _ (fun t hf y => ?_) (fun (i : (S1536x4096 : Shape).Idx) => ?_)
  · have e0 : (pcfg0.win (adm m hO) 3).index t (0 : Fin 2) = 0 := congrFun (idxXc t) 0
    have e1 : (pcfg0.win (adm m hO) 3).index t (1 : Fin 2) = mIdx t.val := congrFun (idxXc t) 1
    blk_simp [e0, e1]
    rw [after3]
    exact put (fun k r l => codeX (xb m c k) r l) _ _ _
  · have i0 : (i 0).val < 1536 := (i 0).isLt
    have i1 : (i 1).val < 4096 := (i 1).isLt
    have hk : (i 1).val / 1024 < 4 := by omega
    refine ⟨⟨ptX ((i 1).val / 1024), by show _ < 140; exact ptX_lt hk⟩, flush3 ⟨(i 1).val / 1024, hk⟩, ?_⟩
    generalize ht : (⟨ptX ((i 1).val / 1024), _⟩ : Fin (cfgM m hO).N) = t
    have hm : mIdx t.val = (i 1).val / 1024 := by
      rw [← ht]; exact mIdx_ptX ⟨_, hk⟩
    have e0 : (pcfg0.win (adm m hO) 3).index t (0 : Fin 2) = 0 := congrFun (idxXc t) 0
    have e1 : (pcfg0.win (adm m hO) 3).index t (1 : Fin 2) = mIdx t.val := congrFun (idxXc t) 1
    refine ((pcfg0.win (adm m hO) 3).emb_mem_blk_iff t i).mpr ((Fin.forall_fin_two (p := fun a => _ ∧ _)).mpr ⟨?_, ?_⟩)
    · show (pcfg0.win (adm m hO) 3).index t (0 : Fin 2) * 1536 ≤ (i 0).val ∧ (i 0).val < (pcfg0.win (adm m hO) 3).index t (0 : Fin 2) * 1536 + 1536
      omega
    · show (pcfg0.win (adm m hO) 3).index t (1 : Fin 2) * 1024 ≤ (i 1).val ∧ (i 1).val < (pcfg0.win (adm m hO) 3).index t (1 : Fin 2) * 1024 + 1024
      omega

/-- The scales of `x`. -/
theorem arr4 (hO : Ok m) (c : Dev nD) : (dats m hO 0 c).arrAt 4 (cfgM m hO).N
    = (fun i => scaleX (xb m c ((i 1).val / 1024)) (i 0).val ⟨(i 1).val % 1024, Nat.mod_lt _ (by decide)⟩ : Vec F S48x4096 .f32) := by
  refine (dats m hO 0 c).arrAt_eq_of_emb 4 _ (fun t hf y => ?_) (fun (i : (S48x4096 : Shape).Idx) => ?_)
  · have e0 : (pcfg0.win (adm m hO) 4).index t (0 : Fin 2) = 0 := congrFun (idxXs t) 0
    have e1 : (pcfg0.win (adm m hO) 4).index t (1 : Fin 2) = mIdx t.val := congrFun (idxXs t) 1
    blk_simp [e0, e1]
    rw [after4]
    exact put (fun k r l => scaleX (xb m c k) r l) _ _ _
  · have i0 : (i 0).val < 48 := (i 0).isLt
    have i1 : (i 1).val < 4096 := (i 1).isLt
    have hk : (i 1).val / 1024 < 4 := by omega
    refine ⟨⟨ptX ((i 1).val / 1024), by show _ < 140; exact ptX_lt hk⟩, flush4 ⟨(i 1).val / 1024, hk⟩, ?_⟩
    generalize ht : (⟨ptX ((i 1).val / 1024), _⟩ : Fin (cfgM m hO).N) = t
    have hm : mIdx t.val = (i 1).val / 1024 := by
      rw [← ht]; exact mIdx_ptX ⟨_, hk⟩
    have e0 : (pcfg0.win (adm m hO) 4).index t (0 : Fin 2) = 0 := congrFun (idxXs t) 0
    have e1 : (pcfg0.win (adm m hO) 4).index t (1 : Fin 2) = mIdx t.val := congrFun (idxXs t) 1
    refine ((pcfg0.win (adm m hO) 4).emb_mem_blk_iff t i).mpr ((Fin.forall_fin_two (p := fun a => _ ∧ _)).mpr ⟨?_, ?_⟩)
    · show (pcfg0.win (adm m hO) 4).index t (0 : Fin 2) * 48 ≤ (i 0).val ∧ (i 0).val < (pcfg0.win (adm m hO) 4).index t (0 : Fin 2) * 48 + 48
      omega
    · show (pcfg0.win (adm m hO) 4).index t (1 : Fin 2) * 1024 ≤ (i 1).val ∧ (i 1).val < (pcfg0.win (adm m hO) 4).index t (1 : Fin 2) * 1024 + 1024
      omega

/-- The codes of `dy`. -/
theorem arr5 (hO : Ok m) (c : Dev nD) : (dats m hO 0 c).arrAt 5 (cfgM m hO).N
    = (fun i => codeY (yb m c ((i 1).val / 1024)) (i 0).val ⟨(i 1).val % 1024, Nat.mod_lt _ (by decide)⟩ : Vec F S1536x7168 .fp8e5m2) := by
  refine (dats m hO 0 c).arrAt_eq_of_emb 5 _ (fun t hf y => ?_) (fun (i : (S1536x7168 : Shape).Idx) => ?_)
  · have e0 : (pcfg0.win (adm m hO) 5).index t (0 : Fin 2) = 0 := congrFun (idxYc t) 0
    have e1 : (pcfg0.win (adm m hO) 5).index t (1 : Fin 2) = (t.val / 20) := congrFun (idxYc t) 1
    blk_simp [e0, e1]
    rw [after5]
    exact put (fun k r l => codeY (yb m c k) r l) _ _ _
  · have i0 : (i 0).val < 1536 := (i 0).isLt
    have i1 : (i 1).val < 7168 := (i 1).isLt
    have hk : (i 1).val / 1024 < 7 := by omega
    refine ⟨⟨20 * ((i 1).val / 1024) + 19, by show _ < 140; omega⟩, flush5 ⟨(i 1).val / 1024, hk⟩, ?_⟩
    generalize ht : (⟨20 * ((i 1).val / 1024) + 19, _⟩ : Fin (cfgM m hO).N) = t
    have hm : (t.val / 20) = (i 1).val / 1024 := by
      rw [← ht]; show (20 * ((i 1).val / 1024) + 19) / 20 = _; omega
    have e0 : (pcfg0.win (adm m hO) 5).index t (0 : Fin 2) = 0 := congrFun (idxYc t) 0
    have e1 : (pcfg0.win (adm m hO) 5).index t (1 : Fin 2) = (t.val / 20) := congrFun (idxYc t) 1
    refine ((pcfg0.win (adm m hO) 5).emb_mem_blk_iff t i).mpr ((Fin.forall_fin_two (p := fun a => _ ∧ _)).mpr ⟨?_, ?_⟩)
    · show (pcfg0.win (adm m hO) 5).index t (0 : Fin 2) * 1536 ≤ (i 0).val ∧ (i 0).val < (pcfg0.win (adm m hO) 5).index t (0 : Fin 2) * 1536 + 1536
      omega
    · show (pcfg0.win (adm m hO) 5).index t (1 : Fin 2) * 1024 ≤ (i 1).val ∧ (i 1).val < (pcfg0.win (adm m hO) 5).index t (1 : Fin 2) * 1024 + 1024
      omega

/-- The scales of `dy`. -/
theorem arr6 (hO : Ok m) (c : Dev nD) : (dats m hO 0 c).arrAt 6 (cfgM m hO).N
    = (fun i => scaleY (yb m c ((i 1).val / 1024)) (i 0).val ⟨(i 1).val % 1024, Nat.mod_lt _ (by decide)⟩ : Vec F S48x7168 .f32) := by
  refine (dats m hO 0 c).arrAt_eq_of_emb 6 _ (fun t hf y => ?_) (fun (i : (S48x7168 : Shape).Idx) => ?_)
  · have e0 : (pcfg0.win (adm m hO) 6).index t (0 : Fin 2) = 0 := congrFun (idxYs t) 0
    have e1 : (pcfg0.win (adm m hO) 6).index t (1 : Fin 2) = (t.val / 20) := congrFun (idxYs t) 1
    blk_simp [e0, e1]
    rw [after6]
    exact put (fun k r l => scaleY (yb m c k) r l) _ _ _
  · have i0 : (i 0).val < 48 := (i 0).isLt
    have i1 : (i 1).val < 7168 := (i 1).isLt
    have hk : (i 1).val / 1024 < 7 := by omega
    refine ⟨⟨20 * ((i 1).val / 1024) + 19, by show _ < 140; omega⟩, flush6 ⟨(i 1).val / 1024, hk⟩, ?_⟩
    generalize ht : (⟨20 * ((i 1).val / 1024) + 19, _⟩ : Fin (cfgM m hO).N) = t
    have hm : (t.val / 20) = (i 1).val / 1024 := by
      rw [← ht]; show (20 * ((i 1).val / 1024) + 19) / 20 = _; omega
    have e0 : (pcfg0.win (adm m hO) 6).index t (0 : Fin 2) = 0 := congrFun (idxYs t) 0
    have e1 : (pcfg0.win (adm m hO) 6).index t (1 : Fin 2) = (t.val / 20) := congrFun (idxYs t) 1
    refine ((pcfg0.win (adm m hO) 6).emb_mem_blk_iff t i).mpr ((Fin.forall_fin_two (p := fun a => _ ∧ _)).mpr ⟨?_, ?_⟩)
    · show (pcfg0.win (adm m hO) 6).index t (0 : Fin 2) * 48 ≤ (i 0).val ∧ (i 0).val < (pcfg0.win (adm m hO) 6).index t (0 : Fin 2) * 48 + 48
      omega
    · show (pcfg0.win (adm m hO) 6).index t (1 : Fin 2) * 1024 ≤ (i 1).val ∧ (i 1).val < (pcfg0.win (adm m hO) 6).index t (1 : Fin 2) * 1024 + 1024
      omega

end Cert.KernelIdeal.Own

end
-- ==== Proof.Scale.lean ====
/-
  Powers of two as extended reals: the word of exponent field `n`, the binary search for the exponent field of a number, and the
  scale it gives, which is the least power of two above the number.
-/
module

public import Idealize.ShloMosaic.PureOps.Ideal
public import Idealize.ShloMosaic.Lib.Decide
public import Idealize.ShloMosaic.Lib.IdealHost

@[expose] public section

set_option maxRecDepth 16384

noncomputable section

namespace Cert.Own

open Idealize.ShloMosaic

/-- The 32-bit float whose exponent field is `n` and whose other bits are zero. -/
def pw (n : ℕ) : EReal := Ideal.ieee 8 23 (BitVec.ofNat 32 n <<< (23 : ℕ))

theorem ofBits_ieee (b : BitVec 32) : FloatOps.ofBits (F := Ideal) .f32 b = Ideal.ieee 8 23 b := rfl

theorem pw_bits : ∀ n : Fin 256, ((BitVec.ofNat 32 n.val <<< 23).extractLsb' (8 + 23) 1 == 1#1) = false
    ∧ ((BitVec.ofNat 32 n.val <<< 23).extractLsb' 23 8).toNat = n.val ∧ ((BitVec.ofNat 32 n.val <<< 23).extractLsb' 0 23).toNat = 0 := by
  decide +kernel

theorem pw_zero : pw 0 = 0 := by simp [pw, Ideal.ieee]

theorem pw_top : pw 255 = ⊤ := by simp [pw, Ideal.ieee]

theorem ieee_pow (b : BitVec 32) (n : ℕ) (h0 : 1 ≤ n) (h1 : n ≤ 254) (e1 : (b.extractLsb' (8 + 23) 1 == 1#1) = false)
    (e2 : (b.extractLsb' 23 8).toNat = n) (e3 : (b.extractLsb' 0 23).toNat = 0) :
    Ideal.ieee 8 23 b = (((2 : ℝ) ^ ((n : ℤ) - 127) : ℝ) : EReal) := by
  have h2 : ¬ n = 2 ^ 8 - 1 := by norm_num; omega
  have h3 : ¬ n = 0 := by omega
  simp only [Ideal.ieee, e1, e2, e3, if_neg h2, if_neg h3]
  refine congrArg Real.toEReal ?_
  rw [if_neg Bool.false_ne_true, one_mul, show (((2 ^ 23 + 0 : ℕ)) : ℝ) = (2 : ℝ) ^ (23 : ℤ) by norm_num, ← zpow_add₀ (by norm_num)]
  refine congrArg (fun k : ℤ => (2 : ℝ) ^ k) ?_
  norm_num

/-- Between 1 and 254 it is the power `2 ^ (n - 127)`. -/
theorem pw_eq (n : ℕ) (h0 : 1 ≤ n) (h1 : n ≤ 254) : pw n = (((2 : ℝ) ^ ((n : ℤ) - 127) : ℝ) : EReal) := by
  obtain ⟨e1, e2, e3⟩ := pw_bits ⟨n, by omega⟩
  exact ieee_pow _ n h0 h1 e1 e2 e3

theorem zpow_le_coe {a b : ℤ} (h : a ≤ b) : (((2 : ℝ) ^ a : ℝ) : EReal) ≤ (((2 : ℝ) ^ b : ℝ) : EReal) :=
  EReal.coe_le_coe_iff.2 (zpow_le_zpow_right₀ (by norm_num) h)

/-- They grow with `n`. -/
theorem pw_mono {a b : ℕ} (h : a ≤ b) (hb : b ≤ 255) : pw a ≤ pw b := by
  rcases Nat.eq_zero_or_pos a with rfl | ha
  · rw [pw_zero]
    rcases Nat.eq_zero_or_pos b with rfl | hb0
    · rw [pw_zero]
    · rcases Nat.lt_or_ge b 255 with h' | h'
      · rw [pw_eq b hb0 (by omega)]
        exact EReal.coe_nonneg.2 (by positivity)
      · rw [show b = 255 by omega, pw_top]; exact le_top
  · rcases Nat.lt_or_ge b 255 with h' | h'
    · rw [pw_eq a ha (by omega), pw_eq b (by omega) (by omega)]
      exact zpow_le_coe (by omega)
    · rw [show b = 255 by omega, pw_top]; exact le_top

/-- One step of the binary search for the exponent field of `y`. -/
def step (y : EReal) (s n : ℕ) : ℕ := if pw (n + s) ≤ y then n + s else n

/-- The same step on words. -/
def stepW (y : EReal) (s f : BitVec 32) : BitVec 32 :=
  Scalar.select (FloatOps.cmpf (F := Ideal) (φ := .f32) .oge y (FloatOps.ofBits (F := Ideal) .f32 ((f + s) <<< (23 : ℕ)))) (f + s) f

/-- The search has reached `n`: the number is at least `pw n`, and below `pw u` for every `u` from `n + w` on. -/
def At (y : EReal) (w n : ℕ) : Prop := n + w ≤ 256 ∧ pw n ≤ y ∧ ∀ u, n + w ≤ u → u < 256 → y < pw u

theorem at_step {y : EReal} {w n : ℕ} (s : ℕ) (hw : w = 2 * s) (hs : 0 < s) (h : At y w n) : At y s (step y s n) := by
  obtain ⟨h1, h2, h3⟩ := h
  unfold step
  split
  · next hp => exact ⟨by omega, hp, fun u hu hu' => h3 u (by omega) hu'⟩
  · next hp =>
    exact ⟨by omega, h2, fun u hu hu' => lt_of_lt_of_le (lt_of_not_ge hp) (pw_mono (by omega) (by omega))⟩

/-- The exponent field of `y`. -/
def field (y : EReal) : ℕ := step y 1 (step y 2 (step y 4 (step y 8 (step y 16 (step y 32 (step y 64 (step y 128 0)))))))

theorem at_field {y : EReal} (h : 0 ≤ y) : At y 1 (field y) := by
  have h0 : At y 256 0 := ⟨le_refl _, by rw [pw_zero]; exact h, fun u h1 h2 => by omega⟩
  exact at_step 1 rfl (by decide) (at_step 2 rfl (by decide) (at_step 4 rfl (by decide) (at_step 8 rfl (by decide)
    (at_step 16 rfl (by decide) (at_step 32 rfl (by decide) (at_step 64 rfl (by decide) (at_step 128 rfl (by decide) h0)))))))

theorem stepW_ofNat (y : EReal) (s n : ℕ) : stepW y (BitVec.ofNat 32 s) (BitVec.ofNat 32 n) = BitVec.ofNat 32 (step y s n) := by
  unfold stepW step pw
  rw [← BitVec.ofNat_add, ofBits_ieee]
  show Scalar.select (Ideal.cmp .oge y _) _ _ = _
  generalize Ideal.ieee 8 23 (BitVec.ofNat 32 (n + s) <<< (23 : ℕ)) = z
  by_cases h : z ≤ y
  · rw [if_pos h]
    simp [h, Scalar.select, Ideal.cmp]
  · rw [if_neg h]
    simp [h, Scalar.select, Ideal.cmp]

/-- The exponent field of `y` as the search on words finds it, a zero replaced by 126. -/
def fieldW (y : EReal) : BitVec 32 :=
  let f := stepW y 1#32 (stepW y 2#32 (stepW y 4#32 (stepW y 8#32 (stepW y 16#32 (stepW y 32#32 (stepW y 64#32 (stepW y 128#32 0#32)))))))
  Scalar.select (IntOp.cmpi .eq f 0#32) 126#32 f

/-- The scale of a group whose greatest magnitude, divided by the greatest code, is `y`; and its reciprocal. -/
def scaleOf (y : EReal) : EReal := FloatOps.ofBits (F := Ideal) .f32 ((fieldW y + 1#32) <<< (23 : ℕ))
def invOf (y : EReal) : EReal := FloatOps.ofBits (F := Ideal) .f32 ((253#32 - fieldW y) <<< (23 : ℕ))

/-- For `y` below `2 ^ 120` the scale is a power of two above `y`, at most twice `y`, or 1 where `y` is below `2 ^ (-126)`. -/
theorem scale_cases {y : EReal} (h0 : 0 ≤ y) (h1 : y < pw 247) : ∃ k : ℤ, -125 ≤ k ∧ k ≤ 120 ∧ scaleOf y = (((2 : ℝ) ^ k : ℝ) : EReal)
    ∧ invOf y = (((2 : ℝ) ^ (-k) : ℝ) : EReal) ∧ (y < pw 1 → k = 0)
    ∧ (pw 1 ≤ y → (((2 : ℝ) ^ (k - 1) : ℝ) : EReal) ≤ y ∧ y < (((2 : ℝ) ^ k : ℝ) : EReal)) := by
  obtain ⟨a1, a2, a3⟩ := at_field h0
  have e : fieldW y = BitVec.ofNat 32 (if field y = 0 then 126 else field y) := by
    unfold fieldW
    rw [stepW_ofNat y 128 0, stepW_ofNat, stepW_ofNat, stepW_ofNat, stepW_ofNat, stepW_ofNat, stepW_ofNat, stepW_ofNat]
    show Scalar.select (IntOp.cmpi .eq (BitVec.ofNat 32 (field y)) 0#32) 126#32 (BitVec.ofNat 32 (field y)) = _
    have hz : (BitVec.ofNat 32 (field y) == 0#32) = decide (field y = 0) := by
      rw [Bool.eq_iff_iff, beq_iff_eq, decide_eq_true_iff]
      constructor
      · intro h
        have := congrArg BitVec.toNat h
        simp only [BitVec.toNat_ofNat] at this
        omega
      · intro h; rw [h]
    by_cases hf : field y = 0
    · rw [if_pos hf, hf]; rfl
    · rw [if_neg hf]
      simp [Scalar.select, IntOp.cmpi, hz, hf]
  have hlt : field y < 247 := by
    by_contra hc
    exact absurd (lt_of_le_of_lt ((pw_mono (Nat.le_of_not_lt hc) (by omega)).trans a2) h1) (lt_irrefl _)
  have s1 : scaleOf y = pw ((if field y = 0 then 126 else field y) + 1) := by
    unfold scaleOf pw
    rw [e, ofBits_ieee, BitVec.ofNat_add]
  have s2 : invOf y = pw (253 - (if field y = 0 then 126 else field y)) := by
    unfold invOf pw
    rw [e, ofBits_ieee]
    have : (253#32 - BitVec.ofNat 32 (if field y = 0 then 126 else field y)) = BitVec.ofNat 32 (253 - (if field y = 0 then 126 else field y)) := by
      apply BitVec.eq_of_toNat_eq
      simp only [BitVec.toNat_sub, BitVec.toNat_ofNat]
      split <;> omega
    rw [this]
  by_cases hf : field y = 0
  · rw [if_pos hf] at s1 s2
    have hb : y < pw 1 := a3 1 (by omega) (by decide)
    refine ⟨0, by decide, by decide, ?_, ?_, fun _ => rfl, fun h => absurd (lt_of_lt_of_le hb h) (lt_irrefl _)⟩
    · rw [s1, pw_eq _ (by decide) (by decide)]; norm_num
    · rw [s2, pw_eq _ (by decide) (by decide)]; norm_num
  · rw [if_neg hf] at s1 s2
    refine ⟨(field y : ℤ) - 126, by omega, by omega, ?_, ?_, fun h => ?_, fun _ => ⟨?_, ?_⟩⟩
    · rw [s1, pw_eq _ (by omega) (by omega)]; congr 2; push_cast; ring
    · rw [s2, pw_eq _ (by omega) (by omega)]; congr 2; rw [Nat.cast_sub (by omega)]; push_cast; ring
    · exact absurd (lt_of_le_of_lt ((pw_mono (by omega) (by omega)).trans a2) h) (lt_irrefl _)
    · rw [pw_eq _ (by omega) (by omega)] at a2
      convert a2 using 3; ring
    · have := a3 (field y + 1) (by omega) (by omega)
      rw [pw_eq _ (by omega) (by omega)] at this
      convert this using 3; push_cast; ring

/-- The reciprocal of the scale is the one the kernel builds. -/
theorem div_scale {y : EReal} (h0 : 0 ≤ y) (h1 : y < pw 247) : Ideal.div 1 (scaleOf y) = invOf y := by
  obtain ⟨k, -, -, e1, e2, -⟩ := scale_cases h0 h1
  rw [e1, e2]
  unfold Ideal.div
  rw [if_neg (by rw [← EReal.coe_zero, EReal.coe_eq_coe_iff]; positivity), one_mul, ← EReal.coe_inv, zpow_neg]

/-- The least of the powers `2 ^ (-125), …, 2 ^ 127` above `y`, or 1 where `y` is below `2 ^ (-126)`. -/
def leastAbove (y : EReal) : EReal :=
  if y < pw 1 then 1 else Finset.univ.fold min ⊤ fun k : Fin 253 =>
    if y < (((2 : ℝ) ^ (((k.val : ℕ) : ℤ) - 125) : ℝ) : EReal) then (((2 : ℝ) ^ (((k.val : ℕ) : ℤ) - 125) : ℝ) : EReal) else ⊤

theorem leastAbove_eq {y : EReal} (h0 : 0 ≤ y) (h1 : y < pw 247) : leastAbove y = scaleOf y := by
  obtain ⟨k, k1, k2, e1, -, e3, e4⟩ := scale_cases h0 h1
  unfold leastAbove
  split
  · next h => rw [e1, e3 h]; norm_num
  · next h =>
    obtain ⟨l, r⟩ := e4 (le_of_not_gt h)
    rw [e1]
    apply le_antisymm
    · rw [Finset.fold_min_le]
      refine Or.inr ⟨⟨(k + 125).toNat, by omega⟩, Finset.mem_univ _, ?_⟩
      have : (((k + 125).toNat : ℕ) : ℤ) - 125 = k := by omega
      simp only [this]
      rw [if_pos r]
    · rw [Finset.le_fold_min]
      refine ⟨le_top, fun j _ => ?_⟩
      split
      · next hj =>
        have := lt_of_le_of_lt l hj
        rw [EReal.coe_lt_coe_iff, zpow_lt_zpow_iff_right₀ (by norm_num)] at this
        exact zpow_le_coe (by omega)
      · exact le_top

end Cert.Own

end
-- ==== Proof.Columns.lean ====
/-
  One column of 1536 numbers quantised in groups of 32: the greatest magnitude of a group, its scale, the codes and the values
  they stand for. Everything here is about extended reals.
-/
module

public import proofs.«01_k».proof.Proof.Scale
public import Idealize.ShloMosaic.Lib.Pointwise

@[expose] public section

set_option maxRecDepth 16384

noncomputable section

namespace Cert.Own

open Idealize.ShloMosaic

/-- The reciprocals of the greatest codes of the two formats, and those codes with their negatives, as the programs spell them. -/
abbrev cX : EReal := Ideal.ofBits .f32 0x3B124925#32
abbrev cY : EReal := Ideal.ofBits .f32 0x37924925#32
abbrev loX : EReal := Ideal.ofBits .f32 0xC3E00000#32
abbrev hiX : EReal := Ideal.ofBits .f32 0x43E00000#32
abbrev loY : EReal := Ideal.ofBits .f32 0xC7600000#32
abbrev hiY : EReal := Ideal.ofBits .f32 0x47600000#32

theorem ix2_cong {p q : ℕ} {a a' : Fin p} {b b' : Fin q} (h : a.val = a'.val) (h1 : b.val = b'.val) : ValueIdx.ix2 a b = ValueIdx.ix2 a' b' := by
  rw [Fin.ext h, Fin.ext h1]
theorem ix3_cong {p q r : ℕ} {a a' : Fin p} {b b' : Fin q} {c c' : Fin r} (h : a.val = a'.val) (h1 : b.val = b'.val) (h2 : c.val = c'.val) :
    ValueIdx.ix3 a b c = ValueIdx.ix3 a' b' c' := by
  rw [Fin.ext h, Fin.ext h1, Fin.ext h2]

/-- Column `l` of an array of six slabs of 256 rows, as 1536 rows. -/
def colOf {n : ℕ} (x : (⟨3, ![6, 256, n]⟩ : Shape).Idx → EReal) (l : Fin n) (r : Fin 1536) : EReal :=
  x (ValueIdx.ix3 ⟨r.val / 256, by omega⟩ ⟨r.val % 256, Nat.mod_lt _ (by decide)⟩ l)

/-- The greatest magnitude in rows `32 g` to `32 g + 31` of a column. -/
def mxc (col : Fin 1536 → EReal) (g : ℕ) : EReal :=
  Finset.univ.fold max ⊥ fun k : Fin 32 => max (col ⟨(32 * g + k.val) % 1536, Nat.mod_lt _ (by decide)⟩) (-col ⟨(32 * g + k.val) % 1536, Nat.mod_lt _ (by decide)⟩)

/-- What the scale of that group is chosen from. -/
def yOf (c : EReal) (col : Fin 1536 → EReal) (g : ℕ) : EReal := mxc col g * c

/-- The code of row `r`, and the value it stands for. -/
def codeOf (c lo hi : EReal) (col : Fin 1536 → EReal) (r : Fin 1536) : EReal := min hi (max lo (col r * invOf (yOf c col (r.val / 32))))
def hatOf (c lo hi : EReal) (col : Fin 1536 → EReal) (r : Fin 1536) : EReal := codeOf c lo hi col r * scaleOf (yOf c col (r.val / 32))

/-- A column of numbers of magnitude at most `2 ^ 128`. -/
def Small (col : Fin 1536 → EReal) : Prop := ∀ r, max (col r) (-col r) ≤ (((2 : ℝ) ^ (128 : ℤ) : ℝ) : EReal)

theorem mag_nonneg (v : EReal) : 0 ≤ max v (-v) := by
  rcases le_total 0 v with h | h
  · exact h.trans (le_max_left _ _)
  · exact (EReal.neg_nonneg.2 h).trans (le_max_right _ _)

theorem y_range {c : EReal} {col : Fin 1536 → EReal} (hc : ∃ r : ℝ, c = r ∧ 0 ≤ r ∧ r < (2 : ℝ) ^ (-8 : ℤ)) (h : Small col) (g : ℕ) :
    0 ≤ yOf c col g ∧ yOf c col g < pw 247 := by
  obtain ⟨r, rfl, r0, r1⟩ := hc
  have m0 : 0 ≤ mxc col g := by
    unfold mxc
    rw [Finset.le_fold_max]
    exact Or.inr ⟨0, Finset.mem_univ _, mag_nonneg _⟩
  have m1 : mxc col g ≤ (((2 : ℝ) ^ (128 : ℤ) : ℝ) : EReal) := by
    unfold mxc
    rw [Finset.fold_max_le]
    exact ⟨bot_le, fun k _ => h _⟩
  refine ⟨mul_nonneg m0 (EReal.coe_nonneg.2 r0), ?_⟩
  unfold yOf
  refine lt_of_le_of_lt (mul_le_mul_of_nonneg_right m1 (EReal.coe_nonneg.2 r0)) ?_
  rw [pw_eq _ (by decide) (by decide), ← EReal.coe_mul, EReal.coe_lt_coe_iff]
  calc (2 : ℝ) ^ (128 : ℤ) * r < (2 : ℝ) ^ (128 : ℤ) * (2 : ℝ) ^ (-8 : ℤ) := mul_lt_mul_of_pos_left r1 (by positivity)
    _ = (2 : ℝ) ^ (((247 : ℕ) : ℤ) - 127) := by rw [← zpow_add₀ (by norm_num)]; norm_num

theorem cX_range : ∃ r : ℝ, cX = r ∧ 0 ≤ r ∧ r < (2 : ℝ) ^ (-8 : ℤ) := by
  refine ⟨_, by simp [cX, Ideal.ofBits, Ideal.ieee, -EReal.coe_mul]; rfl, by positivity, by norm_num⟩

theorem cY_range : ∃ r : ℝ, cY = r ∧ 0 ≤ r ∧ r < (2 : ℝ) ^ (-8 : ℤ) := by
  refine ⟨_, by simp [cY, Ideal.ofBits, Ideal.ieee, -EReal.coe_mul]; rfl, by positivity, by norm_num⟩

theorem bound_le : Ideal.ofBits .f32 0x7F7F0000#32 ≤ (((2 : ℝ) ^ (128 : ℤ) : ℝ) : EReal) := by
  have e : ∃ r : ℝ, Ideal.ofBits .f32 0x7F7F0000#32 = r ∧ r ≤ (2 : ℝ) ^ (128 : ℤ) := by
    refine ⟨_, by simp [Ideal.ofBits, Ideal.ieee, -EReal.coe_mul]; rfl, by norm_num⟩
  obtain ⟨r, e, h⟩ := e
  rw [e]
  exact EReal.coe_le_coe_iff.2 h

/-- The scale as the least power above, and the codes by a division, are the same numbers. -/
theorem least_eq {c : EReal} {col : Fin 1536 → EReal} (hc : ∃ r : ℝ, c = r ∧ 0 ≤ r ∧ r < (2 : ℝ) ^ (-8 : ℤ)) (h : Small col) (g : ℕ) :
    leastAbove (yOf c col g) = scaleOf (yOf c col g) := leastAbove_eq (y_range hc h g).1 (y_range hc h g).2

theorem recip_eq {c : EReal} {col : Fin 1536 → EReal} (hc : ∃ r : ℝ, c = r ∧ 0 ≤ r ∧ r < (2 : ℝ) ^ (-8 : ℤ)) (h : Small col) (g : ℕ) :
    Ideal.div 1 (leastAbove (yOf c col g)) = invOf (yOf c col g) := by
  rw [least_eq hc h g]
  exact div_scale (y_range hc h g).1 (y_range hc h g).2

end Cert.Own

end
-- ==== Proof.Idealized.Values.lean ====
/-
  What the quantiser's vector operations compute over the reals, element by element.
-/
module

public import proofs.«01_k».proof.Proof.Idealized.LoopY
public import proofs.«01_k».proof.Proof.Columns
public import Idealize.ShloMosaic.Lib.Pointwise

@[expose] public section

set_option maxRecDepth 16384

noncomputable section

namespace Cert.KernelIdeal.Own

open Cert.Own Cert.KernelIdeal Cert.KernelIdeal.Gen
open Idealize.ShloMosaic Idealize.ShloMosaic.TcCoe

/-- One step of the search for the exponent field, on a row of numbers. -/
def stepV (y : FVec Ideal S1x1024 .f32) (s : BitVec 32) (f : IVec S1x1024 32) : IVec S1x1024 32 :=
  select (cmpf .oge y (bitcastToFloat .f32 (shli (addi f (broadcast S1x1024 s)) (broadcast S1x1024 23#32)))) (addi f (broadcast S1x1024 s)) f
/-- A zero replaced by 126; a field as a scale and as the reciprocal of that scale. -/
def zeroV (f : IVec S1x1024 32) : IVec S1x1024 32 := select (cmpi .eq f (broadcast S1x1024 0#32)) (broadcast S1x1024 126#32) f
def powV (f : IVec S1x1024 32) : FVec Ideal S1x1024 .f32 := bitcastToFloat .f32 (shli (addi f (broadcast S1x1024 1#32)) (broadcast S1x1024 23#32))
def invV (f : IVec S1x1024 32) : FVec Ideal S1x1024 .f32 := bitcastToFloat .f32 (shli (subi (broadcast S1x1024 253#32) f) (broadcast S1x1024 23#32))

theorem stepV_at (y : FVec Ideal S1x1024 .f32) (s : BitVec 32) (f : IVec S1x1024 32) (i : S1x1024.Idx) : stepV y s f i = stepW (y i) s (f i) := rfl
theorem zeroV_at (f : IVec S1x1024 32) (i : S1x1024.Idx) : zeroV f i = Scalar.select (IntOp.cmpi .eq (f i) 0#32) 126#32 (f i) := rfl
theorem powV_at (f : IVec S1x1024 32) (i : S1x1024.Idx) : powV f i = FloatOps.ofBits (F := Ideal) .f32 ((f i + 1#32) <<< (23 : ℕ)) := rfl
theorem invV_at (f : IVec S1x1024 32) (i : S1x1024.Idx) : invV f i = FloatOps.ofBits (F := Ideal) .f32 ((253#32 - f i) <<< (23 : ℕ)) := rfl

/-- The whole search. -/
def fieldV (y : FVec Ideal S1x1024 .f32) : IVec S1x1024 32 :=
  zeroV (stepV y 1#32 (stepV y 2#32 (stepV y 4#32 (stepV y 8#32 (stepV y 16#32 (stepV y 32#32 (stepV y 64#32 (stepV y 128#32 (broadcast S1x1024 0#32)))))))))
theorem fieldV_at (y : FVec Ideal S1x1024 .f32) (i : S1x1024.Idx) : fieldV y i = fieldW (y i) := by
  unfold fieldV fieldW
  simp only [zeroV_at, stepV_at]
  rfl

theorem fieldX (b : FVec Ideal S32x1024 .bf16) : k0_pay9 (k0_pay7 (F := Ideal) b) (k0_pay8 (F := Ideal) b) = fieldV (k0_pay7 (F := Ideal) b) := rfl
theorem fieldY (b : FVec Ideal S32x1024 .bf16) : k0_pay16 (k0_pay13 (F := Ideal) b) (k0_pay14 (F := Ideal) b) (k0_pay15 (F := Ideal) b) = fieldV (k0_pay13 (F := Ideal) b) := rfl

theorem scaleRowX_at (b : FVec Ideal S32x1024 .bf16) (i : S1x1024.Idx) : scaleRowX (F := Ideal) b i = scaleOf (k0_pay7 (F := Ideal) b i) := by
  show powV (k0_pay9 (k0_pay7 (F := Ideal) b) (k0_pay8 (F := Ideal) b)) i = _
  rw [fieldX, powV_at, fieldV_at]
  rfl
theorem scaleRowY_at (b : FVec Ideal S32x1024 .bf16) (i : S1x1024.Idx) : scaleRowY (F := Ideal) b i = scaleOf (k0_pay13 (F := Ideal) b i) := by
  show powV (k0_pay16 (k0_pay13 (F := Ideal) b) (k0_pay14 (F := Ideal) b) (k0_pay15 (F := Ideal) b)) i = _
  rw [fieldY, powV_at, fieldV_at]
  rfl

/-- A block times a row of factors. -/
def scaledV (b : FVec Ideal S32x1024 .bf16) (w : FVec Ideal S1x1024 .f32) : FVec Ideal S32x1024 .bf16 :=
  mulf b (broadcastTo S32x1024 (truncf .bf16 w bitsLt_bf16_f32) broadcasts_S1x1024_S32x1024)
theorem scaledV_at (b : FVec Ideal S32x1024 .bf16) (w : FVec Ideal S1x1024 .f32) (r : Fin 32) (l : Fin 1024) :
    scaledV b w (ValueIdx.ix2 r l) = b (ValueIdx.ix2 r l) * w (ValueIdx.ix2 0 l) := by
  pointwise [scaledV]
  rfl

theorem same6 (b : FVec Ideal S32x1024 .bf16) : k0_pay6 b = b := by
  funext i
  pointwise [k0_pay6]
theorem same12 (b : FVec Ideal S32x1024 .bf16) : k0_pay12 b = b := by
  funext i
  pointwise [k0_pay12]

theorem quotX_at (b : FVec Ideal S32x1024 .bf16) (r : Fin 32) (l : Fin 1024) :
    quotX (F := Ideal) b (ValueIdx.ix2 r l) = b (ValueIdx.ix2 r l) * invOf (k0_pay7 (F := Ideal) b (ValueIdx.ix2 0 l)) := by
  show scaledV (k0_pay6 b) (invV (k0_pay9 (k0_pay7 (F := Ideal) b) (k0_pay8 (F := Ideal) b))) (ValueIdx.ix2 r l) = _
  rw [fieldX, scaledV_at, same6, invV_at, fieldV_at]
  rfl
theorem quotY_at (b : FVec Ideal S32x1024 .bf16) (r : Fin 32) (l : Fin 1024) :
    quotY (F := Ideal) b (ValueIdx.ix2 r l) = b (ValueIdx.ix2 r l) * invOf (k0_pay13 (F := Ideal) b (ValueIdx.ix2 0 l)) := by
  show scaledV (k0_pay12 b) (invV (k0_pay16 (k0_pay13 (F := Ideal) b) (k0_pay14 (F := Ideal) b) (k0_pay15 (F := Ideal) b))) (ValueIdx.ix2 r l) = _
  rw [fieldY, scaledV_at, same12, invV_at, fieldV_at]
  rfl

/-- The greatest of 32 numbers as the greatest of 16 maxima of two. -/
theorem fold_pairs (f : Fin 32 → EReal) :
    (Finset.univ.fold max ⊥ fun k : Fin 16 => max (f ⟨k.val, by omega⟩) (f ⟨16 + k.val, by omega⟩)) = Finset.univ.fold max ⊥ f := by
  refine le_antisymm (Finset.fold_max_le _ |>.2 ⟨bot_le, fun k _ => max_le ?_ ?_⟩) (Finset.fold_max_le _ |>.2 ⟨bot_le, fun k _ => ?_⟩)
  · exact Finset.le_fold_max _ |>.2 (Or.inr ⟨_, Finset.mem_univ _, le_refl _⟩)
  · exact Finset.le_fold_max _ |>.2 (Or.inr ⟨_, Finset.mem_univ _, le_refl _⟩)
  · refine Finset.le_fold_max _ |>.2 (Or.inr ⟨⟨k.val % 16, by omega⟩, Finset.mem_univ _, ?_⟩)
    rcases Nat.lt_or_ge k.val 16 with h | h
    · refine le_trans (le_of_eq (congrArg f (Fin.ext ?_))) (le_max_left _ _)
      dsimp only; omega
    · refine le_trans (le_of_eq (congrArg f (Fin.ext ?_))) (le_max_right _ _)
      dsimp only; omega

/-- The greatest magnitude of each column of a block of 32 rows. -/
def magV (b : FVec Ideal S32x1024 .bf16) : FVec Ideal S16x1024 .f32 :=
  extf .f32 (maximumf (extractStridedSlice S16x1024 ![0, 0] (absf b) slices_S32x1024_o0_0_S16x1024)
    (extractStridedSlice S16x1024 ![16, 0] (absf b) slices_S32x1024_o16_0_S16x1024)) bitsLt_bf16_f32
def topV (w : FVec Ideal S16x1024 .f32) : FVec Ideal S1024 .f32 :=
  multiReduction .maximumf [0] S1024 w 0xFF800000#32 reduces_S16x1024_S1024 (.inl rfl) rfl
theorem magV_at (b : FVec Ideal S32x1024 .bf16) (k : Fin 16) (l : Fin 1024) : magV b (ValueIdx.ix2 k l)
    = max (max (b (ValueIdx.ix2 ⟨k.val, by omega⟩ l)) (-b (ValueIdx.ix2 ⟨k.val, by omega⟩ l))) (max (b (ValueIdx.ix2 ⟨16 + k.val, by omega⟩ l)) (-b (ValueIdx.ix2 ⟨16 + k.val, by omega⟩ l))) := by
  pointwise [magV]
  rfl
theorem topV_at (w : FVec Ideal S16x1024 .f32) (l : Fin 1024) : topV w (ValueIdx.ix1 l) = Finset.univ.fold max ⊥ fun k : Fin 16 => w (ValueIdx.ix2 k l) := by
  pointwise [topV]
  rfl
theorem ampV_at (w : FVec Ideal S1024 .f32) (c : BitVec 32) (l : Fin 1024) :
    mulf (shapeCast S1x1024 w shapeCasts_S1024_S1x1024) (broadcast S1x1024 (Scalar.ofBits (F := Ideal) .f32 c)) (ValueIdx.ix2 0 l) = w (ValueIdx.ix1 l) * Ideal.ofBits .f32 c := by
  pointwise
  rfl

def magMax (b : FVec Ideal S32x1024 .bf16) (l : Fin 1024) : EReal :=
  Finset.univ.fold max ⊥ fun k : Fin 32 => max (b (ValueIdx.ix2 k l)) (-b (ValueIdx.ix2 k l))

theorem top_mag (b : FVec Ideal S32x1024 .bf16) (l : Fin 1024) : topV (magV b) (ValueIdx.ix1 l) = magMax b l := by
  rw [topV_at]
  simp only [magV_at]
  exact fold_pairs fun k : Fin 32 => max (b (ValueIdx.ix2 k l)) (-b (ValueIdx.ix2 k l))

theorem ampX_at (b : FVec Ideal S32x1024 .bf16) (l : Fin 1024) : k0_pay7 (F := Ideal) b (ValueIdx.ix2 0 l) = magMax b l * cX := by
  rw [← top_mag]
  refine Eq.trans ?_ (ampV_at (topV (magV b)) 0x3B124925#32 l)
  rw [← congrArg magV (same6 b)]
  rfl
theorem ampY_at (b : FVec Ideal S32x1024 .bf16) (l : Fin 1024) : k0_pay13 (F := Ideal) b (ValueIdx.ix2 0 l) = magMax b l * cY := by
  rw [← top_mag]
  refine Eq.trans ?_ (ampV_at (topV (magV b)) 0x37924925#32 l)
  rw [← congrArg magV (same12 b)]
  rfl

/-- Clipping: the codes, and the values they stand for. -/
theorem clipX_at (q : FVec Ideal S32x1024 .bf16) (i : S32x1024.Idx) : k0_pay20 q (Scalar.ofBits (F := Ideal) .f32 0xC3E00000#32) i = min hiX (max loX (q i)) := rfl
theorem clipY_at (q : FVec Ideal S32x1024 .bf16) (i : S32x1024.Idx) :
    k0_pay23 q (Scalar.ofBits (F := Ideal) .f32 0x47600000#32) (k0_pay19 (F := Ideal)) i = min hiY (max loY (q i)) := rfl
theorem hatX_at (s : FVec Ideal S1x1024 .f32) (q : FVec Ideal S32x1024 .bf16) (r : Fin 32) (l : Fin 1024) :
    k0_pay21 s q (Scalar.ofBits (F := Ideal) .f32 0xC3E00000#32) (ValueIdx.ix2 r l) = min hiX (max loX (q (ValueIdx.ix2 r l))) * s (ValueIdx.ix2 0 l) := by
  rw [← clipX_at]
  pointwise [k0_pay21]
  rfl
theorem hatY_at (s : FVec Ideal S1x1024 .f32) (q : FVec Ideal S32x1024 .bf16) (r : Fin 32) (l : Fin 1024) :
    k0_pay24 s q (Scalar.ofBits (F := Ideal) .f32 0x47600000#32) (k0_pay19 (F := Ideal)) (ValueIdx.ix2 r l) = min hiY (max loY (q (ValueIdx.ix2 r l))) * s (ValueIdx.ix2 0 l) := by
  rw [← clipY_at]
  pointwise [k0_pay24]
  rfl

end Cert.KernelIdeal.Own

end
-- ==== Proof.WindowSum.lean ====
/-
  Sums over a window of rows: where the window holds a range, the sum over the window, masked to the range, is the sum over all rows.
-/
module

public import proofs.«01_k».proof.Proof.RowWords
public import Idealize.ShloMosaic.PureOps.Ideal
public import Mathlib.Algebra.BigOperators.Intervals

@[expose] public section

set_option maxRecDepth 16384

noncomputable section

namespace Cert.Own

open Idealize.ShloMosaic

/-- The kernel's mask: row `row + k` is at least `s` and below `e`. -/
def inW (s e row : BitVec 32) (k : ℕ) : BitVec 1 := IntOp.andi (IntOp.cmpi .sge (BitVec.ofNat 32 k + row) s) (IntOp.cmpi .slt (BitVec.ofNat 32 k + row) e)

/-- A factor of zero where the mask is off is a product of zero there. -/
theorem sel_mul (c : BitVec 1) (a b : EReal) :
    a * Scalar.select c b (((((0#32 : BitVec 32).toInt : ℤ) : ℝ)) : EReal) = Scalar.select c (a * b) 0 := by
  unfold Scalar.select
  split
  · rfl
  · simp

/-- The mask's two comparisons, on words below 2³¹. -/
theorem range_iff {a s e : BitVec 32} (ha : a.toNat < 2147483648) (hs : s.toNat < 2147483648) (he : e.toNat < 2147483648) :
    IntOp.andi (IntOp.cmpi .sge a s) (IntOp.cmpi .slt a e) = 1#1 ↔ s.toNat ≤ a.toNat ∧ a.toNat < e.toNat := by
  have ea : a.toInt = a.toNat := BitVec.toInt_eq_toNat_of_lt (by omega)
  have es : s.toInt = s.toNat := BitVec.toInt_eq_toNat_of_lt (by omega)
  have ee : e.toInt = e.toNat := BitVec.toInt_eq_toNat_of_lt (by omega)
  show (BitVec.ofBool (BitVec.sle s a)) &&& (BitVec.ofBool (BitVec.slt a e)) = 1#1 ↔ _
  unfold BitVec.sle BitVec.slt
  rw [ea, es, ee]
  by_cases h1 : s.toNat ≤ a.toNat <;> by_cases h2 : a.toNat < e.toNat <;> simp [h1, h2]

/-- A sum over a window of rows, masked to a range the window holds. -/
theorem sum_window (r W s e : ℕ) (hr : r ≤ s) (he : e ≤ r + W) (hW : r + W ≤ 1536) (f : ℕ → EReal) :
    (∑ k : Fin W, if s ≤ r + k.val ∧ r + k.val < e then f (r + k.val) else 0)
      = ∑ t : Fin 1536, if s ≤ t.val ∧ t.val < e then f t.val else 0 := by
  rw [Fin.sum_univ_eq_sum_range (fun k => if s ≤ r + k ∧ r + k < e then f (r + k) else 0) W,
    Fin.sum_univ_eq_sum_range (fun t => if s ≤ t ∧ t < e then f t else 0) 1536]
  have h := Finset.sum_Ico_eq_sum_range (fun t => if s ≤ t ∧ t < e then f t else 0) r (r + W)
  rw [Nat.add_sub_cancel_left] at h
  rw [← h]
  refine Finset.sum_subset (fun t ht => ?_) (fun t _ ht => if_neg fun hh => ht ?_)
  · have := Finset.mem_Ico.mp ht
    exact Finset.mem_range.mpr (by omega)
  · exact Finset.mem_Ico.mpr (by omega)

/-- The sum the kernel takes over the chunks a group meets is the sum over the group's rows. -/
theorem window_sum {s g : BitVec 32} (hs : s.toNat ≤ 7680) (hg : g.toNat ≤ 1536) (W : ℕ) (hW : W = 256 * cntN s.toNat g.toNat) (h0 : 0 < W)
    (f : ℕ → EReal) :
    (∑ k : Fin W, Scalar.select (inW s (stopW s g) (rowW s) k.val) (f (rowN s.toNat + k.val)) 0)
      = ∑ t : Fin 1536, if s.toNat ≤ t.val ∧ t.val < s.toNat + g.toNat then f t.val else 0 := by
  have hb : stopN s.toNat g.toNat ≤ 1536 := by unfold stopN; omega
  have hst : (stopW s g).toNat = stopN s.toNat g.toNat := by rw [stopW_eq hs hg, BitVec.toNat_ofNat]; omega
  have hrow : (rowW s).toNat = rowN s.toNat := rowW_toNat hs
  have hrl : rowN s.toNat ≤ 1280 := by unfold rowN; omega
  have hcl := cntN_le s.toNat g.toNat
  have h3 : rowN s.toNat ≤ s.toNat ∧ stopN s.toNat g.toNat ≤ rowN s.toNat + W ∧ rowN s.toNat + W ≤ 1536 := by
    unfold cntN at hW
    unfold rowN
    split at hW <;> omega
  have e1 : (∑ k : Fin W, Scalar.select (inW s (stopW s g) (rowW s) k.val) (f (rowN s.toNat + k.val)) 0)
      = ∑ k : Fin W, if s.toNat ≤ rowN s.toNat + k.val ∧ rowN s.toNat + k.val < stopN s.toNat g.toNat then f (rowN s.toNat + k.val) else 0 := by
    refine Finset.sum_congr rfl fun k _ => ?_
    have hk := k.isLt
    have hx : (BitVec.ofNat 32 k.val + rowW s).toNat = rowN s.toNat + k.val := by
      rw [BitVec.toNat_add, BitVec.toNat_ofNat, hrow]; omega
    have hi := range_iff (a := BitVec.ofNat 32 k.val + rowW s) (s := s) (e := stopW s g) (by omega) (by omega) (by omega)
    rw [hx, hst] at hi
    unfold Scalar.select inW
    by_cases hm : s.toNat ≤ rowN s.toNat + k.val ∧ rowN s.toNat + k.val < stopN s.toNat g.toNat
    · rw [if_pos hm]; exact if_pos (hi.mpr hm)
    · rw [if_neg hm]; exact if_neg fun h => hm (hi.mp h)
  rw [e1, sum_window _ W _ _ h3.1 h3.2.1 h3.2.2 f]
  refine Finset.sum_congr rfl fun t _ => if_congr ?_ rfl rfl
  have := t.isLt
  unfold stopN
  omega

end Cert.Own

end
-- ==== Proof.Idealized.Grad.lean ====
/-
  The weight gradient's block over the reals: each payload is a masked product, and the rows it reads hold the group's range.
-/
module

public import proofs.«01_k».proof.Proof.Idealized.Sched
public import proofs.«01_k».proof.Proof.WindowSum
public import Idealize.ShloMosaic.Lib.Pointwise

@[expose] public section

set_option maxRecDepth 16384

noncomputable section

namespace Cert.KernelIdeal.Own

open Cert.Own Cert.KernelIdeal Cert.KernelIdeal.Gen
open Idealize.ShloMosaic Idealize.ShloMosaic.TcCoe

/-- The product of row `p` of the transposed scratch with column `q` of the block of `dy`, at row `t` of both. -/
def prodAt (Z : FVec Ideal S4096x1536 .bf16) (D : FVec Ideal S1536x1024 .bf16) (m : ℕ) (p q : Fin 1024) (t : ℕ) : EReal :=
  Z (ValueIdx.ix2 ⟨(1024 * m + p.val) % 4096, Nat.mod_lt _ (by decide)⟩ ⟨t % 1536, Nat.mod_lt _ (by decide)⟩)
    * D (ValueIdx.ix2 ⟨t % 1536, Nat.mod_lt _ (by decide)⟩ q)

/-! Each payload, for any rows read: the masked sum. -/

theorem pay1_at (s e row : BitVec 32) (D : FVec Ideal S512x1024 .bf16) (Z : FVec Ideal S1024x512 .bf16) (p q : Fin 1024) :
    k0_pay1 (F := Ideal) s e row D Z (ValueIdx.ix3 0 p q)
      = ∑ k : Fin 512, Scalar.select (inW s e row k.val) (Z (ValueIdx.ix2 p k) * D (ValueIdx.ix2 k q)) (0 : EReal) := by
  pointwise [k0_pay1]
  exact Finset.sum_congr rfl fun k _ => sel_mul _ _ _

theorem pay2_at (s e row : BitVec 32) (D : FVec Ideal S768x1024 .bf16) (Z : FVec Ideal S1024x768 .bf16) (p q : Fin 1024) :
    k0_pay2 (F := Ideal) s e row D Z (ValueIdx.ix3 0 p q)
      = ∑ k : Fin 768, Scalar.select (inW s e row k.val) (Z (ValueIdx.ix2 p k) * D (ValueIdx.ix2 k q)) (0 : EReal) := by
  pointwise [k0_pay2]
  exact Finset.sum_congr rfl fun k _ => sel_mul _ _ _

theorem pay3_at (s e row : BitVec 32) (D : FVec Ideal S1024x1024 .bf16) (Z : FVec Ideal S1024x1024 .bf16) (p q : Fin 1024) :
    k0_pay3 (F := Ideal) s e row D Z (ValueIdx.ix3 0 p q)
      = ∑ k : Fin 1024, Scalar.select (inW s e row k.val) (Z (ValueIdx.ix2 p k) * D (ValueIdx.ix2 k q)) (0 : EReal) := by
  pointwise [k0_pay3]
  exact Finset.sum_congr rfl fun k _ => sel_mul _ _ _

theorem pay4_at (s e row : BitVec 32) (D : FVec Ideal S1280x1024 .bf16) (Z : FVec Ideal S1024x1280 .bf16) (p q : Fin 1024) :
    k0_pay4 (F := Ideal) s e row D Z (ValueIdx.ix3 0 p q)
      = ∑ k : Fin 1280, Scalar.select (inW s e row k.val) (Z (ValueIdx.ix2 p k) * D (ValueIdx.ix2 k q)) (0 : EReal) := by
  pointwise [k0_pay4]
  exact Finset.sum_congr rfl fun k _ => sel_mul _ _ _

theorem pay5_at (s e row : BitVec 32) (D : FVec Ideal S1536x1024 .bf16) (Z : FVec Ideal S1024x1536 .bf16) (p q : Fin 1024) :
    k0_pay5 (F := Ideal) s e row D Z (ValueIdx.ix3 0 p q)
      = ∑ k : Fin 1536, Scalar.select (inW s e row k.val) (Z (ValueIdx.ix2 p k) * D (ValueIdx.ix2 k q)) (0 : EReal) := by
  pointwise [k0_pay5]
  exact Finset.sum_congr rfl fun k _ => sel_mul _ _ _

theorem pay26_at (s e a : BitVec 32) (b c : BitVec 1) (D : FVec Ideal S256x1024 .bf16) (Z : FVec Ideal S1024x256 .bf16) (p q : Fin 1024) :
    k0_pay26 (F := Ideal) s e a b c D Z (ValueIdx.ix3 0 p q)
      = ∑ k : Fin 256, Scalar.select (inW s e (Scalar.muli (Scalar.minsi (Scalar.select (Scalar.andi b c) (Scalar.subi a 1#32) a) 5#32) 256#32) k.val)
          (Z (ValueIdx.ix2 p k) * D (ValueIdx.ix2 k q)) (0 : EReal) := by
  pointwise [k0_pay26]
  exact Finset.sum_congr rfl fun k _ => sel_mul _ _ _

theorem pay25_at (p q : Fin 1024) : k0_pay25 (F := Ideal) (ValueIdx.ix3 0 p q) = (0 : EReal) := by
  pointwise [k0_pay25]

/-- The block of a group: the sum of the products over the rows of the group's range. -/
theorem dwBlk_at {s g : BitVec 32} (hs : s.toNat ≤ 7680) (hg : g.toNat ≤ 1536) (m : ℕ) (Z : FVec Ideal S4096x1536 .bf16)
    (D : FVec Ideal S1536x1024 .bf16) (p q : Fin 1024) :
    dwBlk (F := Ideal) m s g Z D (ValueIdx.ix3 0 p q)
      = ∑ t : Fin 1536, if s.toNat ≤ t.val ∧ t.val < s.toNat + g.toNat then prodAt Z D m p q t.val else 0 := by
  have hc := cntN_le s.toNat g.toNat
  have hw := fun (W : ℕ) (hW : W = 256 * cntN s.toNat g.toNat) (h0 : 0 < W) => window_sum hs hg W hW h0 (prodAt Z D m p q)
  unfold dwBlk
  generalize hn : cntN s.toNat g.toNat = n at hc hw
  interval_cases n
  · refine (pay25_at p q).trans (Finset.sum_eq_zero fun t _ => if_neg fun h => ?_).symm
    have := t.isLt
    unfold cntN stopN at hn
    split at hn <;> omega
  · exact (pay26_at s (stopW s g) _ _ _ _ _ p q).trans (hw 256 rfl (by decide))
  · exact (pay1_at s (stopW s g) (rowW s) _ _ p q).trans (hw 512 rfl (by decide))
  · exact (pay2_at s (stopW s g) (rowW s) _ _ p q).trans (hw 768 rfl (by decide))
  · exact (pay3_at s (stopW s g) (rowW s) _ _ p q).trans (hw 1024 rfl (by decide))
  · exact (pay4_at s (stopW s g) (rowW s) _ _ p q).trans (hw 1280 rfl (by decide))
  · exact (pay5_at s (stopW s g) (rowW s) _ _ p q).trans (hw 1536 rfl (by decide))

end Cert.KernelIdeal.Own

end
-- ==== Proof.Spec.lean ====
/-
  The five results as functions of the arguments, over the reals.
-/
module

public import proofs.«01_k».proof.Proof.Columns

@[expose] public section

set_option maxRecDepth 16384

noncomputable section

namespace Cert.Own

open Idealize.ShloMosaic

/-- Group `k`'s size, and the sum of the sizes of the groups before it, as 32-bit words. -/
def sizeOf (T : (⟨1, ![5]⟩ : Shape).Idx → BitVec 32) (k : ℕ) : BitVec 32 := if h : k < 5 then T (ValueIdx.ix1 ⟨k, h⟩) else 0#32
def startOf (T : (⟨1, ![5]⟩ : Shape).Idx → BitVec 32) : ℕ → BitVec 32
  | 0 => 0#32
  | k + 1 => startOf T k + sizeOf T k

/-- Every size is at most 1536. -/
def Sizes (T : (⟨1, ![5]⟩ : Shape).Idx → BitVec 32) : Prop := ∀ i, (T i).toNat ≤ 1536

theorem sizeOf_le {T : (⟨1, ![5]⟩ : Shape).Idx → BitVec 32} (h : Sizes T) (k : ℕ) : (sizeOf T k).toNat ≤ 1536 := by
  unfold sizeOf
  split
  · exact h _
  · exact Nat.zero_le _

theorem startOf_le {T : (⟨1, ![5]⟩ : Shape).Idx → BitVec 32} (h : Sizes T) : ∀ k : ℕ, k < 6 → (startOf T k).toNat ≤ 1536 * k
  | 0, _ => Nat.zero_le _
  | k + 1, hk => by
    have h1 := startOf_le h k (by omega)
    have h2 := sizeOf_le h k
    show (startOf T k + sizeOf T k).toNat ≤ _
    rw [BitVec.toNat_add]
    exact (Nat.mod_le _ _).trans (by omega)

/-- The codes and the scales of `x` and of `dy`. -/
def codesXS (x : (⟨3, ![6, 256, 4096]⟩ : Shape).Idx → EReal) (i : (⟨2, ![1536, 4096]⟩ : Shape).Idx) : EReal := codeOf cX loX hiX (colOf x (i 1)) (i 0)
def scalesXS (x : (⟨3, ![6, 256, 4096]⟩ : Shape).Idx → EReal) (i : (⟨2, ![48, 4096]⟩ : Shape).Idx) : EReal := scaleOf (yOf cX (colOf x (i 1)) (i 0).val)
def codesYS (y : (⟨3, ![6, 256, 7168]⟩ : Shape).Idx → EReal) (i : (⟨2, ![1536, 7168]⟩ : Shape).Idx) : EReal := codeOf cY loY hiY (colOf y (i 1)) (i 0)
def scalesYS (y : (⟨3, ![6, 256, 7168]⟩ : Shape).Idx → EReal) (i : (⟨2, ![48, 7168]⟩ : Shape).Idx) : EReal := scaleOf (yOf cY (colOf y (i 1)) (i 0).val)

/-- The weight gradient of group `i 0`: over the group's rows, the products of the dequantised `x` and `dy`. -/
def dwS (x : (⟨3, ![6, 256, 4096]⟩ : Shape).Idx → EReal) (y : (⟨3, ![6, 256, 7168]⟩ : Shape).Idx → EReal) (T : (⟨1, ![5]⟩ : Shape).Idx → BitVec 32)
    (i : (⟨3, ![5, 4096, 7168]⟩ : Shape).Idx) : EReal :=
  ∑ t : Fin 1536, if (startOf T (i 0).val).toNat ≤ t.val ∧ t.val < (startOf T (i 0).val).toNat + (sizeOf T (i 0).val).toNat
    then hatOf cX loX hiX (colOf x (i 1)) t * hatOf cY loY hiY (colOf y (i 2)) t else 0

end Cert.Own

end
-- ==== Proof.Idealized.Results.lean ====
/-
  The kernel's five results over the reals, as functions of its arguments.
-/
module

public import proofs.«01_k».proof.Proof.Idealized.Arrays
public import proofs.«01_k».proof.Proof.Idealized.Values
public import proofs.«01_k».proof.Proof.Idealized.Grad
public import proofs.«01_k».proof.Proof.Spec
public import Idealize.ShloMosaic.Lib.StableHlo.RunRead
public import Idealize.ShloMosaic.Lib.Claim
public import Idealize.ShloMosaic.Lib.Pointwise

@[expose] public section

set_option maxRecDepth 16384

noncomputable section

namespace Cert.KernelIdeal.Own

open Cert.Own Cert.KernelIdeal Cert.KernelIdeal.Gen
open Idealize.ShloMosaic Idealize.ShloMosaic.TcCoe

/-- Column `l` of a block of 1536 rows. -/
def colB (X : FVec Ideal S1536x1024 .bf16) (l : Fin 1024) (r : Fin 1536) : EReal := X (ValueIdx.ix2 r l)

theorem ampX_col (X : FVec Ideal S1536x1024 .bf16) (g : ℕ) (l : Fin 1024) :
    k0_pay7 (F := Ideal) (rows32 X g) (ValueIdx.ix2 0 l) = yOf cX (colB X l) g := (ampX_at _ l).trans rfl
theorem ampY_col (X : FVec Ideal S1536x1024 .bf16) (g : ℕ) (l : Fin 1024) :
    k0_pay13 (F := Ideal) (rows32 X g) (ValueIdx.ix2 0 l) = yOf cY (colB X l) g := (ampY_at _ l).trans rfl
theorem rows_col (X : FVec Ideal S1536x1024 .bf16) (r : Fin 1536) (l : Fin 1024) :
    rows32 (F := Ideal) X (r.val / 32) (ValueIdx.ix2 ⟨r.val % 32, Nat.mod_lt _ (by decide)⟩ l) = colB X l r :=
  congrArg X (ix2_cong (by show (32 * (r.val / 32) + r.val % 32) % 1536 = r.val; omega) rfl)

/-- The quantiser of the kernel, column by column. -/
theorem scaleX_eq (X : FVec Ideal S1536x1024 .bf16) (g : ℕ) (l : Fin 1024) : scaleX (F := Ideal) X g l = scaleOf (yOf cX (colB X l) g) := by
  unfold scaleX
  rw [scaleRowX_at, ampX_col]
theorem scaleY_eq (X : FVec Ideal S1536x1024 .bf16) (g : ℕ) (l : Fin 1024) : scaleY (F := Ideal) X g l = scaleOf (yOf cY (colB X l) g) := by
  unfold scaleY
  rw [scaleRowY_at, ampY_col]
theorem codeX_eq (X : FVec Ideal S1536x1024 .bf16) (r : Fin 1536) (l : Fin 1024) : codeX (F := Ideal) X r.val l = codeOf cX loX hiX (colB X l) r := by
  unfold codeX codeOf
  rw [clipX_at, quotX_at, ampX_col, rows_col]
theorem codeY_eq (X : FVec Ideal S1536x1024 .bf16) (r : Fin 1536) (l : Fin 1024) : codeY (F := Ideal) X r.val l = codeOf cY loY hiY (colB X l) r := by
  unfold codeY codeOf
  rw [clipY_at, quotY_at, ampY_col, rows_col]
theorem hatX_eq (X : FVec Ideal S1536x1024 .bf16) (r : Fin 1536) (l : Fin 1024) : hatX (F := Ideal) X r.val l = hatOf cX loX hiX (colB X l) r := by
  unfold hatX hatOf codeOf
  rw [hatX_at, quotX_at, ampX_col, rows_col, scaleRowX_at, ampX_col]
theorem hatY_eq (X : FVec Ideal S1536x1024 .bf16) (r : Fin 1536) (l : Fin 1024) : hatY (F := Ideal) X r.val l = hatOf cY loY hiY (colB X l) r := by
  unfold hatY hatOf codeOf
  rw [hatY_at, quotY_at, ampY_col, rows_col, scaleRowY_at, ampY_col]

variable (m : (ℓ : Loc nD τ sig) → Buf (Elt Ideal) ℓ)

/-- The operands: the arguments with their six slabs of 256 rows as 1536 rows. -/
theorem xarr_eq (c : Dev nD) (r : FVec Ideal S1536x4096 .bf16)
    (hr : shapeCast S1536x4096 (m ((c : Thread nD τ).loc main_arg0)) shapeCasts_S6x256x4096_S1536x4096 = r) : xarr m c = r := by
  unfold xarr
  unfold_abbrev_sides
  after_reads_simp
  exact hr
theorem yarr_eq (c : Dev nD) (r : FVec Ideal S1536x7168 .bf16)
    (hr : shapeCast S1536x7168 (m ((c : Thread nD τ).loc main_arg1)) shapeCasts_S6x256x7168_S1536x7168 = r) : yarr m c = r := by
  unfold yarr
  unfold_abbrev_sides
  after_reads_simp
  exact hr

theorem flat_x (x : FVec Ideal S6x256x4096 .bf16) (r : Fin 1536) (l : Fin 4096) :
    shapeCast S1536x4096 x shapeCasts_S6x256x4096_S1536x4096 (ValueIdx.ix2 r l) = colOf x l r := by
  pointwise
  rfl
theorem flat_y (y : FVec Ideal S6x256x7168 .bf16) (r : Fin 1536) (l : Fin 7168) :
    shapeCast S1536x7168 y shapeCasts_S6x256x7168_S1536x7168 (ValueIdx.ix2 r l) = colOf y l r := by
  pointwise
  rfl

theorem colB_x (c : Dev nD) (L : Fin 4096) :
    colB (xb m c (L.val / 1024)) ⟨L.val % 1024, Nat.mod_lt _ (by decide)⟩ = colOf (m ((c : Thread nD τ).loc main_arg0)) L := by
  funext r
  unfold colB xb
  rw [xarr_eq m c _ rfl]
  refine (congrArg _ (ix2_cong (b' := L) rfl ?_)).trans (flat_x _ r L)
  show (1024 * (L.val / 1024) + L.val % 1024) % 4096 = L.val
  omega
theorem colB_y (c : Dev nD) (L : Fin 7168) :
    colB (yb m c (L.val / 1024)) ⟨L.val % 1024, Nat.mod_lt _ (by decide)⟩ = colOf (m ((c : Thread nD τ).loc main_arg1)) L := by
  funext r
  unfold colB yb
  rw [yarr_eq m c _ rfl]
  refine (congrArg _ (ix2_cong (b' := L) rfl ?_)).trans (flat_y _ r L)
  show (1024 * (L.val / 1024) + L.val % 1024) % 7168 = L.val
  omega

/-- The four arrays of codes and scales. -/
theorem res3 (hO : Ok m) (c : Dev nD) : (dats m hO 0 c).arrAt 3 (cfgM m hO).N = codesXS (m ((c : Thread nD τ).loc main_arg0)) := by
  rw [arr3]
  funext i
  exact (codeX_eq _ (i 0) _).trans (congrArg (fun f => codeOf cX loX hiX f (i 0)) (colB_x m c (i 1)))
theorem res4 (hO : Ok m) (c : Dev nD) : (dats m hO 0 c).arrAt 4 (cfgM m hO).N = scalesXS (m ((c : Thread nD τ).loc main_arg0)) := by
  rw [arr4]
  funext i
  exact (scaleX_eq _ _ _).trans (congrArg (fun f => scaleOf (yOf cX f (i 0).val)) (colB_x m c (i 1)))
theorem res5 (hO : Ok m) (c : Dev nD) : (dats m hO 0 c).arrAt 5 (cfgM m hO).N = codesYS (m ((c : Thread nD τ).loc main_arg1)) := by
  rw [arr5]
  funext i
  exact (codeY_eq _ (i 0) _).trans (congrArg (fun f => codeOf cY loY hiY f (i 0)) (colB_y m c (i 1)))
theorem res6 (hO : Ok m) (c : Dev nD) : (dats m hO 0 c).arrAt 6 (cfgM m hO).N = scalesYS (m ((c : Thread nD τ).loc main_arg1)) := by
  rw [arr6]
  funext i
  exact (scaleY_eq _ _ _).trans (congrArg (fun f => scaleOf (yOf cY f (i 0).val)) (colB_y m c (i 1)))

theorem sizeW_eq (T : IVec S5 32) (k : ℕ) : sizeW (F := Ideal) T k = Cert.Own.sizeOf T k := by
  unfold sizeW Cert.Own.sizeOf
  split
  · exact congrArg T (funext fun a => match a with | ⟨0, _⟩ => rfl)
  · rfl
theorem startW_eq (T : IVec S5 32) : ∀ k, startW (F := Ideal) T k = startOf T k
  | 0 => rfl
  | k + 1 => by
    show startW (F := Ideal) T k + sizeW (F := Ideal) T k = startOf T k + Cert.Own.sizeOf T k
    rw [startW_eq T k, sizeW_eq]

/-- The weight gradient. -/
theorem res2 (hO : Ok m) (c : Dev nD) (hT : Sizes (m (((0 : Dev nD) : Thread nD τ).loc main_arg2))) :
    (dats m hO 0 c).arrAt 2 (cfgM m hO).N
      = dwS (m ((c : Thread nD τ).loc main_arg0)) (m ((c : Thread nD τ).loc main_arg1)) (m (((0 : Dev nD) : Thread nD τ).loc main_arg2)) := by
  rw [arr2]
  have e : tbl m 0 = m (((0 : Dev nD) : Thread nD τ).loc main_arg2) := V_main_arg2 m 0
  rw [e]
  generalize m (((0 : Dev nD) : Thread nD τ).loc main_arg2) = T at hT ⊢
  funext i
  have i0 : (i 0).val < 5 := (i 0).isLt
  have i1 : (i 1).val < 4096 := (i 1).isLt
  refine (dwBlk_at (s := startW (F := Ideal) T (i 0).val) (g := sizeW (F := Ideal) T (i 0).val) ?_ ?_ _ _ _ _ _).trans ?_
  · rw [startW_eq]; exact (startOf_le hT _ (by omega)).trans (by omega)
  · rw [sizeW_eq]; exact sizeOf_le hT _
  rw [startW_eq, sizeW_eq]
  unfold dwS
  refine Finset.sum_congr rfl fun t _ => if_congr Iff.rfl ?_ rfl
  have ht := t.isLt
  have e1 : (⟨(1024 * ((i 1).val / 1024) + (i 1).val % 1024) % 4096, Nat.mod_lt _ (by decide)⟩ : Fin 4096) = i 1 := Fin.ext (by
    show (1024 * ((i 1).val / 1024) + (i 1).val % 1024) % 4096 = (i 1).val; omega)
  have e2 : (⟨t.val % 1536, Nat.mod_lt _ (by decide)⟩ : Fin 1536) = t := Fin.ext (Nat.mod_eq_of_lt ht)
  unfold prodAt
  rw [e2]
  refine congr (congrArg HMul.hMul ?_) ?_
  · refine Eq.trans ?_ ((hatX_eq _ t _).trans (congrArg (fun f => hatOf cX loX hiX f t) (colB_x m c (i 1))))
    show xhatT m c (ValueIdx.ix2 (⟨(1024 * ((i 1).val / 1024) + (i 1).val % 1024) % 4096, _⟩ : Fin 4096) t) = _
    rw [e1]
    rfl
  · exact (hatY_eq _ t _).trans (congrArg (fun f => hatOf cY loY hiY f t) (colB_y m c (i 2)))

end Cert.KernelIdeal.Own

end
-- ==== Proof.Reference.QuantX.lean ====
/-
  The reference's quantisation of `x`: its host operations composed, and what they compute at an index.
-/
module

public import proofs.«01_k».proof.Proof.Gen.ReferenceIdeal.Frame
public import proofs.«01_k».proof.Proof.Columns
public import Idealize.ShloMosaic.Lib.StableHlo.RunRead
public import Idealize.ShloMosaic.Lib.Claim
public import Idealize.ShloMosaic.Lib.Pointwise

@[expose] public section

set_option maxRecDepth 16384

noncomputable section

namespace Cert.ReferenceIdeal.Own

open Cert.Own Cert.ReferenceIdeal Cert.ReferenceIdeal.Gen
open Idealize.ShloMosaic Idealize.ShloMosaic.TcCoe Idealize.SL.Sem

/-- The powers of two from `2 ^ (-125)` to `2 ^ 127`. -/
def pows : FVec Ideal S253x1x1x1 .f32 :=
  broadcastInDim S253x1x1x1 ![0] bcast_S253_S253x1x1x1_0
    (Host.powf (broadcastInDim S253 ![] bcast_S_S253 (constant S_ FTy.f32 1073741824#32))
      (sitofp FTy.f32 (addi (broadcastInDim S253 ![] bcast_S_S253 (constantI S_ 32 4294967171#32)) (iotaInDim S253 32 0))))

/-- `x` in groups of 32 rows; the greatest magnitude of each group over the greatest code; the scale; the codes. -/
def grpX (x : FVec Ideal S6x256x4096 .bf16) : FVec Ideal S6x8x32x4096 .f32 :=
  shapeCast S6x8x32x4096 (extf FTy.f32 x bitsLt_bf16_f32) shapeCasts_S6x256x4096_S6x8x32x4096
def maxX (v : FVec Ideal S6x8x32x4096 .f32) : FVec Ideal S6x8x4096 .f32 :=
  Host.reduce FloatOps.maximumf v (constant S_ FTy.f32 4286578688#32) reducesTo_S6x8x32x4096_S6x8x4096_d2 h_S_
def mulX (w : FVec Ideal S6x8x4096 .f32) : FVec Ideal S6x8x4096 .f32 :=
  mulf w (broadcastInDim S6x8x4096 ![] bcast_S_S6x8x4096 (constant S_ FTy.f32 0x3B124925#32))
def ampX (v : FVec Ideal S6x8x32x4096 .f32) : FVec Ideal S6x8x4096 .f32 :=
  mulX (maxX (Host.absf v))
def minX (y : FVec Ideal S6x8x4096 .f32) : FVec Ideal S6x8x4096 .f32 :=
  Host.reduce FloatOps.minimumf
    (select
      (cmpf CmpFPredicate.ogt (broadcastInDim S253x6x8x4096 ![0, 1, 2, 3] bcast_S253x1x1x1_S253x6x8x4096_0_1_2_3 pows)
        (broadcastInDim S253x6x8x4096 ![0, 1, 2, 3] bcast_S1x6x8x4096_S253x6x8x4096_0_1_2_3
          (broadcastInDim S1x6x8x4096 ![1, 2, 3] bcast_S6x8x4096_S1x6x8x4096_1_2_3 y)))
      (broadcastInDim S253x6x8x4096 ![0, 1, 2, 3] bcast_S253x1x1x1_S253x6x8x4096_0_1_2_3 pows)
      (broadcastInDim S253x6x8x4096 ![] bcast_S_S253x6x8x4096 (constant S_ FTy.f32 2139095040#32)))
    (constant S_ FTy.f32 2139095040#32) reducesTo_S253x6x8x4096_S6x8x4096_d0 h_S_
def sclX (y : FVec Ideal S6x8x4096 .f32) : FVec Ideal S6x8x4096 .f32 :=
  select (cmpf CmpFPredicate.olt y (broadcastInDim S6x8x4096 ![] bcast_S_S6x8x4096 (constant S_ FTy.f32 8388608#32)))
    (broadcastInDim S6x8x4096 ![] bcast_S_S6x8x4096 (constant S_ FTy.f32 1065353216#32)) (minX y)
def quoX (v : FVec Ideal S6x8x32x4096 .f32) (s : FVec Ideal S6x8x4096 .f32) : FVec Ideal S6x8x32x4096 .f32 :=
  minimumf (broadcastInDim S6x8x32x4096 ![] bcast_S_S6x8x32x4096 (constant S_ FTy.f32 0x43E00000#32))
    (maximumf (broadcastInDim S6x8x32x4096 ![] bcast_S_S6x8x32x4096 (constant S_ FTy.f32 0xC3E00000#32))
      (mulf v (broadcastInDim S6x8x32x4096 ![0, 1, 2, 3] bcast_S6x8x1x4096_S6x8x32x4096_0_1_2_3
        (broadcastInDim S6x8x1x4096 ![0, 1, 3] bcast_S6x8x4096_S6x8x1x4096_0_1_3
          (Host.divf (broadcastInDim S6x8x4096 ![] bcast_S_S6x8x4096 (constant S_ FTy.f32 1065353216#32)) s)))))

theorem toInt_exp : ∀ k : Fin 253, (IntOp.addi (4294967171#32) (BitVec.ofNat 32 k.val)).toInt = (k.val : ℤ) - 125 := by decide +kernel

/-- Each power, and the scale, at an index. -/
theorem pows_at (k : Fin 253) : pows (ValueIdx.ix4 k 0 0 0) = (((2 : ℝ) ^ ((k.val : ℤ) - 125) : ℝ) : EReal) := by
  pointwise [pows]
  have e : (FloatOps.sitofp FTy.f32 (IntOp.addi (4294967171#32) (BitVec.ofNat 32 k.val)) : Ideal .f32) = ((((k.val : ℤ) - 125 : ℤ) : ℝ) : EReal) := by
    rw [← toInt_exp k]; rfl
  have e2 : (Ideal.ofBits FTy.f32 1073741824#32 : EReal) = ((2 : ℝ) : EReal) := by
    simp [Ideal.ofBits, Ideal.ieee, -EReal.coe_mul]; norm_num
  refine (congrArg₂ Ideal.pow e2 e).trans ?_
  show ((Real.rpow 2 _ : ℝ) : EReal) = _
  exact congrArg _ (Real.rpow_intCast 2 _)

theorem minX_at (y : FVec Ideal S6x8x4096 .f32) (a : Fin 6) (b : Fin 8) (l : Fin 4096) :
    minX y (ValueIdx.ix3 a b l) = Finset.univ.fold min ⊤ fun k : Fin 253 =>
      if y (ValueIdx.ix3 a b l) < (((2 : ℝ) ^ ((k.val : ℤ) - 125) : ℝ) : EReal) then (((2 : ℝ) ^ ((k.val : ℤ) - 125) : ℝ) : EReal) else ⊤ := by
  pointwise [minX]
  have e : (Ideal.ofBits FTy.f32 2139095040#32 : EReal) = ⊤ := by simp [Ideal.ofBits, Ideal.ieee]
  rw [e]
  exact Finset.fold_congr fun k _ => congrArg (fun p : EReal => if y (ValueIdx.ix3 a b l) < p then p else ⊤) (pows_at k)

theorem sclX_at (y : FVec Ideal S6x8x4096 .f32) (a : Fin 6) (b : Fin 8) (l : Fin 4096) :
    sclX y (ValueIdx.ix3 a b l) = leastAbove (y (ValueIdx.ix3 a b l)) := by
  have h := minX_at y a b l
  pointwise [sclX]
  unfold leastAbove
  rw [← h]
  rfl

theorem quoX_at (v : FVec Ideal S6x8x32x4096 .f32) (s : FVec Ideal S6x8x4096 .f32) (a : Fin 6) (b : Fin 8) (k : Fin 32) (l : Fin 4096) :
    quoX v s (ValueIdx.ix4 a b k l) = min hiX (max loX (v (ValueIdx.ix4 a b k l) * Ideal.div 1 (s (ValueIdx.ix3 a b l)))) := by
  pointwise [quoX]
  rfl

theorem grpX_at (x : FVec Ideal S6x256x4096 .bf16) (a : Fin 6) (b : Fin 8) (k : Fin 32) (l : Fin 4096) :
    grpX x (ValueIdx.ix4 a b k l) = x (ValueIdx.ix3 a ⟨32 * b.val + k.val, by omega⟩ l) := by
  pointwise [grpX]
  refine congrArg x (ix3_cong ?_ ?_ rfl)
  · rfl
  · show b.val * 32 + k.val = 32 * b.val + k.val; omega

theorem maxX_at (v : FVec Ideal S6x8x32x4096 .f32) (a : Fin 6) (b : Fin 8) (l : Fin 4096) :
    maxX v (ValueIdx.ix3 a b l) = Finset.univ.fold max ⊥ fun k : Fin 32 => v (ValueIdx.ix4 a b k l) := by
  pointwise [maxX]
  have e : (Ideal.ofBits FTy.f32 4286578688#32 : EReal) = ⊥ := by simp [Ideal.ofBits, Ideal.ieee]
  rw [e]
  rfl

theorem mulX_at (w : FVec Ideal S6x8x4096 .f32) (a : Fin 6) (b : Fin 8) (l : Fin 4096) : mulX w (ValueIdx.ix3 a b l) = w (ValueIdx.ix3 a b l) * cX := by
  pointwise [mulX]

theorem ampX_at (x : FVec Ideal S6x256x4096 .bf16) (g : Fin 48) (l : Fin 4096) :
    ampX (grpX x) (ValueIdx.ix3 ⟨g.val / 8, by omega⟩ ⟨g.val % 8, by omega⟩ l) = yOf cX (colOf x l) g.val := by
  unfold ampX
  rw [mulX_at, maxX_at]
  unfold yOf mxc
  refine congrArg (fun v : EReal => v * cX) (Finset.fold_congr fun k _ => ?_)
  have e : grpX x (ValueIdx.ix4 ⟨g.val / 8, by omega⟩ ⟨g.val % 8, by omega⟩ k l) = colOf x l ⟨(32 * g.val + k.val) % 1536, Nat.mod_lt _ (by decide)⟩ := by
    rw [grpX_at]
    unfold colOf
    exact congrArg x (ix3_cong (by dsimp only; omega) (by dsimp only; omega) rfl)
  exact congrArg (fun v : EReal => max v (-v)) e

/-- Merging the leading axes of scales and of codes. -/
theorem flatS (w : FVec Ideal S6x8x4096 .f32) (g : Fin 48) (l : Fin 4096) :
    (shapeCast S48x4096 w shapeCasts_S6x8x4096_S48x4096 : FVec Ideal S48x4096 .f32) (ValueIdx.ix2 g l) = w (ValueIdx.ix3 ⟨g.val / 8, by omega⟩ ⟨g.val % 8, by omega⟩ l) := by
  pointwise
  rfl

theorem flatQ (w : FVec Ideal S6x8x32x4096 .f32) (r : Fin 1536) (l : Fin 4096) :
    (shapeCast S1536x4096 w shapeCasts_S6x8x32x4096_S1536x4096 : FVec Ideal S1536x4096 .f32) (ValueIdx.ix2 r l)
      = w (ValueIdx.ix4 ⟨r.val / 256, by omega⟩ ⟨r.val / 32 % 8, by omega⟩ ⟨r.val % 32, by omega⟩ l) := by
  pointwise
  rfl

/-- The scales and the codes, column by column. -/
theorem sclX_flat (x : FVec Ideal S6x256x4096 .bf16) (g : Fin 48) (l : Fin 4096) :
    (shapeCast S48x4096 (sclX (ampX (grpX x))) shapeCasts_S6x8x4096_S48x4096 : FVec Ideal S48x4096 .f32) (ValueIdx.ix2 g l) = leastAbove (yOf cX (colOf x l) g.val) := by
  rw [flatS, sclX_at, ampX_at]

theorem quoX_flat (x : FVec Ideal S6x256x4096 .bf16) (r : Fin 1536) (l : Fin 4096) :
    (shapeCast S1536x4096 (quoX (grpX x) (sclX (ampX (grpX x)))) shapeCasts_S6x8x32x4096_S1536x4096 : FVec Ideal S1536x4096 .f32) (ValueIdx.ix2 r l)
      = min hiX (max loX (colOf x l r * Ideal.div 1 (leastAbove (yOf cX (colOf x l) (r.val / 32))))) := by
  have e1 : grpX x (ValueIdx.ix4 ⟨r.val / 256, by omega⟩ ⟨r.val / 32 % 8, by omega⟩ ⟨r.val % 32, by omega⟩ l) = colOf x l r := by
    rw [grpX_at]
    unfold colOf
    exact congrArg x (ix3_cong (by dsimp only) (by dsimp only; omega) rfl)
  have e2 : sclX (ampX (grpX x)) (ValueIdx.ix3 ⟨r.val / 256, by omega⟩ ⟨r.val / 32 % 8, by omega⟩ l) = leastAbove (yOf cX (colOf x l) (r.val / 32)) := by
    have h := ampX_at x ⟨r.val / 32, by omega⟩ l
    have h' : ampX (grpX x) (ValueIdx.ix3 ⟨r.val / 256, by omega⟩ ⟨r.val / 32 % 8, by omega⟩ l) = yOf cX (colOf x l) (r.val / 32) := by
      rw [← h]
      exact congrArg (ampX (grpX x)) (ix3_cong (by dsimp only; omega) (by dsimp only) rfl)
    rw [sclX_at, h']
  rw [flatQ, quoX_at, e1, e2]

variable (m : (ℓ : Loc nD τ sig) → Buf (Elt Ideal) ℓ)

theorem V_v29' (c : Dev nD) (r : FVec Ideal S48x4096 .f32) (hr : shapeCast S48x4096 (sclX (ampX (grpX (m ((c : Thread nD τ).loc main_arg0))))) shapeCasts_S6x8x4096_S48x4096 = r) : V m c main_v29 = r := by
  unfold_abbrev_sides
  simp only [List.flatten_cons, List.flatten_nil, List.cons_append, List.nil_append]
  after_reads_simp
  simp -implicitDefEqProofs only [StableHlo.TRef.toBuf, StableHlo.TRef.ofBuf, cast_cast, cast_eq, id]
  exact hr

theorem V_v28' (c : Dev nD) (r : FVec Ideal S1536x4096 .f32) (hr : shapeCast S1536x4096 (quoX (grpX (m ((c : Thread nD τ).loc main_arg0))) (sclX (ampX (grpX (m ((c : Thread nD τ).loc main_arg0)))))) shapeCasts_S6x8x32x4096_S1536x4096 = r) : V m c main_v28 = r := by
  unfold_abbrev_sides
  simp only [List.flatten_cons, List.flatten_nil, List.cons_append, List.nil_append]
  after_reads_simp
  simp -implicitDefEqProofs only [StableHlo.TRef.toBuf, StableHlo.TRef.ofBuf, cast_cast, cast_eq, id]
  exact hr

end Cert.ReferenceIdeal.Own

end
-- ==== Proof.Reference.QuantY.lean ====
/-
  The reference's quantisation of `dy`: its host operations composed, and what they compute at an index.
-/
module

public import proofs.«01_k».proof.Proof.Reference.QuantX
public import Idealize.ShloMosaic.Lib.StableHlo.RunRead
public import Idealize.ShloMosaic.Lib.Claim
public import Idealize.ShloMosaic.Lib.Pointwise

@[expose] public section

set_option maxRecDepth 16384

noncomputable section

namespace Cert.ReferenceIdeal.Own

open Cert.Own Cert.ReferenceIdeal Cert.ReferenceIdeal.Gen
open Idealize.ShloMosaic Idealize.ShloMosaic.TcCoe Idealize.SL.Sem

/-- `dy` in groups of 32 rows; the greatest magnitude of each group over the greatest code; the scale; the codes. -/
def grpY (x : FVec Ideal S6x256x7168 .bf16) : FVec Ideal S6x8x32x7168 .f32 :=
  shapeCast S6x8x32x7168 (extf FTy.f32 x bitsLt_bf16_f32) shapeCasts_S6x256x7168_S6x8x32x7168
def maxY (v : FVec Ideal S6x8x32x7168 .f32) : FVec Ideal S6x8x7168 .f32 :=
  Host.reduce FloatOps.maximumf v (constant S_ FTy.f32 4286578688#32) reducesTo_S6x8x32x7168_S6x8x7168_d2 h_S_
def mulY (w : FVec Ideal S6x8x7168 .f32) : FVec Ideal S6x8x7168 .f32 :=
  mulf w (broadcastInDim S6x8x7168 ![] bcast_S_S6x8x7168 (constant S_ FTy.f32 0x37924925#32))
def ampY (v : FVec Ideal S6x8x32x7168 .f32) : FVec Ideal S6x8x7168 .f32 :=
  mulY (maxY (Host.absf v))
def minY (y : FVec Ideal S6x8x7168 .f32) : FVec Ideal S6x8x7168 .f32 :=
  Host.reduce FloatOps.minimumf
    (select
      (cmpf CmpFPredicate.ogt (broadcastInDim S253x6x8x7168 ![0, 1, 2, 3] bcast_S253x1x1x1_S253x6x8x7168_0_1_2_3 pows)
        (broadcastInDim S253x6x8x7168 ![0, 1, 2, 3] bcast_S1x6x8x7168_S253x6x8x7168_0_1_2_3
          (broadcastInDim S1x6x8x7168 ![1, 2, 3] bcast_S6x8x7168_S1x6x8x7168_1_2_3 y)))
      (broadcastInDim S253x6x8x7168 ![0, 1, 2, 3] bcast_S253x1x1x1_S253x6x8x7168_0_1_2_3 pows)
      (broadcastInDim S253x6x8x7168 ![] bcast_S_S253x6x8x7168 (constant S_ FTy.f32 2139095040#32)))
    (constant S_ FTy.f32 2139095040#32) reducesTo_S253x6x8x7168_S6x8x7168_d0 h_S_
def sclY (y : FVec Ideal S6x8x7168 .f32) : FVec Ideal S6x8x7168 .f32 :=
  select (cmpf CmpFPredicate.olt y (broadcastInDim S6x8x7168 ![] bcast_S_S6x8x7168 (constant S_ FTy.f32 8388608#32)))
    (broadcastInDim S6x8x7168 ![] bcast_S_S6x8x7168 (constant S_ FTy.f32 1065353216#32)) (minY y)
def quoY (v : FVec Ideal S6x8x32x7168 .f32) (s : FVec Ideal S6x8x7168 .f32) : FVec Ideal S6x8x32x7168 .f32 :=
  minimumf (broadcastInDim S6x8x32x7168 ![] bcast_S_S6x8x32x7168 (constant S_ FTy.f32 0x47600000#32))
    (maximumf (broadcastInDim S6x8x32x7168 ![] bcast_S_S6x8x32x7168 (constant S_ FTy.f32 0xC7600000#32))
      (mulf v (broadcastInDim S6x8x32x7168 ![0, 1, 2, 3] bcast_S6x8x1x7168_S6x8x32x7168_0_1_2_3
        (broadcastInDim S6x8x1x7168 ![0, 1, 3] bcast_S6x8x7168_S6x8x1x7168_0_1_3
          (Host.divf (broadcastInDim S6x8x7168 ![] bcast_S_S6x8x7168 (constant S_ FTy.f32 1065353216#32)) s)))))

theorem minY_at (y : FVec Ideal S6x8x7168 .f32) (a : Fin 6) (b : Fin 8) (l : Fin 7168) :
    minY y (ValueIdx.ix3 a b l) = Finset.univ.fold min ⊤ fun k : Fin 253 =>
      if y (ValueIdx.ix3 a b l) < (((2 : ℝ) ^ ((k.val : ℤ) - 125) : ℝ) : EReal) then (((2 : ℝ) ^ ((k.val : ℤ) - 125) : ℝ) : EReal) else ⊤ := by
  pointwise [minY]
  have e : (Ideal.ofBits FTy.f32 2139095040#32 : EReal) = ⊤ := by simp [Ideal.ofBits, Ideal.ieee]
  rw [e]
  exact Finset.fold_congr fun k _ => congrArg (fun p : EReal => if y (ValueIdx.ix3 a b l) < p then p else ⊤) (pows_at k)

theorem sclY_at (y : FVec Ideal S6x8x7168 .f32) (a : Fin 6) (b : Fin 8) (l : Fin 7168) :
    sclY y (ValueIdx.ix3 a b l) = leastAbove (y (ValueIdx.ix3 a b l)) := by
  have h := minY_at y a b l
  pointwise [sclY]
  unfold leastAbove
  rw [← h]
  rfl

theorem quoY_at (v : FVec Ideal S6x8x32x7168 .f32) (s : FVec Ideal S6x8x7168 .f32) (a : Fin 6) (b : Fin 8) (k : Fin 32) (l : Fin 7168) :
    quoY v s (ValueIdx.ix4 a b k l) = min hiY (max loY (v (ValueIdx.ix4 a b k l) * Ideal.div 1 (s (ValueIdx.ix3 a b l)))) := by
  pointwise [quoY]
  rfl

theorem grpY_at (x : FVec Ideal S6x256x7168 .bf16) (a : Fin 6) (b : Fin 8) (k : Fin 32) (l : Fin 7168) :
    grpY x (ValueIdx.ix4 a b k l) = x (ValueIdx.ix3 a ⟨32 * b.val + k.val, by omega⟩ l) := by
  pointwise [grpY]
  refine congrArg x (ix3_cong ?_ ?_ rfl)
  · rfl
  · show b.val * 32 + k.val = 32 * b.val + k.val; omega

theorem maxY_at (v : FVec Ideal S6x8x32x7168 .f32) (a : Fin 6) (b : Fin 8) (l : Fin 7168) :
    maxY v (ValueIdx.ix3 a b l) = Finset.univ.fold max ⊥ fun k : Fin 32 => v (ValueIdx.ix4 a b k l) := by
  pointwise [maxY]
  have e : (Ideal.ofBits FTy.f32 4286578688#32 : EReal) = ⊥ := by simp [Ideal.ofBits, Ideal.ieee]
  rw [e]
  rfl

theorem mulY_at (w : FVec Ideal S6x8x7168 .f32) (a : Fin 6) (b : Fin 8) (l : Fin 7168) : mulY w (ValueIdx.ix3 a b l) = w (ValueIdx.ix3 a b l) * cY := by
  pointwise [mulY]

theorem ampY_at (x : FVec Ideal S6x256x7168 .bf16) (g : Fin 48) (l : Fin 7168) :
    ampY (grpY x) (ValueIdx.ix3 ⟨g.val / 8, by omega⟩ ⟨g.val % 8, by omega⟩ l) = yOf cY (colOf x l) g.val := by
  unfold ampY
  rw [mulY_at, maxY_at]
  unfold yOf mxc
  refine congrArg (fun v : EReal => v * cY) (Finset.fold_congr fun k _ => ?_)
  have e : grpY x (ValueIdx.ix4 ⟨g.val / 8, by omega⟩ ⟨g.val % 8, by omega⟩ k l) = colOf x l ⟨(32 * g.val + k.val) % 1536, Nat.mod_lt _ (by decide)⟩ := by
    rw [grpY_at]
    unfold colOf
    exact congrArg x (ix3_cong (by dsimp only; omega) (by dsimp only; omega) rfl)
  exact congrArg (fun v : EReal => max v (-v)) e

/-- Merging the leading axes of scales and of codes. -/
theorem flatSY (w : FVec Ideal S6x8x7168 .f32) (g : Fin 48) (l : Fin 7168) :
    (shapeCast S48x7168 w shapeCasts_S6x8x7168_S48x7168 : FVec Ideal S48x7168 .f32) (ValueIdx.ix2 g l) = w (ValueIdx.ix3 ⟨g.val / 8, by omega⟩ ⟨g.val % 8, by omega⟩ l) := by
  pointwise
  rfl

theorem flatQY (w : FVec Ideal S6x8x32x7168 .f32) (r : Fin 1536) (l : Fin 7168) :
    (shapeCast S1536x7168 w shapeCasts_S6x8x32x7168_S1536x7168 : FVec Ideal S1536x7168 .f32) (ValueIdx.ix2 r l)
      = w (ValueIdx.ix4 ⟨r.val / 256, by omega⟩ ⟨r.val / 32 % 8, by omega⟩ ⟨r.val % 32, by omega⟩ l) := by
  pointwise
  rfl

/-- The scales and the codes, column by column. -/
theorem sclY_flat (x : FVec Ideal S6x256x7168 .bf16) (g : Fin 48) (l : Fin 7168) :
    (shapeCast S48x7168 (sclY (ampY (grpY x))) shapeCasts_S6x8x7168_S48x7168 : FVec Ideal S48x7168 .f32) (ValueIdx.ix2 g l) = leastAbove (yOf cY (colOf x l) g.val) := by
  rw [flatSY, sclY_at, ampY_at]

theorem quoY_flat (x : FVec Ideal S6x256x7168 .bf16) (r : Fin 1536) (l : Fin 7168) :
    (shapeCast S1536x7168 (quoY (grpY x) (sclY (ampY (grpY x)))) shapeCasts_S6x8x32x7168_S1536x7168 : FVec Ideal S1536x7168 .f32) (ValueIdx.ix2 r l)
      = min hiY (max loY (colOf x l r * Ideal.div 1 (leastAbove (yOf cY (colOf x l) (r.val / 32))))) := by
  have e1 : grpY x (ValueIdx.ix4 ⟨r.val / 256, by omega⟩ ⟨r.val / 32 % 8, by omega⟩ ⟨r.val % 32, by omega⟩ l) = colOf x l r := by
    rw [grpY_at]
    unfold colOf
    exact congrArg x (ix3_cong (by dsimp only) (by dsimp only; omega) rfl)
  have e2 : sclY (ampY (grpY x)) (ValueIdx.ix3 ⟨r.val / 256, by omega⟩ ⟨r.val / 32 % 8, by omega⟩ l) = leastAbove (yOf cY (colOf x l) (r.val / 32)) := by
    have h := ampY_at x ⟨r.val / 32, by omega⟩ l
    have h' : ampY (grpY x) (ValueIdx.ix3 ⟨r.val / 256, by omega⟩ ⟨r.val / 32 % 8, by omega⟩ l) = yOf cY (colOf x l) (r.val / 32) := by
      rw [← h]
      exact congrArg (ampY (grpY x)) (ix3_cong (by dsimp only; omega) (by dsimp only) rfl)
    rw [sclY_at, h']
  rw [flatQY, quoY_at, e1, e2]

variable (m : (ℓ : Loc nD τ sig) → Buf (Elt Ideal) ℓ)

theorem V_v59' (c : Dev nD) (r : FVec Ideal S48x7168 .f32) (hr : shapeCast S48x7168 (sclY (ampY (grpY (m ((c : Thread nD τ).loc main_arg1))))) shapeCasts_S6x8x7168_S48x7168 = r) : V m c main_v59 = r := by
  unfold_abbrev_sides
  simp only [List.flatten_cons, List.flatten_nil, List.cons_append, List.nil_append]
  after_reads_simp
  simp -implicitDefEqProofs only [StableHlo.TRef.toBuf, StableHlo.TRef.ofBuf, cast_cast, cast_eq, id]
  exact hr

theorem V_v58' (c : Dev nD) (r : FVec Ideal S1536x7168 .f32) (hr : shapeCast S1536x7168 (quoY (grpY (m ((c : Thread nD τ).loc main_arg1))) (sclY (ampY (grpY (m ((c : Thread nD τ).loc main_arg1)))))) shapeCasts_S6x8x32x7168_S1536x7168 = r) : V m c main_v58 = r := by
  unfold_abbrev_sides
  simp only [List.flatten_cons, List.flatten_nil, List.cons_append, List.nil_append]
  after_reads_simp
  simp -implicitDefEqProofs only [StableHlo.TRef.toBuf, StableHlo.TRef.ofBuf, cast_cast, cast_eq, id]
  exact hr

end Cert.ReferenceIdeal.Own

end
-- ==== Proof.Reference.Tail.lean ====
/-
  The reference's last operations over the reals: the masked product of the dequantised `x` with the dequantised `dy`.
-/
module

public import proofs.«01_k».proof.Proof.Reference.QuantY
public import proofs.«01_k».proof.Proof.WindowSum
public import proofs.«01_k».proof.Proof.Spec
public import Idealize.ShloMosaic.Lib.Pipeline.FrameTail
public import Idealize.ShloMosaic.Lib.Routing.OpsOne

@[expose] public section

set_option maxRecDepth 16384

noncomputable section

namespace Cert.ReferenceIdeal.Own

open Cert.Own Cert.ReferenceIdeal Cert.ReferenceIdeal.Gen
open Idealize.ShloMosaic Idealize.ShloMosaic.TcCoe Idealize.SL.Sem

/-- The running sums of the group sizes. -/
def cumT (T : IVec S5 32) : IVec S5 32 :=
  Host.reduceWindow IntOp.addi ![5] ![1] ![4] ![0] T (broadcastInDim S_ ![] bcast_S_S_ (constantI S_ 32 0#32)) reduceWindows_S5_S5_w5s1p4_0 h_S_
/-- The row numbers, the same for every group; a word for every group, the same for every row. -/
def rowsT : IVec S5x1536 32 := broadcastInDim S5x1536 ![0, 1] bcast_S1x1536_S5x1536_0_1 (broadcastInDim S1x1536 ![1] bcast_S1536_S1x1536_1 (iotaInDim S1536 32 0))
def grpT (a : IVec S5 32) : IVec S5x1536 32 := broadcastInDim S5x1536 ![0, 1] bcast_S5x1_S5x1536_0_1 (broadcastInDim S5x1 ![0] bcast_S5_S5x1_0 a)
/-- Whether a row is in the group's range. -/
def maskT (a b : IVec S5 32) : IVec S5x1536 1 := andi (cmpi .sge rowsT (grpT a)) (cmpi .slt rowsT (grpT b))
/-- Codes times scales. -/
def hatTX (q : FVec Ideal S1536x4096 .bf16) (s : FVec Ideal S48x4096 .f32) : FVec Ideal S1536x4096 .bf16 :=
  shapeCast S1536x4096 (mulf (shapeCast S48x32x4096 q shapeCasts_S1536x4096_S48x32x4096)
    (broadcastInDim S48x32x4096 ![0, 1, 2] bcast_S48x1x4096_S48x32x4096_0_1_2 (broadcastInDim S48x1x4096 ![0, 2] bcast_S48x4096_S48x1x4096_0_2 (truncf .bf16 s bitsLt_bf16_f32))))
    shapeCasts_S48x32x4096_S1536x4096
def hatTY (q : FVec Ideal S1536x7168 .bf16) (s : FVec Ideal S48x7168 .f32) : FVec Ideal S1536x7168 .bf16 :=
  shapeCast S1536x7168 (mulf (shapeCast S48x32x7168 q shapeCasts_S1536x7168_S48x32x7168)
    (broadcastInDim S48x32x7168 ![0, 1, 2] bcast_S48x1x7168_S48x32x7168_0_1_2 (broadcastInDim S48x1x7168 ![0, 2] bcast_S48x7168_S48x1x7168_0_2 (truncf .bf16 s bitsLt_bf16_f32))))
    shapeCasts_S48x32x7168_S1536x7168
/-- `x` with the rows outside the group's range set to zero, for every group. -/
def selT (k : IVec S5x1536 1) (h : FVec Ideal S1536x4096 .bf16) : FVec Ideal S5x1536x4096 .bf16 :=
  select (broadcastInDim S5x1536x4096 ![0, 1, 2] bcast_S5x1536x1_S5x1536x4096_0_1_2 (broadcastInDim S5x1536x1 ![0, 1] bcast_S5x1536_S5x1536x1_0_1 k))
    (broadcastInDim S5x1536x4096 ![0, 1, 2] bcast_S1x1536x4096_S5x1536x4096_0_1_2 (broadcastInDim S1x1536x4096 ![1, 2] bcast_S1536x4096_S1x1536x4096_1_2 h))
    (broadcastInDim S5x1536x4096 ![] bcast_S_S5x1536x4096 (sitofp .bf16 (constantI S_ 32 0#32)))
def dotT (a : FVec Ideal S5x1536x4096 .bf16) (b : FVec Ideal S1536x7168 .bf16) : FVec Ideal S5x4096x7168 .f32 :=
  Host.dotGeneral dot_S5x1536x4096_S1536x7168_S5x4096x7168_1_0_02_1_n_n none a b

theorem rowsT_at (e : Fin 5) (t : Fin 1536) : rowsT (ValueIdx.ix2 e t) = BitVec.ofNat 32 t.val := by
  pointwise [rowsT]
theorem grpT_at (a : IVec S5 32) (e : Fin 5) (t : Fin 1536) : grpT a (ValueIdx.ix2 e t) = a (ValueIdx.ix1 e) := by
  pointwise [grpT]
  rfl
theorem maskT_at (a b : IVec S5 32) (e : Fin 5) (t : Fin 1536) :
    maskT a b (ValueIdx.ix2 e t) = IntOp.andi (IntOp.cmpi .sge (BitVec.ofNat 32 t.val) (a (ValueIdx.ix1 e))) (IntOp.cmpi .slt (BitVec.ofNat 32 t.val) (b (ValueIdx.ix1 e))) := by
  show IntOp.andi (IntOp.cmpi .sge (rowsT _) (grpT a _)) (IntOp.cmpi .slt (rowsT _) (grpT b _)) = _
  rw [rowsT_at, grpT_at, grpT_at]
theorem hatTX_at (q : FVec Ideal S1536x4096 .bf16) (s : FVec Ideal S48x4096 .f32) (t : Fin 1536) (d : Fin 4096) :
    hatTX q s (ValueIdx.ix2 t d) = q (ValueIdx.ix2 t d) * s (ValueIdx.ix2 ⟨t.val / 32, by omega⟩ d) := by
  pointwise [hatTX]
  rfl
theorem hatTY_at (q : FVec Ideal S1536x7168 .bf16) (s : FVec Ideal S48x7168 .f32) (t : Fin 1536) (d : Fin 7168) :
    hatTY q s (ValueIdx.ix2 t d) = q (ValueIdx.ix2 t d) * s (ValueIdx.ix2 ⟨t.val / 32, by omega⟩ d) := by
  pointwise [hatTY]
  rfl
theorem selT_at (k : IVec S5x1536 1) (h : FVec Ideal S1536x4096 .bf16) (e : Fin 5) (t : Fin 1536) (d : Fin 4096) :
    selT k h (ValueIdx.ix3 e t d) = Scalar.select (k (ValueIdx.ix2 e t)) (h (ValueIdx.ix2 t d)) (((((0#32 : BitVec 32).toInt : ℤ) : ℝ)) : EReal) := by
  pointwise [selT]
  rfl
theorem dotT_at (a : FVec Ideal S5x1536x4096 .bf16) (b : FVec Ideal S1536x7168 .bf16) (e : Fin 5) (d : Fin 4096) (f : Fin 7168) :
    dotT a b (ValueIdx.ix3 e d f) = ∑ t : Fin 1536, a (ValueIdx.ix3 e t d) * b (ValueIdx.ix2 t f) := by
  pointwise [dotT]
  rfl

/-- The running sums, one by one. -/
theorem cumT_at (T : IVec S5 32) (k : Fin 5) : cumT T (ValueIdx.ix1 k) = startOf T (k.val + 1) := by
  refine (Routing.cumsum_vec (N := 5) (Nm1 := 4) rfl T _ rfl reduceWindows_S5_S5_w5s1p4_0 h_S_ k).trans ?_
  rw [Fin.sum_univ_five]
  fin_cases k <;> simp [startOf, Cert.Own.sizeOf, Fin.le_def]
theorem start_at (T : IVec S5 32) (k : Fin 5) : subi (cumT T) T (ValueIdx.ix1 k) = startOf T k.val := by
  show cumT T (ValueIdx.ix1 k) - T (ValueIdx.ix1 k) = _
  rw [cumT_at]
  show startOf T k.val + Cert.Own.sizeOf T k.val - T (ValueIdx.ix1 k) = _
  unfold Cert.Own.sizeOf
  rw [dif_pos k.isLt, BitVec.add_sub_cancel]

/-- The masked product, entry by entry: the products over the rows of the group's range. -/
theorem dw_at (T : IVec S5 32) (hT : Sizes T) (qx : FVec Ideal S1536x4096 .bf16) (sx : FVec Ideal S48x4096 .f32) (qy : FVec Ideal S1536x7168 .bf16)
    (sy : FVec Ideal S48x7168 .f32) (e : Fin 5) (d : Fin 4096) (f : Fin 7168) :
    dotT (selT (maskT (subi (cumT T) T) (cumT T)) (hatTX qx sx)) (hatTY qy sy) (ValueIdx.ix3 e d f)
      = ∑ t : Fin 1536, if (startOf T e.val).toNat ≤ t.val ∧ t.val < (startOf T e.val).toNat + (Cert.Own.sizeOf T e.val).toNat
          then (qx (ValueIdx.ix2 t d) * sx (ValueIdx.ix2 ⟨t.val / 32, by omega⟩ d)) * (qy (ValueIdx.ix2 t f) * sy (ValueIdx.ix2 ⟨t.val / 32, by omega⟩ f)) else 0 := by
  rw [dotT_at]
  refine Finset.sum_congr rfl fun t _ => ?_
  have he := e.isLt
  have ht := t.isLt
  have h1 := startOf_le hT e.val (by omega)
  have h2 := sizeOf_le hT e.val
  have h3 : (startOf T (e.val + 1)).toNat = (startOf T e.val).toNat + (Cert.Own.sizeOf T e.val).toNat := by
    show (startOf T e.val + Cert.Own.sizeOf T e.val).toNat = _
    rw [BitVec.toNat_add]
    omega
  have hv : (BitVec.ofNat 32 t.val).toNat = t.val := by rw [BitVec.toNat_ofNat]; omega
  have hi := range_iff (a := BitVec.ofNat 32 t.val) (s := startOf T e.val) (e := startOf T (e.val + 1)) (by omega) (by omega) (by omega)
  rw [hv, h3] at hi
  rw [selT_at, maskT_at, start_at, cumT_at, hatTX_at, hatTY_at, mul_comm, sel_mul]
  unfold Scalar.select
  exact if_congr hi (mul_comm _ _) rfl

theorem tail_read (W : (b : DevRef τ sig) → b.ty.Contents (Elt Ideal)) (r : FVec Ideal S5x4096x7168 .f32)
    (hr : dotT (selT (maskT (subi (cumT (W (Proc.devRef .tc main_arg2))) (W (Proc.devRef .tc main_arg2))) (cumT (W (Proc.devRef .tc main_arg2))))
        (hatTX (W (Proc.devRef .tc main_v60_2)) (W (Proc.devRef .tc main_v29)))) (hatTY (W (Proc.devRef .tc main_v60_3)) (W (Proc.devRef .tc main_v59))) = r) :
    StableHlo.after ([hostOps1, hostOps1_1, hostOps1_2, hostOps1_3, hostOps1_4] : List (List (HloOp τ sig (Elt Ideal)))).flatten W (Proc.devRef .tc main_v90) = r := by
  simp only [List.flatten_cons, List.flatten_nil, List.cons_append, List.nil_append]
  after_reads_simp
  simp -implicitDefEqProofs only [StableHlo.TRef.toBuf, StableHlo.TRef.ofBuf, cast_cast, cast_eq, id]
  exact hr

end Cert.ReferenceIdeal.Own

end
-- ==== Proof.Reference.Region.lean ====
/-
  The reference's pallas_call over the reals: it returns the codes as they are, in the two narrow formats and in bfloat16.
-/
module

public import proofs.«01_k».proof.Proof.Gen.ReferenceIdeal.Frame
public import Idealize.ShloMosaic.Lib.Pipeline.ValueKit
public import Idealize.ShloMosaic.Lib.Pointwise

@[expose] public section

set_option maxRecDepth 16384

noncomputable section

namespace Cert.ReferenceIdeal.Own

open Cert.ReferenceIdeal Cert.ReferenceIdeal.Gen
open Idealize.ShloMosaic Idealize.ShloMosaic.TcCoe Idealize.SL.Sem

theorem pay1_id (v : FVec Ideal S1536x4096 .f32) : k0_pay1 (F := Ideal) v = v := by
  funext i
  pointwise [k0_pay1]
theorem pay2_id (v : FVec Ideal S1536x7168 .f32) : k0_pay2 (F := Ideal) v = v := by
  funext i
  pointwise [k0_pay2]
theorem pay3_id (v : FVec Ideal S1536x4096 .f32) : k0_pay3 (F := Ideal) v = v := by
  funext i
  pointwise [k0_pay3]
theorem pay4_id (v : FVec Ideal S1536x7168 .f32) : k0_pay4 (F := Ideal) v = v := by
  funext i
  pointwise [k0_pay4]

variable (m : (ℓ : Loc nD τ sig) → Buf (Elt Ideal) ℓ)

theorem idx0_0 : win0_0.index t0_0 (0 : Fin 2) = 0 := by decide +kernel
theorem idx0_1 : win0_0.index t0_0 (1 : Fin 2) = 0 := by decide +kernel
theorem idx1_0 : win0_1.index t0_0 (0 : Fin 2) = 0 := by decide +kernel
theorem idx1_1 : win0_1.index t0_0 (1 : Fin 2) = 0 := by decide +kernel

/-! What each output array holds, from what the array of codes holds when the call begins. -/

theorem reg2 (c : Dev nD) (q : FVec Ideal S1536x4096 .f32) (hq : V m c main_v28 = q) : (dats m 0 c).arrAt 2 cfg0.N = q := by
  refine (dats m 0 c).arrAt_eq_of_after_last 2 t0_0 (by decide +kernel) _ fun j => ?_
  blk_simp
  rw [after0_2]
  frame_out
  rw [pay1_id]
  blk_simp [iblk]
  rw [hq]
  exact congrArg q (by blk_ext [idx0_0, idx0_1])

theorem reg3 (c : Dev nD) (q : FVec Ideal S1536x7168 .f32) (hq : V m c main_v58 = q) : (dats m 0 c).arrAt 3 cfg0.N = q := by
  refine (dats m 0 c).arrAt_eq_of_after_last 3 t0_0 (by decide +kernel) _ fun j => ?_
  blk_simp
  rw [after0_3]
  frame_out
  rw [pay2_id]
  blk_simp [iblk]
  rw [hq]
  exact congrArg q (by blk_ext [idx1_0, idx1_1])

theorem reg4 (c : Dev nD) (q : FVec Ideal S1536x4096 .f32) (hq : V m c main_v28 = q) : (dats m 0 c).arrAt 4 cfg0.N = q := by
  refine (dats m 0 c).arrAt_eq_of_after_last 4 t0_0 (by decide +kernel) _ fun j => ?_
  blk_simp
  rw [after0_4]
  frame_out
  rw [pay3_id]
  blk_simp [iblk]
  rw [hq]
  exact congrArg q (by blk_ext [idx0_0, idx0_1])

theorem reg5 (c : Dev nD) (q : FVec Ideal S1536x7168 .f32) (hq : V m c main_v58 = q) : (dats m 0 c).arrAt 5 cfg0.N = q := by
  refine (dats m 0 c).arrAt_eq_of_after_last 5 t0_0 (by decide +kernel) _ fun j => ?_
  blk_simp
  rw [after0_5]
  frame_out
  rw [pay4_id]
  blk_simp [iblk]
  rw [hq]
  exact congrArg q (by blk_ext [idx1_0, idx1_1])

end Cert.ReferenceIdeal.Own

end
-- ==== Proof.Reference.Run.lean ====
/-
  The reference's five results over the reals, as functions of its arguments, for arguments of magnitude at most 2^128 and
  group sizes of at most 1536.
-/
module

public import proofs.«01_k».proof.Proof.Reference.Tail
public import proofs.«01_k».proof.Proof.Reference.Region

@[expose] public section

set_option maxRecDepth 16384

noncomputable section

namespace Cert.ReferenceIdeal.Own

open Cert.Own Cert.ReferenceIdeal Cert.ReferenceIdeal.Gen
open Idealize.ShloMosaic Idealize.ShloMosaic.TcCoe Idealize.SL.Sem

/-! The codes and the scales the quantisers compute, as the specification spells them. -/

theorem codesX_spec (x : FVec Ideal S6x256x4096 .bf16) (h : ∀ l, Small (colOf x l)) :
    (shapeCast S1536x4096 (quoX (grpX x) (sclX (ampX (grpX x)))) shapeCasts_S6x8x32x4096_S1536x4096 : FVec Ideal S1536x4096 .f32) = codesXS x := by
  funext i
  obtain ⟨r, l, rfl⟩ : ∃ r l, i = ValueIdx.ix2 r l := ⟨i 0, i 1, ValueIdx.eq_ix2 i⟩
  rw [quoX_flat, recip_eq cX_range (h l)]
  rfl
theorem scalesX_spec (x : FVec Ideal S6x256x4096 .bf16) (h : ∀ l, Small (colOf x l)) :
    (shapeCast S48x4096 (sclX (ampX (grpX x))) shapeCasts_S6x8x4096_S48x4096 : FVec Ideal S48x4096 .f32) = scalesXS x := by
  funext i
  obtain ⟨r, l, rfl⟩ : ∃ r l, i = ValueIdx.ix2 r l := ⟨i 0, i 1, ValueIdx.eq_ix2 i⟩
  rw [sclX_flat, least_eq cX_range (h l)]
  rfl
theorem codesY_spec (y : FVec Ideal S6x256x7168 .bf16) (h : ∀ l, Small (colOf y l)) :
    (shapeCast S1536x7168 (quoY (grpY y) (sclY (ampY (grpY y)))) shapeCasts_S6x8x32x7168_S1536x7168 : FVec Ideal S1536x7168 .f32) = codesYS y := by
  funext i
  obtain ⟨r, l, rfl⟩ : ∃ r l, i = ValueIdx.ix2 r l := ⟨i 0, i 1, ValueIdx.eq_ix2 i⟩
  rw [quoY_flat, recip_eq cY_range (h l)]
  rfl
theorem scalesY_spec (y : FVec Ideal S6x256x7168 .bf16) (h : ∀ l, Small (colOf y l)) :
    (shapeCast S48x7168 (sclY (ampY (grpY y))) shapeCasts_S6x8x7168_S48x7168 : FVec Ideal S48x7168 .f32) = scalesYS y := by
  funext i
  obtain ⟨r, l, rfl⟩ : ∃ r l, i = ValueIdx.ix2 r l := ⟨i 0, i 1, ValueIdx.eq_ix2 i⟩
  rw [sclY_flat, least_eq cY_range (h l)]
  rfl

/-- The masked product of what those stand for is the weight gradient of the specification. -/
theorem dw_spec (x : FVec Ideal S6x256x4096 .bf16) (y : FVec Ideal S6x256x7168 .bf16) (T : IVec S5 32) (hT : Sizes T) :
    dotT (selT (maskT (subi (cumT T) T) (cumT T)) (hatTX (codesXS x) (scalesXS x))) (hatTY (codesYS y) (scalesYS y)) = dwS x y T := by
  funext i
  obtain ⟨e, d, f, rfl⟩ : ∃ e d f, i = ValueIdx.ix3 e d f := ⟨i 0, i 1, i 2, ValueIdx.eq_ix3 i⟩
  rw [dw_at T hT]
  rfl

variable (m : (ℓ : Loc nD τ sig) → Buf (Elt Ideal) ℓ) (ρ : Dev nD → PrngReg)

/-- The two arrays of scales are written before the pallas_call and by nothing after it. -/
theorem W_main_v29 (c : Dev nD) :
    Pipeline.afterTail₀ cfgs (dats m) 0 (V0 m) [hostOps1, hostOps1_1, hostOps1_2, hostOps1_3, hostOps1_4] c main_v29 = V m c main_v29 := by
  unfold Pipeline.afterTail₀
  rw [StableHlo.after_of_forall_not_mem (b := Proc.devRef .tc main_v29) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v29 (by exact (by decide : ∀ w, Pipeline.arrRef spec0 w ≠ main_v29))]
theorem W_main_v59 (c : Dev nD) :
    Pipeline.afterTail₀ cfgs (dats m) 0 (V0 m) [hostOps1, hostOps1_1, hostOps1_2, hostOps1_3, hostOps1_4] c main_v59 = V m c main_v59 := by
  unfold Pipeline.afterTail₀
  rw [StableHlo.after_of_forall_not_mem (b := Proc.devRef .tc main_v59) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v59 (by exact (by decide : ∀ w, Pipeline.arrRef spec0 w ≠ main_v59))]

/-- The weight gradient, from what the operations before the last ones leave. -/
theorem W_main_v90 (c : Dev nD) (T : IVec S5 32) (qx : FVec Ideal S1536x4096 .f32) (sx : FVec Ideal S48x4096 .f32) (qy : FVec Ideal S1536x7168 .f32)
    (sy : FVec Ideal S48x7168 .f32) (r : FVec Ideal S5x4096x7168 .f32)
    (hT : m ((c : Thread nD τ).loc main_arg2) = T) (hqx : V m c main_v28 = qx) (hsx : V m c main_v29 = sx) (hqy : V m c main_v58 = qy) (hsy : V m c main_v59 = sy)
    (hr : dotT (selT (maskT (subi (cumT T) T) (cumT T)) (hatTX qx sx)) (hatTY qy sy) = r) :
    Pipeline.afterTail₀ cfgs (dats m) 0 (V0 m) [hostOps1, hostOps1_1, hostOps1_2, hostOps1_3, hostOps1_4] c main_v90 = r := by
  have h0 := (Pipeline.withArrays_of_ne spec0 c (V0 m c) (fun w => (dats m 0 c).arrAt w cfg0.N) main_arg2 (by exact (by decide : ∀ w, Pipeline.arrRef spec0 w ≠ main_arg2))).trans
    ((V_main_arg2 m c).trans hT)
  have h1 := (Pipeline.withArrays_of_ne spec0 c (V0 m c) (fun w => (dats m 0 c).arrAt w cfg0.N) main_v29 (by exact (by decide : ∀ w, Pipeline.arrRef spec0 w ≠ main_v29))).trans hsx
  have h2 := (Pipeline.withArrays_of_ne spec0 c (V0 m c) (fun w => (dats m 0 c).arrAt w cfg0.N) main_v59 (by exact (by decide : ∀ w, Pipeline.arrRef spec0 w ≠ main_v59))).trans hsy
  have hinj : Function.Injective (Pipeline.arrRef spec0) := by decide
  have h4 := (Pipeline.withArrays_arr spec0 hinj c (V0 m c) (fun w => (dats m 0 c).arrAt w cfg0.N) 4).trans (reg4 m c qx hqx)
  have h5 := (Pipeline.withArrays_arr spec0 hinj c (V0 m c) (fun w => (dats m 0 c).arrAt w cfg0.N) 5).trans (reg5 m c qy hqy)
  unfold Pipeline.afterTail₀
  refine tail_read (Pipeline.withArrays spec0 c (V0 m c) fun w => (dats m 0 c).arrAt w cfg0.N) r (Eq.trans ?_ hr)
  generalize (Pipeline.withArrays spec0 c (V0 m c) fun w => (dats m 0 c).arrAt w cfg0.N) = W at h0 h1 h2 h4 h5
  subst h0 h1 h2 h4 h5
  rfl

/-- Every run of the reference ends with the five results the specification names and the arguments unchanged. -/
theorem run (hx : ∀ (c : Dev nD) l, Small (colOf (m ((c : Thread nD τ).loc main_arg0) : FVec Ideal S6x256x4096 .bf16) l))
    (hy : ∀ (c : Dev nD) l, Small (colOf (m ((c : Thread nD τ).loc main_arg1) : FVec Ideal S6x256x7168 .bf16) l))
    (hT : ∀ c : Dev nD, Sizes (m ((c : Thread nD τ).loc main_arg2))) :
    θ_run defs (onTc (τ := τ) (main (F := Ideal))) ⟨m, fun _ => 0, ρ⟩ (fun r => ∀ c : Dev nD,
      r.2.mem ((c : Thread nD τ).loc main_v90) = dwS (m ((c : Thread nD τ).loc main_arg0)) (m ((c : Thread nD τ).loc main_arg1)) (m ((c : Thread nD τ).loc main_arg2))
      ∧ r.2.mem ((c : Thread nD τ).loc main_v60_0) = codesXS (m ((c : Thread nD τ).loc main_arg0))
      ∧ r.2.mem ((c : Thread nD τ).loc main_v29) = scalesXS (m ((c : Thread nD τ).loc main_arg0))
      ∧ r.2.mem ((c : Thread nD τ).loc main_v60_1) = codesYS (m ((c : Thread nD τ).loc main_arg1))
      ∧ r.2.mem ((c : Thread nD τ).loc main_v59) = scalesYS (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  refine (θ_run defs _ _).mono (fun r h c => ?_) (run_main m ρ)
  have q1 := V_v28' m c _ (codesX_spec _ (hx c))
  have q2 := V_v29' m c _ (scalesX_spec _ (hx c))
  have q3 := V_v58' m c _ (codesY_spec _ (hy c))
  have q4 := V_v59' m c _ (scalesY_spec _ (hy c))
  refine ⟨?_, ?_, ?_, ?_, ?_, ?_, ?_, ?_⟩
  · exact ((h c).2 main_v90 (Pipeline.mem_restRefs_of main_v90 (by decide) (by decide))).trans
      (W_main_v90 m c _ _ _ _ _ _ rfl q1 q2 q3 q4 (dw_spec _ _ _ (hT c)))
  · exact ((h c).1 2).trans (reg2 m c _ q1)
  · exact (((h c).2 main_v29 (Pipeline.mem_restRefs_of main_v29 (by decide) (by decide))).trans (W_main_v29 m c)).trans q2
  · exact ((h c).1 3).trans (reg3 m c _ q3)
  · exact (((h c).2 main_v59 (Pipeline.mem_restRefs_of main_v59 (by decide) (by decide))).trans (W_main_v59 m c)).trans q4
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.ReferenceIdeal.Own

end
-- ==== Proof.Agree.lean ====
/-
  The kernel and the reference agree over the reals: both end with the five results the specification names.
-/
module

public import proofs.«01_k».proof.Defs
public import proofs.«01_k».proof.Proof.Gen.Pre_valid
public import proofs.«01_k».proof.Proof.Idealized.Results
public import proofs.«01_k».proof.Proof.Idealized.Entry
public import proofs.«01_k».proof.Proof.Reference.Run

@[expose] public section

set_option maxRecDepth 16384

noncomputable section

namespace Cert.Own

open Idealize.ShloMosaic Idealize.ShloMosaic.TcCoe Idealize.SL.Sem

/-- An element the precondition passes has magnitude at most `2 ^ 128`. -/
theorem mag_of_cmp {v : EReal} (h : Ideal.cmp .ole (max v (-v)) (Ideal.ofBits .f32 0x7F7F0000#32) = 1#1) : max v (-v) ≤ (((2 : ℝ) ^ (128 : ℤ) : ℝ) : EReal) := by
  refine le_trans ?_ bound_le
  by_contra hn
  revert h
  simp [Ideal.cmp, hn]

theorem smallX {x : FVec Ideal Cert.Pre_valid.S6x256x4096 .bf16} {y : FVec Ideal Cert.Pre_valid.S6x256x7168 .bf16} {g : IVec Cert.Pre_valid.S5 32}
    (h : Cert.Pre_valid.fn (F := Ideal) x y g = fun _ => 1#1) (l : Fin 4096) : Small (colOf x l) :=
  fun _ => mag_of_cmp ((pre_elements h).1 _)
theorem smallY {x : FVec Ideal Cert.Pre_valid.S6x256x4096 .bf16} {y : FVec Ideal Cert.Pre_valid.S6x256x7168 .bf16} {g : IVec Cert.Pre_valid.S5 32}
    (h : Cert.Pre_valid.fn (F := Ideal) x y g = fun _ => 1#1) (l : Fin 7168) : Small (colOf y l) :=
  fun _ => mag_of_cmp ((pre_elements h).2.1 _)
theorem sizes_of {x : FVec Ideal Cert.Pre_valid.S6x256x4096 .bf16} {y : FVec Ideal Cert.Pre_valid.S6x256x7168 .bf16} {g : IVec Cert.Pre_valid.S5 32}
    (h : Cert.Pre_valid.fn (F := Ideal) x y g = fun _ => 1#1) : Sizes g :=
  fun i => size_le ((pre_elements h).2.2 i)

end Cert.Own

namespace Cert.KernelIdeal.Own

open Cert.Own Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Every run of the kernel ends with the five results the specification names and the arguments unchanged. -/
theorem run_results (hB : Bounds m) (hT : Sizes (m (((0 : Dev nD) : Thread nD τ).loc main_arg2))) :
    θ_run defs (onTc (τ := τ) (main (F := Ideal))) ⟨m, fun _ => 0, ρ⟩ (fun r => ∀ c : Dev nD,
      r.2.mem ((c : Thread nD τ).loc main_v2_0) = dwS (m ((c : Thread nD τ).loc main_arg0)) (m ((c : Thread nD τ).loc main_arg1)) (m (((0 : Dev nD) : Thread nD τ).loc main_arg2))
      ∧ r.2.mem ((c : Thread nD τ).loc main_v2_1) = codesXS (m ((c : Thread nD τ).loc main_arg0))
      ∧ r.2.mem ((c : Thread nD τ).loc main_v2_2) = scalesXS (m ((c : Thread nD τ).loc main_arg0))
      ∧ r.2.mem ((c : Thread nD τ).loc main_v2_3) = codesYS (m ((c : Thread nD τ).loc main_arg1))
      ∧ r.2.mem ((c : Thread nD τ).loc main_v2_4) = scalesYS (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  have hO : Ok m := trivial
  refine (θ_run defs _ _).mono (fun r h c => ?_) (run m ρ hO hB)
  obtain ⟨h, -⟩ := h
  refine ⟨?_, ?_, ?_, ?_, ?_, ?_, ?_, ?_⟩
  · exact ((h c).1 2).trans (res2 m hO c hT)
  · exact ((h c).1 3).trans (res3 m hO c)
  · exact ((h c).1 4).trans (res4 m hO c)
  · exact ((h c).1 5).trans (res5 m hO c)
  · exact ((h c).1 6).trans (res6 m hO c)
  · exact ((h c).2 main_arg0 (by decide : main_arg0 ∈ Pipeline.restRefs sig spec0)).trans (V_main_arg0 m c)
  · exact ((h c).2 main_arg1 (by decide : main_arg1 ∈ Pipeline.restRefs sig spec0)).trans (V_main_arg1 m c)
  · exact ((h c).2 main_arg2 (by decide : main_arg2 ∈ Pipeline.restRefs sig spec0)).trans (V_main_arg2 m c)

end Cert.KernelIdeal.Own

namespace Cert.Own

open Idealize.ShloMosaic Idealize.ShloMosaic.TcCoe Idealize.SL.Sem

/-- From equal arguments that meet the precondition, the five results are equal. -/
theorem agree : Cert.algebraic_KernelIdeal_ReferenceIdeal := by
  intro m g m' g' hpre harg
  have hc : ∀ c : Dev Cert.KernelIdeal.nD, c = 0 := fun c => Subsingleton.elim _ _
  refine ⟨fun c => dwS (m (c.tc.loc Cert.KernelIdeal.main_arg0)) (m (c.tc.loc Cert.KernelIdeal.main_arg1)) (m (((0 : Dev Cert.KernelIdeal.nD).tc : Thread _ Cert.KernelIdeal.τ).loc Cert.KernelIdeal.main_arg2)),
    fun c => codesXS (m (c.tc.loc Cert.KernelIdeal.main_arg0)), fun c => scalesXS (m (c.tc.loc Cert.KernelIdeal.main_arg0)),
    fun c => codesYS (m (c.tc.loc Cert.KernelIdeal.main_arg1)), fun c => scalesYS (m (c.tc.loc Cert.KernelIdeal.main_arg1)),
    Cert.KernelIdeal.Own.run_results m g (Cert.KernelIdeal.Own.bounds_of m _ _ (hpre 0)) (sizes_of (hpre 0)), ?_⟩
  refine (θ_run _ _ _).mono (fun r h c => ?_) (Cert.ReferenceIdeal.Own.run m' g' (fun c l => ?_) (fun c l => ?_) (fun c => ?_))
  · obtain ⟨a0, a1, a2⟩ := harg c
    obtain ⟨h0, h1, h2, h3, h4, h5⟩ := h c
    rw [a0, a1, a2] at h0
    rw [a0] at h1 h2
    rw [a1] at h3 h4
    obtain rfl := hc c
    exact ⟨h0, h1, h2, h3, h4, h5⟩
  · rw [(harg c).1]; exact smallX (hpre c) l
  · rw [(harg c).2.1]; exact smallY (hpre c) l
  · rw [(harg c).2.2]; exact sizes_of (hpre c)

end Cert.Own

end
-- ==== Proof.lean ====
/-
  The claims of the statement, each from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_valid
public import proofs.«01_k».proof.Proof.Plain.Entry
public import proofs.«01_k».proof.Proof.Idealized.Entry
public import proofs.«01_k».proof.Proof.Agree

@[expose] public section

noncomputable section

namespace Cert.Proof

open Idealize.ShloMosaic

theorem frame_kernel : Cert.quiescent_Kernel := fun m ρ h => Cert.Kernel.Own.frame m ρ trivial (Cert.Kernel.Own.bounds_of m _ _ (h 0))
theorem frame_kernelIdeal : Cert.quiescent_KernelIdeal := fun m ρ h => Cert.KernelIdeal.Own.frame m ρ trivial (Cert.KernelIdeal.Own.bounds_of m _ _ (h 0))
theorem frame_referenceIdeal : Cert.quiescent_ReferenceIdeal := fun m ρ _ => Cert.ReferenceIdeal.Gen.frame m ρ

theorem claim : Cert.Claim :=
  ⟨Cert.Kernel.Gen.facts, Cert.KernelIdeal.Gen.facts, Cert.ReferenceIdeal.Gen.facts, Cert.Pre_valid.Gen.facts,
    frame_kernel, frame_kernelIdeal, frame_referenceIdeal, trivial, Cert.Own.agree⟩

end Cert.Proof

end
